-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzIdeal_dz_finite [hPre_dz_finite : Cert.Pre_dz_finite.Facts] (m : (ℓ : Loc Cert.DzIdeal.nD Cert.DzIdeal.τ Cert.DzIdeal.sig) → Buf (Elt Ideal) ℓ) : Prop :=
  ∀ c : Dev Cert.DzIdeal.nD,
    (Cert.Pre_dz_finite.fn (F := Ideal) (m ((c.tc : Thread Cert.DzIdeal.nD Cert.DzIdeal.τ).loc Cert.DzIdeal.main_arg0)) (m ((c.tc : Thread Cert.DzIdeal.nD Cert.DzIdeal.τ).loc Cert.DzIdeal.main_arg1)) (m ((c.tc : Thread Cert.DzIdeal.nD Cert.DzIdeal.τ).loc Cert.DzIdeal.main_arg2)) (m ((c.tc : Thread Cert.DzIdeal.nD Cert.DzIdeal.τ).loc Cert.DzIdeal.main_arg3))) = (fun _ => 1#1)

def Pre_DzRefIdeal (m : (ℓ : Loc Cert.DzRefIdeal.nD Cert.DzRefIdeal.τ Cert.DzRefIdeal.sig) → Buf (Elt Ideal) ℓ) : Prop :=
  True

def Pre_DzRefIdeal_dz_finite [hPre_dz_finite : Cert.Pre_dz_finite.Facts] (m : (ℓ : Loc Cert.DzRefIdeal.nD Cert.DzRefIdeal.τ Cert.DzRefIdeal.sig) → Buf (Elt Ideal) ℓ) : Prop :=
  ∀ c : Dev Cert.DzRefIdeal.nD,
    (Cert.Pre_dz_finite.fn (F := Ideal) (m ((c.tc : Thread Cert.DzRefIdeal.nD Cert.DzRefIdeal.τ).loc Cert.DzRefIdeal.main_arg0)) (m ((c.tc : Thread Cert.DzRefIdeal.nD Cert.DzRefIdeal.τ).loc Cert.DzRefIdeal.main_arg1)) (m ((c.tc : Thread Cert.DzRefIdeal.nD Cert.DzRefIdeal.τ).loc Cert.DzRefIdeal.main_arg2)) (m ((c.tc : Thread Cert.DzRefIdeal.nD Cert.DzRefIdeal.τ).loc Cert.DzRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_qkv_finite [hPre_qkv_finite : Cert.Pre_qkv_finite.Facts] (m : (ℓ : Loc Cert.QkvIdeal.nD Cert.QkvIdeal.τ Cert.QkvIdeal.sig) → Buf (Elt Ideal) ℓ) : Prop :=
  ∀ c : Dev Cert.QkvIdeal.nD,
    (Cert.Pre_qkv_finite.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_qkv_finite [hPre_qkv_finite : Cert.Pre_qkv_finite.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_qkv_finite.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_in_finite [hPre_in_finite : Cert.Pre_in_finite.Facts] (m : (ℓ : Loc Cert.InpIdeal.nD Cert.InpIdeal.τ Cert.InpIdeal.sig) → Buf (Elt Ideal) ℓ) : Prop :=
  ∀ c : Dev Cert.InpIdeal.nD,
    (Cert.Pre_in_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))) = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_in_finite [hPre_in_finite : Cert.Pre_in_finite.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_in_finite.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Sfwd (m : (ℓ : Loc Cert.Sfwd.nD Cert.Sfwd.τ Cert.Sfwd.sig) → Buf (Elt Bits) ℓ) : Prop :=
  True

def Pre_SfwdIdeal (m : (ℓ : Loc Cert.SfwdIdeal.nD Cert.SfwdIdeal.τ Cert.SfwdIdeal.sig) → Buf (Elt Ideal) ℓ) : Prop :=
  True

def Pre_SfwdRefIdeal (m : (ℓ : Loc Cert.SfwdRefIdeal.nD Cert.SfwdRefIdeal.τ Cert.SfwdRefIdeal.sig) → Buf (Elt Ideal) ℓ) : Prop :=
  True

def Pre_Hfwd (m : (ℓ : Loc Cert.Hfwd.nD Cert.Hfwd.τ Cert.Hfwd.sig) → Buf (Elt Bits) ℓ) : Prop :=
  True

def Pre_HfwdIdeal (m : (ℓ : Loc Cert.HfwdIdeal.nD Cert.HfwdIdeal.τ Cert.HfwdIdeal.sig) → Buf (Elt Ideal) ℓ) : Prop :=
  True

def Pre_HfwdRefIdeal (m : (ℓ : Loc Cert.HfwdRefIdeal.nD Cert.HfwdRefIdeal.τ Cert.HfwdRefIdeal.sig) → Buf (Elt Ideal) ℓ) : Prop :=
  True

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1)
      ∧ r.2.mem ((c.tc : Thread Cert.Dz.nD Cert.Dz.τ).loc Cert.Dz.main_arg2) = m ((c.tc : Thread Cert.Dz.nD Cert.Dz.τ).loc Cert.Dz.main_arg2)
      ∧ r.2.mem ((c.tc : Thread Cert.Dz.nD Cert.Dz.τ).loc Cert.Dz.main_arg3) = m ((c.tc : Thread Cert.Dz.nD Cert.Dz.τ).loc Cert.Dz.main_arg3))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
      ∧ r.2.mem ((c.tc : Thread Cert.DzIdeal.nD Cert.DzIdeal.τ).loc Cert.DzIdeal.main_arg2) = m ((c.tc : Thread Cert.DzIdeal.nD Cert.DzIdeal.τ).loc Cert.DzIdeal.main_arg2)
      ∧ r.2.mem ((c.tc : Thread Cert.DzIdeal.nD Cert.DzIdeal.τ).loc Cert.DzIdeal.main_arg3) = m ((c.tc : Thread Cert.DzIdeal.nD Cert.DzIdeal.τ).loc Cert.DzIdeal.main_arg3))
      ∧ r.2.sem = fun _ => 0)

def quiescent_DzIdeal_pre_dz_finite [hDzIdeal : Cert.DzIdeal.Facts] [hPre_dz_finite : Cert.Pre_dz_finite.Facts] : Prop :=
  ∀ (m : (ℓ : Loc Cert.DzIdeal.nD Cert.DzIdeal.τ Cert.DzIdeal.sig) → Buf (Elt Ideal) ℓ) (g : Dev Cert.DzIdeal.nD → PrngReg), Pre_DzIdeal_dz_finite m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
      ∧ r.2.mem ((c.tc : Thread Cert.DzIdeal.nD Cert.DzIdeal.τ).loc Cert.DzIdeal.main_arg2) = m ((c.tc : Thread Cert.DzIdeal.nD Cert.DzIdeal.τ).loc Cert.DzIdeal.main_arg2)
      ∧ r.2.mem ((c.tc : Thread Cert.DzIdeal.nD Cert.DzIdeal.τ).loc Cert.DzIdeal.main_arg3) = m ((c.tc : Thread Cert.DzIdeal.nD Cert.DzIdeal.τ).loc Cert.DzIdeal.main_arg3))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1)
      ∧ r.2.mem ((c.tc : Thread Cert.DzRefIdeal.nD Cert.DzRefIdeal.τ).loc Cert.DzRefIdeal.main_arg2) = m ((c.tc : Thread Cert.DzRefIdeal.nD Cert.DzRefIdeal.τ).loc Cert.DzRefIdeal.main_arg2)
      ∧ r.2.mem ((c.tc : Thread Cert.DzRefIdeal.nD Cert.DzRefIdeal.τ).loc Cert.DzRefIdeal.main_arg3) = m ((c.tc : Thread Cert.DzRefIdeal.nD Cert.DzRefIdeal.τ).loc Cert.DzRefIdeal.main_arg3))
      ∧ r.2.sem = fun _ => 0)

def quiescent_DzRefIdeal_pre_dz_finite [hDzRefIdeal : Cert.DzRefIdeal.Facts] [hPre_dz_finite : Cert.Pre_dz_finite.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal_dz_finite m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1)
      ∧ r.2.mem ((c.tc : Thread Cert.DzRefIdeal.nD Cert.DzRefIdeal.τ).loc Cert.DzRefIdeal.main_arg2) = m ((c.tc : Thread Cert.DzRefIdeal.nD Cert.DzRefIdeal.τ).loc Cert.DzRefIdeal.main_arg2)
      ∧ r.2.mem ((c.tc : Thread Cert.DzRefIdeal.nD Cert.DzRefIdeal.τ).loc Cert.DzRefIdeal.main_arg3) = m ((c.tc : Thread Cert.DzRefIdeal.nD Cert.DzRefIdeal.τ).loc Cert.DzRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvIdeal_pre_qkv_finite [hQkvIdeal : Cert.QkvIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_qkv_finite m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_QkvRefIdeal_pre_qkv_finite [hQkvRefIdeal : Cert.QkvRefIdeal.Facts] [hPre_qkv_finite : Cert.Pre_qkv_finite.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_qkv_finite m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpIdeal_pre_in_finite [hInpIdeal : Cert.InpIdeal.Facts] [hPre_in_finite : Cert.Pre_in_finite.Facts] : Prop :=
  ∀ (m : (ℓ : Loc Cert.InpIdeal.nD Cert.InpIdeal.τ Cert.InpIdeal.sig) → Buf (Elt Ideal) ℓ) (g : Dev Cert.InpIdeal.nD → PrngReg), Pre_InpIdeal_in_finite m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_InpRefIdeal_pre_in_finite [hInpRefIdeal : Cert.InpRefIdeal.Facts] [hPre_in_finite : Cert.Pre_in_finite.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_in_finite m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Sfwd [hSfwd : Cert.Sfwd.Facts] : Prop :=
  ∀ (m : (ℓ : Loc Cert.Sfwd.nD Cert.Sfwd.τ Cert.Sfwd.sig) → Buf (Elt Bits) ℓ) (g : Dev Cert.Sfwd.nD → PrngReg), Pre_Sfwd m →
    θ_run (Cert.Sfwd.defs (F := Bits)) (onTc (τ := Cert.Sfwd.τ) (Cert.Sfwd.main (F := Bits))) ⟨m, fun _ => 0, g⟩ (fun r => (∀ c : Dev Cert.Sfwd.nD,
      r.2.mem ((c.tc : Thread Cert.Sfwd.nD Cert.Sfwd.τ).loc Cert.Sfwd.main_arg0) = m ((c.tc : Thread Cert.Sfwd.nD Cert.Sfwd.τ).loc Cert.Sfwd.main_arg0)
      ∧ r.2.mem ((c.tc : Thread Cert.Sfwd.nD Cert.Sfwd.τ).loc Cert.Sfwd.main_arg1) = m ((c.tc : Thread Cert.Sfwd.nD Cert.Sfwd.τ).loc Cert.Sfwd.main_arg1)
      ∧ r.2.mem ((c.tc : Thread Cert.Sfwd.nD Cert.Sfwd.τ).loc Cert.Sfwd.main_arg2) = m ((c.tc : Thread Cert.Sfwd.nD Cert.Sfwd.τ).loc Cert.Sfwd.main_arg2)
      ∧ r.2.mem ((c.tc : Thread Cert.Sfwd.nD Cert.Sfwd.τ).loc Cert.Sfwd.main_arg3) = m ((c.tc : Thread Cert.Sfwd.nD Cert.Sfwd.τ).loc Cert.Sfwd.main_arg3)
      ∧ r.2.mem ((c.tc : Thread Cert.Sfwd.nD Cert.Sfwd.τ).loc Cert.Sfwd.main_arg4) = m ((c.tc : Thread Cert.Sfwd.nD Cert.Sfwd.τ).loc Cert.Sfwd.main_arg4)
      ∧ r.2.mem ((c.tc : Thread Cert.Sfwd.nD Cert.Sfwd.τ).loc Cert.Sfwd.main_arg5) = m ((c.tc : Thread Cert.Sfwd.nD Cert.Sfwd.τ).loc Cert.Sfwd.main_arg5)
      ∧ r.2.mem ((c.tc : Thread Cert.Sfwd.nD Cert.Sfwd.τ).loc Cert.Sfwd.main_arg6) = m ((c.tc : Thread Cert.Sfwd.nD Cert.Sfwd.τ).loc Cert.Sfwd.main_arg6)
      ∧ r.2.mem ((c.tc : Thread Cert.Sfwd.nD Cert.Sfwd.τ).loc Cert.Sfwd.main_arg7) = m ((c.tc : Thread Cert.Sfwd.nD Cert.Sfwd.τ).loc Cert.Sfwd.main_arg7))
      ∧ r.2.sem = fun _ => 0)

def quiescent_SfwdIdeal [hSfwdIdeal : Cert.SfwdIdeal.Facts] : Prop :=
  ∀ (m : (ℓ : Loc Cert.SfwdIdeal.nD Cert.SfwdIdeal.τ Cert.SfwdIdeal.sig) → Buf (Elt Ideal) ℓ) (g : Dev Cert.SfwdIdeal.nD → PrngReg), Pre_SfwdIdeal m →
    θ_run (Cert.SfwdIdeal.defs (F := Ideal)) (onTc (τ := Cert.SfwdIdeal.τ) (Cert.SfwdIdeal.main (F := Ideal))) ⟨m, fun _ => 0, g⟩ (fun r => (∀ c : Dev Cert.SfwdIdeal.nD,
      r.2.mem ((c.tc : Thread Cert.SfwdIdeal.nD Cert.SfwdIdeal.τ).loc Cert.SfwdIdeal.main_arg0) = m ((c.tc : Thread Cert.SfwdIdeal.nD Cert.SfwdIdeal.τ).loc Cert.SfwdIdeal.main_arg0)
      ∧ r.2.mem ((c.tc : Thread Cert.SfwdIdeal.nD Cert.SfwdIdeal.τ).loc Cert.SfwdIdeal.main_arg1) = m ((c.tc : Thread Cert.SfwdIdeal.nD Cert.SfwdIdeal.τ).loc Cert.SfwdIdeal.main_arg1)
      ∧ r.2.mem ((c.tc : Thread Cert.SfwdIdeal.nD Cert.SfwdIdeal.τ).loc Cert.SfwdIdeal.main_arg2) = m ((c.tc : Thread Cert.SfwdIdeal.nD Cert.SfwdIdeal.τ).loc Cert.SfwdIdeal.main_arg2)
      ∧ r.2.mem ((c.tc : Thread Cert.SfwdIdeal.nD Cert.SfwdIdeal.τ).loc Cert.SfwdIdeal.main_arg3) = m ((c.tc : Thread Cert.SfwdIdeal.nD Cert.SfwdIdeal.τ).loc Cert.SfwdIdeal.main_arg3)
      ∧ r.2.mem ((c.tc : Thread Cert.SfwdIdeal.nD Cert.SfwdIdeal.τ).loc Cert.SfwdIdeal.main_arg4) = m ((c.tc : Thread Cert.SfwdIdeal.nD Cert.SfwdIdeal.τ).loc Cert.SfwdIdeal.main_arg4)
      ∧ r.2.mem ((c.tc : Thread Cert.SfwdIdeal.nD Cert.SfwdIdeal.τ).loc Cert.SfwdIdeal.main_arg5) = m ((c.tc : Thread Cert.SfwdIdeal.nD Cert.SfwdIdeal.τ).loc Cert.SfwdIdeal.main_arg5)
      ∧ r.2.mem ((c.tc : Thread Cert.SfwdIdeal.nD Cert.SfwdIdeal.τ).loc Cert.SfwdIdeal.main_arg6) = m ((c.tc : Thread Cert.SfwdIdeal.nD Cert.SfwdIdeal.τ).loc Cert.SfwdIdeal.main_arg6)
      ∧ r.2.mem ((c.tc : Thread Cert.SfwdIdeal.nD Cert.SfwdIdeal.τ).loc Cert.SfwdIdeal.main_arg7) = m ((c.tc : Thread Cert.SfwdIdeal.nD Cert.SfwdIdeal.τ).loc Cert.SfwdIdeal.main_arg7))
      ∧ r.2.sem = fun _ => 0)

def quiescent_SfwdRefIdeal [hSfwdRefIdeal : Cert.SfwdRefIdeal.Facts] : Prop :=
  ∀ (m : (ℓ : Loc Cert.SfwdRefIdeal.nD Cert.SfwdRefIdeal.τ Cert.SfwdRefIdeal.sig) → Buf (Elt Ideal) ℓ) (g : Dev Cert.SfwdRefIdeal.nD → PrngReg), Pre_SfwdRefIdeal m →
    θ_run (Cert.SfwdRefIdeal.defs (F := Ideal)) (onTc (τ := Cert.SfwdRefIdeal.τ) (Cert.SfwdRefIdeal.main (F := Ideal))) ⟨m, fun _ => 0, g⟩ (fun r => (∀ c : Dev Cert.SfwdRefIdeal.nD,
      r.2.mem ((c.tc : Thread Cert.SfwdRefIdeal.nD Cert.SfwdRefIdeal.τ).loc Cert.SfwdRefIdeal.main_arg0) = m ((c.tc : Thread Cert.SfwdRefIdeal.nD Cert.SfwdRefIdeal.τ).loc Cert.SfwdRefIdeal.main_arg0)
      ∧ r.2.mem ((c.tc : Thread Cert.SfwdRefIdeal.nD Cert.SfwdRefIdeal.τ).loc Cert.SfwdRefIdeal.main_arg1) = m ((c.tc : Thread Cert.SfwdRefIdeal.nD Cert.SfwdRefIdeal.τ).loc Cert.SfwdRefIdeal.main_arg1)
      ∧ r.2.mem ((c.tc : Thread Cert.SfwdRefIdeal.nD Cert.SfwdRefIdeal.τ).loc Cert.SfwdRefIdeal.main_arg2) = m ((c.tc : Thread Cert.SfwdRefIdeal.nD Cert.SfwdRefIdeal.τ).loc Cert.SfwdRefIdeal.main_arg2)
      ∧ r.2.mem ((c.tc : Thread Cert.SfwdRefIdeal.nD Cert.SfwdRefIdeal.τ).loc Cert.SfwdRefIdeal.main_arg3) = m ((c.tc : Thread Cert.SfwdRefIdeal.nD Cert.SfwdRefIdeal.τ).loc Cert.SfwdRefIdeal.main_arg3)
      ∧ r.2.mem ((c.tc : Thread Cert.SfwdRefIdeal.nD Cert.SfwdRefIdeal.τ).loc Cert.SfwdRefIdeal.main_arg4) = m ((c.tc : Thread Cert.SfwdRefIdeal.nD Cert.SfwdRefIdeal.τ).loc Cert.SfwdRefIdeal.main_arg4)
      ∧ r.2.mem ((c.tc : Thread Cert.SfwdRefIdeal.nD Cert.SfwdRefIdeal.τ).loc Cert.SfwdRefIdeal.main_arg5) = m ((c.tc : Thread Cert.SfwdRefIdeal.nD Cert.SfwdRefIdeal.τ).loc Cert.SfwdRefIdeal.main_arg5)
      ∧ r.2.mem ((c.tc : Thread Cert.SfwdRefIdeal.nD Cert.SfwdRefIdeal.τ).loc Cert.SfwdRefIdeal.main_arg6) = m ((c.tc : Thread Cert.SfwdRefIdeal.nD Cert.SfwdRefIdeal.τ).loc Cert.SfwdRefIdeal.main_arg6)
      ∧ r.2.mem ((c.tc : Thread Cert.SfwdRefIdeal.nD Cert.SfwdRefIdeal.τ).loc Cert.SfwdRefIdeal.main_arg7) = m ((c.tc : Thread Cert.SfwdRefIdeal.nD Cert.SfwdRefIdeal.τ).loc Cert.SfwdRefIdeal.main_arg7))
      ∧ r.2.sem = fun _ => 0)

def quiescent_Hfwd [hHfwd : Cert.Hfwd.Facts] : Prop :=
  ∀ (m : (ℓ : Loc Cert.Hfwd.nD Cert.Hfwd.τ Cert.Hfwd.sig) → Buf (Elt Bits) ℓ) (g : Dev Cert.Hfwd.nD → PrngReg), Pre_Hfwd m →
    θ_run (Cert.Hfwd.defs (F := Bits)) (onTc (τ := Cert.Hfwd.τ) (Cert.Hfwd.main (F := Bits))) ⟨m, fun _ => 0, g⟩ (fun r => (∀ c : Dev Cert.Hfwd.nD,
      r.2.mem ((c.tc : Thread Cert.Hfwd.nD Cert.Hfwd.τ).loc Cert.Hfwd.main_arg0) = m ((c.tc : Thread Cert.Hfwd.nD Cert.Hfwd.τ).loc Cert.Hfwd.main_arg0)
      ∧ r.2.mem ((c.tc : Thread Cert.Hfwd.nD Cert.Hfwd.τ).loc Cert.Hfwd.main_arg1) = m ((c.tc : Thread Cert.Hfwd.nD Cert.Hfwd.τ).loc Cert.Hfwd.main_arg1)
      ∧ r.2.mem ((c.tc : Thread Cert.Hfwd.nD Cert.Hfwd.τ).loc Cert.Hfwd.main_arg2) = m ((c.tc : Thread Cert.Hfwd.nD Cert.Hfwd.τ).loc Cert.Hfwd.main_arg2))
      ∧ r.2.sem = fun _ => 0)

def quiescent_HfwdIdeal [hHfwdIdeal : Cert.HfwdIdeal.Facts] : Prop :=
  ∀ (m : (ℓ : Loc Cert.HfwdIdeal.nD Cert.HfwdIdeal.τ Cert.HfwdIdeal.sig) → Buf (Elt Ideal) ℓ) (g : Dev Cert.HfwdIdeal.nD → PrngReg), Pre_HfwdIdeal m →
    θ_run (Cert.HfwdIdeal.defs (F := Ideal)) (onTc (τ := Cert.HfwdIdeal.τ) (Cert.HfwdIdeal.main (F := Ideal))) ⟨m, fun _ => 0, g⟩ (fun r => (∀ c : Dev Cert.HfwdIdeal.nD,
      r.2.mem ((c.tc : Thread Cert.HfwdIdeal.nD Cert.HfwdIdeal.τ).loc Cert.HfwdIdeal.main_arg0) = m ((c.tc : Thread Cert.HfwdIdeal.nD Cert.HfwdIdeal.τ).loc Cert.HfwdIdeal.main_arg0)
      ∧ r.2.mem ((c.tc : Thread Cert.HfwdIdeal.nD Cert.HfwdIdeal.τ).loc Cert.HfwdIdeal.main_arg1) = m ((c.tc : Thread Cert.HfwdIdeal.nD Cert.HfwdIdeal.τ).loc Cert.HfwdIdeal.main_arg1)
      ∧ r.2.mem ((c.tc : Thread Cert.HfwdIdeal.nD Cert.HfwdIdeal.τ).loc Cert.HfwdIdeal.main_arg2) = m ((c.tc : Thread Cert.HfwdIdeal.nD Cert.HfwdIdeal.τ).loc Cert.HfwdIdeal.main_arg2))
      ∧ r.2.sem = fun _ => 0)

def quiescent_HfwdRefIdeal [hHfwdRefIdeal : Cert.HfwdRefIdeal.Facts] : Prop :=
  ∀ (m : (ℓ : Loc Cert.HfwdRefIdeal.nD Cert.HfwdRefIdeal.τ Cert.HfwdRefIdeal.sig) → Buf (Elt Ideal) ℓ) (g : Dev Cert.HfwdRefIdeal.nD → PrngReg), Pre_HfwdRefIdeal m →
    θ_run (Cert.HfwdRefIdeal.defs (F := Ideal)) (onTc (τ := Cert.HfwdRefIdeal.τ) (Cert.HfwdRefIdeal.main (F := Ideal))) ⟨m, fun _ => 0, g⟩ (fun r => (∀ c : Dev Cert.HfwdRefIdeal.nD,
      r.2.mem ((c.tc : Thread Cert.HfwdRefIdeal.nD Cert.HfwdRefIdeal.τ).loc Cert.HfwdRefIdeal.main_arg0) = m ((c.tc : Thread Cert.HfwdRefIdeal.nD Cert.HfwdRefIdeal.τ).loc Cert.HfwdRefIdeal.main_arg0)
      ∧ r.2.mem ((c.tc : Thread Cert.HfwdRefIdeal.nD Cert.HfwdRefIdeal.τ).loc Cert.HfwdRefIdeal.main_arg1) = m ((c.tc : Thread Cert.HfwdRefIdeal.nD Cert.HfwdRefIdeal.τ).loc Cert.HfwdRefIdeal.main_arg1)
      ∧ r.2.mem ((c.tc : Thread Cert.HfwdRefIdeal.nD Cert.HfwdRefIdeal.τ).loc Cert.HfwdRefIdeal.main_arg2) = m ((c.tc : Thread Cert.HfwdRefIdeal.nD Cert.HfwdRefIdeal.τ).loc Cert.HfwdRefIdeal.main_arg2))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)) →
    ∃ (v0 : (c : Dev Cert.SwaIdeal.nD) → Buf (Elt Ideal) ((c.tc : Thread Cert.SwaIdeal.nD Cert.SwaIdeal.τ).loc Cert.SwaIdeal.main_v12_0)) (v1 : (c : Dev Cert.SwaIdeal.nD) → Buf (Elt Ideal) ((c.tc : Thread Cert.SwaIdeal.nD Cert.SwaIdeal.τ).loc Cert.SwaIdeal.main_v19)) (v2 : (c : Dev Cert.SwaIdeal.nD) → Buf (Elt Ideal) ((c.tc : Thread Cert.SwaIdeal.nD Cert.SwaIdeal.τ).loc Cert.SwaIdeal.main_v26)) (v3 : (c : Dev Cert.SwaIdeal.nD) → Buf (Elt Ideal) ((c.tc : Thread Cert.SwaIdeal.nD Cert.SwaIdeal.τ).loc Cert.SwaIdeal.main_v28)) (v4 : (c : Dev Cert.SwaIdeal.nD) → Buf (Elt Ideal) ((c.tc : Thread Cert.SwaIdeal.nD Cert.SwaIdeal.τ).loc Cert.SwaIdeal.main_v29)) (v5 : (c : Dev Cert.SwaIdeal.nD) → Buf (Elt Ideal) ((c.tc : Thread Cert.SwaIdeal.nD Cert.SwaIdeal.τ).loc Cert.SwaIdeal.main_v30)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v12_0) = v0 c
          ∧ r.2.mem ((c.tc : Thread Cert.SwaIdeal.nD Cert.SwaIdeal.τ).loc Cert.SwaIdeal.main_v19) = v1 c
          ∧ r.2.mem ((c.tc : Thread Cert.SwaIdeal.nD Cert.SwaIdeal.τ).loc Cert.SwaIdeal.main_v26) = v2 c
          ∧ r.2.mem ((c.tc : Thread Cert.SwaIdeal.nD Cert.SwaIdeal.τ).loc Cert.SwaIdeal.main_v28) = v3 c
          ∧ r.2.mem ((c.tc : Thread Cert.SwaIdeal.nD Cert.SwaIdeal.τ).loc Cert.SwaIdeal.main_v29) = v4 c
          ∧ r.2.mem ((c.tc : Thread Cert.SwaIdeal.nD Cert.SwaIdeal.τ).loc Cert.SwaIdeal.main_v30) = v5 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v229) = v0 c
          ∧ r.2.mem ((c.tc : Thread Cert.SwaRefIdeal.nD Cert.SwaRefIdeal.τ).loc Cert.SwaRefIdeal.main_v230) = v1 c
          ∧ r.2.mem ((c.tc : Thread Cert.SwaRefIdeal.nD Cert.SwaRefIdeal.τ).loc Cert.SwaRefIdeal.main_v231) = v2 c
          ∧ r.2.mem ((c.tc : Thread Cert.SwaRefIdeal.nD Cert.SwaRefIdeal.τ).loc Cert.SwaRefIdeal.main_v160) = v3 c
          ∧ r.2.mem ((c.tc : Thread Cert.SwaRefIdeal.nD Cert.SwaRefIdeal.τ).loc Cert.SwaRefIdeal.main_v211) = v4 c
          ∧ r.2.mem ((c.tc : Thread Cert.SwaRefIdeal.nD Cert.SwaRefIdeal.τ).loc Cert.SwaRefIdeal.main_v190) = v5 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v4)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v4) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v12) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v1_0)) (v1 : (c : Dev Cert.GluIdeal.nD) → Buf (Elt Ideal) ((c.tc : Thread Cert.GluIdeal.nD Cert.GluIdeal.τ).loc Cert.GluIdeal.main_v1_1)) (v2 : (c : Dev Cert.GluIdeal.nD) → Buf (Elt Ideal) ((c.tc : Thread Cert.GluIdeal.nD Cert.GluIdeal.τ).loc Cert.GluIdeal.main_v1_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1_0) = v0 c
          ∧ r.2.mem ((c.tc : Thread Cert.GluIdeal.nD Cert.GluIdeal.τ).loc Cert.GluIdeal.main_v1_1) = v1 c
          ∧ r.2.mem ((c.tc : Thread Cert.GluIdeal.nD Cert.GluIdeal.τ).loc Cert.GluIdeal.main_v1_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v33) = v0 c
          ∧ r.2.mem ((c.tc : Thread Cert.GluRefIdeal.nD Cert.GluRefIdeal.τ).loc Cert.GluRefIdeal.main_v28) = v1 c
          ∧ r.2.mem ((c.tc : Thread Cert.GluRefIdeal.nD Cert.GluRefIdeal.τ).loc Cert.GluRefIdeal.main_v34) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Dz_DzIdeal : Prop :=
  IdealRules.named_const.Statement Cert.DzIdeal.κ "cubic" .f32 0x3D372713#32 ((8943 / 200000 : ℝ) : EReal)
  ∧ IdealRules.named_const.Statement Cert.DzIdeal.κ "cubic_thrice" .f32 0x3E095D4F#32 ((26829 / 200000 : ℝ) : EReal)

def algebraic_DzIdeal_DzRefIdeal_pre_dz_finite [hDzIdeal : Cert.DzIdeal.Facts] [hDzRefIdeal : Cert.DzRefIdeal.Facts] [hPre_dz_finite : Cert.Pre_dz_finite.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal_dz_finite m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)
      ∧ m' ((c.tc : Thread Cert.DzRefIdeal.nD Cert.DzRefIdeal.τ).loc Cert.DzRefIdeal.main_arg2) = m ((c.tc : Thread Cert.DzIdeal.nD Cert.DzIdeal.τ).loc Cert.DzIdeal.main_arg2)
      ∧ m' ((c.tc : Thread Cert.DzRefIdeal.nD Cert.DzRefIdeal.τ).loc Cert.DzRefIdeal.main_arg3) = m ((c.tc : Thread Cert.DzIdeal.nD Cert.DzIdeal.τ).loc Cert.DzIdeal.main_arg3)) →
    ∃ (v0 : (c : Dev Cert.DzIdeal.nD) → Buf (Elt Ideal) ((c.tc : Thread Cert.DzIdeal.nD Cert.DzIdeal.τ).loc Cert.DzIdeal.main_v2)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v2) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
          ∧ r.2.mem ((c.tc : Thread Cert.DzIdeal.nD Cert.DzIdeal.τ).loc Cert.DzIdeal.main_arg2) = m ((c.tc : Thread Cert.DzIdeal.nD Cert.DzIdeal.τ).loc Cert.DzIdeal.main_arg2)
          ∧ r.2.mem ((c.tc : Thread Cert.DzIdeal.nD Cert.DzIdeal.τ).loc Cert.DzIdeal.main_arg3) = m ((c.tc : Thread Cert.DzIdeal.nD Cert.DzIdeal.τ).loc Cert.DzIdeal.main_arg3))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v39) = v0 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1)
          ∧ r.2.mem ((c.tc : Thread Cert.DzRefIdeal.nD Cert.DzRefIdeal.τ).loc Cert.DzRefIdeal.main_arg2) = m' ((c.tc : Thread Cert.DzRefIdeal.nD Cert.DzRefIdeal.τ).loc Cert.DzRefIdeal.main_arg2)
          ∧ r.2.mem ((c.tc : Thread Cert.DzRefIdeal.nD Cert.DzRefIdeal.τ).loc Cert.DzRefIdeal.main_arg3) = m' ((c.tc : Thread Cert.DzRefIdeal.nD Cert.DzRefIdeal.τ).loc Cert.DzRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v4) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_v8) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Qkv_QkvIdeal : Prop :=
  True

def algebraic_QkvIdeal_QkvRefIdeal_pre_qkv_finite [hQkvIdeal : Cert.QkvIdeal.Facts] [hQkvRefIdeal : Cert.QkvRefIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_qkv_finite m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v38) = v0 c
          ∧ r.2.mem ((c.tc : Thread Cert.QkvRefIdeal.nD Cert.QkvRefIdeal.τ).loc Cert.QkvRefIdeal.main_v39) = v1 c
          ∧ r.2.mem ((c.tc : Thread Cert.QkvRefIdeal.nD Cert.QkvRefIdeal.τ).loc Cert.QkvRefIdeal.main_v40) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Inp_InpIdeal : Prop :=
  True

def algebraic_InpIdeal_InpRefIdeal_pre_in_finite [hInpIdeal : Cert.InpIdeal.Facts] [hInpRefIdeal : Cert.InpRefIdeal.Facts] [hPre_in_finite : Cert.Pre_in_finite.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_in_finite m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v3_0)) (v1 : (c : Dev Cert.InpIdeal.nD) → Buf (Elt Ideal) ((c.tc : Thread Cert.InpIdeal.nD Cert.InpIdeal.τ).loc Cert.InpIdeal.main_v3_1)) (v2 : (c : Dev Cert.InpIdeal.nD) → Buf (Elt Ideal) ((c.tc : Thread Cert.InpIdeal.nD Cert.InpIdeal.τ).loc Cert.InpIdeal.main_v3_2)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v3_0) = v0 c
          ∧ r.2.mem ((c.tc : Thread Cert.InpIdeal.nD Cert.InpIdeal.τ).loc Cert.InpIdeal.main_v3_1) = v1 c
          ∧ r.2.mem ((c.tc : Thread Cert.InpIdeal.nD Cert.InpIdeal.τ).loc Cert.InpIdeal.main_v3_2) = v2 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v38) = v0 c
          ∧ r.2.mem ((c.tc : Thread Cert.InpRefIdeal.nD Cert.InpRefIdeal.τ).loc Cert.InpRefIdeal.main_v39) = v1 c
          ∧ r.2.mem ((c.tc : Thread Cert.InpRefIdeal.nD Cert.InpRefIdeal.τ).loc Cert.InpRefIdeal.main_v40) = v2 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v5_0)) (v1 : (c : Dev Cert.UpIdeal.nD) → Buf (Elt Ideal) ((c.tc : Thread Cert.UpIdeal.nD Cert.UpIdeal.τ).loc Cert.UpIdeal.main_v5_1)) (v2 : (c : Dev Cert.UpIdeal.nD) → Buf (Elt Ideal) ((c.tc : Thread Cert.UpIdeal.nD Cert.UpIdeal.τ).loc Cert.UpIdeal.main_v5_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v5_0) = v0 c
          ∧ r.2.mem ((c.tc : Thread Cert.UpIdeal.nD Cert.UpIdeal.τ).loc Cert.UpIdeal.main_v5_1) = v1 c
          ∧ r.2.mem ((c.tc : Thread Cert.UpIdeal.nD Cert.UpIdeal.τ).loc Cert.UpIdeal.main_v5_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_v39) = v1 c
          ∧ r.2.mem ((c.tc : Thread Cert.UpRefIdeal.nD Cert.UpRefIdeal.τ).loc Cert.UpRefIdeal.main_v40) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Fwd_FwdIdeal : Prop :=
  IdealRules.named_const.Statement Cert.FwdIdeal.κ "mask" .f32 0xF149F2CA#32 ⊥

def algebraic_FwdIdeal_FwdRefIdeal_pre_fwd_finite [hFwdIdeal : Cert.FwdIdeal.Facts] [hFwdRefIdeal : Cert.FwdRefIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v12)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v12) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v121) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)) →
    ∃ (v0 : (c : Dev Cert.WoutIdeal.nD) → Buf (Elt Ideal) ((c.tc : Thread Cert.WoutIdeal.nD Cert.WoutIdeal.τ).loc Cert.WoutIdeal.main_v3_0)) (v1 : (c : Dev Cert.WoutIdeal.nD) → Buf (Elt Ideal) ((c.tc : Thread Cert.WoutIdeal.nD Cert.WoutIdeal.τ).loc Cert.WoutIdeal.main_v3_1)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v3_0) = v0 c
          ∧ r.2.mem ((c.tc : Thread Cert.WoutIdeal.nD Cert.WoutIdeal.τ).loc Cert.WoutIdeal.main_v3_1) = v1 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v1) = v0 c
          ∧ r.2.mem ((c.tc : Thread Cert.WoutRefIdeal.nD Cert.WoutRefIdeal.τ).loc Cert.WoutRefIdeal.main_v15) = v1 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v4_0)) (v1 : (c : Dev Cert.ActIdeal.nD) → Buf (Elt Ideal) ((c.tc : Thread Cert.ActIdeal.nD Cert.ActIdeal.τ).loc Cert.ActIdeal.main_v4_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v4_0) = v0 c
          ∧ r.2.mem ((c.tc : Thread Cert.ActIdeal.nD Cert.ActIdeal.τ).loc Cert.ActIdeal.main_v4_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v1) = v0 c
          ∧ r.2.mem ((c.tc : Thread Cert.ActRefIdeal.nD Cert.ActRefIdeal.τ).loc Cert.ActRefIdeal.main_v4) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v16_0)) (v1 : (c : Dev Cert.GateIdeal.nD) → Buf (Elt Ideal) ((c.tc : Thread Cert.GateIdeal.nD Cert.GateIdeal.τ).loc Cert.GateIdeal.main_v16_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v16_0) = v0 c
          ∧ r.2.mem ((c.tc : Thread Cert.GateIdeal.nD Cert.GateIdeal.τ).loc Cert.GateIdeal.main_v16_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v13) = v0 c
          ∧ r.2.mem ((c.tc : Thread Cert.GateRefIdeal.nD Cert.GateRefIdeal.τ).loc Cert.GateRefIdeal.main_v24) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_v15) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Sfwd_SfwdIdeal : Prop :=
  True

def preserves_Hfwd_HfwdIdeal : Prop :=
  IdealRules.named_const.Statement Cert.HfwdIdeal.κ "mask" .f32 0xF149F2CA#32 ⊥

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v2)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v2) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v3) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v1)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v1) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0))

def Claim : Prop :=
  ∃ (hSwa : Cert.Swa.Facts) (hSwaIdeal : Cert.SwaIdeal.Facts) (hSwaRefIdeal : Cert.SwaRefIdeal.Facts) (hDact : Cert.Dact.Facts) (hDactIdeal : Cert.DactIdeal.Facts) (hDactRefIdeal : Cert.DactRefIdeal.Facts) (hGlu : Cert.Glu.Facts) (hGluIdeal : Cert.GluIdeal.Facts) (hGluRefIdeal : Cert.GluRefIdeal.Facts) (hDz : Cert.Dz.Facts) (hDzIdeal : Cert.DzIdeal.Facts) (hDzRefIdeal : Cert.DzRefIdeal.Facts) (hLoss : Cert.Loss.Facts) (hLossIdeal : Cert.LossIdeal.Facts) (hLossRefIdeal : Cert.LossRefIdeal.Facts) (hQkv : Cert.Qkv.Facts) (hQkvIdeal : Cert.QkvIdeal.Facts) (hQkvRefIdeal : Cert.QkvRefIdeal.Facts) (hInp : Cert.Inp.Facts) (hInpIdeal : Cert.InpIdeal.Facts) (hInpRefIdeal : Cert.InpRefIdeal.Facts) (hUp : Cert.Up.Facts) (hUpIdeal : Cert.UpIdeal.Facts) (hUpRefIdeal : Cert.UpRefIdeal.Facts) (hFwd : Cert.Fwd.Facts) (hFwdIdeal : Cert.FwdIdeal.Facts) (hFwdRefIdeal : Cert.FwdRefIdeal.Facts) (hRms : Cert.Rms.Facts) (hRmsIdeal : Cert.RmsIdeal.Facts) (hRmsRefIdeal : Cert.RmsRefIdeal.Facts) (hWout : Cert.Wout.Facts) (hWoutIdeal : Cert.WoutIdeal.Facts) (hWoutRefIdeal : Cert.WoutRefIdeal.Facts) (hAct : Cert.Act.Facts) (hActIdeal : Cert.ActIdeal.Facts) (hActRefIdeal : Cert.ActRefIdeal.Facts) (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hSfwd : Cert.Sfwd.Facts) (hSfwdIdeal : Cert.SfwdIdeal.Facts) (hSfwdRefIdeal : Cert.SfwdRefIdeal.Facts) (hHfwd : Cert.Hfwd.Facts) (hHfwdIdeal : Cert.HfwdIdeal.Facts) (hHfwdRefIdeal : Cert.HfwdRefIdeal.Facts) (hDwdown : Cert.Dwdown.Facts) (hDwdownIdeal : Cert.DwdownIdeal.Facts) (hDwdownRefIdeal : Cert.DwdownRefIdeal.Facts) (hAdam : Cert.Adam.Facts) (hAdamIdeal : Cert.AdamIdeal.Facts) (hAdamRefIdeal : Cert.AdamRefIdeal.Facts) (hSums : Cert.Sums.Facts) (hSumsIdeal : Cert.SumsIdeal.Facts) (hSumsRefIdeal : Cert.SumsRefIdeal.Facts) (hPre_swa_finite : Cert.Pre_swa_finite.Facts) (hPre_dz_finite : Cert.Pre_dz_finite.Facts) (hPre_qkv_finite : Cert.Pre_qkv_finite.Facts) (hPre_in_finite : Cert.Pre_in_finite.Facts) (hPre_up_finite : Cert.Pre_up_finite.Facts) (hPre_fwd_finite : Cert.Pre_fwd_finite.Facts),
    quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_Dact (hDact := hDact)
    ∧ quiescent_DactIdeal (hDactIdeal := hDactIdeal)
    ∧ quiescent_DactRefIdeal (hDactRefIdeal := hDactRefIdeal)
    ∧ quiescent_Glu (hGlu := hGlu)
    ∧ quiescent_GluIdeal (hGluIdeal := hGluIdeal)
    ∧ quiescent_GluRefIdeal (hGluRefIdeal := hGluRefIdeal)
    ∧ quiescent_Dz (hDz := hDz)
    ∧ quiescent_DzIdeal (hDzIdeal := hDzIdeal)
    ∧ quiescent_DzIdeal_pre_dz_finite (hDzIdeal := hDzIdeal) (hPre_dz_finite := hPre_dz_finite)
    ∧ quiescent_DzRefIdeal (hDzRefIdeal := hDzRefIdeal)
    ∧ quiescent_DzRefIdeal_pre_dz_finite (hDzRefIdeal := hDzRefIdeal) (hPre_dz_finite := hPre_dz_finite)
    ∧ quiescent_Loss (hLoss := hLoss)
    ∧ quiescent_LossIdeal (hLossIdeal := hLossIdeal)
    ∧ quiescent_LossRefIdeal (hLossRefIdeal := hLossRefIdeal)
    ∧ quiescent_Qkv (hQkv := hQkv)
    ∧ quiescent_QkvIdeal (hQkvIdeal := hQkvIdeal)
    ∧ quiescent_QkvIdeal_pre_qkv_finite (hQkvIdeal := hQkvIdeal) (hPre_qkv_finite := hPre_qkv_finite)
    ∧ quiescent_QkvRefIdeal (hQkvRefIdeal := hQkvRefIdeal)
    ∧ quiescent_QkvRefIdeal_pre_qkv_finite (hQkvRefIdeal := hQkvRefIdeal) (hPre_qkv_finite := hPre_qkv_finite)
    ∧ quiescent_Inp (hInp := hInp)
    ∧ quiescent_InpIdeal (hInpIdeal := hInpIdeal)
    ∧ quiescent_InpIdeal_pre_in_finite (hInpIdeal := hInpIdeal) (hPre_in_finite := hPre_in_finite)
    ∧ quiescent_InpRefIdeal (hInpRefIdeal := hInpRefIdeal)
    ∧ quiescent_InpRefIdeal_pre_in_finite (hInpRefIdeal := hInpRefIdeal) (hPre_in_finite := hPre_in_finite)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_Rms (hRms := hRms)
    ∧ quiescent_RmsIdeal (hRmsIdeal := hRmsIdeal)
    ∧ quiescent_RmsRefIdeal (hRmsRefIdeal := hRmsRefIdeal)
    ∧ quiescent_Wout (hWout := hWout)
    ∧ quiescent_WoutIdeal (hWoutIdeal := hWoutIdeal)
    ∧ quiescent_WoutRefIdeal (hWoutRefIdeal := hWoutRefIdeal)
    ∧ quiescent_Act (hAct := hAct)
    ∧ quiescent_ActIdeal (hActIdeal := hActIdeal)
    ∧ quiescent_ActRefIdeal (hActRefIdeal := hActRefIdeal)
    ∧ quiescent_Gate (hGate := hGate)
    ∧ quiescent_GateIdeal (hGateIdeal := hGateIdeal)
    ∧ quiescent_GateRefIdeal (hGateRefIdeal := hGateRefIdeal)
    ∧ quiescent_Down (hDown := hDown)
    ∧ quiescent_DownIdeal (hDownIdeal := hDownIdeal)
    ∧ quiescent_DownRefIdeal (hDownRefIdeal := hDownRefIdeal)
    ∧ quiescent_Sfwd (hSfwd := hSfwd)
    ∧ quiescent_SfwdIdeal (hSfwdIdeal := hSfwdIdeal)
    ∧ quiescent_SfwdRefIdeal (hSfwdRefIdeal := hSfwdRefIdeal)
    ∧ quiescent_Hfwd (hHfwd := hHfwd)
    ∧ quiescent_HfwdIdeal (hHfwdIdeal := hHfwdIdeal)
    ∧ quiescent_HfwdRefIdeal (hHfwdRefIdeal := hHfwdRefIdeal)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Adam (hAdam := hAdam)
    ∧ quiescent_AdamIdeal (hAdamIdeal := hAdamIdeal)
    ∧ quiescent_AdamRefIdeal (hAdamRefIdeal := hAdamRefIdeal)
    ∧ quiescent_Sums (hSums := hSums)
    ∧ quiescent_SumsIdeal (hSumsIdeal := hSumsIdeal)
    ∧ quiescent_SumsRefIdeal (hSumsRefIdeal := hSumsRefIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_Dact_DactIdeal
    ∧ algebraic_DactIdeal_DactRefIdeal (hDactIdeal := hDactIdeal) (hDactRefIdeal := hDactRefIdeal)
    ∧ preserves_Glu_GluIdeal
    ∧ algebraic_GluIdeal_GluRefIdeal (hGluIdeal := hGluIdeal) (hGluRefIdeal := hGluRefIdeal)
    ∧ preserves_Dz_DzIdeal
    ∧ algebraic_DzIdeal_DzRefIdeal_pre_dz_finite (hDzIdeal := hDzIdeal) (hDzRefIdeal := hDzRefIdeal) (hPre_dz_finite := hPre_dz_finite)
    ∧ preserves_Loss_LossIdeal
    ∧ algebraic_LossIdeal_LossRefIdeal (hLossIdeal := hLossIdeal) (hLossRefIdeal := hLossRefIdeal)
    ∧ preserves_Qkv_QkvIdeal
    ∧ algebraic_QkvIdeal_QkvRefIdeal_pre_qkv_finite (hQkvIdeal := hQkvIdeal) (hQkvRefIdeal := hQkvRefIdeal) (hPre_qkv_finite := hPre_qkv_finite)
    ∧ preserves_Inp_InpIdeal
    ∧ algebraic_InpIdeal_InpRefIdeal_pre_in_finite (hInpIdeal := hInpIdeal) (hInpRefIdeal := hInpRefIdeal) (hPre_in_finite := hPre_in_finite)
    ∧ preserves_Up_UpIdeal
    ∧ algebraic_UpIdeal_UpRefIdeal_pre_up_finite (hUpIdeal := hUpIdeal) (hUpRefIdeal := hUpRefIdeal) (hPre_up_finite := hPre_up_finite)
    ∧ preserves_Fwd_FwdIdeal
    ∧ algebraic_FwdIdeal_FwdRefIdeal_pre_fwd_finite (hFwdIdeal := hFwdIdeal) (hFwdRefIdeal := hFwdRefIdeal) (hPre_fwd_finite := hPre_fwd_finite)
    ∧ preserves_Rms_RmsIdeal
    ∧ algebraic_RmsIdeal_RmsRefIdeal (hRmsIdeal := hRmsIdeal) (hRmsRefIdeal := hRmsRefIdeal)
    ∧ preserves_Wout_WoutIdeal
    ∧ algebraic_WoutIdeal_WoutRefIdeal (hWoutIdeal := hWoutIdeal) (hWoutRefIdeal := hWoutRefIdeal)
    ∧ preserves_Act_ActIdeal
    ∧ algebraic_ActIdeal_ActRefIdeal (hActIdeal := hActIdeal) (hActRefIdeal := hActRefIdeal)
    ∧ preserves_Gate_GateIdeal
    ∧ algebraic_GateIdeal_GateRefIdeal (hGateIdeal := hGateIdeal) (hGateRefIdeal := hGateRefIdeal)
    ∧ preserves_Down_DownIdeal
    ∧ algebraic_DownIdeal_DownRefIdeal (hDownIdeal := hDownIdeal) (hDownRefIdeal := hDownRefIdeal)
    ∧ preserves_Sfwd_SfwdIdeal
    ∧ preserves_Hfwd_HfwdIdeal
    ∧ preserves_Dwdown_DwdownIdeal
    ∧ algebraic_DwdownIdeal_DwdownRefIdeal (hDwdownIdeal := hDwdownIdeal) (hDwdownRefIdeal := hDwdownRefIdeal)
    ∧ preserves_Adam_AdamIdeal
    ∧ algebraic_AdamIdeal_AdamRefIdeal (hAdamIdeal := hAdamIdeal) (hAdamRefIdeal := hAdamRefIdeal)
    ∧ preserves_Sums_SumsIdeal
    ∧ algebraic_SumsIdeal_SumsRefIdeal (hSumsIdeal := hSumsIdeal) (hSumsRefIdeal := hSumsRefIdeal)
-- ==== Pre_dz_finite.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S4096x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_fwd_finite.lean ====
abbrev S4096x2560 : Shape := ⟨2, ![4096, 2560]⟩
abbrev S64 : Shape := ⟨1, ![64]⟩
abbrev S32 : Shape := ⟨1, ![32]⟩
abbrev S_ : Shape := ⟨0, ![]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4096x2560 .f32) (main_arg1 : FVec F S64 .f32) (main_arg2 : FVec F S64 .f32) (main_arg3 : FVec F S32 .f32) : IVec S_ 1 :=
  let main_v0 : FVec F S4096x2560 .f32 := Host.absf main_arg0
  let main_cst : FVec F S_ .f32 := constant S_ .f32 0x7F800000#32
  let main_v1 : FVec F S4096x2560 .f32 := broadcastInDim S4096x2560 ![] bcast_S_S4096x2560 main_cst
  let main_v2 : IVec S4096x2560 1 := cmpf .olt main_v0 main_v1
  let main_c : IVec S_ 1 := constantI S_ 1 1#1
  let main_v3 : IVec S_ 1 := (fun x v => Host.reduce IntOp.andi x v reducesTo_S4096x2560_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Pre_in_finite.lean ====
abbrev S4096x5120 : Shape := ⟨2, ![4096, 5120]⟩
abbrev S2048x5120 : Shape := ⟨2, ![2048, 5120]⟩
abbrev S4096x2048 : Shape := ⟨2, ![4096, 2048]⟩
abbrev S2048 : Shape := ⟨1, ![2048]⟩
abbrev S_ : Shape := ⟨0, ![]⟩

class Facts : Prop where
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S2048x5120 : S_.BroadcastsInDim S2048x5120 (![] : Fin 0 → Fin S2048x5120.rank)
  reducesTo_S2048x5120_S_d0_1 : S2048x5120.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x5120 .f32) (main_arg1 : FVec F S2048x5120 .f32) (main_arg2 : FVec F S4096x2048 .f32) (main_arg3 : FVec F S4096x2048 .f32) (main_arg4 : FVec F S2048 .f32) : IVec S_ 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_c : IVec S_ 1 := constantI S_ 1 1#1
  let main_v3 : IVec S_ 1 := (fun x v => Host.reduce IntOp.andi x v reducesTo_S4096x5120_S_d0_1 h_S_) main_v2 main_c
  let main_v4 : FVec F S2048x5120 .f32 := Host.absf main_arg1
  let main_cst_0 : FVec F S_ .f32 := constant S_ .f32 0x7F800000#32
  let main_v5 : FVec F S2048x5120 .f32 := broadcastInDim S2048x5120 ![] bcast_S_S2048x5120 main_cst_0
  let main_v6 : IVec S2048x5120 1 := cmpf .olt main_v4 main_v5
  let main_c_1 : IVec S_ 1 := constantI S_ 1 1#1
  let main_v7 : IVec S_ 1 := (fun x v => Host.reduce IntOp.andi x v reducesTo_S2048x5120_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Pre_qkv_finite.lean ====
abbrev S4096x2560 : Shape := ⟨2, ![4096, 2560]⟩
abbrev S2048x2560 : Shape := ⟨2, ![2048, 2560]⟩
abbrev S4096x2048 : Shape := ⟨2, ![4096, 2048]⟩
abbrev S2048 : Shape := ⟨1, ![2048]⟩
abbrev S_ : Shape := ⟨0, ![]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S2048x2560 : S_.BroadcastsInDim S2048x2560 (![] : Fin 0 → Fin S2048x2560.rank)
  reducesTo_S2048x2560_S_d0_1 : S2048x2560.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2560 .f32) (main_arg1 : FVec F S2048x2560 .f32) (main_arg2 : FVec F S4096x2048 .f32) (main_arg3 : FVec F S4096x2048 .f32) (main_arg4 : FVec F S2048 .f32) : IVec S_ 1 :=
  let main_v0 : FVec F S4096x2560 .f32 := Host.absf main_arg0
  let main_cst : FVec F S_ .f32 := constant S_ .f32 0x7F800000#32
  let main_v1 : FVec F S4096x2560 .f32 := broadcastInDim S4096x2560 ![] bcast_S_S4096x2560 main_cst
  let main_v2 : IVec S4096x2560 1 := cmpf .olt main_v0 main_v1
  let main_c : IVec S_ 1 := constantI S_ 1 1#1
  let main_v3 : IVec S_ 1 := (fun x v => Host.reduce IntOp.andi x v reducesTo_S4096x2560_S_d0_1 h_S_) main_v2 main_c
  let main_v4 : FVec F S2048x2560 .f32 := Host.absf main_arg1
  let main_cst_0 : FVec F S_ .f32 := constant S_ .f32 0x7F800000#32
  let main_v5 : FVec F S2048x2560 .f32 := broadcastInDim S2048x2560 ![] bcast_S_S2048x2560 main_cst_0
  let main_v6 : IVec S2048x2560 1 := cmpf .olt main_v4 main_v5
  let main_c_1 : IVec S_ 1 := constantI S_ 1 1#1
  let main_v7 : IVec S_ 1 := (fun x v => Host.reduce IntOp.andi x v reducesTo_S2048x2560_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Pre_swa_finite.lean ====
abbrev S4096x2560 : Shape := ⟨2, ![4096, 2560]⟩
abbrev S64 : Shape := ⟨1, ![64]⟩
abbrev S32 : Shape := ⟨1, ![32]⟩
abbrev S4096x2048 : Shape := ⟨2, ![4096, 2048]⟩
abbrev S_ : Shape := ⟨0, ![]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x2560 .f32) (main_arg1 : FVec F S64 .f32) (main_arg2 : FVec F S64 .f32) (main_arg3 : FVec F S32 .f32) (main_arg4 : FVec F S4096x2048 .f32) : IVec S_ 1 :=
  let main_v0 : FVec F S4096x2560 .f32 := Host.absf main_arg0
  let main_cst : FVec F S_ .f32 := constant S_ .f32 0x7F800000#32
  let main_v1 : FVec F S4096x2560 .f32 := broadcastInDim S4096x2560 ![] bcast_S_S4096x2560 main_cst
  let main_v2 : IVec S4096x2560 1 := cmpf .olt main_v0 main_v1
  let main_c : IVec S_ 1 := constantI S_ 1 1#1
  let main_v3 : IVec S_ 1 := (fun x v => Host.reduce IntOp.andi x v reducesTo_S4096x2560_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_v13 main_v16
-- ==== Pre_up_finite.lean ====
abbrev S4096x8192 : Shape := ⟨2, ![4096, 8192]⟩
abbrev S2048x8192 : Shape := ⟨2, ![2048, 8192]⟩
abbrev S4096x2048 : Shape := ⟨2, ![4096, 2048]⟩
abbrev S2048 : Shape := ⟨1, ![2048]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x8192 .f32) (main_arg1 : FVec F S2048x8192 .f32) (main_arg2 : FVec F S4096x2048 .f32) (main_arg3 : FVec F S4096x2048 .f32) (main_arg4 : FVec F S2048 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Swa.lean ====
abbrev S4096x2560 : Shape := ⟨2, ![4096, 2560]⟩
abbrev S64 : Shape := ⟨1, ![64]⟩
abbrev S32 : Shape := ⟨1, ![32]⟩
abbrev S4096x2048 : Shape := ⟨2, ![4096, 2048]⟩
abbrev S_ : Shape := ⟨0, ![]⟩
abbrev S1x64 : Shape := ⟨2, ![1, 64]⟩
abbrev S4096x256 : Shape := ⟨2, ![4096, 256]⟩
abbrev S32x128 : Shape := ⟨2, ![32, 128]⟩
abbrev S128x2048 : Shape := ⟨2, ![128, 2048]⟩
abbrev S128x256 : Shape := ⟨2, ![128, 256]⟩
abbrev S256x256 : Shape := ⟨2, ![256, 256]⟩
abbrev S1024x256 : Shape := ⟨2, ![1024, 256]⟩
abbrev S256x64 : Shape := ⟨2, ![256, 64]⟩
abbrev S256 : Shape := ⟨1, ![256]⟩
abbrev S256x1 : Shape := ⟨2, ![256, 1]⟩
abbrev S128x512 : Shape := ⟨2, ![128, 512]⟩
abbrev S128x64 : Shape := ⟨2, ![128, 64]⟩
abbrev S1024x64 : Shape := ⟨2, ![1024, 64]⟩
abbrev S1024 : Shape := ⟨1, ![1024]⟩
abbrev S1024x1 : Shape := ⟨2, ![1024, 1]⟩
abbrev S1 : Shape := ⟨1, ![1]⟩
abbrev S128x1 : Shape := ⟨2, ![128, 1]⟩
abbrev S1x128 : Shape := ⟨2, ![1, 128]⟩
abbrev S1x128x1 : Shape := ⟨3, ![1, 128, 1]⟩
abbrev S1x1x1 : Shape := ⟨3, ![1, 1, 1]⟩
abbrev S3968x256 : Shape := ⟨2, ![3968, 256]⟩
abbrev S32x1 : Shape := ⟨2, ![32, 1]⟩

abbrev nBuf : Space → Nat
  | .hbm => 49
  | .vmem => 27
  | .smem => 2
  | _ => 0

abbrev bufTy : (tb : Table) → Fin (tcTables nBuf tb) → BufTy
  | .hbm, ⟨0, _⟩ => ⟨S4096x2560, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S4096x2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S1x64, .f32⟩
  | .hbm, ⟨20, _⟩ => ⟨S1x64, .f32⟩
  | .hbm, ⟨21, _⟩ => ⟨S4096x2048, .bf16⟩
  | .hbm, ⟨22, _⟩ => ⟨S4096x256, .bf16⟩
  | .hbm, ⟨23, _⟩ => ⟨S4096x256, .bf16⟩
  | .hbm, ⟨24, _⟩ => ⟨S4096x256, .bf16⟩
  | .hbm, ⟨25, _⟩ => ⟨S4096x256, .bf16⟩
  | .hbm, ⟨26, _⟩ => ⟨S32x128, .f32⟩
  | .hbm, ⟨27, _⟩ => ⟨S1x64, .f32⟩
  | .hbm, ⟨28, _⟩ => ⟨S1x64, .f32⟩
  | .hbm, ⟨29, _⟩ => ⟨S4096x256, .f32⟩
  | .hbm, ⟨30, _⟩ => ⟨S3968x256, .bf16⟩
  | .hbm, ⟨31, _⟩ => ⟨S_, .bf16⟩
  | .hbm, ⟨32, _⟩ => ⟨S128x256, .bf16⟩
  | .hbm, ⟨33, _⟩ => ⟨S4096x256, .bf16⟩
  | .hbm, ⟨34, _⟩ => ⟨S4096x256, .f32⟩
  | .hbm, ⟨35, _⟩ => ⟨S4096x256, .f32⟩
  | .hbm, ⟨36, _⟩ => ⟨S4096x256, .bf16⟩
  | .hbm, ⟨37, _⟩ => ⟨S4096x256, .f32⟩
  | .hbm, ⟨38, _⟩ => ⟨S3968x256, .bf16⟩
  | .hbm, ⟨39, _⟩ => ⟨S_, .bf16⟩
  | .hbm, ⟨40, _⟩ => ⟨S128x256, .bf16⟩
  | .hbm, ⟨41, _⟩ => ⟨S4096x256, .bf16⟩
  | .hbm, ⟨42, _⟩ => ⟨S4096x256, .f32⟩
  | .hbm, ⟨43, _⟩ => ⟨S4096x256, .f32⟩
  | .hbm, ⟨44, _⟩ => ⟨S4096x256, .bf16⟩
  | .hbm, ⟨45, _⟩ => ⟨S32x1, .f32⟩
  | .hbm, ⟨46, _⟩ => ⟨S32, .f32⟩
  | .hbm, ⟨47, _⟩ => ⟨S64, .f32⟩
  | .hbm, ⟨48, _⟩ => ⟨S64, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x64, .f32⟩
  | .local _ .vmem, ⟨11, _⟩ => ⟨S1x64, .f32⟩
  | .local _ .vmem, ⟨12, _⟩ => ⟨S128x2048, .f32⟩
  | .local _ .vmem, ⟨13, _⟩ => ⟨S128x2048, .f32⟩
  | .local _ .vmem, ⟨14, _⟩ => ⟨S128x2048, .bf16⟩
  | .local _ .vmem, ⟨15, _⟩ => ⟨S128x2048, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S128x256, .bf16⟩
  | .local _ .vmem, ⟨21, _⟩ => ⟨S128x256, .bf16⟩
  | .local _ .vmem, ⟨22, _⟩ => ⟨S128x256, .bf16⟩
  | .local _ .vmem, ⟨23, _⟩ => ⟨S128x256, .bf16⟩
  | .local _ .vmem, ⟨24, _⟩ => ⟨S32x128, .f32⟩
  | .local _ .vmem, ⟨25, _⟩ => ⟨S1x64, .f32⟩
  | .local _ .vmem, ⟨26, _⟩ => ⟨S1x64, .f32⟩
  | .local _ .smem, ⟨0, _⟩ => ⟨S32, .f32⟩
  | .local _ .smem, ⟨1, _⟩ => ⟨S32, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev main_v12_6 : Ref sig .tc := ⟨.hbm, 27, rfl⟩
abbrev main_v12_7 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== SwaIdeal.lean ====
variable {F : FTy → Type} [FloatOps F] [Named F]
def κ : String → Option EReal := fun
  | "mask" => some ⊥
  | _ => none
-- ==== SwaRefIdeal.lean ====
abbrev S4096x2560 : Shape := ⟨2, ![4096, 2560]⟩
abbrev S64 : Shape := ⟨1, ![64]⟩
abbrev S32 : Shape := ⟨1, ![32]⟩
abbrev S4096x2048 : Shape := ⟨2, ![4096, 2048]⟩
abbrev S4096x256 : Shape := ⟨2, ![4096, 256]⟩
abbrev S4096x32x64 : Shape := ⟨3, ![4096, 32, 64]⟩
abbrev S_ : Shape := ⟨0, ![]⟩
abbrev S4096x32 : Shape := ⟨2, ![4096, 32]⟩
abbrev S4096x32x1 : Shape := ⟨3, ![4096, 32, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S32x128x4x8x64 : Shape := ⟨5, ![32, 128, 4, 8, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S32x1x1x128x256 : Shape := ⟨5, ![32, 1, 1, 128, 256]⟩
abbrev S1x4x8x128x256 : Shape := ⟨5, ![1, 4, 8, 128, 256]⟩
abbrev S1x4x8x1x1 : Shape := ⟨5, ![1, 4, 8, 1, 1]⟩
abbrev S32x4x8x128x1 : Shape := ⟨5, ![32, 4, 8, 128, 1]⟩
abbrev S32x4x8x128x257 : Shape := ⟨5, ![32, 4, 8, 128, 257]⟩
abbrev S32x4x8x128 : Shape := ⟨4, ![32, 4, 8, 128]⟩
abbrev S32x4x64x8x128 : Shape := ⟨5, ![32, 4, 64, 8, 128]⟩
abbrev S32x4x64x256 : Shape := ⟨4, ![32, 4, 64, 256]⟩
abbrev S32x4x128x8x64 : Shape := ⟨5, ![32, 4, 128, 8, 64]⟩
abbrev S32x4x256x64 : Shape := ⟨4, ![32, 4, 256, 64]⟩

abbrev nBuf : Space → Nat
  | .hbm => 290
  | .vmem => 0
  | .smem => 0
  | _ => 0

abbrev hbmTy0_0 (i : Nat) : BufTy := match i % 128 with
  | 0 => ⟨S4096x2560, .f32⟩
  | 1 => ⟨S64, .f32⟩
  | 2 => ⟨S64, .f32⟩
  | 3 => ⟨S32, .f32⟩
  | 4 => ⟨S4096x2048, .f32⟩
  | 5 => ⟨S4096x2048, .f32⟩
  | 6 => ⟨S4096x256, .f32⟩
  | 7 => ⟨S4096x256, .f32⟩
  | 8 => ⟨S4096x32x64, .f32⟩
  | 9 => ⟨S4096x32x64, .f32⟩
  | 10 => ⟨S_, .f32⟩
  | 11 => ⟨S4096x32, .f32⟩
  | 12 => ⟨S4096x32x1, .f32⟩
  | 13 => ⟨S_, .f32⟩
  | 14 => ⟨S4096x32x1, .f32⟩
  | 15 => ⟨S4096x32x1, .f32⟩
  | 16 => ⟨S_, .f32⟩
  | 17 => ⟨S4096x32x1, .f32⟩
  | 18 => ⟨S4096x32x1, .f32⟩
  | 19 => ⟨S4096x32x1, .f32⟩
  | 20 => ⟨S4096x32x1, .f32⟩
  | 21 => ⟨S_, .f32⟩
  | 22 => ⟨S4096x32x1, .f32⟩
  | 23 => ⟨S4096x32x1, .f32⟩
  | 24 => ⟨S4096x32x64, .f32⟩
  | 25 => ⟨S4096x32x64, .f32⟩
  | 26 => ⟨S1x1x64, .f32⟩
  | 27 => ⟨S4096x32x64, .f32⟩
  | 28 => ⟨S4096x32x64, .f32⟩
  | 29 => ⟨S4096x4x64, .f32⟩
  | 30 => ⟨S4096x4x64, .f32⟩
  | 31 => ⟨S_, .f32⟩
  | 32 => ⟨S4096x4, .f32⟩
  | 33 => ⟨S4096x4x1, .f32⟩
  | 34 => ⟨S_, .f32⟩
  | 35 => ⟨S4096x4x1, .f32⟩
  | 36 => ⟨S4096x4x1, .f32⟩
  | 37 => ⟨S_, .f32⟩
  | 38 => ⟨S4096x4x1, .f32⟩
  | 39 => ⟨S4096x4x1, .f32⟩
  | 40 => ⟨S4096x4x1, .f32⟩
  | 41 => ⟨S4096x4x1, .f32⟩
  | 42 => ⟨S_, .f32⟩
  | 43 => ⟨S4096x4x1, .f32⟩
  | 44 => ⟨S4096x4x1, .f32⟩
  | 45 => ⟨S4096x4x64, .f32⟩
  | 46 => ⟨S4096x4x64, .f32⟩
  | 47 => ⟨S1x1x64, .f32⟩
  | 48 => ⟨S4096x4x64, .f32⟩
  | 49 => ⟨S4096x4x64, .f32⟩
  | 50 => ⟨S4096x4x64, .f32⟩
  | 51 => ⟨S32x128x4x8x64, .f32⟩
  | 52 => ⟨S32x128x4x64, .f32⟩
  | 53 => ⟨S1x128x4x64, .f32⟩
  | 54 => ⟨S_, .f32⟩
  | 55 => ⟨S1x128x4x64, .f32⟩
  | 56 => ⟨S31x128x4x64, .f32⟩
  | 57 => ⟨S32x128x4x64, .f32⟩
  | 58 => ⟨S_, .f32⟩
  | 59 => ⟨S1x128x4x64, .f32⟩
  | 60 => ⟨S32x256x4x64, .f32⟩
  | 61 => ⟨S32x128x4x64, .f32⟩
  | 62 => ⟨S1x128x4x64, .f32⟩
  | 63 => ⟨S_, .f32⟩
  | 64 => ⟨S1x128x4x64, .f32⟩
  | 65 => ⟨S31x128x4x64, .f32⟩
  | 66 => ⟨S32x128x4x64, .f32⟩
  | 67 => ⟨S_, .f32⟩
  | 68 => ⟨S1x128x4x64, .f32⟩
  | 69 => ⟨S32x256x4x64, .f32⟩
  | 70 => ⟨S32x4x256x128x8, .f32⟩
  | 71 => ⟨S32x4x8x128x256, .f32⟩
  | 72 => ⟨S_, .f32⟩
  | 73 => ⟨S32x4x8x128x256, .f32⟩
  | 74 => ⟨S32x4x8x128x256, .f32⟩
  | 75 => ⟨S128, .i32⟩
  | 76 => ⟨S128x1, .i32⟩
  | 77 => ⟨S_, .i32⟩
  | 78 => ⟨S128x1, .i32⟩
  | 79 => ⟨S128x1, .i32⟩
  | 80 => ⟨S256, .i32⟩
  | 81 => ⟨S1x256, .i32⟩
  | 82 => ⟨S128x256, .i32⟩
  | 83 => ⟨S128x256, .i32⟩
  | 84 => ⟨S128x256, .i32⟩
  | 85 => ⟨S_, .i32⟩
  | 86 => ⟨S128x256, .i32⟩
  | 87 => ⟨S128x256, .i1⟩
  | 88 => ⟨S_, .i32⟩
  | 89 => ⟨S128x256, .i32⟩
  | 90 => ⟨S128x256, .i1⟩
  | 91 => ⟨S128x256, .i1⟩
  | 92 => ⟨S32, .i32⟩
  | 93 => ⟨S32x1, .i32⟩
  | 94 => ⟨S_, .i32⟩
  | 95 => ⟨S32x1, .i32⟩
  | 96 => ⟨S32x1, .i32⟩
  | 97 => ⟨S_, .i32⟩
  | 98 => ⟨S32x1, .i32⟩
  | 99 => ⟨S32x1, .i32⟩
  | 100 => ⟨S256, .i32⟩
  | 101 => ⟨S1x256, .i32⟩
  | 102 => ⟨S32x256, .i32⟩
  | 103 => ⟨S32x256, .i32⟩
  | 104 => ⟨S32x256, .i32⟩
  | 105 => ⟨S1x128x256, .i1⟩
  | 106 => ⟨S_, .i32⟩
  | 107 => ⟨S32x256, .i32⟩
  | 108 => ⟨S32x256, .i1⟩
  | 109 => ⟨S32x1x256, .i1⟩
  | 110 => ⟨S32x128x256, .i1⟩
  | 111 => ⟨S32x128x256, .i1⟩
  | 112 => ⟨S32x128x256, .i1⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S32, .f32⟩
  | 127 => ⟨S4x8, .f32⟩
  | _ => ⟨S4096x2560, .f32⟩

abbrev hbmTy0_1 (i : Nat) : BufTy := match i % 128 with
  | 0 => ⟨S4x8x1x1, .f32⟩
  | 1 => ⟨S4x8x1x1, .f32⟩
  | 2 => ⟨S128x256, .f32⟩
  | 3 => ⟨S1x1x128x256, .f32⟩
  | 4 => ⟨S4x8x128x256, .f32⟩
  | 5 => ⟨S4x8x128x256, .f32⟩
  | 6 => ⟨S4x8x128x256, .f32⟩
  | 7 => ⟨S32x1x1x128x256, .i1⟩
  | 8 => ⟨S1x4x8x128x256, .f32⟩
  | 9 => ⟨S32x4x8x128x256, .f32⟩
  | 10 => ⟨S32x4x8x128x256, .f32⟩
  | 11 => ⟨S_, .f32⟩
  | 12 => ⟨S_, .f32⟩
  | 13 => ⟨S32x4x8x128x256, .i1⟩
  | 14 => ⟨S32x4x8x128x256, .f32⟩
  | 15 => ⟨S32x4x8x128x256, .f32⟩
  | 16 => ⟨S_, .f32⟩
  | 17 => ⟨S32x4x8x128x256, .f32⟩
  | 18 => ⟨S4x8, .f32⟩
  | 19 => ⟨S1x4x8x1x1, .f32⟩
  | 20 => ⟨S32x4x8x128x1, .f32⟩
  | 21 => ⟨S32x4x8x128x257, .f32⟩
  | 22 => ⟨S_, .f32⟩
  | 23 => ⟨S32x4x8x128, .f32⟩
  | 24 => ⟨S32x4x8x128x1, .f32⟩
  | 25 => ⟨S32x4x8x128x257, .f32⟩
  | 26 => ⟨S32x4x8x128x257, .i1⟩
  | 27 => ⟨S32x4x8x128x257, .f32⟩
  | 28 => ⟨S_, .f32⟩
  | 29 => ⟨S32x4x8x128, .f32⟩
  | 30 => ⟨S32x4x8x128x1, .f32⟩
  | 31 => ⟨S32x4x8x128x257, .f32⟩
  | 32 => ⟨S32x4x8x128x257, .f32⟩
  | 33 => ⟨S32x4x8x128x257, .f32⟩
  | 34 => ⟨S_, .f32⟩
  | 35 => ⟨S32x4x8x128, .f32⟩
  | 36 => ⟨S32x4x8x128x1, .f32⟩
  | 37 => ⟨S32x4x8x128x257, .f32⟩
  | 38 => ⟨S32x4x8x128x257, .f32⟩
  | 39 => ⟨S32x4x8x128x1, .f32⟩
  | 40 => ⟨S_, .f32⟩
  | 41 => ⟨S32x4x8x128x1, .f32⟩
  | 42 => ⟨S32x4x8x128x1, .f32⟩
  | 43 => ⟨S32x4x8x128x256, .f32⟩
  | 44 => ⟨S32x4x64x8x128, .f32⟩
  | 45 => ⟨S32x128x4x8x64, .f32⟩
  | 46 => ⟨S4096x2048, .f32⟩
  | 47 => ⟨S32x128x4x8x64, .f32⟩
  | 48 => ⟨S32x4x64x8x128, .f32⟩
  | 49 => ⟨S32x4x8x128x256, .f32⟩
  | 50 => ⟨S32x4x64x256, .f32⟩
  | 51 => ⟨S32x256x4x64, .f32⟩
  | 52 => ⟨S_, .f32⟩
  | 53 => ⟨S32x4x8x128x257, .f32⟩
  | 54 => ⟨S32x4x8x128x257, .f32⟩
  | 55 => ⟨S32x4x8x128x257, .f32⟩
  | 56 => ⟨S32x4x8x128x257, .f32⟩
  | 57 => ⟨S_, .f32⟩
  | 58 => ⟨S32x4x8x128, .f32⟩
  | 59 => ⟨S32x4x8x128x1, .f32⟩
  | 60 => ⟨S32x4x8x128x1, .f32⟩
  | 61 => ⟨S32x4x8x128x257, .f32⟩
  | 62 => ⟨S32x4x8x128x257, .f32⟩
  | 63 => ⟨S_, .f32⟩
  | 64 => ⟨S32x4x8x128, .f32⟩
  | 65 => ⟨S32x4x8x128x257, .f32⟩
  | 66 => ⟨S32x4x8x128x257, .f32⟩
  | 67 => ⟨S32x4x8x128x257, .f32⟩
  | 68 => ⟨S32x4x8x128x256, .f32⟩
  | 69 => ⟨S32x4x8x128x1, .f32⟩
  | 70 => ⟨S_, .f32⟩
  | 71 => ⟨S4x8, .f32⟩
  | 72 => ⟨S1x4x8x1x1, .f32⟩
  | 73 => ⟨S_, .f32⟩
  | 74 => ⟨S4x8, .f32⟩
  | 75 => ⟨S32, .f32⟩
  | 76 => ⟨S_, .f32⟩
  | 77 => ⟨S32x4x8x128x256, .f32⟩
  | 78 => ⟨S32x4x8x128x256, .f32⟩
  | 79 => ⟨S_, .f32⟩
  | 80 => ⟨S32x4x8x128x256, .f32⟩
  | 81 => ⟨S32x4x8x128x256, .f32⟩
  | 82 => ⟨S32x4x256x128x8, .f32⟩
  | 83 => ⟨S32x4x128x8x64, .f32⟩
  | 84 => ⟨S32x128x4x8x64, .f32⟩
  | 85 => ⟨S32x4x256x64, .f32⟩
  | 86 => ⟨S32x256x4x64, .f32⟩
  | 87 => ⟨S32x128x4x64, .f32⟩
  | 88 => ⟨S32x128x4x64, .f32⟩
  | 89 => ⟨S1x128x4x64, .f32⟩
  | 90 => ⟨S31x128x4x64, .f32⟩
  | 91 => ⟨S_, .f32⟩
  | 92 => ⟨S32x128x4x64, .f32⟩
  | 93 => ⟨S32x128x4x64, .f32⟩
  | 94 => ⟨S4096x4x64, .f32⟩
  | 95 => ⟨S32x128x4x64, .f32⟩
  | 96 => ⟨S32x128x4x64, .f32⟩
  | 97 => ⟨S1x128x4x64, .f32⟩
  | 98 => ⟨S31x128x4x64, .f32⟩
  | 99 => ⟨S_, .f32⟩
  | 100 => ⟨S32x128x4x64, .f32⟩
  | 101 => ⟨S32x128x4x64, .f32⟩
  | 102 => ⟨S4096x4x64, .f32⟩
  | 103 => ⟨S4096x32x64, .f32⟩
  | 104 => ⟨S4096x256, .f32⟩
  | 105 => ⟨S4096x4x64, .f32⟩
  | 106 => ⟨S_, .f32⟩
  | 107 => ⟨S64, .f32⟩
  | 108 => ⟨S1x1x64, .f32⟩
  | 109 => ⟨S4096x4x64, .f32⟩
  | 110 => ⟨S4096x4x64, .f32⟩
  | 111 => ⟨S_, .f32⟩
  | 112 => ⟨S64, .f32⟩
  | 113 => ⟨S4096x4x64, .f32⟩
  | 114 => ⟨S_, .f32⟩
  | 115 => ⟨S4096x4, .f32⟩
  | 116 => ⟨S4096x4x1, .f32⟩
  | 117 => ⟨S4096x4x64, .f32⟩
  | 118 => ⟨S4096x4x64, .f32⟩
  | 119 => ⟨S4096x4x1, .f32⟩
  | 120 => ⟨S_, .f32⟩
  | 121 => ⟨S4096x4x1, .f32⟩
  | 122 => ⟨S4096x4x1, .f32⟩
  | 123 => ⟨S_, .f32⟩
  | 124 => ⟨S4096x4, .f32⟩
  | 125 => ⟨S4096x4x64, .f32⟩
  | 126 => ⟨S4096x4x64, .f32⟩
  | 127 => ⟨S4096x4x64, .f32⟩
  | _ => ⟨S4096x2560, .f32⟩

abbrev hbmTy0_2 (i : Nat) : BufTy := match i % 128 with
  | 0 => ⟨S4096x4x64, .f32⟩
  | 1 => ⟨S4096x4x64, .f32⟩
  | 2 => ⟨S4096x256, .f32⟩
  | 3 => ⟨S4096x32x64, .f32⟩
  | 4 => ⟨S_, .f32⟩
  | 5 => ⟨S64, .f32⟩
  | 6 => ⟨S1x1x64, .f32⟩
  | 7 => ⟨S4096x32x64, .f32⟩
  | 8 => ⟨S4096x32x64, .f32⟩
  | 9 => ⟨S_, .f32⟩
  | 10 => ⟨S64, .f32⟩
  | 11 => ⟨S4096x32x64, .f32⟩
  | 12 => ⟨S_, .f32⟩
  | 13 => ⟨S4096x32, .f32⟩
  | 14 => ⟨S4096x32x1, .f32⟩
  | 15 => ⟨S4096x32x64, .f32⟩
  | 16 => ⟨S4096x32x64, .f32⟩
  | 17 => ⟨S4096x32x1, .f32⟩
  | 18 => ⟨S_, .f32⟩
  | 19 => ⟨S4096x32x1, .f32⟩
  | 20 => ⟨S4096x32x1, .f32⟩
  | 21 => ⟨S_, .f32⟩
  | 22 => ⟨S4096x32, .f32⟩
  | 23 => ⟨S4096x32x64, .f32⟩
  | 24 => ⟨S4096x32x64, .f32⟩
  | 25 => ⟨S4096x32x64, .f32⟩
  | 26 => ⟨S4096x32x64, .f32⟩
  | 27 => ⟨S4096x32x64, .f32⟩
  | 28 => ⟨S4096x2048, .f32⟩
  | 29 => ⟨S4096x2560, .f32⟩
  | 30 => ⟨S4096x2560, .bf16⟩
  | 31 => ⟨S4096x2048, .bf16⟩
  | 32 => ⟨S4096x256, .bf16⟩
  | 33 => ⟨S4096x256, .bf16⟩
  | _ => ⟨S4096x2560, .f32⟩

abbrev hbmTy (i : Nat) : BufTy := match i / 128 with
  | 0 => hbmTy0_0 i
  | 1 => hbmTy0_1 i
  | 2 => hbmTy0_2 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_12 : Ref sig .tc := ⟨.hbm, 85, rfl⟩
abbrev main_v66 : Ref sig .tc := ⟨.hbm, 86, rfl⟩
abbrev main_v67 : Ref sig .tc := ⟨.hbm, 87, rfl⟩
abbrev main_c_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_14 : Ref sig .tc := ⟨.hbm, 94, rfl⟩
abbrev main_v73 : Ref sig .tc := ⟨.hbm, 95, rfl⟩
abbrev main_v74 : Ref sig .tc := ⟨.hbm, 96, rfl⟩
abbrev main_c_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_v91 : Ref sig .tc := ⟨.hbm, 116, rfl⟩
abbrev main_cst_18 : Ref sig .tc := ⟨.hbm, 117, rfl⟩
abbrev main_v92 : Ref sig .tc := ⟨.hbm, 118, rfl⟩
abbrev main_v93 : Ref sig .tc := ⟨.hbm, 119, rfl⟩
abbrev main_cst_19 : Ref sig .tc := ⟨.hbm, 120, rfl⟩
abbrev main_v94 : Ref sig .tc := ⟨.hbm, 121, rfl⟩
abbrev main_v95 : Ref sig .tc := ⟨.hbm, 122, rfl⟩
abbrev main_cst_20 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_21 : Ref sig .tc := ⟨.hbm, 139, rfl⟩
abbrev main_call0_v0 : Ref sig .tc := ⟨.hbm, 140, rfl⟩
abbrev main_v111_1 : Ref sig .tc := ⟨.hbm, 141, rfl⟩
abbrev main_call0_v2 : Ref sig .tc := ⟨.hbm, 142, rfl⟩
abbrev main_v111_0 : Ref sig .tc := ⟨.hbm, 143, rfl⟩
abbrev main_call0_cst : Ref sig .tc := ⟨.hbm, 144, rfl⟩
abbrev main_v111_2 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_22 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_23 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_24 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_25 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_26 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_27 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_28 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_29 : Ref sig .tc := ⟨.hbm, 198, rfl⟩
abbrev main_v157 : Ref sig .tc := ⟨.hbm, 199, rfl⟩
abbrev main_v158 : Ref sig .tc := ⟨.hbm, 200, rfl⟩
abbrev main_cst_30 : Ref sig .tc := ⟨.hbm, 201, rfl⟩
abbrev main_v159 : Ref sig .tc := ⟨.hbm, 202, rfl⟩
abbrev main_v160 : Ref sig .tc := ⟨.hbm, 203, rfl⟩
abbrev main_call1_cst : Ref sig .tc := ⟨.hbm, 204, rfl⟩
abbrev main_call1_v0 : Ref sig .tc := ⟨.hbm, 205, rfl⟩
abbrev main_v161 : Ref sig .tc := ⟨.hbm, 206, rfl⟩
abbrev main_cst_31 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_32 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_33 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_34 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_cst_35 : Ref sig .tc := ⟨.hbm, 239, rfl⟩
abbrev main_v190 : Ref sig .tc := ⟨.hbm, 240, rfl⟩
abbrev main_v191 : Ref sig .tc := ⟨.hbm, 241, rfl⟩
abbrev main_cst_36 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_cst_37 : Ref sig .tc := ⟨.hbm, 248, rfl⟩
abbrev main_v197 : Ref sig .tc := ⟨.hbm, 249, rfl⟩
abbrev main_v198 : Ref sig .tc := ⟨.hbm, 250, rfl⟩
abbrev main_cst_38 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_cst_39 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_cst_40 : Ref sig .tc := ⟨.hbm, 265, rfl⟩
abbrev main_v211 : Ref sig .tc := ⟨.hbm, 266, rfl⟩
abbrev main_v212 : Ref sig .tc := ⟨.hbm, 267, rfl⟩
abbrev main_cst_41 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_cst_42 : Ref sig .tc := ⟨.hbm, 274, rfl⟩
abbrev main_v218 : Ref sig .tc := ⟨.hbm, 275, rfl⟩
abbrev main_v219 : Ref sig .tc := ⟨.hbm, 276, rfl⟩
abbrev main_cst_43 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩

abbrev nD : Nat := 1
abbrev τ : Topo := Topo.v7x

variable {F : FTy → Type} [FloatOps F]
-- ==== Dact.lean ====
abbrev S4096x2048 : Shape := ⟨2, ![4096, 2048]⟩
abbrev S8192x2048 : Shape := ⟨2, ![8192, 2048]⟩
abbrev S4096x8192 : Shape := ⟨2, ![4096, 8192]⟩
abbrev S8x1024x2048 : Shape := ⟨3, ![8, 1024, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S4096x2048, .bf16⟩
  | .hbm, ⟨4, _⟩ => ⟨S8192x2048, .bf16⟩
  | .hbm, ⟨5, _⟩ => ⟨S8x1024x2048, .bf16⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Glu.lean ====
abbrev S4096x2048 : Shape := ⟨2, ![4096, 2048]⟩
abbrev S4096x1024 : Shape := ⟨2, ![4096, 1024]⟩
abbrev S1024 : Shape := ⟨1, ![1024]⟩
abbrev S1x1024 : Shape := ⟨2, ![1, 1024]⟩
abbrev S256x2048 : Shape := ⟨2, ![256, 2048]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_19 : BitVec 32 := 0#32
  let v41 : BitVec 1 := Scalar.cmpi .ne v40 c0_i32_19
  v41

def k0_cond2 (i : grid0.Coords) : BitVec 1 :=
  let arg0 : BitVec 32 := BitVec.ofNat 32 (i 0).val
  let c0_i32_20 : BitVec 32 := 0#32
  let v42 : BitVec 1 := Scalar.cmpi .sgt arg0 c0_i32_20
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GluRefIdeal.lean ====
abbrev S4096x2048 : Shape := ⟨2, ![4096, 2048]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S4096x1024, .bf16⟩
  | .hbm, ⟨47, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Dz.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DzIdeal.lean ====
variable {F : FTy → Type} [FloatOps F] [Named F]
def κ : String → Option EReal := fun
  | "cubic" => some ((8943 / 200000 : ℝ) : EReal)
  | "cubic_thrice" => some ((26829 / 200000 : ℝ) : EReal)
  | _ => none
-- ==== DzRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Loss.lean ====
abbrev S4096x2048 : Shape := ⟨2, ![4096, 2048]⟩
abbrev S1x128 : Shape := ⟨2, ![1, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x128, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_10 : BitVec 32 := 0#32
  let v20 : BitVec 1 := Scalar.cmpi .ne v19 c0_i32_10
  v20

def k0_cond2 (i : grid0.Coords) : BitVec 1 :=
  let arg0 : BitVec 32 := BitVec.ofNat 32 (i 0).val
  let c0_i32_11 : BitVec 32 := 0#32
  let v21 : BitVec 1 := Scalar.cmpi .sgt arg0 c0_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S4096x2048 : Shape := ⟨2, ![4096, 2048]⟩
abbrev S_ : Shape := ⟨0, ![]⟩
abbrev S4096 : Shape := ⟨1, ![4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Qkv.lean ====
abbrev S4096x2560 : Shape := ⟨2, ![4096, 2560]⟩
abbrev S2048x2560 : Shape := ⟨2, ![2048, 2560]⟩
abbrev S4096x2048 : Shape := ⟨2, ![4096, 2048]⟩
abbrev S2048 : Shape := ⟨1, ![2048]⟩
abbrev S1x2048 : Shape := ⟨2, ![1, 2048]⟩
abbrev S256x1280 : Shape := ⟨2, ![256, 1280]⟩
abbrev S2048x1280 : Shape := ⟨2, ![2048, 1280]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x2560, .f32⟩
  | .hbm, ⟨1, _⟩ => ⟨S2048x2560, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2560, .bf16⟩
  | .hbm, ⟨6, _⟩ => ⟨S2048x2560, .bf16⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .local _ .vmem, ⟨0, _⟩ => ⟨S256x1280, .bf16⟩
  | .local _ .vmem, ⟨1, _⟩ => ⟨S256x1280, .bf16⟩
  | .local _ .vmem, ⟨2, _⟩ => ⟨S2048x1280, .bf16⟩
  | .local _ .vmem, ⟨3, _⟩ => ⟨S2048x1280, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S256x2048, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond5 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== QkvRefIdeal.lean ====
abbrev S4096x2560 : Shape := ⟨2, ![4096, 2560]⟩
abbrev S2048x2560 : Shape := ⟨2, ![2048, 2560]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S2048x2560, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2560, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Inp.lean ====
abbrev S4096x5120 : Shape := ⟨2, ![4096, 5120]⟩
abbrev S2048x5120 : Shape := ⟨2, ![2048, 5120]⟩
abbrev S4096x2048 : Shape := ⟨2, ![4096, 2048]⟩
abbrev S2048 : Shape := ⟨1, ![2048]⟩
abbrev S1x2048 : Shape := ⟨2, ![1, 2048]⟩
abbrev S256x2560 : Shape := ⟨2, ![256, 2560]⟩
abbrev S2048x2560 : Shape := ⟨2, ![2048, 2560]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x5120, .f32⟩
  | .hbm, ⟨1, _⟩ => ⟨S2048x5120, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x5120, .bf16⟩
  | .hbm, ⟨6, _⟩ => ⟨S2048x5120, .bf16⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S1x2048, .f32⟩
  | .local _ .vmem, ⟨0, _⟩ => ⟨S256x2560, .bf16⟩
  | .local _ .vmem, ⟨1, _⟩ => ⟨S256x2560, .bf16⟩
  | .local _ .vmem, ⟨2, _⟩ => ⟨S2048x2560, .bf16⟩
  | .local _ .vmem, ⟨3, _⟩ => ⟨S2048x2560, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S256x2048, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond5 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== InpRefIdeal.lean ====
abbrev S4096x5120 : Shape := ⟨2, ![4096, 5120]⟩
abbrev S2048x5120 : Shape := ⟨2, ![2048, 5120]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S2048x5120, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x5120, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Up.lean ====
abbrev S4096x8192 : Shape := ⟨2, ![4096, 8192]⟩
abbrev S2048x8192 : Shape := ⟨2, ![2048, 8192]⟩
abbrev S4096x2048 : Shape := ⟨2, ![4096, 2048]⟩
abbrev S2048 : Shape := ⟨1, ![2048]⟩
abbrev S2048x8x1024 : Shape := ⟨3, ![2048, 8, 1024]⟩
abbrev S8x2048x1024 : Shape := ⟨3, ![8, 2048, 1024]⟩
abbrev S1x2048 : Shape := ⟨2, ![1, 2048]⟩
abbrev S256x2048 : Shape := ⟨2, ![256, 2048]⟩
abbrev S1x2048x1024 : Shape := ⟨3, ![1, 2048, 1024]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S2048x8192, .bf16⟩
  | .hbm, ⟨6, _⟩ => ⟨S2048x8x1024, .bf16⟩
  | .hbm, ⟨7, _⟩ => ⟨S8x2048x1024, .bf16⟩
  | .hbm, ⟨8, _⟩ => ⟨S4096x8192, .bf16⟩
  | .hbm, ⟨9, _⟩ => ⟨S1x2048, .f32⟩
  | .hbm, ⟨10, _⟩ => ⟨S4096x2048, .f32⟩
  | .hbm, ⟨11, _⟩ => ⟨S4096x2048, .bf16⟩
  | .hbm, ⟨12, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S256x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_11 : BitVec 32 := 0#32
  let v19 : BitVec 1 := Scalar.cmpi .ne v18 c0_i32_11
  v19

def k0_cond4 (i : grid0.Coords) : BitVec 1 :=
  let arg0 : BitVec 32 := BitVec.ofNat 32 (i 0).val
  let c0_i32_30 : BitVec 32 := 0#32
  let v54 : BitVec 1 := Scalar.cmpi .eq arg0 c0_i32_30
  let v55 : BitVec 32 := Scalar.extui v54
  let c0_i32_31 : BitVec 32 := 0#32
  let v56 : BitVec 1 := Scalar.cmpi .ne v55 c0_i32_31
  v56

def k0_cond5 (i : grid0.Coords) : BitVec 1 :=
  let arg0 : BitVec 32 := BitVec.ofNat 32 (i 0).val
  let c0_i32_32 : BitVec 32 := 0#32
  let v57 : BitVec 1 := Scalar.cmpi .sgt arg0 c0_i32_32
  let v58 : BitVec 32 := Scalar.extui v57
  let c0_i32_33 : BitVec 32 := 0#32
  let v59 : BitVec 1 := Scalar.cmpi .ne v58 c0_i32_33
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== UpRefIdeal.lean ====
abbrev S4096x8192 : Shape := ⟨2, ![4096, 8192]⟩
abbrev S2048x8192 : Shape := ⟨2, ![2048, 8192]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x8192, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S1x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Fwd.lean ====
abbrev S4096x2560 : Shape := ⟨2, ![4096, 2560]⟩
abbrev S64 : Shape := ⟨1, ![64]⟩
abbrev S32 : Shape := ⟨1, ![32]⟩
abbrev S_ : Shape := ⟨0, ![]⟩
abbrev S1x64 : Shape := ⟨2, ![1, 64]⟩
abbrev S4096x2048 : Shape := ⟨2, ![4096, 2048]⟩
abbrev S128x2048 : Shape := ⟨2, ![128, 2048]⟩
abbrev S128x256 : Shape := ⟨2, ![128, 256]⟩
abbrev S256x256 : Shape := ⟨2, ![256, 256]⟩
abbrev S1024x256 : Shape := ⟨2, ![1024, 256]⟩
abbrev S256x64 : Shape := ⟨2, ![256, 64]⟩
abbrev S256 : Shape := ⟨1, ![256]⟩
abbrev S256x1 : Shape := ⟨2, ![256, 1]⟩
abbrev S128x512 : Shape := ⟨2, ![128, 512]⟩
abbrev S128x64 : Shape := ⟨2, ![128, 64]⟩
abbrev S1024x64 : Shape := ⟨2, ![1024, 64]⟩
abbrev S1024 : Shape := ⟨1, ![1024]⟩
abbrev S1024x1 : Shape := ⟨2, ![1024, 1]⟩
abbrev S1 : Shape := ⟨1, ![1]⟩
abbrev S128x1 : Shape := ⟨2, ![128, 1]⟩

abbrev nBuf : Space → Nat
  | .hbm => 21
  | .vmem => 14
  | .smem => 2
  | _ => 0

abbrev bufTy : (tb : Table) → Fin (tcTables nBuf tb) → BufTy
  | .hbm, ⟨0, _⟩ => ⟨S4096x2560, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S1x64, .f32⟩
  | .hbm, ⟨19, _⟩ => ⟨S1x64, .f32⟩
  | .hbm, ⟨20, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x64, .f32⟩
  | .local _ .vmem, ⟨11, _⟩ => ⟨S1x64, .f32⟩
  | .local _ .vmem, ⟨12, _⟩ => ⟨S128x2048, .bf16⟩
  | .local _ .vmem, ⟨13, _⟩ => ⟨S128x2048, .bf16⟩
  | .local _ .smem, ⟨0, _⟩ => ⟨S32, .f32⟩
  | .local _ .smem, ⟨1, _⟩ => ⟨S32, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FwdIdeal.lean ====
variable {F : FTy → Type} [FloatOps F] [Named F]
def κ : String → Option EReal := fun
  | "mask" => some ⊥
  | _ => none
-- ==== FwdRefIdeal.lean ====
abbrev S4096x2560 : Shape := ⟨2, ![4096, 2560]⟩
abbrev S64 : Shape := ⟨1, ![64]⟩
abbrev S32 : Shape := ⟨1, ![32]⟩
abbrev S4096x2048 : Shape := ⟨2, ![4096, 2048]⟩
abbrev S4096x256 : Shape := ⟨2, ![4096, 256]⟩
abbrev S4096x32x64 : Shape := ⟨3, ![4096, 32, 64]⟩
abbrev S_ : Shape := ⟨0, ![]⟩
abbrev S4096x32 : Shape := ⟨2, ![4096, 32]⟩
abbrev S4096x32x1 : Shape := ⟨3, ![4096, 32, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S32x128x4x8x64 : Shape := ⟨5, ![32, 128, 4, 8, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S32x1x1x128x256 : Shape := ⟨5, ![32, 1, 1, 128, 256]⟩
abbrev S1x4x8x128x256 : Shape := ⟨5, ![1, 4, 8, 128, 256]⟩
abbrev S1x4x8x1x1 : Shape := ⟨5, ![1, 4, 8, 1, 1]⟩
abbrev S32x4x8x128x1 : Shape := ⟨5, ![32, 4, 8, 128, 1]⟩
abbrev S32x4x8x128x257 : Shape := ⟨5, ![32, 4, 8, 128, 257]⟩
abbrev S32x4x8x128 : Shape := ⟨4, ![32, 4, 8, 128]⟩
abbrev S32x4x64x8x128 : Shape := ⟨5, ![32, 4, 64, 8, 128]⟩

abbrev nBuf : Space → Nat
  | .hbm => 151
  | .vmem => 0
  | .smem => 0
  | _ => 0

abbrev hbmTy0_0 (i : Nat) : BufTy := match i % 128 with
  | 0 => ⟨S4096x2560, .f32⟩
  | 1 => ⟨S64, .f32⟩
  | 2 => ⟨S64, .f32⟩
  | 3 => ⟨S32, .f32⟩
  | 4 => ⟨S4096x2048, .f32⟩
  | 5 => ⟨S4096x256, .f32⟩
  | 6 => ⟨S4096x256, .f32⟩
  | 7 => ⟨S4096x32x64, .f32⟩
  | 8 => ⟨S4096x32x64, .f32⟩
  | 9 => ⟨S_, .f32⟩
  | 10 => ⟨S4096x32, .f32⟩
  | 11 => ⟨S4096x32x1, .f32⟩
  | 12 => ⟨S_, .f32⟩
  | 13 => ⟨S4096x32x1, .f32⟩
  | 14 => ⟨S4096x32x1, .f32⟩
  | 15 => ⟨S_, .f32⟩
  | 16 => ⟨S4096x32x1, .f32⟩
  | 17 => ⟨S4096x32x1, .f32⟩
  | 18 => ⟨S4096x32x1, .f32⟩
  | 19 => ⟨S4096x32x64, .f32⟩
  | 20 => ⟨S4096x32x64, .f32⟩
  | 21 => ⟨S1x1x64, .f32⟩
  | 22 => ⟨S4096x32x64, .f32⟩
  | 23 => ⟨S4096x32x64, .f32⟩
  | 24 => ⟨S4096x4x64, .f32⟩
  | 25 => ⟨S4096x4x64, .f32⟩
  | 26 => ⟨S_, .f32⟩
  | 27 => ⟨S4096x4, .f32⟩
  | 28 => ⟨S4096x4x1, .f32⟩
  | 29 => ⟨S_, .f32⟩
  | 30 => ⟨S4096x4x1, .f32⟩
  | 31 => ⟨S4096x4x1, .f32⟩
  | 32 => ⟨S_, .f32⟩
  | 33 => ⟨S4096x4x1, .f32⟩
  | 34 => ⟨S4096x4x1, .f32⟩
  | 35 => ⟨S4096x4x1, .f32⟩
  | 36 => ⟨S4096x4x64, .f32⟩
  | 37 => ⟨S4096x4x64, .f32⟩
  | 38 => ⟨S1x1x64, .f32⟩
  | 39 => ⟨S4096x4x64, .f32⟩
  | 40 => ⟨S4096x4x64, .f32⟩
  | 41 => ⟨S4096x4x64, .f32⟩
  | 42 => ⟨S32x128x4x8x64, .f32⟩
  | 43 => ⟨S32x128x4x64, .f32⟩
  | 44 => ⟨S1x128x4x64, .f32⟩
  | 45 => ⟨S_, .f32⟩
  | 46 => ⟨S1x128x4x64, .f32⟩
  | 47 => ⟨S31x128x4x64, .f32⟩
  | 48 => ⟨S32x128x4x64, .f32⟩
  | 49 => ⟨S32x256x4x64, .f32⟩
  | 50 => ⟨S32x128x4x64, .f32⟩
  | 51 => ⟨S1x128x4x64, .f32⟩
  | 52 => ⟨S_, .f32⟩
  | 53 => ⟨S1x128x4x64, .f32⟩
  | 54 => ⟨S31x128x4x64, .f32⟩
  | 55 => ⟨S32x128x4x64, .f32⟩
  | 56 => ⟨S32x256x4x64, .f32⟩
  | 57 => ⟨S32x4x256x128x8, .f32⟩
  | 58 => ⟨S32x4x8x128x256, .f32⟩
  | 59 => ⟨S_, .f32⟩
  | 60 => ⟨S32x4x8x128x256, .f32⟩
  | 61 => ⟨S32x4x8x128x256, .f32⟩
  | 62 => ⟨S128, .i32⟩
  | 63 => ⟨S128x1, .i32⟩
  | 64 => ⟨S_, .i32⟩
  | 65 => ⟨S128x1, .i32⟩
  | 66 => ⟨S128x1, .i32⟩
  | 67 => ⟨S256, .i32⟩
  | 68 => ⟨S1x256, .i32⟩
  | 69 => ⟨S128x256, .i32⟩
  | 70 => ⟨S128x256, .i32⟩
  | 71 => ⟨S128x256, .i32⟩
  | 72 => ⟨S_, .i32⟩
  | 73 => ⟨S128x256, .i32⟩
  | 74 => ⟨S128x256, .i1⟩
  | 75 => ⟨S_, .i32⟩
  | 76 => ⟨S128x256, .i32⟩
  | 77 => ⟨S128x256, .i1⟩
  | 78 => ⟨S128x256, .i1⟩
  | 79 => ⟨S32, .i32⟩
  | 80 => ⟨S32x1, .i32⟩
  | 81 => ⟨S_, .i32⟩
  | 82 => ⟨S32x1, .i32⟩
  | 83 => ⟨S32x1, .i32⟩
  | 84 => ⟨S_, .i32⟩
  | 85 => ⟨S32x1, .i32⟩
  | 86 => ⟨S32x1, .i32⟩
  | 87 => ⟨S256, .i32⟩
  | 88 => ⟨S1x256, .i32⟩
  | 89 => ⟨S32x256, .i32⟩
  | 90 => ⟨S32x256, .i32⟩
  | 91 => ⟨S32x256, .i32⟩
  | 92 => ⟨S1x128x256, .i1⟩
  | 93 => ⟨S_, .i32⟩
  | 94 => ⟨S32x256, .i32⟩
  | 95 => ⟨S32x256, .i1⟩
  | 96 => ⟨S32x1x256, .i1⟩
  | 97 => ⟨S32x128x256, .i1⟩
  | 98 => ⟨S32x128x256, .i1⟩
  | 99 => ⟨S32x128x256, .i1⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S32, .f32⟩
  | 114 => ⟨S4x8, .f32⟩
  | 115 => ⟨S4x8x1x1, .f32⟩
  | 116 => ⟨S4x8x1x1, .f32⟩
  | 117 => ⟨S128x256, .f32⟩
  | 118 => ⟨S1x1x128x256, .f32⟩
  | 119 => ⟨S4x8x128x256, .f32⟩
  | 120 => ⟨S4x8x128x256, .f32⟩
  | 121 => ⟨S4x8x128x256, .f32⟩
  | 122 => ⟨S32x1x1x128x256, .i1⟩
  | 123 => ⟨S1x4x8x128x256, .f32⟩
  | 124 => ⟨S32x4x8x128x256, .f32⟩
  | 125 => ⟨S32x4x8x128x256, .f32⟩
  | 126 => ⟨S_, .f32⟩
  | 127 => ⟨S_, .f32⟩
  | _ => ⟨S4096x2560, .f32⟩

abbrev hbmTy0_1 (i : Nat) : BufTy := match i % 128 with
  | 0 => ⟨S32x4x8x128x256, .i1⟩
  | 1 => ⟨S32x4x8x128x256, .f32⟩
  | 2 => ⟨S32x4x8x128x256, .f32⟩
  | 3 => ⟨S4x8, .f32⟩
  | 4 => ⟨S1x4x8x1x1, .f32⟩
  | 5 => ⟨S32x4x8x128x1, .f32⟩
  | 6 => ⟨S32x4x8x128x257, .f32⟩
  | 7 => ⟨S_, .f32⟩
  | 8 => ⟨S32x4x8x128, .f32⟩
  | 9 => ⟨S32x4x8x128x1, .f32⟩
  | 10 => ⟨S32x4x8x128x257, .f32⟩
  | 11 => ⟨S32x4x8x128x257, .f32⟩
  | 12 => ⟨S32x4x8x128x257, .f32⟩
  | 13 => ⟨S_, .f32⟩
  | 14 => ⟨S32x4x8x128, .f32⟩
  | 15 => ⟨S32x4x8x128x1, .f32⟩
  | 16 => ⟨S32x4x8x128x257, .f32⟩
  | 17 => ⟨S32x4x8x128x257, .f32⟩
  | 18 => ⟨S32x4x8x128x256, .f32⟩
  | 19 => ⟨S32x4x64x8x128, .f32⟩
  | 20 => ⟨S32x128x4x8x64, .f32⟩
  | 21 => ⟨S4096x2048, .f32⟩
  | 22 => ⟨S4096x2048, .bf16⟩
  | _ => ⟨S4096x2560, .f32⟩

abbrev hbmTy (i : Nat) : BufTy := match i / 128 with
  | 0 => hbmTy0_0 i
  | 1 => hbmTy0_1 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_8 : Ref sig .tc := ⟨.hbm, 72, rfl⟩
abbrev main_v58 : Ref sig .tc := ⟨.hbm, 73, rfl⟩
abbrev main_v59 : Ref sig .tc := ⟨.hbm, 74, rfl⟩
abbrev main_c_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_10 : Ref sig .tc := ⟨.hbm, 81, rfl⟩
abbrev main_v65 : Ref sig .tc := ⟨.hbm, 82, rfl⟩
abbrev main_v66 : Ref sig .tc := ⟨.hbm, 83, rfl⟩
abbrev main_c_11 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c_12 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_13 : Ref sig .tc := ⟨.hbm, 101, rfl⟩
abbrev main_v82 : Ref sig .tc := ⟨.hbm, 102, rfl⟩
abbrev main_v83 : Ref sig .tc := ⟨.hbm, 103, rfl⟩
abbrev main_cst_14 : Ref sig .tc := ⟨.hbm, 104, rfl⟩
abbrev main_v84 : Ref sig .tc := ⟨.hbm, 105, rfl⟩
abbrev main_v85 : Ref sig .tc := ⟨.hbm, 106, rfl⟩
abbrev main_cst_15 : Ref sig .tc := ⟨.hbm, 107, rfl⟩
abbrev main_v86 : Ref sig .tc := ⟨.hbm, 108, rfl⟩
abbrev main_v87 : Ref sig .tc := ⟨.hbm, 109, rfl⟩
abbrev main_cst_16 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_17 : Ref sig .tc := ⟨.hbm, 126, rfl⟩
abbrev main_call0_v0 : Ref sig .tc := ⟨.hbm, 127, rfl⟩
abbrev main_call0_v1 : Ref sig .tc := ⟨.hbm, 128, rfl⟩
abbrev main_call0_v2 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_18 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_19 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩

abbrev nD : Nat := 1
abbrev τ : Topo := Topo.v7x

variable {F : FTy → Type} [FloatOps F]
-- ==== Rms.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Wout.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S4096x2048, .bf16⟩
  | .hbm, ⟨5, _⟩ => ⟨S2048x2048, .bf16⟩
  | .hbm, ⟨6, _⟩ => ⟨S1x2048, .f32⟩
  | .hbm, ⟨7, _⟩ => ⟨S4096x2048, .f32⟩
  | .hbm, ⟨8, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== WoutRefIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Act.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S4096x2048, .bf16⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Gate.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩

abbrev nBuf : Space → Nat
  | .hbm => 25
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x1024, .bf16⟩
  | .hbm, ⟨22, _⟩ => ⟨S1x1024, .f32⟩
  | .hbm, ⟨23, _⟩ => ⟨S4096x1024, .f32⟩
  | .hbm, ⟨24, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S2048 : Shape := ⟨1, ![2048]⟩
abbrev S4x2048x2048 : Shape := ⟨3, ![4, 2048, 2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S2048, .f32⟩
  | .hbm, ⟨4, _⟩ => ⟨S4096x8192, .bf16⟩
  | .hbm, ⟨5, _⟩ => ⟨S8192x2048, .bf16⟩
  | .hbm, ⟨6, _⟩ => ⟨S4x2048x2048, .bf16⟩
  | .hbm, ⟨7, _⟩ => ⟨S1x2048, .f32⟩
  | .hbm, ⟨8, _⟩ => ⟨S4096x2048, .f32⟩
  | .hbm, ⟨9, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Sfwd.lean ====
abbrev S4096x5120 : Shape := ⟨2, ![4096, 5120]⟩
abbrev S64x64 : Shape := ⟨2, ![64, 64]⟩
abbrev S64x64x16 : Shape := ⟨3, ![64, 64, 16]⟩
abbrev S64x16x64 : Shape := ⟨3, ![64, 16, 64]⟩
abbrev S64x16 : Shape := ⟨2, ![64, 16]⟩
abbrev S8x8 : Shape := ⟨2, ![8, 8]⟩
abbrev S_ : Shape := ⟨0, ![]⟩
abbrev S64x1x64x16 : Shape := ⟨4, ![64, 1, 64, 16]⟩
abbrev S64x2x64x16 : Shape := ⟨4, ![64, 2, 64, 16]⟩
abbrev S64x16x2x64 : Shape := ⟨4, ![64, 16, 2, 64]⟩
abbrev S8x8x16x1x2x64 : Shape := ⟨6, ![8, 8, 16, 1, 2, 64]⟩
abbrev S1x8x1x8x1x1 : Shape := ⟨6, ![1, 8, 1, 8, 1, 1]⟩
abbrev S8x8x16x8x2x64 : Shape := ⟨6, ![8, 8, 16, 8, 2, 64]⟩
abbrev S8x8x16x4x2x2x64 : Shape := ⟨7, ![8, 8, 16, 4, 2, 2, 64]⟩
abbrev S8x128x1024 : Shape := ⟨3, ![8, 128, 1024]⟩
abbrev S64x1x16x64 : Shape := ⟨4, ![64, 1, 16, 64]⟩
abbrev S64x2x16x64 : Shape := ⟨4, ![64, 2, 16, 64]⟩
abbrev S8x8x2x64x1x16 : Shape := ⟨6, ![8, 8, 2, 64, 1, 16]⟩
abbrev S1x8x1x1x8x1 : Shape := ⟨6, ![1, 8, 1, 1, 8, 1]⟩
abbrev S8x8x2x64x8x16 : Shape := ⟨6, ![8, 8, 2, 64, 8, 16]⟩
abbrev S8x4x2x2x64x8x16 : Shape := ⟨7, ![8, 4, 2, 2, 64, 8, 16]⟩
abbrev S8x1024x128 : Shape := ⟨3, ![8, 1024, 128]⟩
abbrev S8x512 : Shape := ⟨2, ![8, 512]⟩
abbrev S8x1x512 : Shape := ⟨3, ![8, 1, 512]⟩
abbrev S8x8x512 : Shape := ⟨3, ![8, 8, 512]⟩
abbrev S8x1x128 : Shape := ⟨3, ![8, 1, 128]⟩
abbrev S4096x1024 : Shape := ⟨2, ![4096, 1024]⟩
abbrev S8x32x8x1024 : Shape := ⟨4, ![8, 32, 8, 1024]⟩
abbrev S128x128 : Shape := ⟨2, ![128, 128]⟩
abbrev S1x128x1024 : Shape := ⟨3, ![1, 128, 1024]⟩
abbrev S1x1024x128 : Shape := ⟨3, ![1, 1024, 128]⟩
abbrev S1x8x512 : Shape := ⟨3, ![1, 8, 512]⟩
abbrev S1x1x128 : Shape := ⟨3, ![1, 1, 128]⟩
abbrev S1x1x8x1024 : Shape := ⟨4, ![1, 1, 8, 1024]⟩
abbrev S8x1024 : Shape := ⟨2, ![8, 1024]⟩
abbrev S128x1024 : Shape := ⟨2, ![128, 1024]⟩
abbrev S8x128 : Shape := ⟨2, ![8, 128]⟩
abbrev S1x128 : Shape := ⟨2, ![1, 128]⟩
abbrev S120x128 : Shape := ⟨2, ![120, 128]⟩
abbrev S16x128 : Shape := ⟨2, ![16, 128]⟩
abbrev S112x128 : Shape := ⟨2, ![112, 128]⟩
abbrev S32x128 : Shape := ⟨2, ![32, 128]⟩
abbrev S96x128 : Shape := ⟨2, ![96, 128]⟩
abbrev S64x128 : Shape := ⟨2, ![64, 128]⟩
abbrev S1x1024 : Shape := ⟨2, ![1, 1024]⟩
abbrev S1024x128 : Shape := ⟨2, ![1024, 128]⟩

abbrev nBuf : Space → Nat
  | .hbm => 131
  | .vmem => 19
  | .smem => 0
  | _ => 0

abbrev hbmTy0_0 (i : Nat) : BufTy := match i % 128 with
  | 0 => ⟨S4096x5120, .f32⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S64x16, .f32⟩
  | 8 => ⟨S8x8, .i32⟩
  | 9 => ⟨S8x8, .i32⟩
  | 10 => ⟨S_, .i32⟩
  | 11 => ⟨S8x8, .i32⟩
  | 12 => ⟨S8x8, .i32⟩
  | 13 => ⟨S8x8, .i1⟩
  | 14 => ⟨S8x8, .f32⟩
  | 15 => ⟨S64x1x64x16, .f32⟩
  | 16 => ⟨S64x1x64x16, .f32⟩
  | 17 => ⟨S64x2x64x16, .f32⟩
  | 18 => ⟨S64x16x2x64, .f32⟩
  | 19 => ⟨S8x8x16x1x2x64, .f32⟩
  | 20 => ⟨S1x8x1x8x1x1, .f32⟩
  | 21 => ⟨S8x8x16x8x2x64, .f32⟩
  | 22 => ⟨S8x8x16x8x2x64, .f32⟩
  | 23 => ⟨S8x8x16x8x2x64, .f32⟩
  | 24 => ⟨S8x8x16x4x2x2x64, .f32⟩
  | 25 => ⟨S8x8x16x4x2x2x64, .f32⟩
  | 26 => ⟨S8x128x1024, .f32⟩
  | 27 => ⟨S64x16x64, .f32⟩
  | 28 => ⟨S64x1x16x64, .f32⟩
  | 29 => ⟨S64x1x16x64, .f32⟩
  | 30 => ⟨S64x2x16x64, .f32⟩
  | 31 => ⟨S64x2x64x16, .f32⟩
  | 32 => ⟨S8x8x2x64x1x16, .f32⟩
  | 33 => ⟨S1x8x1x1x8x1, .f32⟩
  | 34 => ⟨S8x8x2x64x8x16, .f32⟩
  | 35 => ⟨S8x8x2x64x8x16, .f32⟩
  | 36 => ⟨S8x8x2x64x8x16, .f32⟩
  | 37 => ⟨S8x4x2x2x64x8x16, .f32⟩
  | 38 => ⟨S8x4x2x2x64x8x16, .f32⟩
  | 39 => ⟨S8x1024x128, .f32⟩
  | 40 => ⟨S8x512, .f32⟩
  | 41 => ⟨S8x512, .f32⟩
  | 42 => ⟨S64x64, .f32⟩
  | 43 => ⟨S64x64, .f32⟩
  | 44 => ⟨S64x64, .f32⟩
  | 45 => ⟨S_, .f32⟩
  | 46 => ⟨S64x64, .f32⟩
  | 47 => ⟨S64x64, .f32⟩
  | 48 => ⟨S64x64, .f32⟩
  | 49 => ⟨S8x512, .f32⟩
  | 50 => ⟨S8x512, .f32⟩
  | 51 => ⟨S64x64, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S64x64, .f32⟩
  | 58 => ⟨S8x512, .f32⟩
  | 59 => ⟨S8x512, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S8x512, .f32⟩
  | 68 => ⟨S8x512, .f32⟩
  | 69 => ⟨S64x64, .f32⟩
  | 70 => ⟨S64x64, .f32⟩
  | 71 => ⟨S64x64, .f32⟩
  | 72 => ⟨S_, .f32⟩
  | 73 => ⟨S64x64, .f32⟩
  | 74 => ⟨S64x64, .f32⟩
  | 75 => ⟨S64x64, .f32⟩
  | 76 => ⟨S8x512, .f32⟩
  | 77 => ⟨S8x512, .f32⟩
  | 78 => ⟨S64x64, .f32⟩
  | 79 => ⟨S64x64, .f32⟩
  | 80 => ⟨S64x64, .f32⟩
  | 81 => ⟨S_, .f32⟩
  | 82 => ⟨S64x64, .f32⟩
  | 83 => ⟨S64x64, .f32⟩
  | 84 => ⟨S64x64, .f32⟩
  | 85 => ⟨S8x512, .f32⟩
  | 86 => ⟨S8x512, .f32⟩
  | 87 => ⟨S64x64, .f32⟩
  | 88 => ⟨S64x64, .f32⟩
  | 89 => ⟨S64x64, .f32⟩
  | 90 => ⟨S_, .f32⟩
  | 91 => ⟨S64x64, .f32⟩
  | 92 => ⟨S64x64, .f32⟩
  | 93 => ⟨S64x64, .f32⟩
  | 94 => ⟨S8x512, .f32⟩
  | 95 => ⟨S8x512, .f32⟩
  | 96 => ⟨S64x64, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S64x64, .f32⟩
  | 103 => ⟨S_, .f32⟩
  | 104 => ⟨S8x512, .f32⟩
  | 105 => ⟨S_, .f32⟩
  | 106 => ⟨S8x512, .f32⟩
  | 107 => ⟨S8x128x1024, .bf16⟩
  | 108 => ⟨S8x1024x128, .bf16⟩
  | 109 => ⟨S8x1x512, .f32⟩
  | 110 => ⟨S8x1x512, .f32⟩
  | 111 => ⟨S8x1x512, .f32⟩
  | 112 => ⟨S8x1x512, .f32⟩
  | 113 => ⟨S8x1x512, .f32⟩
  | 114 => ⟨S8x1x512, .f32⟩
  | 115 => ⟨S8x1x512, .f32⟩
  | 116 => ⟨S8x1x512, .f32⟩
  | 117 => ⟨S8x8x512, .f32⟩
  | 118 => ⟨S8x1x512, .f32⟩
  | 119 => ⟨S8x1x512, .f32⟩
  | 120 => ⟨S8x1x512, .f32⟩
  | 121 => ⟨S8x1x512, .f32⟩
  | 122 => ⟨S8x1x512, .f32⟩
  | 123 => ⟨S8x1x512, .f32⟩
  | 124 => ⟨S8x1x512, .f32⟩
  | 125 => ⟨S8x1x512, .f32⟩
  | 126 => ⟨S8x8x512, .f32⟩
  | 127 => ⟨S8x1x128, .f32⟩
  | _ => ⟨S4096x5120, .f32⟩

abbrev hbmTy0_1 (i : Nat) : BufTy := match i % 128 with
  | 0 => ⟨S4096x1024, .f32⟩
  | 1 => ⟨S4096x1024, .bf16⟩
  | 2 => ⟨S8x32x8x1024, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x1x128, .f32⟩
  | .local _ .vmem, ⟨11, _⟩ => ⟨S1x1x128, .f32⟩
  | .local _ .vmem, ⟨12, _⟩ => ⟨S128x128, .f32⟩
  | .local _ .vmem, ⟨13, _⟩ => ⟨S128x128, .f32⟩
  | .local _ .vmem, ⟨14, _⟩ => ⟨S128x128, .bf16⟩
  | .local _ .vmem, ⟨15, _⟩ => ⟨S128x128, .bf16⟩
  | .local _ .vmem, ⟨16, _⟩ => ⟨S1x1x8x1024, .f32⟩
  | .local _ .vmem, ⟨17, _⟩ => ⟨S1x1x8x1024, .f32⟩
  | .local _ .vmem, ⟨18, _⟩ => ⟨S8x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_0 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_1 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_2 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_3 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_4 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_5 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_6 : Ref sig .tc := ⟨.hbm, 103, rfl⟩
abbrev main_v87 : Ref sig .tc := ⟨.hbm, 104, rfl⟩
abbrev main_cst_7 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110_0 : Ref sig .tc := ⟨.hbm, 128, rfl⟩
abbrev main_v110_1 : Ref sig .tc := ⟨.hbm, 129, rfl⟩
abbrev main_v110_2 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SfwdRefIdeal.lean ====
abbrev S4096x5120 : Shape := ⟨2, ![4096, 5120]⟩
abbrev S64x64 : Shape := ⟨2, ![64, 64]⟩
abbrev S64x64x16 : Shape := ⟨3, ![64, 64, 16]⟩
abbrev S64x16x64 : Shape := ⟨3, ![64, 16, 64]⟩
abbrev S64x16 : Shape := ⟨2, ![64, 16]⟩
abbrev S4096x1024 : Shape := ⟨2, ![4096, 1024]⟩
abbrev S4096x64x16 : Shape := ⟨3, ![4096, 64, 16]⟩
abbrev S64x64x4096 : Shape := ⟨3, ![64, 64, 4096]⟩
abbrev S4096x64x64 : Shape := ⟨3, ![4096, 64, 64]⟩
abbrev S_ : Shape := ⟨0, ![]⟩
abbrev S1x64x64 : Shape := ⟨3, ![1, 64, 64]⟩
abbrev S64x16x4096 : Shape := ⟨3, ![64, 16, 4096]⟩
abbrev S1x64x16 : Shape := ⟨3, ![1, 64, 16]⟩

abbrev nBuf : Space → Nat
  | .hbm => 86
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S64x64, .f32⟩
  | .hbm, ⟨2, _⟩ => ⟨S64x64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S64x16, .f32⟩
  | .hbm, ⟨8, _⟩ => ⟨S4096x1024, .f32⟩
  | .hbm, ⟨9, _⟩ => ⟨S4096x64x16, .f32⟩
  | .hbm, ⟨10, _⟩ => ⟨S64x64x4096, .f32⟩
  | .hbm, ⟨11, _⟩ => ⟨S4096x64x64, .f32⟩
  | .hbm, ⟨12, _⟩ => ⟨S64x64x4096, .f32⟩
  | .hbm, ⟨13, _⟩ => ⟨S4096x64x64, .f32⟩
  | .hbm, ⟨14, _⟩ => ⟨S_, .f32⟩
  | .hbm, ⟨15, _⟩ => ⟨S64x64, .f32⟩
  | .hbm, ⟨16, _⟩ => ⟨S_, .f32⟩
  | .hbm, ⟨17, _⟩ => ⟨S4096x64x64, .f32⟩
  | .hbm, ⟨18, _⟩ => ⟨S_, .f32⟩
  | .hbm, ⟨19, _⟩ => ⟨S4096x64x64, .f32⟩
  | .hbm, ⟨20, _⟩ => ⟨S_, .i32⟩
  | .hbm, ⟨21, _⟩ => ⟨S4096x64x64, .f32⟩
  | .hbm, ⟨22, _⟩ => ⟨S4096x64x64, .f32⟩
  | .hbm, ⟨23, _⟩ => ⟨S64x64, .f32⟩
  | .hbm, ⟨24, _⟩ => ⟨S64x64, .f32⟩
  | .hbm, ⟨25, _⟩ => ⟨S_, .i32⟩
  | .hbm, ⟨26, _⟩ => ⟨S64x64, .f32⟩
  | .hbm, ⟨27, _⟩ => ⟨S64x64, .f32⟩
  | .hbm, ⟨28, _⟩ => ⟨S4096x64x64, .f32⟩
  | .hbm, ⟨29, _⟩ => ⟨S4096x64x64, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1x64x64, .f32⟩
  | .hbm, ⟨35, _⟩ => ⟨S64x64, .f32⟩
  | .hbm, ⟨36, _⟩ => ⟨S_, .i32⟩
  | .hbm, ⟨37, _⟩ => ⟨S_, .i32⟩
  | .hbm, ⟨38, _⟩ => ⟨S1x64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S1x64x64, .f32⟩
  | .hbm, ⟨49, _⟩ => ⟨S_, .i32⟩
  | .hbm, ⟨50, _⟩ => ⟨S_, .i32⟩
  | .hbm, ⟨51, _⟩ => ⟨S4096x64x64, .f32⟩
  | .hbm, ⟨52, _⟩ => ⟨S1x64x64, .f32⟩
  | .hbm, ⟨53, _⟩ => ⟨S_, .i32⟩
  | .hbm, ⟨54, _⟩ => ⟨S_, .i32⟩
  | .hbm, ⟨55, _⟩ => ⟨S4096x64x64, .f32⟩
  | .hbm, ⟨56, _⟩ => ⟨S_, .i32⟩
  | .hbm, ⟨57, _⟩ => ⟨S_, .i32⟩
  | .hbm, ⟨58, _⟩ => ⟨S64x16x4096, .f32⟩
  | .hbm, ⟨59, _⟩ => ⟨S4096x64x16, .f32⟩
  | .hbm, ⟨60, _⟩ => ⟨S64x16x4096, .f32⟩
  | .hbm, ⟨61, _⟩ => ⟨S4096x64x16, .f32⟩
  | .hbm, ⟨62, _⟩ => ⟨S4096x64x16, .f32⟩
  | .hbm, ⟨63, _⟩ => ⟨S1x64x16, .f32⟩
  | .hbm, ⟨64, _⟩ => ⟨S4096x64x16, .f32⟩
  | .hbm, ⟨65, _⟩ => ⟨S4096x64x16, .f32⟩
  | .hbm, ⟨66, _⟩ => ⟨S4096x64x16, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_c : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_while0c_c_14 : Ref sig .tc := ⟨.hbm, 30, rfl⟩
abbrev main_while0c_v34 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v34 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_v0 : Ref sig .tc := ⟨.hbm, 38, rfl⟩
abbrev main_while0b_v35 : Ref sig .tc := ⟨.hbm, 39, rfl⟩
abbrev main_while0b_v36 : Ref sig .tc := ⟨.hbm, 40, rfl⟩
abbrev main_while0b_v37 : Ref sig .tc := ⟨.hbm, 41, rfl⟩
abbrev main_while0b_v38 : Ref sig .tc := ⟨.hbm, 42, rfl⟩
abbrev main_while0b_v39 : Ref sig .tc := ⟨.hbm, 43, rfl⟩
abbrev main_while0b_v40 : Ref sig .tc := ⟨.hbm, 44, rfl⟩
abbrev main_while0b_v41 : Ref sig .tc := ⟨.hbm, 45, rfl⟩
abbrev main_while0b_v42 : Ref sig .tc := ⟨.hbm, 46, rfl⟩
abbrev main_while0b_v43 : Ref sig .tc := ⟨.hbm, 47, rfl⟩
abbrev main_while0b_call2_v0 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_v44 : Ref sig .tc := ⟨.hbm, 51, rfl⟩
abbrev main_while0b_call3_v0 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_v45 : Ref sig .tc := ⟨.hbm, 55, rfl⟩
abbrev main_while0b_c_14 : Ref sig .tc := ⟨.hbm, 56, rfl⟩
abbrev main_while0b_v46 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_2 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_3 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_cst_4 : Ref sig .tc := ⟨.hbm, 78, rfl⟩
abbrev main_v28 : Ref sig .tc := ⟨.hbm, 79, rfl⟩
abbrev main_v29 : Ref sig .tc := ⟨.hbm, 80, rfl⟩
abbrev main_cst_5 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩

abbrev nD : Nat := 1
abbrev τ : Topo := Topo.v7x

variable {F : FTy → Type} [FloatOps F]

abbrev main_while0_count : Scf.Loop 32 := ⟨0#32, 4096#32, 1#32⟩
-- ==== Hfwd.lean ====
abbrev S4096x5120 : Shape := ⟨2, ![4096, 5120]⟩
abbrev S1024 : Shape := ⟨1, ![1024]⟩
abbrev S128 : Shape := ⟨1, ![128]⟩
abbrev S8x1x128 : Shape := ⟨3, ![8, 1, 128]⟩
abbrev S1x128 : Shape := ⟨2, ![1, 128]⟩
abbrev S4096x1024 : Shape := ⟨2, ![4096, 1024]⟩
abbrev S8x32x128x128 : Shape := ⟨4, ![8, 32, 128, 128]⟩
abbrev S128x128 : Shape := ⟨2, ![128, 128]⟩
abbrev S1x1x128 : Shape := ⟨3, ![1, 1, 128]⟩
abbrev S1x1x128x128 : Shape := ⟨4, ![1, 1, 128, 128]⟩
abbrev S16x128 : Shape := ⟨2, ![16, 128]⟩
abbrev S16 : Shape := ⟨1, ![16]⟩
abbrev S16x1 : Shape := ⟨2, ![16, 1]⟩
abbrev S128x1 : Shape := ⟨2, ![128, 1]⟩

abbrev nBuf : Space → Nat
  | .hbm => 8
  | .vmem => 18
  | .smem => 0
  | _ => 0

abbrev bufTy : (tb : Table) → Fin (tcTables nBuf tb) → BufTy
  | .hbm, ⟨0, _⟩ => ⟨S4096x5120, .f32⟩
  | .hbm, ⟨1, _⟩ => ⟨S1024, .f32⟩
  | .hbm, ⟨2, _⟩ => ⟨S128, .f32⟩
  | .hbm, ⟨3, _⟩ => ⟨S8x1x128, .f32⟩
  | .hbm, ⟨4, _⟩ => ⟨S1x128, .f32⟩
  | .hbm, ⟨5, _⟩ => ⟨S4096x1024, .f32⟩
  | .hbm, ⟨6, _⟩ => ⟨S4096x1024, .bf16⟩
  | .hbm, ⟨7, _⟩ => ⟨S8x32x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x1x128, .f32⟩
  | .local _ .vmem, ⟨9, _⟩ => ⟨S1x1x128, .f32⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S128x128, .bf16⟩
  | .local _ .vmem, ⟨14, _⟩ => ⟨S128x128, .bf16⟩
  | .local _ .vmem, ⟨15, _⟩ => ⟨S1x1x128x128, .f32⟩
  | .local _ .vmem, ⟨16, _⟩ => ⟨S1x1x128x128, .f32⟩
  | .local _ .vmem, ⟨17, _⟩ => ⟨S128x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== HfwdIdeal.lean ====
variable {F : FTy → Type} [FloatOps F] [Named F]
def κ : String → Option EReal := fun
  | "mask" => some ⊥
  | _ => none
-- ==== HfwdRefIdeal.lean ====
abbrev S4096x5120 : Shape := ⟨2, ![4096, 5120]⟩
abbrev S1024 : Shape := ⟨1, ![1024]⟩
abbrev S128 : Shape := ⟨1, ![128]⟩
abbrev S4096x1024 : Shape := ⟨2, ![4096, 1024]⟩
abbrev S8x128 : Shape := ⟨2, ![8, 128]⟩
abbrev S_ : Shape := ⟨0, ![]⟩
abbrev S4096x8x128 : Shape := ⟨3, ![4096, 8, 128]⟩
abbrev S1x8x128 : Shape := ⟨3, ![1, 8, 128]⟩
abbrev S64x64x8x128 : Shape := ⟨4, ![64, 64, 8, 128]⟩
abbrev S64x8x64x128 : Shape := ⟨4, ![64, 8, 64, 128]⟩
abbrev S64x64 : Shape := ⟨2, ![64, 64]⟩
abbrev S64x64x1 : Shape := ⟨3, ![64, 64, 1]⟩
abbrev S8x128x128 : Shape := ⟨3, ![8, 128, 128]⟩
abbrev S1x8x64x128 : Shape := ⟨4, ![1, 8, 64, 128]⟩
abbrev S8x64x128 : Shape := ⟨3, ![8, 64, 128]⟩
abbrev S8x64x1x128 : Shape := ⟨4, ![8, 64, 1, 128]⟩
abbrev S8x1x64x128 : Shape := ⟨4, ![8, 1, 64, 128]⟩
abbrev S8x64x64x128 : Shape := ⟨4, ![8, 64, 64, 128]⟩
abbrev S8x64x64 : Shape := ⟨3, ![8, 64, 64]⟩
abbrev S8x1x128 : Shape := ⟨3, ![8, 1, 128]⟩
abbrev S8x128x1 : Shape := ⟨3, ![8, 128, 1]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 174
  | .vmem => 0
  | .smem => 0
  | _ => 0

abbrev hbmTy0_0 (i : Nat) : BufTy := match i % 128 with
  | 0 => ⟨S4096x5120, .f32⟩
  | 1 => ⟨S1024, .f32⟩
  | 2 => ⟨S128, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S8x128, .f32⟩
  | 9 => ⟨S_, .f32⟩
  | 10 => ⟨S8x128, .f32⟩
  | 11 => ⟨S8x128, .f32⟩
  | 12 => ⟨S4096x8x128, .f32⟩
  | 13 => ⟨S4096x8x128, .f32⟩
  | 14 => ⟨S4096x8x128, .f32⟩
  | 15 => ⟨S_, .f32⟩
  | 16 => ⟨S4096x8x128, .f32⟩
  | 17 => ⟨S4096x8x128, .f32⟩
  | 18 => ⟨S_, .f32⟩
  | 19 => ⟨S4096x8x128, .f32⟩
  | 20 => ⟨S4096x8x128, .f32⟩
  | 21 => ⟨S1x8x128, .f32⟩
  | 22 => ⟨S4096x8x128, .f32⟩
  | 23 => ⟨S4096x8x128, .f32⟩
  | 24 => ⟨S1x8x128, .f32⟩
  | 25 => ⟨S4096x8x128, .f32⟩
  | 26 => ⟨S4096x8x128, .f32⟩
  | 27 => ⟨S4096x8x128, .f32⟩
  | 28 => ⟨S4096x8x128, .f32⟩
  | 29 => ⟨S4096x8x128, .f32⟩
  | 30 => ⟨S_, .f32⟩
  | 31 => ⟨S4096x8x128, .f32⟩
  | 32 => ⟨S4096x8x128, .f32⟩
  | 33 => ⟨S_, .f32⟩
  | 34 => ⟨S4096x8x128, .f32⟩
  | 35 => ⟨S4096x8x128, .f32⟩
  | 36 => ⟨S4096x8x128, .f32⟩
  | 37 => ⟨S4096x8x128, .f32⟩
  | 38 => ⟨S_, .f32⟩
  | 39 => ⟨S4096x8x128, .f32⟩
  | 40 => ⟨S4096x8x128, .f32⟩
  | 41 => ⟨S4096x8x128, .f32⟩
  | 42 => ⟨S64x64x8x128, .f32⟩
  | 43 => ⟨S64x8x64x128, .f32⟩
  | 44 => ⟨S64x64x8x128, .f32⟩
  | 45 => ⟨S64x8x64x128, .f32⟩
  | 46 => ⟨S64x64x8x128, .f32⟩
  | 47 => ⟨S64x8x64x128, .f32⟩
  | 48 => ⟨S64x64x8x128, .f32⟩
  | 49 => ⟨S64x8x64x128, .f32⟩
  | 50 => ⟨S_, .i1⟩
  | 51 => ⟨S64x64, .i1⟩
  | 52 => ⟨S64x64, .i32⟩
  | 53 => ⟨S_, .i32⟩
  | 54 => ⟨S64x64, .i32⟩
  | 55 => ⟨S64x64, .i32⟩
  | 56 => ⟨S64x64, .i32⟩
  | 57 => ⟨S64x64, .i1⟩
  | 58 => ⟨S_, .i1⟩
  | 59 => ⟨S64x64, .i1⟩
  | 60 => ⟨S64x64, .i1⟩
  | 61 => ⟨S64x64x1, .i1⟩
  | 62 => ⟨S_, .f32⟩
  | 63 => ⟨S8x128x128, .f32⟩
  | 64 => ⟨S_, .f32⟩
  | 65 => ⟨S64x8x64x128, .f32⟩
  | 66 => ⟨S_, .i32⟩
  | 67 => ⟨S64x8x64x128, .f32⟩
  | 68 => ⟨S64x8x64x128, .f32⟩
  | 69 => ⟨S64x8x64x128, .f32⟩
  | 70 => ⟨S64x8x64x128, .f32⟩
  | 71 => ⟨S64x64x1, .i1⟩
  | 72 => ⟨S_, .i32⟩
  | 73 => ⟨S8x128x128, .f32⟩
  | 74 => ⟨S64x8x64x128, .f32⟩
  | 75 => ⟨S_, .i32⟩
  | 76 => ⟨S_, .i1⟩
  | 77 => ⟨S_, .i32⟩
  | 78 => ⟨S_, .i32⟩
  | 79 => ⟨S_, .i32⟩
  | 80 => ⟨S1x8x64x128, .f32⟩
  | 81 => ⟨S8x64x128, .f32⟩
  | 82 => ⟨S_, .i32⟩
  | 83 => ⟨S_, .i32⟩
  | 84 => ⟨S_, .i32⟩
  | 85 => ⟨S1x8x64x128, .f32⟩
  | 86 => ⟨S8x64x128, .f32⟩
  | 87 => ⟨S_, .i32⟩
  | 88 => ⟨S_, .i32⟩
  | 89 => ⟨S_, .i32⟩
  | 90 => ⟨S1x8x64x128, .f32⟩
  | 91 => ⟨S8x64x128, .f32⟩
  | 92 => ⟨S_, .i32⟩
  | 93 => ⟨S_, .i32⟩
  | 94 => ⟨S_, .i32⟩
  | 95 => ⟨S1x8x64x128, .f32⟩
  | 96 => ⟨S8x64x128, .f32⟩
  | 97 => ⟨S_, .f32⟩
  | 98 => ⟨S_, .f32⟩
  | 99 => ⟨S8x64x128, .f32⟩
  | 100 => ⟨S8x64x1x128, .f32⟩
  | 101 => ⟨S8x1x64x128, .f32⟩
  | 102 => ⟨S8x64x64x128, .f32⟩
  | 103 => ⟨S8x64x64x128, .f32⟩
  | 104 => ⟨S8x64x64x128, .f32⟩
  | 105 => ⟨S_, .f32⟩
  | 106 => ⟨S_, .f32⟩
  | 107 => ⟨S8x64x64x128, .i1⟩
  | 108 => ⟨S8x64x64x128, .f32⟩
  | 109 => ⟨S8x64x64x128, .f32⟩
  | 110 => ⟨S8x64x64x128, .f32⟩
  | 111 => ⟨S8x64x1x128, .f32⟩
  | 112 => ⟨S8x1x64x128, .f32⟩
  | 113 => ⟨S8x64x64x128, .f32⟩
  | 114 => ⟨S8x64x64x128, .f32⟩
  | 115 => ⟨S8x64x64x128, .f32⟩
  | 116 => ⟨S8x64x64x128, .f32⟩
  | 117 => ⟨S_, .f32⟩
  | 118 => ⟨S8x64x64, .f32⟩
  | 119 => ⟨S8x64x128, .f32⟩
  | 120 => ⟨S8x64x128, .f32⟩
  | 121 => ⟨S8x64x128, .f32⟩
  | 122 => ⟨S8x64x128, .f32⟩
  | 123 => ⟨S8x64x128, .f32⟩
  | 124 => ⟨S8x1x128, .f32⟩
  | 125 => ⟨S8x128, .f32⟩
  | 126 => ⟨S8x128, .f32⟩
  | 127 => ⟨S8x128x1, .f32⟩
  | _ => ⟨S4096x5120, .f32⟩

abbrev hbmTy0_1 (i : Nat) : BufTy := match i % 128 with
  | 0 => ⟨S8x128x128, .f32⟩
  | 1 => ⟨S8x128x128, .f32⟩
  | 2 => ⟨S8x64x128, .f32⟩
  | 3 => ⟨S8x64x128, .f32⟩
  | 4 => ⟨S8x64x128, .f32⟩
  | 5 => ⟨S8x64x128, .f32⟩
  | 6 => ⟨S8x128x128, .f32⟩
  | 7 => ⟨S8x128x128, .f32⟩
  | 8 => ⟨S1x8x64x128, .f32⟩
  | 9 => ⟨S_, .i32⟩
  | 10 => ⟨S_, .i32⟩
  | 11 => ⟨S_, .i32⟩
  | 12 => ⟨S64x8x64x128, .f32⟩
  | 13 => ⟨S_, .i32⟩
  | 14 => ⟨S_, .i32⟩
  | 15 => ⟨S64x64x8x128, .f32⟩
  | 16 => ⟨S4096x8x128, .f32⟩
  | 17 => ⟨S4096x8x128, .f32⟩
  | 18 => ⟨S_, .f32⟩
  | 19 => ⟨S4096x8, .f32⟩
  | 20 => ⟨S4096x8x1, .f32⟩
  | 21 => ⟨S_, .f32⟩
  | 22 => ⟨S4096x8x1, .f32⟩
  | 23 => ⟨S4096x8x1, .f32⟩
  | 24 => ⟨S_, .f32⟩
  | 25 => ⟨S4096x8x1, .f32⟩
  | 26 => ⟨S4096x8x1, .f32⟩
  | 27 => ⟨S4096x8x1, .f32⟩
  | 28 => ⟨S4096x8x128, .f32⟩
  | 29 => ⟨S4096x8x128, .f32⟩
  | 30 => ⟨S1x1x128, .f32⟩
  | 31 => ⟨S4096x8x128, .f32⟩
  | 32 => ⟨S4096x8x128, .f32⟩
  | 33 => ⟨S4096x8x128, .f32⟩
  | 34 => ⟨S4096x8x128, .f32⟩
  | 35 => ⟨S4096x8x128, .f32⟩
  | 36 => ⟨S_, .f32⟩
  | 37 => ⟨S4096x8x128, .f32⟩
  | 38 => ⟨S4096x8x128, .f32⟩
  | 39 => ⟨S_, .f32⟩
  | 40 => ⟨S4096x8x128, .f32⟩
  | 41 => ⟨S4096x8x128, .f32⟩
  | 42 => ⟨S4096x8x128, .f32⟩
  | 43 => ⟨S4096x8x128, .f32⟩
  | 44 => ⟨S4096x1024, .f32⟩
  | 45 => ⟨S4096x1024, .bf16⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_c_0 : Ref sig .tc := ⟨.hbm, 58, rfl⟩
abbrev main_call1_v5 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_c_5 : Ref sig .tc := ⟨.hbm, 66, rfl⟩
abbrev main_v40_0 : Ref sig .tc := ⟨.hbm, 67, rfl⟩
abbrev main_v40_1 : Ref sig .tc := ⟨.hbm, 68, rfl⟩
abbrev main_v40_2 : Ref sig .tc := ⟨.hbm, 69, rfl⟩
abbrev main_v40_3 : Ref sig .tc := ⟨.hbm, 70, rfl⟩
abbrev main_v40_4 : Ref sig .tc := ⟨.hbm, 71, rfl⟩
abbrev main_v40_5 : Ref sig .tc := ⟨.hbm, 72, rfl⟩
abbrev main_v40_6 : Ref sig .tc := ⟨.hbm, 73, rfl⟩
abbrev main_v40_7 : Ref sig .tc := ⟨.hbm, 74, rfl⟩
abbrev main_while0c_c_16 : Ref sig .tc := ⟨.hbm, 75, rfl⟩
abbrev main_while0c_v61 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_v0 : Ref sig .tc := ⟨.hbm, 80, rfl⟩
abbrev main_while0b_v61 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_v0 : Ref sig .tc := ⟨.hbm, 85, rfl⟩
abbrev main_while0b_v62 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_v0 : Ref sig .tc := ⟨.hbm, 90, rfl⟩
abbrev main_while0b_v63 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_call5_v0 : Ref sig .tc := ⟨.hbm, 95, rfl⟩
abbrev main_while0b_v64 : Ref sig .tc := ⟨.hbm, 96, rfl⟩
abbrev main_while0b_call6_call0_cst : Ref sig .tc := ⟨.hbm, 97, rfl⟩
abbrev main_while0b_call6_call0_v0 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_cst_16 : Ref sig .tc := ⟨.hbm, 105, rfl⟩
abbrev main_while0b_call7_v0 : Ref sig .tc := ⟨.hbm, 106, rfl⟩
abbrev main_while0b_call7_v1 : Ref sig .tc := ⟨.hbm, 107, rfl⟩
abbrev main_while0b_call7_v2 : Ref sig .tc := ⟨.hbm, 108, rfl⟩
abbrev main_while0b_v71 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_cst_17 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_v92 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_call8_v0 : Ref sig .tc := ⟨.hbm, 136, rfl⟩
abbrev main_while0b_call8_c : Ref sig .tc := ⟨.hbm, 137, rfl⟩
abbrev main_while0b_call8_c_0 : Ref sig .tc := ⟨.hbm, 138, rfl⟩
abbrev main_while0b_call8_c_1 : Ref sig .tc := ⟨.hbm, 139, rfl⟩
abbrev main_while0b_v97 : Ref sig .tc := ⟨.hbm, 140, rfl⟩
abbrev main_while0b_c_18 : Ref sig .tc := ⟨.hbm, 141, rfl⟩
abbrev main_while0b_v98 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_cst_6 : Ref sig .tc := ⟨.hbm, 146, rfl⟩
abbrev main_v44 : Ref sig .tc := ⟨.hbm, 147, rfl⟩
abbrev main_v45 : Ref sig .tc := ⟨.hbm, 148, rfl⟩
abbrev main_cst_7 : Ref sig .tc := ⟨.hbm, 149, rfl⟩
abbrev main_v46 : Ref sig .tc := ⟨.hbm, 150, rfl⟩
abbrev main_v47 : Ref sig .tc := ⟨.hbm, 151, rfl⟩
abbrev main_cst_8 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_call9_v0 : Ref sig .tc := ⟨.hbm, 162, rfl⟩
abbrev main_call9_v1 : Ref sig .tc := ⟨.hbm, 163, rfl⟩
abbrev main_call9_cst : Ref sig .tc := ⟨.hbm, 164, rfl⟩
abbrev main_call9_v2 : Ref sig .tc := ⟨.hbm, 165, rfl⟩
abbrev main_call9_v3 : Ref sig .tc := ⟨.hbm, 166, rfl⟩
abbrev main_call9_cst_0 : Ref sig .tc := ⟨.hbm, 167, rfl⟩
abbrev main_call9_v4 : Ref sig .tc := ⟨.hbm, 168, rfl⟩
abbrev main_call9_v5 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩

abbrev nD : Nat := 1
abbrev τ : Topo := Topo.v7x

variable {F : FTy → Type} [FloatOps F]

abbrev main_while0_count : Scf.Loop 32 := ⟨0#32, 64#32, 1#32⟩
-- ==== Dwdown.lean ====
abbrev S4096x8192 : Shape := ⟨2, ![4096, 8192]⟩
abbrev S4096x2048 : Shape := ⟨2, ![4096, 2048]⟩
abbrev S8x1024x2048 : Shape := ⟨3, ![8, 1024, 2048]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x8192, .bf16⟩
  | .hbm, ⟨3, _⟩ => ⟨S4096x2048, .bf16⟩
  | .hbm, ⟨4, _⟩ => ⟨S8x1024x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownRefIdeal.lean ====
abbrev S4096x8192 : Shape := ⟨2, ![4096, 8192]⟩
abbrev S4096x2048 : Shape := ⟨2, ![4096, 2048]⟩
abbrev S8192x4096 : Shape := ⟨2, ![8192, 4096]⟩
abbrev S8192x2048 : Shape := ⟨2, ![8192, 2048]⟩
abbrev S8x1024x2048 : Shape := ⟨3, ![8, 1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S8192x4096, .f32⟩
  | .hbm, ⟨3, _⟩ => ⟨S8192x2048, .f32⟩
  | .hbm, ⟨4, _⟩ => ⟨S8x1024x2048, .f32⟩
  | .hbm, ⟨5, _⟩ => ⟨S8x1024x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Adam.lean ====
abbrev S4x2048x1024 : Shape := ⟨3, ![4, 2048, 1024]⟩
abbrev S8192x1024 : Shape := ⟨2, ![8192, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x2048x1024 : Shape := ⟨3, ![4, 2048, 1024]⟩
abbrev S_ : Shape := ⟨0, ![]⟩
abbrev S8192x1024 : Shape := ⟨2, ![8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048x1024, .f32⟩
  | .hbm, ⟨36, _⟩ => ⟨S4x2048x1024, .f32⟩
  | .hbm, ⟨37, _⟩ => ⟨S8192x1024, .f32⟩
  | .hbm, ⟨38, _⟩ => ⟨S8192x1024, .f32⟩
  | .hbm, ⟨39, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Sums.lean ====
abbrev S4x2048x1024 : Shape := ⟨3, ![4, 2048, 1024]⟩
abbrev S2048x1024 : Shape := ⟨2, ![2048, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .bf16⟩
  | .hbm, ⟨2, _⟩ => ⟨S2048x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumsRefIdeal.lean ====
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S_, .f32⟩
  | .hbm, ⟨2, _⟩ => ⟨S2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.SwaReal.lean ====
/- Sliding-window attention and its gradients over the reals: the formulas both programs are compared with. -/
module

public import proofs.«01_k».proof.Defs
public import Idealize.ShloMosaic.Lib.Pipeline.ValueKit
public import Idealize.ShloMosaic.Lib.Pointwise
public import Idealize.ShloMosaic.Lib.IdealHost

@[expose] public section

noncomputable section

open Idealize.ShloMosaic

namespace Swa

/-- A finite sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero. -/
theorem div_real (a : ℝ) {b : ℝ} (hb : b ≠ 0) : Ideal.div (a : EReal) (b : EReal) = ((a / b : ℝ) : EReal) := by
  rw [Ideal.div_coe hb, ← EReal.coe_mul, mul_one_div]

/-- The reciprocal root of a positive real. -/
theorem rsqrt_real {a : ℝ} (ha : 0 < a) : Ideal.rsqrt (a : EReal) = (((Real.sqrt a)⁻¹ : ℝ) : EReal) := by
  rw [Ideal.rsqrt_coe, if_neg (not_lt.mpr ha.le), if_neg ha.ne']

/-- A running maximum of elements below `⊤`, started at `⊥`, is below `⊤`. -/
theorem fold_max_lt_top {ι : Type*} (s : Finset ι) (f : ι → EReal) (h : ∀ i, f i < ⊤) : Finset.fold max ⊥ f s < ⊤ := by
  rw [Finset.fold_max_lt]
  exact ⟨bot_lt_top, fun i _ => h i⟩

/-- The maximum of an element below `⊤` and a real is a real. -/
theorem max_real {a : EReal} (ha : a < ⊤) (b : ℝ) : ∃ m : ℝ, max a (b : EReal) = (m : EReal) := by
  induction a using EReal.rec with
  | bot => exact ⟨b, max_eq_right bot_le⟩
  | top => exact absurd ha (lt_irrefl _)
  | coe a => exact ⟨max a b, (EReal.coe_strictMono.monotone.map_max).symm⟩

theorem f32_64 : Ideal.ofBits .f32 0x42800000#32 = ((64 : ℝ) : EReal) := by
  simp [Ideal.ofBits, Ideal.ieee, -EReal.coe_mul]; norm_num

theorem f32_one : Ideal.ofBits .f32 0x3F800000#32 = ((1 : ℝ) : EReal) := by
  simp [Ideal.ofBits, Ideal.ieee, -EReal.coe_mul]; norm_num

theorem f32_eighth : Ideal.ofBits .f32 0x3E000000#32 = ((1 / 8 : ℝ) : EReal) := by
  simp [Ideal.ofBits, Ideal.ieee, -EReal.coe_mul]; norm_num

theorem f32_neg_half : Ideal.ofBits .f32 0xBF000000#32 = ((-(1 / 2) : ℝ) : EReal) := by
  simp [Ideal.ofBits, Ideal.ieee, -EReal.coe_mul, -EReal.coe_neg]; norm_num

theorem f32_neg_inf : Ideal.ofBits .f32 0xFF800000#32 = ⊥ := by
  simp [Ideal.ofBits, Ideal.ieee]

/-- The normalisation's epsilon, the rational its word is. -/
def eps : ℝ := 8796093 / 2 ^ 43

theorem f32_eps : Ideal.ofBits .f32 0x358637BD#32 = ((eps : ℝ) : EReal) := by
  simp [Ideal.ofBits, Ideal.ieee, -EReal.coe_mul, eps]; norm_num

theorem eps_pos : 0 < eps := by unfold eps; positivity

/-! ## Row normalisation -/

/-- The mean square of a row, plus epsilon. -/
def ms (x : Fin 64 → ℝ) : ℝ := (∑ d, x d * x d) / 64 + eps

theorem ms_pos (x : Fin 64 → ℝ) : 0 < ms x :=
  add_pos_of_nonneg_of_pos (div_nonneg (Finset.sum_nonneg fun d _ => mul_self_nonneg _) (by norm_num)) eps_pos

/-- The reciprocal root of the mean square. -/
def rn (x : Fin 64 → ℝ) : ℝ := (Real.sqrt (ms x))⁻¹

/-- The normalised row, before its gain. -/
def hat (x : Fin 64 → ℝ) (d : Fin 64) : ℝ := x d * rn x

/-- The normalised row. -/
def nrm (g x : Fin 64 → ℝ) (d : Fin 64) : ℝ := hat x d * g d

/-- The gradient of the normalisation at the row `x`, of the cotangent `y` of the normalised row. -/
def back (g x y : Fin 64 → ℝ) (d : Fin 64) : ℝ :=
  rn x * (y d * g d - hat x d * ((∑ e, y e * g e * hat x e) / 64))

theorem rn_sq (x : Fin 64 → ℝ) : rn x * rn x = 1 / ms x := by
  unfold rn
  rw [← mul_inv, Real.mul_self_sqrt (ms_pos x).le, one_div]

theorem back_add (g x y z : Fin 64 → ℝ) (d : Fin 64) : back g x (fun e => y e + z e) d = back g x y d + back g x z d := by
  unfold back
  simp only [add_mul, Finset.sum_add_distrib]
  ring

theorem back_zero (g x : Fin 64 → ℝ) (d : Fin 64) : back g x (fun _ => 0) d = 0 := by simp [back]

/-! ## One query row against its window of keys and the sink -/

section Row

variable (ok : Fin 256 → Prop) [DecidablePred ok] (sc : Fin 256 → ℝ) (sink : ℝ) (dp : Fin 256 → ℝ)

/-- The exponential of a score inside the window, zero outside. -/
def ex (s : Fin 256) : ℝ := if ok s then Real.exp (sc s) else 0

/-- The softmax's denominator: the window and the sink. -/
def Z : ℝ := (∑ s, ex ok sc s) + Real.exp sink

theorem Z_pos : 0 < Z ok sc sink := by
  refine add_pos_of_nonneg_of_pos (Finset.sum_nonneg fun s _ => ?_) (Real.exp_pos _)
  unfold ex; split_ifs
  · exact (Real.exp_pos _).le
  · exact le_rfl

/-- The probability of a key. -/
def P (s : Fin 256) : ℝ := ex ok sc s / Z ok sc sink

/-- The probability of the sink. -/
def Ps : ℝ := Real.exp sink / Z ok sc sink

/-- The mean of the probabilities' cotangent. -/
def delta : ℝ := ∑ s, P ok sc sink s * dp s

/-- The scores' cotangent. -/
def ds (s : Fin 256) : ℝ := P ok sc sink s * (dp s - delta ok sc sink dp)

theorem ds_eq_zero {s : Fin 256} (h : ¬ ok s) : ds ok sc sink dp s = 0 := by simp [ds, P, ex, h]

/-! A row's softmax does not depend on the shift of its scores. -/

/-- The exponential of a score shifted by `m`. -/
def exm (m : ℝ) (s : Fin 256) : ℝ := if ok s then Real.exp (sc s - m) else 0

theorem exm_eq (m : ℝ) (s : Fin 256) : exm ok sc m s = Real.exp (-m) * ex ok sc s := by
  unfold exm ex
  split_ifs
  · rw [sub_eq_add_neg, Real.exp_add, mul_comm]
  · rw [mul_zero]

/-- The denominator of the shifted scores. -/
def Zm (m : ℝ) : ℝ := (∑ s, exm ok sc m s) + Real.exp (sink - m)

theorem Zm_eq (m : ℝ) : Zm ok sc sink m = Real.exp (-m) * Z ok sc sink := by
  unfold Zm Z
  rw [mul_add, Finset.mul_sum, sub_eq_add_neg, Real.exp_add, mul_comm (Real.exp sink)]
  simp only [exm_eq]

theorem Zm_ne (m : ℝ) : Zm ok sc sink m ≠ 0 := by
  rw [Zm_eq]; exact (mul_pos (Real.exp_pos _) (Z_pos ok sc sink)).ne'

theorem exm_div (m : ℝ) (s : Fin 256) : exm ok sc m s / Zm ok sc sink m = P ok sc sink s := by
  rw [exm_eq, Zm_eq, mul_div_mul_left _ _ (Real.exp_pos _).ne', P]

theorem exps_div (m : ℝ) : Real.exp (sink - m) / Zm ok sc sink m = Ps ok sc sink := by
  rw [Zm_eq, sub_eq_add_neg, Real.exp_add, mul_comm, mul_div_mul_left _ _ (Real.exp_pos _).ne', Ps]

end Row

/-! ## One block of queries of one key/value group -/

/-- The data of a block of 128 queries and of its group: its number, the 256 rows of keys and values in its window (the
    block before and the block itself), the eight heads' queries and output cotangents, slopes, sinks and the gains. -/
structure Blk where
  n : ℕ
  k : Fin 256 → Fin 64 → ℝ
  v : Fin 256 → Fin 64 → ℝ
  q : Fin 8 → Fin 128 → Fin 64 → ℝ
  o : Fin 8 → Fin 128 → Fin 64 → ℝ
  sl : Fin 8 → ℝ
  sk : Fin 8 → ℝ
  qg : Fin 64 → ℝ
  kg : Fin 64 → ℝ

namespace Blk

variable (B : Blk)

/-- Whether query `t` of the block sees row `s` of its window. -/
def ok (t : Fin 128) (s : Fin 256) : Prop := s.val ≤ t.val + 128 ∧ t.val < s.val ∧ (128 ≤ s.val ∨ 0 < B.n)

instance (t : Fin 128) : DecidablePred (B.ok t) := fun s => inferInstanceAs (Decidable (_ ∧ _ ∧ _))

def kn (s : Fin 256) : Fin 64 → ℝ := nrm B.kg (B.k s)
def qn (h : Fin 8) (t : Fin 128) : Fin 64 → ℝ := nrm B.qg (B.q h t)

/-- The biased scores. -/
def sc (h : Fin 8) (t : Fin 128) (s : Fin 256) : ℝ :=
  (∑ d, B.qn h t d * B.kn s d) * (1 / 8) - B.sl h * ((t.val : ℝ) + 128 - (s.val : ℝ))

def prob (h : Fin 8) (t : Fin 128) : Fin 256 → ℝ := P (B.ok t) (B.sc h t) (B.sk h)

/-- The attention's output. -/
def out (h : Fin 8) (t : Fin 128) (d : Fin 64) : ℝ := ∑ s, B.prob h t s * B.v s d

def dp (h : Fin 8) (t : Fin 128) (s : Fin 256) : ℝ := ∑ d, B.o h t d * B.v s d
def del (h : Fin 8) (t : Fin 128) : ℝ := delta (B.ok t) (B.sc h t) (B.sk h) (B.dp h t)
def dsc (h : Fin 8) (t : Fin 128) : Fin 256 → ℝ := ds (B.ok t) (B.sc h t) (B.sk h) (B.dp h t)

/-- The values' gradient out of this block. -/
def dv (s : Fin 256) (d : Fin 64) : ℝ := ∑ h, ∑ t, B.prob h t s * B.o h t d

/-- The normalised keys' gradient out of this block. -/
def dkn (s : Fin 256) (d : Fin 64) : ℝ := (∑ h, ∑ t, B.dsc h t s * B.qn h t d) * (1 / 8)

/-- The normalised queries' gradient. -/
def dqn (h : Fin 8) (t : Fin 128) (d : Fin 64) : ℝ := (∑ s, B.dsc h t s * B.kn s d) * (1 / 8)

def dq (h : Fin 8) (t : Fin 128) : Fin 64 → ℝ := back B.qg (B.q h t) (B.dqn h t)
def dk (s : Fin 256) : Fin 64 → ℝ := back B.kg (B.k s) (B.dkn s)
def dsink (h : Fin 8) : ℝ := -∑ t, Ps (B.ok t) (B.sc h t) (B.sk h) * B.del h t
def dqg (d : Fin 64) : ℝ := ∑ h, ∑ t, B.dqn h t d * hat (B.q h t) d
def dkg (d : Fin 64) : ℝ := ∑ s, B.dkn s d * hat (B.k s) d

end Blk

end Swa

end
-- ==== Proof.SwaSpec.lean ====
/- The gradients of sliding-window attention over the whole sequence, of real numbers. -/
module

public import proofs.«01_k».proof.Proof.SwaReal

@[expose] public section

noncomputable section

namespace Swa

namespace Blk

variable (B : Blk)

/-- Row `s` of the window lies in the sequence. -/
def has (s : Fin 256) : Prop := 128 ≤ s.val ∨ 0 < B.n

instance : DecidablePred B.has := fun s => inferInstanceAs (Decidable (_ ∨ _))

/-- The block with zeros for the rows before the sequence's start. -/
def zeroed : Blk :=
  { B with k := fun s d => if B.has s then B.k s d else 0, v := fun s d => if B.has s then B.v s d else 0 }

theorem has_of_ok {t : Fin 128} {s : Fin 256} (h : B.ok t s) : B.has s := h.2.2

theorem zeroed_kn {s : Fin 256} (h : B.has s) : B.zeroed.kn s = B.kn s := by
  simp [kn, zeroed, h]

theorem zeroed_qn : B.zeroed.qn = B.qn := rfl

theorem zeroed_sc (h : Fin 8) (t : Fin 128) {s : Fin 256} (hs : B.ok t s) : B.zeroed.sc h t s = B.sc h t s := by
  unfold sc
  rw [B.zeroed_kn (B.has_of_ok hs)]
  rfl

theorem zeroed_ex (h : Fin 8) (t : Fin 128) (s : Fin 256) : ex (B.zeroed.ok t) (B.zeroed.sc h t) s = ex (B.ok t) (B.sc h t) s := by
  unfold ex
  by_cases hs : B.ok t s
  · rw [if_pos hs, if_pos (show B.zeroed.ok t s from hs), B.zeroed_sc h t hs]
  · rw [if_neg hs, if_neg (show ¬ B.zeroed.ok t s from hs)]

theorem zeroed_Z (h : Fin 8) (t : Fin 128) : Z (B.zeroed.ok t) (B.zeroed.sc h t) (B.zeroed.sk h) = Z (B.ok t) (B.sc h t) (B.sk h) := by
  unfold Z
  simp only [zeroed_ex]
  rfl

theorem zeroed_prob (h : Fin 8) (t : Fin 128) (s : Fin 256) : B.zeroed.prob h t s = B.prob h t s := by
  unfold prob P
  rw [zeroed_ex, zeroed_Z]

theorem prob_zero (h : Fin 8) (t : Fin 128) {s : Fin 256} (hs : ¬ B.has s) : B.prob h t s = 0 := by
  unfold prob P ex
  rw [if_neg fun k => hs (B.has_of_ok k), zero_div]

theorem zeroed_dp (h : Fin 8) (t : Fin 128) {s : Fin 256} (hs : B.has s) : B.zeroed.dp h t s = B.dp h t s := by
  simp [dp, zeroed, hs]

theorem zeroed_del (h : Fin 8) (t : Fin 128) : B.zeroed.del h t = B.del h t := by
  unfold del delta
  refine Finset.sum_congr rfl fun s _ => ?_
  change B.zeroed.prob h t s * _ = B.prob h t s * _
  rw [zeroed_prob]
  by_cases hs : B.has s
  · rw [zeroed_dp _ _ _ hs]
  · rw [prob_zero _ _ _ hs, zero_mul, zero_mul]

theorem zeroed_dsc (h : Fin 8) (t : Fin 128) (s : Fin 256) : B.zeroed.dsc h t s = B.dsc h t s := by
  change B.zeroed.prob h t s * (B.zeroed.dp h t s - B.zeroed.del h t) = B.prob h t s * (B.dp h t s - B.del h t)
  rw [zeroed_prob, zeroed_del]
  by_cases hs : B.has s
  · rw [zeroed_dp _ _ _ hs]
  · rw [prob_zero _ _ _ hs, zero_mul, zero_mul]

theorem dsc_zero (h : Fin 8) (t : Fin 128) {s : Fin 256} (hs : ¬ B.has s) : B.dsc h t s = 0 := by
  change B.prob h t s * _ = 0
  rw [prob_zero _ _ _ hs, zero_mul]

theorem zeroed_dv (s : Fin 256) (d : Fin 64) : B.zeroed.dv s d = B.dv s d := by
  unfold dv
  simp only [zeroed_prob]
  rfl

theorem zeroed_dkn (s : Fin 256) (d : Fin 64) : B.zeroed.dkn s d = B.dkn s d := by
  unfold dkn
  simp only [zeroed_dsc]
  rfl

theorem dkn_zero {s : Fin 256} (hs : ¬ B.has s) (d : Fin 64) : B.dkn s d = 0 := by
  unfold dkn
  simp [B.dsc_zero _ _ hs]

theorem zeroed_dqn (h : Fin 8) (t : Fin 128) (d : Fin 64) : B.zeroed.dqn h t d = B.dqn h t d := by
  unfold dqn
  refine congrArg (· * _) (Finset.sum_congr rfl fun s _ => ?_)
  rw [zeroed_dsc]
  by_cases hs : B.has s
  · rw [zeroed_kn _ hs]
  · rw [dsc_zero _ _ _ hs, zero_mul, zero_mul]

theorem zeroed_dq (h : Fin 8) (t : Fin 128) (d : Fin 64) : B.zeroed.dq h t d = B.dq h t d := by
  unfold dq
  rw [funext (B.zeroed_dqn h t)]
  rfl

theorem zeroed_Ps (h : Fin 8) (t : Fin 128) : Ps (B.zeroed.ok t) (B.zeroed.sc h t) (B.zeroed.sk h) = Ps (B.ok t) (B.sc h t) (B.sk h) := by
  unfold Ps
  rw [zeroed_Z]
  rfl

theorem zeroed_dsink (h : Fin 8) : B.zeroed.dsink h = B.dsink h := by
  unfold dsink
  simp only [zeroed_Ps, zeroed_del]

theorem zeroed_dqg (d : Fin 64) : B.zeroed.dqg d = B.dqg d := by
  unfold dqg
  simp only [zeroed_dqn]
  rfl

end Blk

/-! ## The whole sequence -/

/-- Row `t` of block `n`. -/
def pos (n : Fin 32) (t : Fin 128) : Fin 4096 := ⟨128 * n.val + t.val, by omega⟩

/-- The block that row `s` of block `n`'s window lies in: the block before (the first block itself at the start) or the block. -/
def wblk (n : Fin 32) (s : Fin 256) : Fin 32 := if s.val < 128 then ⟨n.val - 1, by omega⟩ else n

/-- Row `s` of block `n`'s window, in the sequence. -/
def wpos (n : Fin 32) (s : Fin 256) : Fin 4096 := pos (wblk n s) ⟨s.val % 128, by omega⟩

/-- Row `r` of the block before, and of the block itself, in a window. -/
def lo (r : Fin 128) : Fin 256 := ⟨r.val, by omega⟩
@[inherit_doc lo] def hi (r : Fin 128) : Fin 256 := ⟨128 + r.val, by omega⟩

theorem wpos_hi (n : Fin 32) (r : Fin 128) : wpos n (hi r) = pos n r := by
  unfold wpos wblk hi pos
  rw [if_neg (by simp)]
  ext
  have := r.isLt
  simp only
  omega

theorem wpos_lo (n n' : Fin 32) (h : n'.val = n.val + 1) (r : Fin 128) : wpos n' (lo r) = pos n r := by
  unfold wpos wblk lo pos
  rw [if_pos (by simp)]
  ext
  have := r.isLt
  simp only
  omega

theorem sum_window {M : Type*} [AddCommMonoid M] (f : Fin 256 → M) : ∑ s, f s = ∑ r, f (lo r) + ∑ r, f (hi r) :=
  Fin.sum_univ_add (a := 128) (b := 128) f

/-- A sum over the rows of the sequence, block after block. -/
theorem sum_pos {M : Type*} [AddCommMonoid M] (f : Fin 4096 → M) : ∑ R, f R = ∑ n, ∑ t, f (pos n t) := by
  rw [← Fintype.sum_prod_type' (f := fun n t => f (pos n t))]
  refine (Fintype.sum_equiv (finProdFinEquiv (m := 32) (n := 128)) _ _ fun p => ?_).symm
  refine congrArg f (Fin.ext ?_)
  simp [pos, finProdFinEquiv]
  omega

/-- The rows of the block before, summed over the blocks that have one. -/
theorem sum_next {f g : Fin 32 → ℝ} (h0 : f 0 = 0) (h : ∀ n n' : Fin 32, n'.val = n.val + 1 → f n' = g n) (hl : g 31 = 0) :
    ∑ n, f n = ∑ n, g n := by
  rw [Fin.sum_univ_succ (n := 31) f, Fin.sum_univ_castSucc (n := 31) g, h0, zero_add]
  have e : g (Fin.last 31) = 0 := hl
  rw [e, add_zero]
  exact Finset.sum_congr rfl fun i _ => h i.castSucc i.succ (by simp)

/-- The step's attention: keys, values by group, queries and output cotangents by group and head, slopes, sinks, gains. -/
structure Data where
  k : Fin 4 → Fin 4096 → Fin 64 → ℝ
  v : Fin 4 → Fin 4096 → Fin 64 → ℝ
  q : Fin 4 → Fin 8 → Fin 4096 → Fin 64 → ℝ
  o : Fin 4 → Fin 8 → Fin 4096 → Fin 64 → ℝ
  sl : Fin 4 → Fin 8 → ℝ
  sk : Fin 4 → Fin 8 → ℝ
  qg : Fin 64 → ℝ
  kg : Fin 64 → ℝ

namespace Data

variable (D : Data)

/-- Block `n` of group `g`. -/
def blk (n : Fin 32) (g : Fin 4) : Blk where
  n := n.val
  k s := D.k g (wpos n s)
  v s := D.v g (wpos n s)
  q h t := D.q g h (pos n t)
  o h t := D.o g h (pos n t)
  sl := D.sl g
  sk := D.sk g
  qg := D.qg
  kg := D.kg

/-- What block `n + 1` adds at block `n`'s rows, where there is a block `n + 1`. -/
def next (f : Fin 32 → ℝ) (n : Fin 32) : ℝ := if h : n.val + 1 < 32 then f ⟨n.val + 1, h⟩ else 0

def dk (g : Fin 4) (n : Fin 32) (r : Fin 128) (d : Fin 64) : ℝ :=
  (D.blk n g).dk (hi r) d + next (fun n' => (D.blk n' g).dk (lo r) d) n
def dv (g : Fin 4) (n : Fin 32) (r : Fin 128) (d : Fin 64) : ℝ :=
  (D.blk n g).dv (hi r) d + next (fun n' => (D.blk n' g).dv (lo r) d) n
/-- The normalised keys' gradient. -/
def dkn (g : Fin 4) (n : Fin 32) (r : Fin 128) (d : Fin 64) : ℝ :=
  (D.blk n g).dkn (hi r) d + next (fun n' => (D.blk n' g).dkn (lo r) d) n
def dsink (g : Fin 4) (h : Fin 8) : ℝ := ∑ n, (D.blk n g).dsink h
def dqg (d : Fin 64) : ℝ := ∑ n, ∑ g, (D.blk n g).dqg d
def dkg (d : Fin 64) : ℝ := ∑ n, ∑ g, (D.blk n g).dkg d

/-- The keys' gradient is the normalised keys' gradient taken back through the norm. -/
theorem dk_eq (g : Fin 4) (n : Fin 32) (r : Fin 128) (d : Fin 64) :
    back D.kg (D.k g (pos n r)) (D.dkn g n r) d = D.dk g n r d := by
  unfold dkn dk
  rw [back_add]
  unfold next
  congr 1
  · change _ = back D.kg (D.k g (wpos n (hi r))) _ d
    rw [wpos_hi]
  · split_ifs with h
    · change _ = back D.kg (D.k g (wpos _ (lo r))) _ d
      rw [wpos_lo n _ rfl]
    · exact back_zero _ _ _

/-- The keys' gain's gradient, over the rows of the sequence. -/
theorem dkg_eq (d : Fin 64) : ∑ n, ∑ g, ∑ r, D.dkn g n r d * hat (D.k g (pos n r)) d = D.dkg d := by
  unfold dkg Blk.dkg
  rw [Finset.sum_comm]
  refine Eq.trans (Finset.sum_congr rfl fun g _ => ?_) Finset.sum_comm
  simp only [sum_window, dkn, add_mul, Finset.sum_add_distrib]
  rw [add_comm]
  congr 1
  refine (sum_next ?_ ?_ ?_).symm
  · refine Finset.sum_eq_zero fun r _ => ?_
    rw [Blk.dkn_zero _ (by simp [Blk.has, lo, blk]), zero_mul]
  · intro n n' h
    refine Finset.sum_congr rfl fun r _ => ?_
    change _ * hat (D.k g (wpos n' (lo r))) d = _
    rw [wpos_lo n n' h]
    unfold next
    rw [dif_pos (by omega)]
    rw [show (⟨n.val + 1, by omega⟩ : Fin 32) = n' from Fin.ext h.symm]
  · refine Finset.sum_eq_zero fun r _ => ?_
    unfold next
    rw [dif_neg (by simp), zero_mul]

end Data

end Swa

end
-- ==== Proof.SwaRefNorm.lean ====
/- The reference's normalised queries and keys, as real numbers. -/
module

public import proofs.«01_k».proof.Proof.SwaSpec
public import proofs.«01_k».proof.Proof.Gen.SwaRefIdeal.Read

@[expose] public section

set_option maxRecDepth 16384

noncomputable section

open Idealize.ShloMosaic Idealize.ShloMosaic.TcCoe

namespace Cert.SwaRefIdeal.Proof

open Cert.SwaRefIdeal Cert.SwaRefIdeal.Read _root_.Swa

/-- Head `h` of group `g` among the 32. -/
def hd (g : Fin 4) (h : Fin 8) : Fin 32 := ⟨8 * g.val + h.val, by omega⟩
/-- Feature `d` of head `h` of group `g` among the columns of the queries. -/
def qc (g : Fin 4) (h : Fin 8) (d : Fin 64) : Fin 2048 := ⟨512 * g.val + 64 * h.val + d.val, by omega⟩
/-- Feature `d` of group `g` among the columns of the keys. -/
def kc (g : Fin 4) (d : Fin 64) : Fin 256 := ⟨64 * g.val + d.val, by omega⟩

/-- The five arguments are the real numbers of `D`. -/
structure Args (D : Data) (x0 : FVec Ideal S4096x2560 .f32) (x1 x2 : FVec Ideal S64 .f32) (x3 : FVec Ideal S32 .f32)
    (x4 : FVec Ideal S4096x2048 .f32) : Prop where
  q : ∀ g h R d, x0 (ix2 R ⟨512 * g.val + 64 * h.val + d.val, by omega⟩) = ((D.q g h R d : ℝ) : EReal)
  k : ∀ g R d, x0 (ix2 R ⟨2048 + 64 * g.val + d.val, by omega⟩) = ((D.k g R d : ℝ) : EReal)
  v : ∀ g R d, x0 (ix2 R ⟨2304 + 64 * g.val + d.val, by omega⟩) = ((D.v g R d : ℝ) : EReal)
  o : ∀ g h R d, x4 (ix2 R (qc g h d)) = ((D.o g h R d : ℝ) : EReal)
  sk : ∀ g h, x3 (ix1 (hd g h)) = ((D.sk g h : ℝ) : EReal)
  sl : ∀ g h, val_main_v98 (F := Ideal) (ix1 (hd g h)) = ((D.sl g h : ℝ) : EReal)
  qg : ∀ d, x1 (ix1 d) = ((D.qg d : ℝ) : EReal)
  kg : ∀ d, x2 (ix1 d) = ((D.kg d : ℝ) : EReal)

variable {D : Data} {x0 : FVec Ideal S4096x2560 .f32} {x1 x2 : FVec Ideal S64 .f32} {x3 : FVec Ideal S32 .f32}
    {x4 : FVec Ideal S4096x2048 .f32} (A : Args D x0 x1 x2 x3 x4)

include A

theorem v3_eq (g : Fin 4) (h : Fin 8) (R : Fin 4096) (d : Fin 64) :
    val_main_v3 (F := Ideal) x0 (ix3 R (hd g h) d) = ((D.q g h R d : ℝ) : EReal) := by
  rw [← A.q g h R d, val_main_v3_apply, val_main_v0_apply]
  unfold hd
  blk_ext []

theorem v20_eq (g : Fin 4) (R : Fin 4096) (d : Fin 64) :
    val_main_v20 (F := Ideal) x0 (ix3 R g d) = ((D.k g R d : ℝ) : EReal) := by
  rw [← A.k g R d, val_main_v20_apply, val_main_v1_apply]
  blk_ext []

theorem v37_eq (g : Fin 4) (R : Fin 4096) (d : Fin 64) :
    val_main_v37 (F := Ideal) x0 (ix3 R g d) = ((D.v g R d : ℝ) : EReal) := by
  rw [← A.v g R d, val_main_v37_apply, val_main_v2_apply]
  blk_ext []

theorem v10_eq (g : Fin 4) (h : Fin 8) (R : Fin 4096) :
    val_main_v10 (F := Ideal) x0 (ix3 R (hd g h) 0) = ((ms (D.q g h R) : ℝ) : EReal) := by
  rw [val_main_v10_apply, val_main_v8_apply, val_main_v6_apply, val_main_v7_apply, val_main_v9_apply, val_main_v5_apply]
  simp only [val_main_v4_apply, val_main_cst_apply, val_main_cst_0_apply, val_main_cst_1_apply]
  have e : ∀ k, idx_main_v5 (idx_main_v6 (ix3 R (hd g h) 0)) k = ix3 R (hd g h) k := fun k => by blk_ext []
  simp only [e, v3_eq A]
  pointwise
  simp only [← EReal.coe_mul, coe_sum, f32_64, f32_eps, div_real _ (show (64 : ℝ) ≠ 0 by norm_num), ← EReal.coe_add]
  rfl

theorem v27_eq (g : Fin 4) (R : Fin 4096) :
    val_main_v27 (F := Ideal) x0 (ix3 R g 0) = ((ms (D.k g R) : ℝ) : EReal) := by
  rw [val_main_v27_apply, val_main_v25_apply, val_main_v23_apply, val_main_v24_apply, val_main_v26_apply, val_main_v22_apply]
  simp only [val_main_v21_apply, val_main_cst_3_apply, val_main_cst_4_apply, val_main_cst_5_apply]
  have e : ∀ k, idx_main_v22 (idx_main_v23 (ix3 R g 0)) k = ix3 R g k := fun k => by blk_ext []
  simp only [e, v20_eq A]
  pointwise
  simp only [← EReal.coe_mul, coe_sum, f32_64, f32_eps, div_real _ (show (64 : ℝ) ≠ 0 by norm_num), ← EReal.coe_add]
  rfl

theorem v11_eq (g : Fin 4) (h : Fin 8) (R : Fin 4096) :
    val_main_v11 (F := Ideal) x0 (ix3 R (hd g h) 0) = ((rn (D.q g h R) : ℝ) : EReal) := by
  rw [val_main_v11_apply, v10_eq A]
  exact rsqrt_real (ms_pos _)

theorem v28_eq (g : Fin 4) (R : Fin 4096) :
    val_main_v28 (F := Ideal) x0 (ix3 R g 0) = ((rn (D.k g R) : ℝ) : EReal) := by
  rw [val_main_v28_apply, v27_eq A]
  exact rsqrt_real (ms_pos _)

theorem v14_eq (g : Fin 4) (h : Fin 8) (R : Fin 4096) :
    val_main_v14 (F := Ideal) x0 (ix3 R (hd g h) 0) = ((-(1 / 2) * (rn (D.q g h R) / ms (D.q g h R)) : ℝ) : EReal) := by
  rw [val_main_v14_apply, val_main_v13_apply, val_main_cst_2_apply, val_main_v12_apply, v11_eq A, v10_eq A]
  pointwise
  rw [div_real _ (ms_pos _).ne', f32_neg_half, ← EReal.coe_mul]

theorem v31_eq (g : Fin 4) (R : Fin 4096) :
    val_main_v31 (F := Ideal) x0 (ix3 R g 0) = ((-(1 / 2) * (rn (D.k g R) / ms (D.k g R)) : ℝ) : EReal) := by
  rw [val_main_v31_apply, val_main_v30_apply, val_main_cst_6_apply, val_main_v29_apply, v28_eq A, v27_eq A]
  pointwise
  rw [div_real _ (ms_pos _).ne', f32_neg_half, ← EReal.coe_mul]

theorem v16_eq (g : Fin 4) (h : Fin 8) (R : Fin 4096) (d : Fin 64) :
    val_main_v16 (F := Ideal) x0 (ix3 R (hd g h) d) = ((hat (D.q g h R) d : ℝ) : EReal) := by
  rw [val_main_v16_apply, v3_eq A, val_main_v15_apply,
    show idx_main_v15 (ix3 R (hd g h) d) = ix3 R (hd g h) 0 by blk_ext [], v11_eq A]
  exact (EReal.coe_mul _ _).symm

theorem v33_eq (g : Fin 4) (R : Fin 4096) (d : Fin 64) :
    val_main_v33 (F := Ideal) x0 (ix3 R g d) = ((hat (D.k g R) d : ℝ) : EReal) := by
  rw [val_main_v33_apply, v20_eq A, val_main_v32_apply,
    show idx_main_v32 (ix3 R g d) = ix3 R g 0 by blk_ext [], v28_eq A]
  exact (EReal.coe_mul _ _).symm

theorem v17_eq (d : Fin 64) : val_main_v17 (F := Ideal) x1 (ix3 0 0 d) = ((D.qg d : ℝ) : EReal) := by
  rw [val_main_v17_apply, ← A.qg]; blk_ext []

theorem v34_eq (d : Fin 64) : val_main_v34 (F := Ideal) x2 (ix3 0 0 d) = ((D.kg d : ℝ) : EReal) := by
  rw [val_main_v34_apply, ← A.kg]; blk_ext []

theorem v19_eq (g : Fin 4) (h : Fin 8) (R : Fin 4096) (d : Fin 64) :
    val_main_v19 (F := Ideal) x0 x1 (ix3 R (hd g h) d) = ((nrm D.qg (D.q g h R) d : ℝ) : EReal) := by
  rw [val_main_v19_apply, v16_eq A, val_main_v18_apply,
    show idx_main_v18 (ix3 R (hd g h) d) = ix3 0 0 d by blk_ext [], v17_eq A]
  exact (EReal.coe_mul _ _).symm

theorem v36_eq (g : Fin 4) (R : Fin 4096) (d : Fin 64) :
    val_main_v36 (F := Ideal) x0 x2 (ix3 R g d) = ((nrm D.kg (D.k g R) d : ℝ) : EReal) := by
  rw [val_main_v36_apply, v33_eq A, val_main_v35_apply,
    show idx_main_v35 (ix3 R g d) = ix3 0 0 d by blk_ext [], v34_eq A]
  exact (EReal.coe_mul _ _).symm

/-! ## The blocks and their windows -/

theorem v38_eq (n : Fin 32) (t : Fin 128) (g : Fin 4) (h : Fin 8) (d : Fin 64) :
    val_main_v38 (F := Ideal) x0 x1 (ix5 n t g h d) = (((D.blk n g).zeroed.qn h t d : ℝ) : EReal) := by
  rw [val_main_v38_apply, show idx_main_v38 (ix5 n t g h d) = ix3 (pos n t) (hd g h) d by unfold hd pos; blk_ext [], v19_eq A]
  rfl

theorem v39_eq (n : Fin 32) (t : Fin 128) (g : Fin 4) (d : Fin 64) :
    val_main_v39 (F := Ideal) x0 x2 (ix4 n t g d) = ((nrm D.kg (D.k g (pos n t)) d : ℝ) : EReal) := by
  rw [val_main_v39_apply, show idx_main_v39 (ix4 n t g d) = ix3 (pos n t) g d by unfold pos; blk_ext [], v36_eq A]

theorem v46_eq (n : Fin 32) (t : Fin 128) (g : Fin 4) (d : Fin 64) :
    val_main_v46 (F := Ideal) x0 (ix4 n t g d) = ((D.v g (pos n t) d : ℝ) : EReal) := by
  rw [val_main_v46_apply, show idx_main_v46 (ix4 n t g d) = ix3 (pos n t) g d by unfold pos; blk_ext [], v37_eq A]

omit A in
/-- A window's row: nothing before the sequence, the block before, the block. -/
theorem window {f : Fin 4096 → ℝ} (D : Data) (n : Fin 32) (g : Fin 4) (s : Fin 256) {a : s.val < 128 → n.val < 1 → EReal}
    {b : s.val < 128 → ¬ n.val < 1 → EReal} {c : ¬ s.val < 128 → EReal} (ha : ∀ k k', a k k' = 0)
    (hb : ∀ (n' : Fin 32) (t : Fin 128) (k k'), n'.val = n.val - 1 → t.val = s.val → b k k' = ((f (pos n' t) : ℝ) : EReal))
    (hc : ∀ (t : Fin 128) (k), t.val = s.val - 128 → c k = ((f (pos n t) : ℝ) : EReal)) :
    (if k : s.val < 128 then if k' : n.val < 1 then a k k' else b k k' else c k) =
      (((if (D.blk n g).has s then f (wpos n s) else 0 : ℝ)) : EReal) := by
  have hs := s.isLt
  have hh : (D.blk n g).has s ↔ 128 ≤ s.val ∨ 0 < n.val := Iff.rfl
  by_cases h : s.val < 128
  · rw [dif_pos h]
    by_cases h0 : n.val < 1
    · rw [dif_pos h0, if_neg (by rw [hh]; omega), ha]; rfl
    · rw [dif_neg h0, if_pos (by rw [hh]; omega), hb ⟨n.val - 1, by omega⟩ ⟨s.val, h⟩ _ _ rfl rfl]
      unfold wpos wblk
      rw [if_pos h]
      simp only [Nat.mod_eq_of_lt h]
  · rw [dif_neg h, if_pos (by rw [hh]; omega), hc ⟨s.val - 128, by omega⟩ _ rfl]
    unfold wpos wblk
    rw [if_neg h]
    simp only [show s.val % 128 = s.val - 128 by omega]

theorem v45_eq (n : Fin 32) (s : Fin 256) (g : Fin 4) (d : Fin 64) :
    val_main_v45 (F := Ideal) x0 x2 (ix4 n s g d) = (((D.blk n g).zeroed.kn s d : ℝ) : EReal) := by
  have e : (D.blk n g).zeroed.kn s d = if (D.blk n g).has s then nrm D.kg (D.k g (wpos n s)) d else 0 := by
    by_cases h : (D.blk n g).has s
    · rw [if_pos h, Blk.zeroed_kn _ h]; rfl
    · simp [Blk.kn, Blk.zeroed, h, nrm, hat]
  rw [e]
  unfold val_main_v45 val_main_v43
  pointwise
  refine window (f := fun R => nrm D.kg (D.k g R) d) D n g s (fun _ _ => ?_) (fun n' t _ _ hn ht => ?_) fun t _ ht => ?_
  · simp only [val_main_v41_apply, val_main_cst_7_apply]; pointwise
  · simp only [val_main_v42_apply]
    rw [← v39_eq A]; blk_ext [hn, ht]
  · rw [← v39_eq A]; blk_ext [ht]

theorem v52_eq (n : Fin 32) (s : Fin 256) (g : Fin 4) (d : Fin 64) :
    val_main_v52 (F := Ideal) x0 (ix4 n s g d) = (((D.blk n g).zeroed.v s d : ℝ) : EReal) := by
  unfold val_main_v52 val_main_v50
  pointwise
  refine window (f := fun R => D.v g R d) D n g s (fun _ _ => ?_) (fun n' t _ _ hn ht => ?_) fun t _ ht => ?_
  · simp only [val_main_v48_apply, val_main_cst_9_apply]; pointwise
  · simp only [val_main_v49_apply]
    rw [← v46_eq A]; blk_ext [hn, ht]
  · rw [← v46_eq A]; blk_ext [ht]

end Cert.SwaRefIdeal.Proof

end
-- ==== Proof.SwaArgs.lean ====
/- The attention's arguments as real numbers: what the precondition gives. -/
module

public import proofs.«01_k».proof.Defs
public import proofs.«01_k».proof.Proof.Gen.Pre_swa_finite
public import proofs.«01_k».proof.Proof.SwaRefNorm
public import Idealize.ShloMosaic.Lib.ReduceAll
public import Idealize.ShloMosaic.Lib.Affine

@[expose] public section

set_option maxRecDepth 16384
set_option maxHeartbeats 4000000

noncomputable section

open Idealize.ShloMosaic Idealize.ShloMosaic.TcCoe Idealize.SL.Sem

namespace Cert.SwaRefIdeal.Proof

open Cert.SwaRefIdeal Cert.SwaRefIdeal.Gen Cert.SwaRefIdeal.Read _root_.Swa

/-- A value whose absolute value is below infinity is a real number. -/
theorem real_of_lt (x : Ideal .f32)
    (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  refine (EReal.coe_toReal ?_ ?_).symm
  · rintro rfl
    simp [Ideal.cmp] at h
  · rintro rfl
    simp [Ideal.cmp] at h

/-- An array whose absolute values are all below infinity holds real numbers. -/
theorem real_of_all {s : Shape} {axes : List (Fin s.rank)} (x : FVec Ideal s .f32) (w : FVec Ideal s .f32)
    (hw : ∀ i, w i = FloatOps.ofBits (F := Ideal) .f32 0x7F800000#32) (init : S_.Idx → BitVec 1) (h : s.ReducesTo axes S_) (hu : 0 < S_.numel)
    (e : Host.reduce IntOp.andi (cmpf .olt (Host.absf x) w) init h hu ix0 = 1#1) (i : s.Idx) :
    (x i : EReal) = ((EReal.toReal (x i) : ℝ) : EReal) := by
  have : Subsingleton S_.Idx := ⟨fun a b => funext fun k => k.elim0⟩
  have hi := Host.reduce_andi_all _ init h hu ix0 e i
  refine real_of_lt _ ?_
  rw [← hw i]
  exact hi

/-- A head's slope is a real number. -/
theorem slope_real (y : Fin 32) : ∃ r : ℝ, val_main_v98 (F := Ideal) (ix1 y) = ((r : ℝ) : EReal) := by
  have h1 : Ideal.ofBits .f32 1060205080#32 = ((11629080 / 16777216 : ℝ) : EReal) := by
    simp [Ideal.ofBits, Ideal.ieee, -EReal.coe_mul]; norm_num
  have h2 : Ideal.ofBits .f32 3238002688#32 = ((-8 : ℝ) : EReal) := by
    simp [Ideal.ofBits, Ideal.ieee, -EReal.coe_mul, -EReal.coe_neg]; norm_num
  have h3 : Ideal.ofBits .f32 1107296256#32 = ((32 : ℝ) : EReal) := by
    simp [Ideal.ofBits, Ideal.ieee, -EReal.coe_mul]; norm_num
  have h4 (b : BitVec 32) : (FloatOps.sitofp .f32 b : Ideal .f32) = ((b.toInt : ℝ) : EReal) := rfl
  pointwise [val_main_v98, val_main_v97, val_main_v96, val_main_v95, val_main_v94, val_main_v93, val_main_v92, val_main_v91, val_main_v90, val_main_v89,
    val_main_cst_17, val_main_cst_18, val_main_cst_19, val_main_cst_20]
  rw [h1, h2, h3, h4, ← EReal.coe_one, ← EReal.coe_add, ← EReal.coe_mul, div_real _ (by norm_num), ← EReal.coe_mul]
  exact ⟨_, rfl⟩

variable (x0 : FVec Ideal S4096x2560 .f32) (x1 x2 : FVec Ideal S64 .f32) (x3 : FVec Ideal S32 .f32) (x4 : FVec Ideal S4096x2048 .f32)

/-- The arguments' real numbers. -/
def data : Data where
  q g h R d := EReal.toReal (x0 (ix2 R ⟨512 * g.val + 64 * h.val + d.val, by omega⟩))
  k g R d := EReal.toReal (x0 (ix2 R ⟨2048 + 64 * g.val + d.val, by omega⟩))
  v g R d := EReal.toReal (x0 (ix2 R ⟨2304 + 64 * g.val + d.val, by omega⟩))
  o g h R d := EReal.toReal (x4 (ix2 R (qc g h d)))
  sk g h := EReal.toReal (x3 (ix1 (hd g h)))
  sl g h := EReal.toReal (val_main_v98 (F := Ideal) (ix1 (hd g h)))
  qg d := EReal.toReal (x1 (ix1 d))
  kg d := EReal.toReal (x2 (ix1 d))

theorem args (h : Cert.Pre_swa_finite.fn (F := Ideal) x0 x1 x2 x3 x4 = fun _ => 1#1) : Args (data x0 x1 x2 x3 x4) x0 x1 x2 x3 x4 := by
  have h := congrFun h ix0
  dsimp only [Cert.Pre_swa_finite.fn, Cert.Pre_swa_finite.fn_part1] at h
  simp only [andi, IntOp.andi_eq_one] at h
  obtain ⟨⟨⟨⟨h0, h1⟩, h2⟩, h3⟩, h4⟩ := h
  have r0 := real_of_all x0 _ (fun _ => rfl) _ _ _ h0
  have r1 := real_of_all x1 _ (fun _ => rfl) _ _ _ h1
  have r2 := real_of_all x2 _ (fun _ => rfl) _ _ _ h2
  have r3 := real_of_all x3 _ (fun _ => rfl) _ _ _ h3
  have r4 := real_of_all x4 _ (fun _ => rfl) _ _ _ h4
  exact {
    q := fun _ _ _ _ => r0 _
    k := fun _ _ _ => r0 _
    v := fun _ _ _ => r0 _
    o := fun _ _ _ _ => r4 _
    sk := fun _ _ => r3 _
    sl := fun g h => by
      obtain ⟨r, hr⟩ := slope_real (hd g h)
      show _ = ((EReal.toReal _ : ℝ) : EReal)
      rw [hr, EReal.toReal_coe]
    qg := fun _ => r1 _
    kg := fun _ => r2 _ }

end Cert.SwaRefIdeal.Proof
-- ==== Proof.SwaKernel.lean ====
/- What the backward kernel computes for one key/value group of a block of queries, as real numbers. -/
module

public import proofs.«01_k».proof.Proof.SwaReal
public import proofs.«01_k».proof.Proof.Gen.SwaIdeal.Skeleton

@[expose] public section

set_option maxRecDepth 16384
set_option maxHeartbeats 1000000

noncomputable section

open Idealize.ShloMosaic Idealize.ShloMosaic.TcCoe Idealize.SL.Sem

namespace Cert.SwaIdeal.Proof

open Cert.SwaIdeal Cert.SwaIdeal.Gen

/-- The values one group of a grid point reads: its coordinates, the window's keys and values, the heads' queries and
    output cotangents, slopes, sinks and the two gains. -/
structure Grp where
  i : grid0.Coords
  K : FVec Ideal S256x64 .f32
  V : FVec Ideal S256x64 .f32
  q : Vec Ideal S128x512 .f32
  o : Vec Ideal S128x512 .f32
  sl : Fin 8 → Elt Ideal .f32
  sk : Fin 8 → Elt Ideal .f32
  qg : FVec Ideal S1x64 .f32
  kg : FVec Ideal S1x64 .f32

namespace Grp

variable (G : Grp)

def rk : FVec Ideal S256x1 .f32 := k0_pay17 (mulf G.K G.K)
def khat : FVec Ideal S256x64 .f32 := k0_pay18 G.K (mulf G.K G.K)
def kn : FVec Ideal S256x64 .bf16 := k0_pay19 G.kg G.K (mulf G.K G.K)
def vv : FVec Ideal S256x64 .bf16 := truncf .bf16 G.V bitsLt_bf16_f32
def qn : FVec Ideal S1024x64 .bf16 := k0_pay24 G.qg G.q
def sc : FVec Ideal S1024x256 .f32 :=
  k0_pay31 (k0_pay11 G.i) k0_pay12 G.kn G.qn (k0_pay25 (G.sl 0)) (k0_pay26 (G.sl 1)) (k0_pay27 (G.sl 2)) (k0_pay28 (G.sl 3))
    (k0_pay29 (G.sl 4)) (G.sl 5) (G.sl 6) (G.sl 7)
def mx : FVec Ideal S1024x1 .f32 :=
  k0_pay32 (k0_pay11 G.i) k0_pay12 G.kn G.qn (k0_pay25 (G.sl 0)) (k0_pay26 (G.sl 1)) (k0_pay27 (G.sl 2)) (k0_pay28 (G.sl 3))
    (k0_pay29 (G.sl 4)) (G.sl 5) (G.sl 6) (G.sl 7) (G.sk 0) (G.sk 1) (G.sk 2) (G.sk 3) (G.sk 4) (G.sk 5) (G.sk 6) (G.sk 7)
def e : FVec Ideal S1024x256 .f32 :=
  k0_pay33 (k0_pay11 G.i) k0_pay12 G.kn G.qn (k0_pay25 (G.sl 0)) (k0_pay26 (G.sl 1)) (k0_pay27 (G.sl 2)) (k0_pay28 (G.sl 3))
    (k0_pay29 (G.sl 4)) (G.sl 5) (G.sl 6) (G.sl 7) (G.sk 0) (G.sk 1) (G.sk 2) (G.sk 3) (G.sk 4) (G.sk 5) (G.sk 6) (G.sk 7)
def es : FVec Ideal S1024x1 .f32 :=
  k0_pay34 (k0_pay11 G.i) k0_pay12 G.kn G.qn (k0_pay25 (G.sl 0)) (k0_pay26 (G.sl 1)) (k0_pay27 (G.sl 2)) (k0_pay28 (G.sl 3))
    (k0_pay29 (G.sl 4)) (G.sl 5) (G.sl 6) (G.sl 7) (G.sk 0) (G.sk 1) (G.sk 2) (G.sk 3) (G.sk 4) (G.sk 5) (G.sk 6) (G.sk 7)
def z : FVec Ideal S1024x1 .f32 :=
  k0_pay35 (k0_pay11 G.i) k0_pay12 G.kn G.qn (k0_pay25 (G.sl 0)) (k0_pay26 (G.sl 1)) (k0_pay27 (G.sl 2)) (k0_pay28 (G.sl 3))
    (k0_pay29 (G.sl 4)) (G.sl 5) (G.sl 6) (G.sl 7) (G.sk 0) (G.sk 1) (G.sk 2) (G.sk 3) (G.sk 4) (G.sk 5) (G.sk 6) (G.sk 7)
def p : FVec Ideal S1024x256 .f32 := k0_pay37 G.e G.z (Scalar.ofBits .f32 0x3F800000#32)
def ds : FVec Ideal S1024x256 .bf16 := k0_pay41 G.vv G.e G.z (Scalar.ofBits .f32 0x3F800000#32) G.o
def sd : FVec Ideal S1024x1 .f32 := k0_pay42 G.vv G.e G.es G.z (Scalar.ofBits .f32 0x3F800000#32) G.o
def dv : FVec Ideal S256x64 .f32 := k0_pay54 G.p (k0_pay38 G.o)
def dkn : FVec Ideal S256x64 .f32 := k0_pay55 G.qn G.ds
def dqn : FVec Ideal S1024x64 .f32 := k0_pay56 G.kn G.ds
def dq : FVec Ideal S128x512 .bf16 := k0_pay58 G.qg G.kn (k0_pay22 G.q) (k0_pay23 G.q) G.ds
def dk : FVec Ideal S256x64 .f32 :=
  k0_pay63 G.rk G.khat (k0_pay60 G.kg G.qn G.ds) (k0_pay61 G.kg G.khat G.qn G.ds) k0_pay62
def dqg (acc : FVec Ideal S1x64 .f32) : FVec Ideal S1x64 .f32 := k0_pay57 acc G.kn (k0_pay23 G.q) G.ds
def dkg (acc : FVec Ideal S1x64 .f32) : FVec Ideal S1x64 .f32 := k0_pay59 acc G.khat G.qn G.ds

end Grp

/-- Row `t` of head `h` in the eight heads stacked. -/
def row (h : Fin 8) (t : Fin 128) : Fin 1024 := ⟨128 * h.val + t.val, by omega⟩
/-- Column `d` of head `h` in the eight heads side by side. -/
def col (h : Fin 8) (d : Fin 64) : Fin 512 := ⟨64 * h.val + d.val, by omega⟩

/-- The group's values are the real numbers of `B`. -/
structure Rep (G : Grp) (B : Swa.Blk) : Prop where
  n : (G.i 0).val = B.n
  k : ∀ s d, G.K (ix2 s d) = ((B.k s d : ℝ) : EReal)
  v : ∀ s d, G.V (ix2 s d) = ((B.v s d : ℝ) : EReal)
  q : ∀ h t d, G.q (ix2 t (col h d)) = ((B.q h t d : ℝ) : EReal)
  o : ∀ h t d, G.o (ix2 t (col h d)) = ((B.o h t d : ℝ) : EReal)
  sl : ∀ h, G.sl h = ((B.sl h : ℝ) : EReal)
  sk : ∀ h, G.sk h = ((B.sk h : ℝ) : EReal)
  qg : ∀ d, G.qg (ix2 0 d) = ((B.qg d : ℝ) : EReal)
  kg : ∀ d, G.kg (ix2 0 d) = ((B.kg d : ℝ) : EReal)

/-- The queries stacked head after head. -/
theorem stack_q (q : Vec Ideal S128x512 .f32) (h : Fin 8) (t : Fin 128) (d : Fin 64) :
    k0_pay21 q (ix2 (row h t) d) = q (ix2 t (col h d)) := by
  obtain ⟨h, hh⟩ := h
  have ht := t.isLt
  unfold row col
  pointwise [k0_pay21]
  interval_cases h <;> (repeat (first | rw [dif_pos (by omega)] | rw [dif_neg (by omega)])) <;> blk_ext []

/-- Eight scalars broadcast to 128 rows each and stacked. -/
theorem ladder (f : Fin 8 → EReal) (h : Fin 8) (t : Fin 128) :
    (if _ : (row h t).val < 128 then f 0 else if _ : (row h t).val - 128 < 128 then f 1
      else if _ : (row h t).val - 128 - 128 < 128 then f 2 else if _ : (row h t).val - 128 - 128 - 128 < 128 then f 3
      else if _ : (row h t).val - 128 - 128 - 128 - 128 < 128 then f 4
      else if _ : (row h t).val - 128 - 128 - 128 - 128 - 128 < 128 then f 5
      else if _ : (row h t).val - 128 - 128 - 128 - 128 - 128 - 128 < 128 then f 6 else f 7) = f h := by
  have e : (row h t).val = 128 * h.val + t.val := rfl
  have ht := t.isLt
  rw [e]
  obtain ⟨h, hh⟩ := h
  interval_cases h <;> dsimp only <;> (repeat (first | rw [dif_pos (by omega)] | rw [dif_neg (by omega)])) <;> rfl

section

variable {G : Grp} {B : Swa.Blk} (R : Rep G B)
include R

theorem rk_eq (s : Fin 256) : G.rk (ix2 s 0) = ((Swa.rn (B.k s) : ℝ) : EReal) := by
  unfold Grp.rk
  pointwise [k0_pay17]
  simp only [R.k, ← EReal.coe_mul, Swa.coe_sum, Swa.f32_64, Swa.f32_eps, Swa.div_real _ (show (64 : ℝ) ≠ 0 by norm_num), ← EReal.coe_add]
  exact Swa.rsqrt_real (Swa.ms_pos _)

theorem khat_eq (s : Fin 256) (d : Fin 64) : G.khat (ix2 s d) = ((Swa.hat (B.k s) d : ℝ) : EReal) := by
  have h := rk_eq R s
  unfold Grp.rk at h
  unfold Grp.khat
  pointwise [k0_pay18]
  rw [h, R.k, ← EReal.coe_mul]; rfl

theorem kn_eq (s : Fin 256) (d : Fin 64) : G.kn (ix2 s d) = ((B.kn s d : ℝ) : EReal) := by
  have h := khat_eq R s d
  unfold Grp.khat at h
  unfold Grp.kn
  pointwise [k0_pay19]
  rw [h, R.kg, ← EReal.coe_mul]; rfl

end

end Cert.SwaIdeal.Proof
end
-- ==== Proof.SwaPoint.lean ====
/- What the backward kernel leaves at a grid point, by its four key/value groups. -/
module

public import proofs.«01_k».proof.Proof.SwaKernel
public import proofs.«01_k».proof.Proof.Gen.SwaIdeal.Frame
public import Idealize.ShloMosaic.Lib.Pipeline.RowLoads

@[expose] public section

set_option maxRecDepth 16384
set_option maxHeartbeats 4000000

noncomputable section

open Idealize.ShloMosaic Idealize.ShloMosaic.TcCoe Idealize.SL.Sem

namespace Cert.SwaIdeal.Proof

open Cert.SwaIdeal Cert.SwaIdeal.Gen

variable (m : (ℓ : Loc nD τ sig) → Buf (Elt Ideal) ℓ)

/-- The scalar of head `n` in a vector of 32. -/
def one (b : Vec Ideal S32 .f32) (n : Nat) (h : ∀ a, (![n] : Fin 1 → Nat) a + S1.size a ≤ S32.size a) : Elt Ideal .f32 :=
  View.ld b (Rect.unit ![n] ![1] h) (Shape.Idx.first (show 0 < S1.numel by decide))

/-- The scalars of the eight heads of a group. -/
def heads (b : Vec Ideal S32 .f32) : Fin 4 → Fin 8 → Elt Ideal .f32
  | 0, 0 => one b 0 inb_S32_S1_0
  | 0, 1 => one b 1 inb_S32_S1_1
  | 0, 2 => one b 2 inb_S32_S1_2
  | 0, 3 => one b 3 inb_S32_S1_3
  | 0, 4 => one b 4 inb_S32_S1_4
  | 0, 5 => one b 5 inb_S32_S1_5
  | 0, 6 => one b 6 inb_S32_S1_6
  | 0, 7 => one b 7 inb_S32_S1_7
  | 1, 0 => one b 8 inb_S32_S1_8
  | 1, 1 => one b 9 inb_S32_S1_9
  | 1, 2 => one b 10 inb_S32_S1_10
  | 1, 3 => one b 11 inb_S32_S1_11
  | 1, 4 => one b 12 inb_S32_S1_12
  | 1, 5 => one b 13 inb_S32_S1_13
  | 1, 6 => one b 14 inb_S32_S1_14
  | 1, 7 => one b 15 inb_S32_S1_15
  | 2, 0 => one b 16 inb_S32_S1_16
  | 2, 1 => one b 17 inb_S32_S1_17
  | 2, 2 => one b 18 inb_S32_S1_18
  | 2, 3 => one b 19 inb_S32_S1_19
  | 2, 4 => one b 20 inb_S32_S1_20
  | 2, 5 => one b 21 inb_S32_S1_21
  | 2, 6 => one b 22 inb_S32_S1_22
  | 2, 7 => one b 23 inb_S32_S1_23
  | 3, 0 => one b 24 inb_S32_S1_24
  | 3, 1 => one b 25 inb_S32_S1_25
  | 3, 2 => one b 26 inb_S32_S1_26
  | 3, 3 => one b 27 inb_S32_S1_27
  | 3, 4 => one b 28 inb_S32_S1_28
  | 3, 5 => one b 29 inb_S32_S1_29
  | 3, 6 => one b 30 inb_S32_S1_30
  | 3, 7 => one b 31 inb_S32_S1_31

/-- The 64 columns of a group in the keys or values. -/
def keys (x : FVec Ideal S256x256 .f32) : Fin 4 → FVec Ideal S256x64 .f32
  | 0 => extractStridedSlice S256x64 ![0, 0] x slices_S256x256_o0_0_S256x64
  | 1 => extractStridedSlice S256x64 ![0, 64] x slices_S256x256_o0_64_S256x64
  | 2 => extractStridedSlice S256x64 ![0, 128] x slices_S256x256_o0_128_S256x64
  | 3 => extractStridedSlice S256x64 ![0, 192] x slices_S256x256_o0_192_S256x64

/-- The 512 columns of a group in the queries or in the cotangent. -/
def cols (x : Vec Ideal S128x2048 .f32) : Fin 4 → Vec Ideal S128x512 .f32
  | 0 => View.ld x (Rect.unit ![0, 0] ![128, 512] inb_S128x2048_S128x512_0_0)
  | 1 => View.ld x (Rect.unit ![0, 512] ![128, 512] inb_S128x2048_S128x512_0_512)
  | 2 => View.ld x (Rect.unit ![0, 1024] ![128, 512] inb_S128x2048_S128x512_0_1024)
  | 3 => View.ld x (Rect.unit ![0, 1536] ![128, 512] inb_S128x2048_S128x512_0_1536)

/-- The blocks of the ten input windows at a grid point. -/
structure Blocks where
  i : grid0.Coords
  sk : Vec Ideal S32 .f32
  sl : Vec Ideal S32 .f32
  q : Vec Ideal S128x2048 .f32
  kc : Vec Ideal S128x256 .f32
  kp : Vec Ideal S128x256 .f32
  vc : Vec Ideal S128x256 .f32
  vp : Vec Ideal S128x256 .f32
  qg : Vec Ideal S1x64 .f32
  kg : Vec Ideal S1x64 .f32
  o : Vec Ideal S128x2048 .f32

/-- What group `g` reads of the blocks. -/
def Blocks.grp (B : Blocks) (g : Fin 4) : Grp where
  i := B.i
  K := keys (k0_pay6 B.kp B.kc) g
  V := keys (k0_pay7 B.vp B.vc) g
  q := cols B.q g
  o := cols B.o g
  sl := heads B.sl g
  sk := heads B.sk g
  qg := k0_pay9 B.qg
  kg := k0_pay8 B.kg

/-! The kernel spells groups 1, 2 and 3 in other pieces than group 0. -/

namespace Grp

variable (G : Grp)

/-- Group 1: the column of sinks, the row maxima, the scores less the maxima. -/
def c1 : FVec Ideal S1024x1 .f32 := k0_pay75 (G.sk 0) (G.sk 1) (G.sk 2) (G.sk 3) (G.sk 4) (G.sk 5) (G.sk 6) (G.sk 7)
@[inherit_doc c1] def m1 : FVec Ideal S1024x1 .f32 :=
  k0_pay77 (k0_pay11 G.i) k0_pay12 G.kn G.qn (k0_pay73 (G.sl 0)) (k0_pay74 (G.sl 1)) (G.sl 2) (G.sl 3) (G.sl 4) (G.sl 5) (G.sl 6) (G.sl 7)
    (G.sk 0) (G.sk 1) (G.sk 2) (G.sk 3) (G.sk 4) (G.sk 5) (G.sk 6) (G.sk 7)
@[inherit_doc c1] def s1 : FVec Ideal S1024x256 .f32 :=
  k0_pay78 (k0_pay11 G.i) k0_pay12 G.kn G.qn (k0_pay73 (G.sl 0)) (k0_pay74 (G.sl 1)) (G.sl 2) (G.sl 3) (G.sl 4) (G.sl 5) (G.sl 6) (G.sl 7)
    (G.sk 0) (G.sk 1) (G.sk 2) (G.sk 3) (G.sk 4) (G.sk 5) (G.sk 6) (G.sk 7)

/-- Group 2: the column of sinks, the scores before the mask. -/
def c2 : FVec Ideal S1024x1 .f32 := k0_pay120 (G.sk 0) (G.sk 1) (G.sk 2) (G.sk 3) (G.sk 4) (G.sk 5) (G.sk 6) (G.sk 7)
@[inherit_doc c2] def b2 : FVec Ideal S1024x256 .f32 :=
  k0_pay121 k0_pay12 G.kn (k0_pay118 G.qg G.q) (G.sl 0) (G.sl 1) (G.sl 2) (G.sl 3) (G.sl 4) (G.sl 5) (G.sl 6) (G.sl 7)

/-- Group 3: the columns of slopes and of sinks. -/
def l3 : FVec Ideal S1024x1 .f32 := k0_pay158 (G.sl 0) (G.sl 1) (G.sl 2) (G.sl 3) (G.sl 4) (G.sl 5) (G.sl 6) (G.sl 7)
@[inherit_doc l3] def c3 : FVec Ideal S1024x1 .f32 := k0_pay159 (G.sk 0) (G.sk 1) (G.sk 2) (G.sk 3) (G.sk 4) (G.sk 5) (G.sk 6) (G.sk 7)

theorem p_one : k0_pay82 G.c1 G.m1 G.s1 = G.p := rfl
theorem ds_one : k0_pay86 G.vv G.c1 G.m1 G.s1 G.o = G.ds := rfl
theorem sd_one : k0_pay87 G.vv G.c1 G.m1 G.s1 G.o = G.sd := rfl
theorem p_two : k0_pay127 (k0_pay11 G.i) G.c2 G.b2 (Named.named κ "mask" 0xF149F2CA#32) = G.p := rfl
theorem ds_two : k0_pay131 (k0_pay11 G.i) G.vv G.c2 G.b2 (Named.named κ "mask" 0xF149F2CA#32) G.o = G.ds := rfl
theorem sd_two : k0_pay132 (k0_pay11 G.i) G.vv G.c2 G.b2 (Named.named κ "mask" 0xF149F2CA#32) G.o = G.sd := rfl
theorem p_three : k0_pay165 (k0_pay11 G.i) k0_pay12 G.kn (k0_pay157 G.qg (k0_pay153 G.q) (k0_pay154 G.q)) G.l3 G.c3
    (constant S1024x256 .f32 0x00000000#32) = G.p := rfl
theorem ds_three : k0_pay169 (k0_pay11 G.i) k0_pay12 G.kn G.vv (k0_pay157 G.qg (k0_pay153 G.q) (k0_pay154 G.q)) G.l3 G.c3
    (constant S1024x256 .f32 0x00000000#32) G.o = G.ds := rfl
theorem sd_three : k0_pay170 (k0_pay11 G.i) k0_pay12 G.kn G.vv (k0_pay157 G.qg (k0_pay153 G.q) (k0_pay154 G.q)) G.l3 G.c3
    (constant S1024x256 .f32 0x00000000#32) G.o = G.sd := rfl

/-- A product of two equal pairs. -/
theorem dkn_of {qn : FVec Ideal S1024x64 .bf16} {ds : FVec Ideal S1024x256 .bf16} (hq : qn = G.qn) (hs : ds = G.ds) :
    k0_pay55 qn ds = G.dkn := by subst hq hs; rfl
@[inherit_doc dkn_of] theorem dv_of {p : FVec Ideal S1024x256 .f32} {o : FVec Ideal S1024x64 .bf16} (hp : p = G.p)
    (ho : o = k0_pay38 G.o) : k0_pay54 p o = G.dv := by subst hp ho; rfl

theorem dk_of {kg : FVec Ideal S1x64 .f32} {rk : FVec Ideal S256x1 .f32} {khat dkn : FVec Ideal S256x64 .f32}
    (hg : kg = G.kg) (hr : rk = G.rk) (hk : khat = G.khat) (hd : dkn = G.dkn) : k0_pay147 kg rk khat dkn = G.dk := by
  subst hg hr hk hd; rfl

end Grp

theorem dqg_step {acc acc' : FVec Ideal S1x64 .f32} (G : Grp) {kn : FVec Ideal S256x64 .bf16}
    {qhat : FVec Ideal S1024x64 .f32} {ds : FVec Ideal S1024x256 .bf16} (h : acc = acc') (hk : kn = G.kn)
    (hq : qhat = k0_pay23 G.q) (hs : ds = G.ds) : k0_pay57 acc kn qhat ds = G.dqg acc' := by
  subst h hk hq hs; rfl

theorem dkg_step {acc acc' : FVec Ideal S1x64 .f32} (G : Grp) {khat : FVec Ideal S256x64 .f32}
    {dkn : FVec Ideal S256x64 .f32} (h : acc = acc') (hk : khat = G.khat) (hd : dkn = G.dkn) :
    k0_pay146 acc khat dkn = G.dkg acc' := by
  subst h hk hd; rfl

theorem dq_of (G : Grp) {qg : FVec Ideal S1x64 .f32} {kn : FVec Ideal S256x64 .bf16} {rq : FVec Ideal S1024x1 .f32}
    {qhat : FVec Ideal S1024x64 .f32} {ds : FVec Ideal S1024x256 .bf16} (hg : qg = G.qg) (hk : kn = G.kn)
    (hr : rq = k0_pay22 G.q) (hq : qhat = k0_pay23 G.q) (hs : ds = G.ds) : k0_pay58 qg kn rq qhat ds = G.dq := by
  subst hg hk hr hq hs; rfl

/-- The four groups' gradients of the keys, side by side. -/
def Blocks.catK (B : Blocks) : FVec Ideal S256x256 .bf16 :=
  truncf .bf16 (concatenate S256x256 1 [⟨S256x64, (B.grp 0).dk⟩, ⟨S256x64, (B.grp 1).dk⟩, ⟨S256x64, (B.grp 2).dk⟩,
    ⟨S256x64, (B.grp 3).dk⟩] concatenates_S256x64_S256x64_S256x64_S256x64_S256x256_d1) bitsLt_bf16_f32

/-- The four groups' gradients of the values, side by side. -/
def Blocks.catV (B : Blocks) : FVec Ideal S256x256 .bf16 :=
  truncf .bf16 (concatenate S256x256 1 [⟨S256x64, (B.grp 0).dv⟩, ⟨S256x64, (B.grp 1).dv⟩, ⟨S256x64, (B.grp 2).dv⟩,
    ⟨S256x64, (B.grp 3).dv⟩] concatenates_S256x64_S256x64_S256x64_S256x64_S256x256_d1) bitsLt_bf16_f32

theorem catK_of (B : Blocks) {v10 : FVec Ideal S1x64 .f32} {d0 d1 d2 khat dkn : FVec Ideal S256x64 .f32}
    {rk : FVec Ideal S256x1 .f32} (h0 : d0 = (B.grp 0).dk) (h1 : d1 = (B.grp 1).dk) (h2 : d2 = (B.grp 2).dk)
    (hv : v10 = (B.grp 3).kg) (hr : rk = (B.grp 3).rk) (hk : khat = (B.grp 3).khat) (hd : dkn = (B.grp 3).dkn) :
    k0_pay199 v10 d0 d1 d2 rk khat dkn = B.catK := by
  subst h0 h1 h2 hv hr hk hd; rfl

theorem catV_of (B : Blocks) {d0 d1 d2 d3 : FVec Ideal S256x64 .f32} (h0 : d0 = (B.grp 0).dv)
    (h1 : d1 = (B.grp 1).dv) (h2 : d2 = (B.grp 2).dv) (h3 : d3 = (B.grp 3).dv) : k0_pay200 d0 d1 d2 d3 = B.catV := by
  subst h0 h1 h2 h3; rfl

/-- What the point adds to the gradient of the queries' gain, and of the keys'. -/
def Blocks.dqg (B : Blocks) : FVec Ideal S1x64 .f32 :=
  (B.grp 3).dqg ((B.grp 2).dqg ((B.grp 1).dqg ((B.grp 0).dqg k0_pay13)))
@[inherit_doc Blocks.dqg] def Blocks.dkg (B : Blocks) : FVec Ideal S1x64 .f32 :=
  (B.grp 3).dkg ((B.grp 2).dkg ((B.grp 1).dkg ((B.grp 0).dkg k0_pay14)))

theorem idx_ext {a b : Nat} {x y : Shape.Idx ⟨2, ![a, b]⟩} (h0 : (x 0).val = (y 0).val) (h1 : (x 1).val = (y 1).val) : x = y :=
  funext fun k => Fin.ext (match k with | 0 => h0 | 1 => h1)

/-- The 128 rows of a head in the eight stacked. -/
def cut (v : FVec Ideal S1024x1 .f32) : Fin 8 → FVec Ideal S128x1 .f32
  | 0 => extractStridedSlice S128x1 ![0, 0] v slices_S1024x1_o0_0_S128x1
  | 1 => extractStridedSlice S128x1 ![128, 0] v slices_S1024x1_o128_0_S128x1
  | 2 => extractStridedSlice S128x1 ![256, 0] v slices_S1024x1_o256_0_S128x1
  | 3 => extractStridedSlice S128x1 ![384, 0] v slices_S1024x1_o384_0_S128x1
  | 4 => extractStridedSlice S128x1 ![512, 0] v slices_S1024x1_o512_0_S128x1
  | 5 => extractStridedSlice S128x1 ![640, 0] v slices_S1024x1_o640_0_S128x1
  | 6 => extractStridedSlice S128x1 ![768, 0] v slices_S1024x1_o768_0_S128x1
  | 7 => extractStridedSlice S128x1 ![896, 0] v slices_S1024x1_o896_0_S128x1

/-- A row of sinks' gradients with a head's sum taken off. -/
def sinkRow (e : Fin 8) (sd : FVec Ideal S1024x1 .f32) (v : Vec Ideal S1x128 .f32) : FVec Ideal S1x128 .f32 :=
  addf (shapeCast S1x128 v shapeCasts_S1x128_S1x128) (subf (broadcast S1x128 (Scalar.ofBits .f32 0x00000000#32))
    (broadcast S1x128 (extractAt ![0, 0, 0] (shapeCast S1x1x1 (multiReduction .add [1, 2] S1
      (shapeCast S1x128x1 (cut sd e) shapeCasts_S128x1_S1x128x1) 0x00000000#32 reduces_S1x128x1_S1 (.inl rfl) rfl)
      shapeCasts_S1_S1x1x1) inpos_S1x1x1_p0_0_0)))

theorem cut_apply (sd : FVec Ideal S1024x1 .f32) (e : Fin 8) (t : Fin 128) : cut sd e (ix2 t 0) = sd (ix2 (row e t) 0) := by
  fin_cases e <;> (unfold cut row; pointwise; blk_ext)

theorem sinkRow_apply (e : Fin 8) (sd : FVec Ideal S1024x1 .f32) (v : Vec Ideal S1x128 .f32) (x : S1x128.Idx) :
    sinkRow e sd v x = v x + (0 - ∑ t : Fin 128, sd (ix2 (row e t) 0)) := by
  unfold sinkRow
  pointwise
  simp only [cut_apply, Fin.sum_univ_one, Fin.isValue]

/-- A load of what a store of the whole array left. -/
theorem fill_ld (v : View sig .tc .vmem S32x128 .f32) (w : Vec Ideal S32x128 .f32)
    (inb : ∀ a, (![0, 0] : Fin 2 → Nat) a + S32x128.size a ≤ S32x128.size a) (r : Rect S32x128) :
    v.readCov [(⟨Rect.unit ![0, 0] S32x128.size inb, w⟩ : View.Piece (Elt Ideal) S32x128 .f32)] r.toLoadRect = View.ld w r := by
  have h : (![0, 0] : Fin S32x128.rank → Nat) = fun _ => 0 := by decide
  rw [View.readCov_eq_canon_ld _ _ _ (fun y => ⟨_, List.mem_cons_self, by
    simp only [h]; show _ ∈ (Rect.whole S32x128).set; rw [Rect.set_whole]; exact Finset.mem_univ _⟩), View.canon_cons_unit_zero h]

/-- An earlier store does not show where later ones cover. -/
theorem canon_drop (q : View.Piece (Elt Ideal) S32x128 .f32) (L : List (View.Piece (Elt Ideal) S32x128 .f32)) (y : S32x128.Idx)
    (h : ∃ p ∈ L, y ∈ p.1.set) : View.canon (L ++ [q]) y = View.canon L y := by
  induction L with
  | nil => obtain ⟨p, hp, _⟩ := h; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨r, hr, hy⟩ := h
      rcases List.mem_cons.mp hr with rfl | hr
      · exact absurd hy hm
      · exact ih ⟨r, hr, hy⟩

theorem sink_piece (B : Blocks) (g' : Fin 4) (e' : Fin 8) (u : Vec Ideal S32x128 .f32) {n : Nat}
    {inb : ∀ a, (![n, 0] : Fin 2 → Nat) a + (![1, 128] : Fin 2 → Nat) a ≤ S32x128.size a} {sd : FVec Ideal S1024x1 .f32}
    {v : Vec Ideal S1x128 .f32} {y : S32x128.Idx} {x : S1x128.Idx} {g : Fin 4} {e : Fin 8} (hs : sd = (B.grp g').sd) (hv : v = View.ld u (Rect.unit ![n, 0] ![1, 128] inb)) (hn : n = 8 * g'.val + e'.val)
    (h0 : (y 0).val = n + (x 0).val) (h1 : (y 1).val = (x 1).val) (hy : (y 0).val = 8 * g.val + e.val) :
    sinkRow e' sd v x =
      u y + (0 - ∑ t : Fin 128, (B.grp g).sd (ix2 (row e t) 0)) := by
  have x0 : (x 0).val < 1 := (x 0).isLt
  obtain rfl : g' = g := Fin.ext (by omega)
  obtain rfl : e' = e := Fin.ext (by omega)
  subst hs hv
  rw [sinkRow_apply]
  congr 1
  exact congrArg u (idx_ext (by rw [h0]; simp) (by rw [h1]; simp))

variable (c : Dev nD) (B : Blocks)
  {a1 : Memref sig .tc .smem S32 .f32} {h1 : a1.IsWhole} {a2 : Memref sig .tc .smem S32 .f32} {h2 : a2.IsWhole} {a3 : Memref sig .tc .vmem S128x2048 .f32} {h3 : a3.IsWhole}
  {a4 : Memref sig .tc .vmem S128x256 .f32} {h4 : a4.IsWhole} {a5 : Memref sig .tc .vmem S128x256 .f32} {h5 : a5.IsWhole} {a6 : Memref sig .tc .vmem S128x256 .f32} {h6 : a6.IsWhole}
  {a7 : Memref sig .tc .vmem S128x256 .f32} {h7 : a7.IsWhole} {a8 : Memref sig .tc .vmem S1x64 .f32} {h8 : a8.IsWhole} {a9 : Memref sig .tc .vmem S1x64 .f32} {h9 : a9.IsWhole}
  {a10 : Memref sig .tc .vmem S128x2048 .f32} {h10 : a10.IsWhole} {a11 : Memref sig .tc .vmem S128x2048 .bf16} {h11 : a11.IsWhole} {a12 : Memref sig .tc .vmem S128x256 .bf16} {h12 : a12.IsWhole}
  {a13 : Memref sig .tc .vmem S128x256 .bf16} {h13 : a13.IsWhole} {a14 : Memref sig .tc .vmem S128x256 .bf16} {h14 : a14.IsWhole} {a15 : Memref sig .tc .vmem S128x256 .bf16} {h15 : a15.IsWhole}
  {a16 : Memref sig .tc .vmem S32x128 .f32} {h16 : a16.IsWhole} {a17 : Memref sig .tc .vmem S1x64 .f32} {h17 : a17.IsWhole} {a18 : Memref sig .tc .vmem S1x64 .f32} {h18 : a18.IsWhole}

theorem dqg_A {hc : _} (y : S1x64.Idx) :
    out0_A_16 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o y =
      k0_pay197 B.dqg (k0_pay4 (F := Ideal)) y := by
  frame_out
  refine congrArg (fun a => k0_pay197 a _ y) ?_
  exact dqg_step (B.grp 3) (dqg_step (B.grp 2) (dqg_step (B.grp 1) (dqg_step (B.grp 0) rfl rfl rfl rfl) rfl rfl (Grp.ds_one (B.grp 1)))
    rfl rfl (Grp.ds_two (B.grp 2))) rfl rfl (Grp.ds_three (B.grp 3))

theorem dqg_B {u : Vec Ideal S32x128 .f32} {v w : Vec Ideal S1x64 .f32} {hc : _} (y : S1x64.Idx) :
    out0_B_16 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o u v w y =
      k0_pay197 B.dqg v y := by
  frame_out
  refine congrArg (fun a => k0_pay197 a _ y) ?_
  exact dqg_step (B.grp 3) (dqg_step (B.grp 2) (dqg_step (B.grp 1) (dqg_step (B.grp 0) rfl rfl rfl rfl) rfl rfl (Grp.ds_one (B.grp 1)))
    rfl rfl (Grp.ds_two (B.grp 2))) rfl rfl (Grp.ds_three (B.grp 3))

theorem dkg_A {hc : _} (y : S1x64.Idx) :
    out0_A_17 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o y =
      k0_pay197 B.dkg (k0_pay5 (F := Ideal)) y := by
  frame_out
  refine congrArg (fun a => k0_pay197 a _ y) ?_
  exact dkg_step (B.grp 3) (dkg_step (B.grp 2) (dkg_step (B.grp 1) (dkg_step (B.grp 0) rfl rfl rfl) rfl (Grp.dkn_of (B.grp 1) rfl (Grp.ds_one (B.grp 1))))
    rfl (Grp.dkn_of (B.grp 2) rfl (Grp.ds_two (B.grp 2)))) rfl (Grp.dkn_of (B.grp 3) rfl (Grp.ds_three (B.grp 3)))

theorem dkg_B {u : Vec Ideal S32x128 .f32} {v w : Vec Ideal S1x64 .f32} {hc : _} (y : S1x64.Idx) :
    out0_B_17 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o u v w y =
      k0_pay197 B.dkg w y := by
  frame_out
  refine congrArg (fun a => k0_pay197 a _ y) ?_
  exact dkg_step (B.grp 3) (dkg_step (B.grp 2) (dkg_step (B.grp 1) (dkg_step (B.grp 0) rfl rfl rfl) rfl (Grp.dkn_of (B.grp 1) rfl (Grp.ds_one (B.grp 1))))
    rfl (Grp.dkn_of (B.grp 2) rfl (Grp.ds_two (B.grp 2)))) rfl (Grp.dkn_of (B.grp 3) rfl (Grp.ds_three (B.grp 3)))

theorem dkc_A {hc : _} (y : S128x256.Idx) :
    out0_A_11 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o y =
      k0_pay2 B.catK y := by
  frame_out
  exact congrArg (fun a => k0_pay2 a y) (catK_of B rfl (Grp.dk_of (B.grp 1) rfl rfl rfl (Grp.dkn_of (B.grp 1) rfl (Grp.ds_one (B.grp 1))))
    (Grp.dk_of (B.grp 2) rfl rfl rfl (Grp.dkn_of (B.grp 2) rfl (Grp.ds_two (B.grp 2)))) rfl rfl rfl (Grp.dkn_of (B.grp 3) rfl (Grp.ds_three (B.grp 3))))

theorem dkc_B {u : Vec Ideal S32x128 .f32} {v w : Vec Ideal S1x64 .f32} {hc : _} (y : S128x256.Idx) :
    out0_B_11 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o u v w y =
      k0_pay2 B.catK y := by
  frame_out
  exact congrArg (fun a => k0_pay2 a y) (catK_of B rfl (Grp.dk_of (B.grp 1) rfl rfl rfl (Grp.dkn_of (B.grp 1) rfl (Grp.ds_one (B.grp 1))))
    (Grp.dk_of (B.grp 2) rfl rfl rfl (Grp.dkn_of (B.grp 2) rfl (Grp.ds_two (B.grp 2)))) rfl rfl rfl (Grp.dkn_of (B.grp 3) rfl (Grp.ds_three (B.grp 3))))

theorem dkp_A {hc : _} (y : S128x256.Idx) :
    out0_A_12 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o y =
      k0_pay1 B.catK y := by
  frame_out
  exact congrArg (fun a => k0_pay1 a y) (catK_of B rfl (Grp.dk_of (B.grp 1) rfl rfl rfl (Grp.dkn_of (B.grp 1) rfl (Grp.ds_one (B.grp 1))))
    (Grp.dk_of (B.grp 2) rfl rfl rfl (Grp.dkn_of (B.grp 2) rfl (Grp.ds_two (B.grp 2)))) rfl rfl rfl (Grp.dkn_of (B.grp 3) rfl (Grp.ds_three (B.grp 3))))

theorem dkp_B {u : Vec Ideal S32x128 .f32} {v w : Vec Ideal S1x64 .f32} {hc : _} (y : S128x256.Idx) :
    out0_B_12 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o u v w y =
      k0_pay1 B.catK y := by
  frame_out
  exact congrArg (fun a => k0_pay1 a y) (catK_of B rfl (Grp.dk_of (B.grp 1) rfl rfl rfl (Grp.dkn_of (B.grp 1) rfl (Grp.ds_one (B.grp 1))))
    (Grp.dk_of (B.grp 2) rfl rfl rfl (Grp.dkn_of (B.grp 2) rfl (Grp.ds_two (B.grp 2)))) rfl rfl rfl (Grp.dkn_of (B.grp 3) rfl (Grp.ds_three (B.grp 3))))

theorem dvc_A {hc : _} (y : S128x256.Idx) :
    out0_A_13 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o y =
      k0_pay2 B.catV y := by
  frame_out
  exact congrArg (fun a => k0_pay2 a y) (catV_of B rfl (Grp.dv_of (B.grp 1) (Grp.p_one (B.grp 1)) rfl)
    (Grp.dv_of (B.grp 2) (Grp.p_two (B.grp 2)) rfl) (Grp.dv_of (B.grp 3) (Grp.p_three (B.grp 3)) rfl))

theorem dvc_B {u : Vec Ideal S32x128 .f32} {v w : Vec Ideal S1x64 .f32} {hc : _} (y : S128x256.Idx) :
    out0_B_13 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o u v w y =
      k0_pay2 B.catV y := by
  frame_out
  exact congrArg (fun a => k0_pay2 a y) (catV_of B rfl (Grp.dv_of (B.grp 1) (Grp.p_one (B.grp 1)) rfl)
    (Grp.dv_of (B.grp 2) (Grp.p_two (B.grp 2)) rfl) (Grp.dv_of (B.grp 3) (Grp.p_three (B.grp 3)) rfl))

theorem dvp_A {hc : _} (y : S128x256.Idx) :
    out0_A_14 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o y =
      k0_pay1 B.catV y := by
  frame_out
  exact congrArg (fun a => k0_pay1 a y) (catV_of B rfl (Grp.dv_of (B.grp 1) (Grp.p_one (B.grp 1)) rfl)
    (Grp.dv_of (B.grp 2) (Grp.p_two (B.grp 2)) rfl) (Grp.dv_of (B.grp 3) (Grp.p_three (B.grp 3)) rfl))

theorem dvp_B {u : Vec Ideal S32x128 .f32} {v w : Vec Ideal S1x64 .f32} {hc : _} (y : S128x256.Idx) :
    out0_B_14 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o u v w y =
      k0_pay1 B.catV y := by
  frame_out
  exact congrArg (fun a => k0_pay1 a y) (catV_of B rfl (Grp.dv_of (B.grp 1) (Grp.p_one (B.grp 1)) rfl)
    (Grp.dv_of (B.grp 2) (Grp.p_two (B.grp 2)) rfl) (Grp.dv_of (B.grp 3) (Grp.p_three (B.grp 3)) rfl))

theorem dq_A {hc : _} (y : S128x2048.Idx) (g : Fin 4) (z : S128x512.Idx)
    (hz0 : (y 0).val = (z 0).val) (hz1 : (y 1).val = 512 * g.val + (z 1).val) :
    out0_A_10 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o y =
      (B.grp g).dq z := by
  frame_out
  have z1 : (z 1).val < 512 := (z 1).isLt
  canon_tiles x h
  · obtain rfl : g = 3 := Fin.ext (show g.val = 3 by omega)
    obtain rfl : z = x := idx_ext (by omega) (by omega)
    exact congrFun (dq_of (B.grp 3) rfl rfl rfl rfl (Grp.ds_three (B.grp 3))) z
  · obtain rfl : g = 2 := Fin.ext (show g.val = 2 by omega)
    obtain rfl : z = x := idx_ext (by omega) (by omega)
    exact congrFun (dq_of (B.grp 2) rfl rfl rfl rfl (Grp.ds_two (B.grp 2))) z
  · obtain rfl : g = 1 := Fin.ext (show g.val = 1 by omega)
    obtain rfl : z = x := idx_ext (by omega) (by omega)
    exact congrFun (dq_of (B.grp 1) rfl rfl rfl rfl (Grp.ds_one (B.grp 1))) z
  · obtain rfl : g = 0 := Fin.ext (show g.val = 0 by omega)
    obtain rfl : z = x := idx_ext (by omega) (by omega)
    exact congrFun (dq_of (B.grp 0) rfl rfl rfl rfl rfl) z

theorem dq_B {u : Vec Ideal S32x128 .f32} {v w : Vec Ideal S1x64 .f32} {hc : _} (y : S128x2048.Idx) (g : Fin 4) (z : S128x512.Idx)
    (hz0 : (y 0).val = (z 0).val) (hz1 : (y 1).val = 512 * g.val + (z 1).val) :
    out0_B_10 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o u v w y =
      (B.grp g).dq z := by
  frame_out
  have z1 : (z 1).val < 512 := (z 1).isLt
  canon_tiles x h
  · obtain rfl : g = 3 := Fin.ext (show g.val = 3 by omega)
    obtain rfl : z = x := idx_ext (by omega) (by omega)
    exact congrFun (dq_of (B.grp 3) rfl rfl rfl rfl (Grp.ds_three (B.grp 3))) z
  · obtain rfl : g = 2 := Fin.ext (show g.val = 2 by omega)
    obtain rfl : z = x := idx_ext (by omega) (by omega)
    exact congrFun (dq_of (B.grp 2) rfl rfl rfl rfl (Grp.ds_two (B.grp 2))) z
  · obtain rfl : g = 1 := Fin.ext (show g.val = 1 by omega)
    obtain rfl : z = x := idx_ext (by omega) (by omega)
    exact congrFun (dq_of (B.grp 1) rfl rfl rfl rfl (Grp.ds_one (B.grp 1))) z
  · obtain rfl : g = 0 := Fin.ext (show g.val = 0 by omega)
    obtain rfl : z = x := idx_ext (by omega) (by omega)
    exact congrFun (dq_of (B.grp 0) rfl rfl rfl rfl rfl) z

theorem dsink_B {u : Vec Ideal S32x128 .f32} {v w : Vec Ideal S1x64 .f32} {hc : _} (y : S32x128.Idx) (g : Fin 4) (e : Fin 8)
    (hy : (y 0).val = 8 * g.val + e.val) :
    out0_B_15 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o u v w y =
      u y + (0 - ∑ t : Fin 128, (B.grp g).sd (ix2 (row e t) 0)) := by
  frame_out
  canon_tiles x h
  · exact sink_piece B 3 7 u (Grp.sd_three (B.grp 3)) rfl rfl h0 h1 hy
  · exact sink_piece B 3 6 u (Grp.sd_three (B.grp 3)) rfl rfl h0 h1 hy
  · exact sink_piece B 3 5 u (Grp.sd_three (B.grp 3)) rfl rfl h0 h1 hy
  · exact sink_piece B 3 4 u (Grp.sd_three (B.grp 3)) rfl rfl h0 h1 hy
  · exact sink_piece B 3 3 u (Grp.sd_three (B.grp 3)) rfl rfl h0 h1 hy
  · exact sink_piece B 3 2 u (Grp.sd_three (B.grp 3)) rfl rfl h0 h1 hy
  · exact sink_piece B 3 1 u (Grp.sd_three (B.grp 3)) rfl rfl h0 h1 hy
  · exact sink_piece B 3 0 u (Grp.sd_three (B.grp 3)) rfl rfl h0 h1 hy
  · exact sink_piece B 2 7 u (Grp.sd_two (B.grp 2)) rfl rfl h0 h1 hy
  · exact sink_piece B 2 6 u (Grp.sd_two (B.grp 2)) rfl rfl h0 h1 hy
  · exact sink_piece B 2 5 u (Grp.sd_two (B.grp 2)) rfl rfl h0 h1 hy
  · exact sink_piece B 2 4 u (Grp.sd_two (B.grp 2)) rfl rfl h0 h1 hy
  · exact sink_piece B 2 3 u (Grp.sd_two (B.grp 2)) rfl rfl h0 h1 hy
  · exact sink_piece B 2 2 u (Grp.sd_two (B.grp 2)) rfl rfl h0 h1 hy
  · exact sink_piece B 2 1 u (Grp.sd_two (B.grp 2)) rfl rfl h0 h1 hy
  · exact sink_piece B 2 0 u (Grp.sd_two (B.grp 2)) rfl rfl h0 h1 hy
  · exact sink_piece B 1 7 u (Grp.sd_one (B.grp 1)) rfl rfl h0 h1 hy
  · exact sink_piece B 1 6 u (Grp.sd_one (B.grp 1)) rfl rfl h0 h1 hy
  · exact sink_piece B 1 5 u (Grp.sd_one (B.grp 1)) rfl rfl h0 h1 hy
  · exact sink_piece B 1 4 u (Grp.sd_one (B.grp 1)) rfl rfl h0 h1 hy
  · exact sink_piece B 1 3 u (Grp.sd_one (B.grp 1)) rfl rfl h0 h1 hy
  · exact sink_piece B 1 2 u (Grp.sd_one (B.grp 1)) rfl rfl h0 h1 hy
  · exact sink_piece B 1 1 u (Grp.sd_one (B.grp 1)) rfl rfl h0 h1 hy
  · exact sink_piece B 1 0 u (Grp.sd_one (B.grp 1)) rfl rfl h0 h1 hy
  · exact sink_piece B 0 7 u rfl rfl rfl h0 h1 hy
  · exact sink_piece B 0 6 u rfl rfl rfl h0 h1 hy
  · exact sink_piece B 0 5 u rfl rfl rfl h0 h1 hy
  · exact sink_piece B 0 4 u rfl rfl rfl h0 h1 hy
  · exact sink_piece B 0 3 u rfl rfl rfl h0 h1 hy
  · exact sink_piece B 0 2 u rfl rfl rfl h0 h1 hy
  · exact sink_piece B 0 1 u rfl rfl rfl h0 h1 hy
  · exact sink_piece B 0 0 u rfl rfl rfl (by omega) h1 hy

theorem dsink_A {hc : _} (y : S32x128.Idx) (g : Fin 4) (e : Fin 8)
    (hy : (y 0).val = 8 * g.val + e.val) :
    out0_A_15 c B.i a1 h1 a2 h2 a3 h3 a4 h4 a5 h5 a6 h6 a7 h7 a8 h8 a9 h9 a10 h10 a11 h11 a12 h12 a13 h13 a14 h14 a15 h15
      a16 h16 a17 h17 a18 h18 hc B.sk B.sl B.q B.kc B.kp B.vc B.vp B.qg B.kg B.o y =
      (k0_pay3 (F := Ideal)) y + (0 - ∑ t : Fin 128, (B.grp g).sd (ix2 (row e t) 0)) := by
  frame_out
  refine (canon_drop _ [_, _, _, _, _, _, _, _, _, _, _, _, _, _, _, _, _, _, _, _, _, _, _, _, _, _, _, _, _, _, _, _] y
    (View.cover_of_tiledL _ ![1, 128] (by rfl) y)).trans ?_
  canon_tiles x h
  case' piece0 => refine sink_piece B 3 7 (k0_pay3 (F := Ideal)) (n := 31) (inb := inb_S32x128_S1x128_31_0) (Grp.sd_three (B.grp 3)) ?_ rfl h0 h1 hy
  case' piece1 => refine sink_piece B 3 6 (k0_pay3 (F := Ideal)) (n := 30) (inb := inb_S32x128_S1x128_30_0) (Grp.sd_three (B.grp 3)) ?_ rfl h0 h1 hy
  case' piece2 => refine sink_piece B 3 5 (k0_pay3 (F := Ideal)) (n := 29) (inb := inb_S32x128_S1x128_29_0) (Grp.sd_three (B.grp 3)) ?_ rfl h0 h1 hy
  case' piece3 => refine sink_piece B 3 4 (k0_pay3 (F := Ideal)) (n := 28) (inb := inb_S32x128_S1x128_28_0) (Grp.sd_three (B.grp 3)) ?_ rfl h0 h1 hy
  case' piece4 => refine sink_piece B 3 3 (k0_pay3 (F := Ideal)) (n := 27) (inb := inb_S32x128_S1x128_27_0) (Grp.sd_three (B.grp 3)) ?_ rfl h0 h1 hy
  case' piece5 => refine sink_piece B 3 2 (k0_pay3 (F := Ideal)) (n := 26) (inb := inb_S32x128_S1x128_26_0) (Grp.sd_three (B.grp 3)) ?_ rfl h0 h1 hy
  case' piece6 => refine sink_piece B 3 1 (k0_pay3 (F := Ideal)) (n := 25) (inb := inb_S32x128_S1x128_25_0) (Grp.sd_three (B.grp 3)) ?_ rfl h0 h1 hy
  case' piece7 => refine sink_piece B 3 0 (k0_pay3 (F := Ideal)) (n := 24) (inb := inb_S32x128_S1x128_24_0) (Grp.sd_three (B.grp 3)) ?_ rfl h0 h1 hy
  case' piece8 => refine sink_piece B 2 7 (k0_pay3 (F := Ideal)) (n := 23) (inb := inb_S32x128_S1x128_23_0) (Grp.sd_two (B.grp 2)) ?_ rfl h0 h1 hy
  case' piece9 => refine sink_piece B 2 6 (k0_pay3 (F := Ideal)) (n := 22) (inb := inb_S32x128_S1x128_22_0) (Grp.sd_two (B.grp 2)) ?_ rfl h0 h1 hy
  case' piece10 => refine sink_piece B 2 5 (k0_pay3 (F := Ideal)) (n := 21) (inb := inb_S32x128_S1x128_21_0) (Grp.sd_two (B.grp 2)) ?_ rfl h0 h1 hy
  case' piece11 => refine sink_piece B 2 4 (k0_pay3 (F := Ideal)) (n := 20) (inb := inb_S32x128_S1x128_20_0) (Grp.sd_two (B.grp 2)) ?_ rfl h0 h1 hy
  case' piece12 => refine sink_piece B 2 3 (k0_pay3 (F := Ideal)) (n := 19) (inb := inb_S32x128_S1x128_19_0) (Grp.sd_two (B.grp 2)) ?_ rfl h0 h1 hy
  case' piece13 => refine sink_piece B 2 2 (k0_pay3 (F := Ideal)) (n := 18) (inb := inb_S32x128_S1x128_18_0) (Grp.sd_two (B.grp 2)) ?_ rfl h0 h1 hy
  case' piece14 => refine sink_piece B 2 1 (k0_pay3 (F := Ideal)) (n := 17) (inb := inb_S32x128_S1x128_17_0) (Grp.sd_two (B.grp 2)) ?_ rfl h0 h1 hy
  case' piece15 => refine sink_piece B 2 0 (k0_pay3 (F := Ideal)) (n := 16) (inb := inb_S32x128_S1x128_16_0) (Grp.sd_two (B.grp 2)) ?_ rfl h0 h1 hy
  case' piece16 => refine sink_piece B 1 7 (k0_pay3 (F := Ideal)) (n := 15) (inb := inb_S32x128_S1x128_15_0) (Grp.sd_one (B.grp 1)) ?_ rfl h0 h1 hy
  case' piece17 => refine sink_piece B 1 6 (k0_pay3 (F := Ideal)) (n := 14) (inb := inb_S32x128_S1x128_14_0) (Grp.sd_one (B.grp 1)) ?_ rfl h0 h1 hy
  case' piece18 => refine sink_piece B 1 5 (k0_pay3 (F := Ideal)) (n := 13) (inb := inb_S32x128_S1x128_13_0) (Grp.sd_one (B.grp 1)) ?_ rfl h0 h1 hy
  case' piece19 => refine sink_piece B 1 4 (k0_pay3 (F := Ideal)) (n := 12) (inb := inb_S32x128_S1x128_12_0) (Grp.sd_one (B.grp 1)) ?_ rfl h0 h1 hy
  case' piece20 => refine sink_piece B 1 3 (k0_pay3 (F := Ideal)) (n := 11) (inb := inb_S32x128_S1x128_11_0) (Grp.sd_one (B.grp 1)) ?_ rfl h0 h1 hy
  case' piece21 => refine sink_piece B 1 2 (k0_pay3 (F := Ideal)) (n := 10) (inb := inb_S32x128_S1x128_10_0) (Grp.sd_one (B.grp 1)) ?_ rfl h0 h1 hy
  case' piece22 => refine sink_piece B 1 1 (k0_pay3 (F := Ideal)) (n := 9) (inb := inb_S32x128_S1x128_9_0) (Grp.sd_one (B.grp 1)) ?_ rfl h0 h1 hy
  case' piece23 => refine sink_piece B 1 0 (k0_pay3 (F := Ideal)) (n := 8) (inb := inb_S32x128_S1x128_8_0) (Grp.sd_one (B.grp 1)) ?_ rfl h0 h1 hy
  case' piece24 => refine sink_piece B 0 7 (k0_pay3 (F := Ideal)) (n := 7) (inb := inb_S32x128_S1x128_7_0) rfl ?_ rfl h0 h1 hy
  case' piece25 => refine sink_piece B 0 6 (k0_pay3 (F := Ideal)) (n := 6) (inb := inb_S32x128_S1x128_6_0) rfl ?_ rfl h0 h1 hy
  case' piece26 => refine sink_piece B 0 5 (k0_pay3 (F := Ideal)) (n := 5) (inb := inb_S32x128_S1x128_5_0) rfl ?_ rfl h0 h1 hy
  case' piece27 => refine sink_piece B 0 4 (k0_pay3 (F := Ideal)) (n := 4) (inb := inb_S32x128_S1x128_4_0) rfl ?_ rfl h0 h1 hy
  case' piece28 => refine sink_piece B 0 3 (k0_pay3 (F := Ideal)) (n := 3) (inb := inb_S32x128_S1x128_3_0) rfl ?_ rfl h0 h1 hy
  case' piece29 => refine sink_piece B 0 2 (k0_pay3 (F := Ideal)) (n := 2) (inb := inb_S32x128_S1x128_2_0) rfl ?_ rfl h0 h1 hy
  case' piece30 => refine sink_piece B 0 1 (k0_pay3 (F := Ideal)) (n := 1) (inb := inb_S32x128_S1x128_1_0) rfl ?_ rfl h0 h1 hy
  case' piece31 => refine sink_piece B 0 0 (k0_pay3 (F := Ideal)) (n := 0) (inb := inb_S32x128_S1x128_0_0) rfl ?_ rfl (by omega) h1 hy
  all_goals
    repeat refine (View.readCov_cons_of_rows_disjoint (k := 1) (k' := 1) (m := 32) (n := 128) _ _ _ (by decide) _ _ _ _).trans ?_
  all_goals exact fill_ld _ _ _ _
end Cert.SwaIdeal.Proof
end
-- ==== Proof.SwaStage.lean ====
/- The stages of the backward kernel of one group, each the coerced real number of the attention's formulas. -/
module

public import proofs.«01_k».proof.Proof.SwaKernel
public import Idealize.ShloMosaic.Lib.WordCmp

@[expose] public section

set_option maxRecDepth 16384
set_option maxHeartbeats 1000000

noncomputable section

open Idealize.ShloMosaic Idealize.ShloMosaic.TcCoe Idealize.SL.Sem

namespace Cert.SwaIdeal.Proof

open Cert.SwaIdeal Cert.SwaIdeal.Gen

/-- A small number's word is the number. -/
theorem toInt_small {n : ℕ} (h : n < 2 ^ 31) : (BitVec.ofNat 32 n).toInt = n := by
  rw [BitVec.toInt_eq_toNat_cond, BitVec.toNat_ofNat, Nat.mod_eq_of_lt (by omega), if_pos (by omega)]

/-- The constant one. -/
theorem word_one : (Scalar.ofBits .f32 0x3F800000#32 : Ideal .f32) = (1 : EReal) := by
  change Ideal.ofBits .f32 0x3F800000#32 = _
  rw [Swa.f32_one, EReal.coe_one]

/-- The distance from a query to a row of its window, as a word. -/
theorem dist_toInt (h : Fin 8) (t : Fin 128) (s : Fin 256) :
    (k0_pay10 (ix2 (row h t) s)).toInt = (t.val : ℤ) + 128 - s.val := by
  have e : k0_pay10 (ix2 (row h t) s) = (BitVec.ofNat 32 (row h t).val &&& 127#32) + 128#32 - BitVec.ofNat 32 s.val := by
    pointwise [k0_pay10]; rfl
  have e2 : BitVec.ofNat 32 (row h t).val &&& 127#32 = BitVec.ofNat 32 t.val := by
    apply BitVec.eq_of_toNat_eq
    rw [BitVec.toNat_and]
    simp only [BitVec.toNat_ofNat]
    have h1 := h.isLt
    have h2 := t.isLt
    have : (row h t).val = 128 * h.val + t.val := rfl
    rw [Nat.mod_eq_of_lt (by omega : (row h t).val < 2 ^ 32), Nat.mod_eq_of_lt (by omega : t.val < 2 ^ 32), this,
      show (127 % 2 ^ 32) = 2 ^ 7 - 1 by norm_num, Nat.and_two_pow_sub_one_eq_mod]
    omega
  rw [e, e2]
  have h2 := t.isLt
  have h3 := s.isLt
  have ht : (BitVec.ofNat 32 t.val).toInt = t.val := by
    exact toInt_small (by omega)
  have hs : (BitVec.ofNat 32 s.val).toInt = s.val := by
    exact toInt_small (by omega)
  have ha : (BitVec.ofNat 32 t.val + 128#32).toInt = t.val + 128 := by
    rw [BitVec.toInt_add, ht, show (128#32).toInt = 128 from rfl, Int.bmod_eq_of_le] <;> omega
  rw [BitVec.toInt_sub, ha, hs, Int.bmod_eq_of_le] <;> omega

/-- The mask is set exactly where the query sees the row. -/
theorem mask_eq {G : Grp} {B : Swa.Blk} (R : Rep G B) (h : Fin 8) (t : Fin 128) (s : Fin 256) :
    k0_pay11 G.i (ix2 (row h t) s) = BitVec.ofBool (decide (B.ok t s)) := by
  have hd := dist_toInt h t s
  have hn := R.n
  have hi : (G.i 0).val < 32 := (G.i 0).isLt
  pointwise [k0_pay11]
  have hs : (BitVec.ofNat 32 s.val).toInt = s.val := by
    exact toInt_small (by omega)
  have hg : (BitVec.ofNat 32 (G.i 0).val).toInt = (G.i 0).val := by
    exact toInt_small (by omega)
  have hb : ∀ a b : Bool, IntOp.andi (BitVec.ofBool a) (BitVec.ofBool b) = BitVec.ofBool (a && b) := by decide
  have ho : ∀ a b : Bool, IntOp.ori (BitVec.ofBool a) (BitVec.ofBool b) = BitVec.ofBool (a || b) := by decide
  change IntOp.andi _ (IntOp.ori _ (IntOp.cmpi _ _ _)) = _
  rw [WordCmp.cmpi_sge_eq, WordCmp.cmpi_slt_eq, WordCmp.cmpi_sge_eq, WordCmp.cmpi_sgt_eq, hd, hs, hg, hb, ho, hb, show (0#32).toInt = 0 from rfl,
    show (128#32).toInt = 128 from rfl, ← Bool.decide_and, ← Bool.decide_or, ← Bool.decide_and]
  congr 1
  refine decide_eq_decide.mpr ?_
  unfold Swa.Blk.ok
  rw [← hn]
  omega

/-- The distance as a real number. -/
theorem distf_eq (h : Fin 8) (t : Fin 128) (s : Fin 256) :
    k0_pay12 (F := Ideal) (ix2 (row h t) s) = (((t.val : ℝ) + 128 - (s.val : ℝ) : ℝ) : EReal) := by
  have hd := dist_toInt h t s
  have e : k0_pay12 (F := Ideal) (ix2 (row h t) s) = (((k0_pay10 (ix2 (row h t) s)).toInt : ℝ) : EReal) := by
    unfold k0_pay12; rfl
  rw [e, hd]
  push_cast
  rfl

/-- A sum over the stacked rows is one over the heads and their rows. -/
theorem sum_rows {M : Type*} [AddCommMonoid M] (f : Fin 1024 → M) : (∑ r, f r) = ∑ h, ∑ t, f (row h t) := by
  rw [← Fintype.sum_prod_type' (f := fun h t => f (row h t))]
  refine (Fintype.sum_equiv (finProdFinEquiv (m := 8) (n := 128)) _ _ fun p => ?_).symm
  congr 1
  apply Fin.ext
  change 128 * p.1.val + p.2.val = p.2.val + 128 * p.1.val
  omega

/-- A row of the queries' gradient before the heads are put side by side. -/
def Grp.dqRow (G : Grp) (r : Fin 1024) (c : Fin 64) : EReal :=
  k0_pay22 G.q (ix2 r 0) * (k0_pay56 G.kn G.ds (ix2 r c) * G.qg (ix2 0 c) - k0_pay23 G.q (ix2 r c) *
    Ideal.div (∑ x, k0_pay56 G.kn G.ds (ix2 r x) * G.qg (ix2 0 x) * k0_pay23 G.q (ix2 r x)) (Ideal.ofBits .f32 0x42800000#32))

section

variable {G : Grp} {B : Swa.Blk} (R : Rep G B)
include R

theorem rq_eq (h : Fin 8) (t : Fin 128) : k0_pay22 G.q (ix2 (row h t) 0) = ((Swa.rn (B.q h t) : ℝ) : EReal) := by
  pointwise [k0_pay22]
  simp only [stack_q, R.q, ← EReal.coe_mul, Swa.coe_sum, Swa.f32_64, Swa.f32_eps, Swa.div_real _ (show (64 : ℝ) ≠ 0 by norm_num), ← EReal.coe_add]
  exact Swa.rsqrt_real (Swa.ms_pos _)

theorem qhat_eq (h : Fin 8) (t : Fin 128) (d : Fin 64) : k0_pay23 G.q (ix2 (row h t) d) = ((Swa.hat (B.q h t) d : ℝ) : EReal) := by
  pointwise [k0_pay23]
  rw [rq_eq R, stack_q, R.q, ← EReal.coe_mul]; rfl

theorem qn_eq (h : Fin 8) (t : Fin 128) (d : Fin 64) : G.qn (ix2 (row h t) d) = ((B.qn h t d : ℝ) : EReal) := by
  unfold Grp.qn
  pointwise [k0_pay24]
  rw [qhat_eq R, R.qg, ← EReal.coe_mul]; rfl

/-- A score: the real one where the query sees the row, `⊥` elsewhere. -/
theorem sc_eq (h : Fin 8) (t : Fin 128) (s : Fin 256) :
    G.sc (ix2 (row h t) s) = if B.ok t s then ((B.sc h t s : ℝ) : EReal) else ⊥ := by
  have hl := ladder G.sl h t
  have hm := mask_eq R h t s
  have hq := qn_eq R h t
  have hk := kn_eq R s
  have hf := distf_eq h t s
  unfold Grp.sc
  pointwise [k0_pay31, k0_pay25, k0_pay26, k0_pay27, k0_pay28, k0_pay29]
  rw [hm, hl, hf, R.sl]
  simp only [hq, hk, ← EReal.coe_mul, Swa.coe_sum, Swa.f32_eighth, ← EReal.coe_sub]
  by_cases hok : B.ok t s
  · simp [hok, Scalar.select, Swa.Blk.sc]
  · rw [if_neg hok, decide_eq_false hok]
    exact IdealRules.named_const.ideal_named_scalar _ _ _ _ rfl

/-- The stacked sink column. -/
theorem sinkcol_eq (h : Fin 8) (t : Fin 128) :
    k0_pay30 (G.sk 0) (G.sk 1) (G.sk 2) (G.sk 3) (G.sk 4) (G.sk 5) (G.sk 6) (G.sk 7) (ix2 (row h t) 0) = ((B.sk h : ℝ) : EReal) := by
  have hl := ladder G.sk h t
  pointwise [k0_pay30]
  rw [hl, R.sk]

/-- The row's shift is a real number, so the exponentials are those of the shifted scores. -/
theorem shift (h : Fin 8) (t : Fin 128) : ∃ m : ℝ,
    (∀ s, G.e (ix2 (row h t) s) = ((Swa.exm (B.ok t) (B.sc h t) m s : ℝ) : EReal)) ∧
    G.es (ix2 (row h t) 0) = ((Real.exp (B.sk h - m) : ℝ) : EReal) ∧
    G.z (ix2 (row h t) 0) = ((Swa.Zm (B.ok t) (B.sc h t) (B.sk h) m : ℝ) : EReal) := by
  have hsc := sc_eq R h t
  have hsk := sinkcol_eq R h t
  have hm : ∃ m : ℝ, G.mx (ix2 (row h t) 0) = (m : EReal) := by
    unfold Grp.mx
    pointwise [k0_pay32]
    rw [hsk, Swa.f32_neg_inf]
    refine Swa.max_real (Swa.fold_max_lt_top _ _ fun s => ?_) _
    change G.sc (ix2 (row h t) s) < ⊤
    rw [hsc]
    split_ifs
    · exact EReal.coe_lt_top _
    · exact bot_lt_top
  obtain ⟨m, hm⟩ := hm
  have he : ∀ s, G.e (ix2 (row h t) s) = ((Swa.exm (B.ok t) (B.sc h t) m s : ℝ) : EReal) := fun s => by
    have h1 := hsc s
    unfold Grp.sc at h1
    have h2 := hm
    unfold Grp.mx at h2
    unfold Grp.e
    pointwise [k0_pay33]
    rw [h1, h2, Swa.exm]
    split_ifs
    · rw [← EReal.coe_sub, Ideal.exp_coe]
    · rw [EReal.bot_sub]
      exact Ideal.exp_bot
  have hes : G.es (ix2 (row h t) 0) = ((Real.exp (B.sk h - m) : ℝ) : EReal) := by
    have h2 := hm
    unfold Grp.mx at h2
    unfold Grp.es
    pointwise [k0_pay34]
    rw [hsk, h2, ← EReal.coe_sub, Ideal.exp_coe]
  refine ⟨m, he, hes, ?_⟩
  have h1 := he
  unfold Grp.e at h1
  have h2 := hes
  unfold Grp.es at h2
  unfold Grp.z
  pointwise [k0_pay35]
  simp only [h1, h2, Swa.coe_sum, ← EReal.coe_add]
  rfl

theorem p_eq (h : Fin 8) (t : Fin 128) (s : Fin 256) : G.p (ix2 (row h t) s) = ((B.prob h t s : ℝ) : EReal) := by
  obtain ⟨m, he, hes, hz⟩ := shift R h t
  unfold Grp.p
  pointwise [k0_pay37, k0_pay36]
  rw [he, hz, ← EReal.coe_one, Swa.div_real _ (Swa.Zm_ne _ _ _ _), ← EReal.coe_mul, mul_one_div, Swa.exm_div]
  rfl

/-- The output cotangents stacked head after head. -/
theorem do_eq (h : Fin 8) (t : Fin 128) (d : Fin 64) : k0_pay38 G.o (ix2 (row h t) d) = ((B.o h t d : ℝ) : EReal) := by
  have e : k0_pay38 G.o (ix2 (row h t) d) = k0_pay21 G.o (ix2 (row h t) d) := by
    unfold k0_pay38 k0_pay21; rfl
  rw [e, stack_q, R.o]

theorem vv_eq (s : Fin 256) (d : Fin 64) : G.vv (ix2 s d) = ((B.v s d : ℝ) : EReal) := R.v s d

theorem dp_eq (h : Fin 8) (t : Fin 128) (s : Fin 256) : k0_pay39 G.vv G.o (ix2 (row h t) s) = ((B.dp h t s : ℝ) : EReal) := by
  pointwise [k0_pay39]
  simp only [do_eq R, vv_eq R, ← EReal.coe_mul, Swa.coe_sum]
  rfl

theorem delta_eq (h : Fin 8) (t : Fin 128) :
    k0_pay40 G.vv G.e G.z (Scalar.ofBits .f32 0x3F800000#32) G.o (ix2 (row h t) 0) = ((B.del h t : ℝ) : EReal) := by
  have hp := p_eq R h t
  unfold Grp.p at hp
  simp only [word_one] at hp
  pointwise [k0_pay40]
  simp only [hp, dp_eq R, ← EReal.coe_mul, Swa.coe_sum]
  rfl

theorem ds_eq (h : Fin 8) (t : Fin 128) (s : Fin 256) : G.ds (ix2 (row h t) s) = ((B.dsc h t s : ℝ) : EReal) := by
  have hp := p_eq R h t s
  unfold Grp.p at hp
  simp only [word_one] at hp
  have hd := delta_eq R h t
  rw [word_one] at hd
  unfold Grp.ds
  pointwise [k0_pay41]
  rw [hp, dp_eq R, hd, ← EReal.coe_sub, ← EReal.coe_mul]
  rfl

/-- The sink's probability times the mean cotangent. -/
theorem sd_eq (h : Fin 8) (t : Fin 128) :
    G.sd (ix2 (row h t) 0) = ((Swa.Ps (B.ok t) (B.sc h t) (B.sk h) * B.del h t : ℝ) : EReal) := by
  obtain ⟨m, he, hes, hz⟩ := shift R h t
  have hd := delta_eq R h t
  rw [word_one] at hd
  unfold Grp.sd
  pointwise [k0_pay42, k0_pay36]
  rw [hes, hz, hd, ← EReal.coe_one, Swa.div_real _ (Swa.Zm_ne _ _ _ _), ← EReal.coe_mul, mul_one_div, Swa.exps_div, ← EReal.coe_mul]

theorem dv_eq (s : Fin 256) (d : Fin 64) : G.dv (ix2 s d) = ((B.dv s d : ℝ) : EReal) := by
  unfold Grp.dv
  pointwise [k0_pay54]
  rw [sum_rows]
  simp only [p_eq R, do_eq R, ← EReal.coe_mul, Swa.coe_sum]
  rfl

theorem dkn_eq (s : Fin 256) (d : Fin 64) : G.dkn (ix2 s d) = ((B.dkn s d : ℝ) : EReal) := by
  unfold Grp.dkn
  pointwise [k0_pay55]
  rw [sum_rows]
  simp only [ds_eq R, qn_eq R, ← EReal.coe_mul, Swa.coe_sum, Swa.f32_eighth]
  rfl

theorem dqn_eq (h : Fin 8) (t : Fin 128) (d : Fin 64) : G.dqn (ix2 (row h t) d) = ((B.dqn h t d : ℝ) : EReal) := by
  unfold Grp.dqn
  pointwise [k0_pay56]
  simp only [ds_eq R, kn_eq R, ← EReal.coe_mul, Swa.coe_sum, Swa.f32_eighth]
  rfl

set_option maxHeartbeats 8000000 in
theorem dq_eq (h : Fin 8) (t : Fin 128) (d : Fin 64) : G.dq (ix2 t (col h d)) = ((B.dq h t d : ℝ) : EReal) := by
  have hn := dqn_eq R h t
  unfold Grp.dqn at hn
  have e : G.dq (ix2 t (col h d)) = G.dqRow (row h t) d := by
    obtain ⟨h, hh⟩ := h
    have ht := t.isLt
    have hd := d.isLt
    unfold Grp.dq col row
    pointwise [k0_pay58]
    interval_cases h <;> (repeat (first | rw [dif_pos (by omega)] | rw [dif_neg (by omega)])) <;>
      exact congrArg₂ G.dqRow (Fin.ext (by first | rfl | (dsimp only; omega))) (Fin.ext (by first | rfl | (dsimp only; omega)))
  rw [e]
  unfold Grp.dqRow
  simp only [hn, qhat_eq R, rq_eq R, R.qg, ← EReal.coe_mul, Swa.coe_sum, Swa.f32_64, Swa.div_real _ (show (64 : ℝ) ≠ 0 by norm_num),
    ← EReal.coe_sub]
  rfl

theorem dqg_eq (acc : FVec Ideal S1x64 .f32) (d : Fin 64) : G.dqg acc (ix2 0 d) = acc (ix2 0 d) + ((B.dqg d : ℝ) : EReal) := by
  have hn := dqn_eq R
  unfold Grp.dqn at hn
  unfold Grp.dqg
  pointwise [k0_pay57]
  rw [sum_rows]
  simp only [hn, qhat_eq R, ← EReal.coe_mul, Swa.coe_sum]
  rfl

theorem dkg_eq (acc : FVec Ideal S1x64 .f32) (d : Fin 64) : G.dkg acc (ix2 0 d) = acc (ix2 0 d) + ((B.dkg d : ℝ) : EReal) := by
  have hn := dkn_eq R
  unfold Grp.dkn at hn
  unfold Grp.dkg
  pointwise [k0_pay59]
  simp only [hn, khat_eq R, ← EReal.coe_mul, Swa.coe_sum]
  rfl

theorem dk_eq (s : Fin 256) (d : Fin 64) : G.dk (ix2 s d) = ((B.dk s d : ℝ) : EReal) := by
  have hn := dkn_eq R s
  unfold Grp.dkn at hn
  unfold Grp.dk
  pointwise [k0_pay63, k0_pay62, k0_pay61, k0_pay60]
  simp only [hn, khat_eq R, rk_eq R, R.kg, ← EReal.coe_mul, Swa.coe_sum, Swa.f32_64, Swa.div_real _ (show (64 : ℝ) ≠ 0 by norm_num), ← EReal.coe_sub]
  rfl

end

end Cert.SwaIdeal.Proof
end
-- ==== Proof.SwaReads.lean ====
/- The backward kernel's blocks, read off its arguments. -/
module

public import proofs.«01_k».proof.Proof.SwaPoint
public import proofs.«01_k».proof.Proof.SwaStage
public import proofs.«01_k».proof.Proof.SwaRefNorm
public import Idealize.ShloMosaic.Lib.Pipeline.ValueKit
public import Idealize.ShloMosaic.Lib.StableHlo.ReadAt

@[expose] public section

set_option maxRecDepth 16384
set_option maxHeartbeats 4000000

noncomputable section

open Idealize.ShloMosaic Idealize.ShloMosaic.TcCoe Idealize.SL.Sem

namespace Cert.SwaIdeal.Proof

open Cert.SwaIdeal Cert.SwaIdeal.Gen _root_.Swa

variable (m : (ℓ : Loc nD τ sig) → Buf (Elt Ideal) ℓ)

/-- The windows' block indices, decided over the grid. -/
theorem idx : ∀ t : Fin cfg0.N, win0_0.index t = ![0] ∧ win0_1.index t = ![0] ∧ win0_2.index t = ![t.val, 0]
    ∧ win0_3.index t = ![t.val, 8] ∧ win0_4.index t = ![t.val - 1, 8] ∧ win0_5.index t = ![t.val, 9] ∧ win0_6.index t = ![t.val - 1, 9]
    ∧ win0_7.index t = ![0, 0] ∧ win0_8.index t = ![0, 0] ∧ win0_9.index t = ![t.val, 0] ∧ t.val < 32 :=
  (by decide +kernel : ∀ t : Fin grid0.N, _)

/-- The output windows' block indices, and the grid's only coordinate. -/
theorem idxO : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![0, 0] ∧ win0_16.index t = ![0, 0]
    ∧ win0_17.index t = ![0, 0] ∧ (grid0.coords t 0).val = t.val :=
  (by decide +kernel : ∀ t : Fin grid0.N, _)

section Reads
variable (c : Dev nD) (t : Fin cfg0.N)

theorem sk_read (y : Fin 32) : iblk m c 0 t (ix1 y) = m ((c : Thread nD τ).loc main_arg3) (ix1 y) := by
  blk_simp [iblk]; entry_read; pointwise; blk_ext [idx t]

theorem kc_read (r : Fin 128) (d : Fin 256) (R : Fin 4096) (hR : R.val = t.val * 128 + r.val) (Q : Fin 2560) (hQ : Q.val = 2048 + d.val) :
    iblk m c 3 t (ix2 r d) = m ((c : Thread nD τ).loc main_arg0) (ix2 R Q) := by
  blk_simp [iblk]; entry_read; pointwise; blk_ext [idx t]

theorem kp_read (r : Fin 128) (d : Fin 256) (R : Fin 4096) (hR : R.val = (t.val - 1) * 128 + r.val) (Q : Fin 2560) (hQ : Q.val = 2048 + d.val) :
    iblk m c 4 t (ix2 r d) = m ((c : Thread nD τ).loc main_arg0) (ix2 R Q) := by
  blk_simp [iblk]; entry_read; pointwise; blk_ext [idx t]

theorem vc_read (r : Fin 128) (d : Fin 256) (R : Fin 4096) (hR : R.val = t.val * 128 + r.val) (Q : Fin 2560) (hQ : Q.val = 2304 + d.val) :
    iblk m c 5 t (ix2 r d) = m ((c : Thread nD τ).loc main_arg0) (ix2 R Q) := by
  blk_simp [iblk]; entry_read; pointwise; blk_ext [idx t]

theorem vp_read (r : Fin 128) (d : Fin 256) (R : Fin 4096) (hR : R.val = (t.val - 1) * 128 + r.val) (Q : Fin 2560) (hQ : Q.val = 2304 + d.val) :
    iblk m c 6 t (ix2 r d) = m ((c : Thread nD τ).loc main_arg0) (ix2 R Q) := by
  blk_simp [iblk]; entry_read; pointwise; blk_ext [idx t]

theorem qg_read (d : Fin 64) : iblk m c 7 t (ix2 0 d) = m ((c : Thread nD τ).loc main_arg1) (ix1 d) := by
  blk_simp [iblk]; unfold V; simp only [List.flatten_cons, List.flatten_nil, List.append_nil]; after_reads_at; blk_ext [idx t]

theorem kg_read (d : Fin 64) : iblk m c 8 t (ix2 0 d) = m ((c : Thread nD τ).loc main_arg2) (ix1 d) := by
  blk_simp [iblk]; unfold V; simp only [List.flatten_cons, List.flatten_nil, List.append_nil]; after_reads_at; blk_ext [idx t]

theorem o_read (r : Fin 128) (d : Fin 2048) (R : Fin 4096) (hR : R.val = t.val * 128 + r.val) :
    iblk m c 9 t (ix2 r d) = m ((c : Thread nD τ).loc main_arg4) (ix2 R d) := by
  blk_simp [iblk]; entry_read; pointwise; blk_ext [idx t]

theorem sl_read (y : Fin 32) : iblk m c 1 t (ix1 y) = Cert.SwaRefIdeal.Read.val_main_v98 (F := Ideal) (ix1 y) := by
  blk_simp [iblk]; unfold V; simp only [List.flatten_cons, List.flatten_nil, List.append_nil]; after_reads_at
  rw [show ((View.whole main_v9).slice (win0_1.rect t)).emb (ix1 y) 0 = y from
    congrFun (show ((View.whole main_v9).slice (win0_1.rect t)).emb (ix1 y) = ix1 y by blk_ext [idx t]) 0]
  open Cert.SwaRefIdeal.Read in
  pointwise [val_main_v98, val_main_v97, val_main_v96, val_main_v95, val_main_v94, val_main_v93, val_main_v92, val_main_v91, val_main_v90, val_main_v89,
    val_main_cst_17, val_main_cst_18, val_main_cst_19, val_main_cst_20]

theorem q_read (r : Fin 128) (d : Fin 2048) (R : Fin 4096) (hR : R.val = t.val * 128 + r.val) (Q : Fin 2560) (hQ : Q.val = d.val) :
    X0_2 m c t (ix2 r d) = m ((c : Thread nD τ).loc main_arg0) (ix2 R Q) := by
  unfold X0_2 Pipeline.Window.fill
  rw [dif_pos (moved0_2 t _)]
  blk_simp [iblk]; entry_read; pointwise; blk_ext [idx t]

end Reads

/-- The blocks a grid point reads. -/
def blocks (c : Dev nD) (t : Fin cfg0.N) : Blocks :=
  ⟨grid0.coords t, iblk m c 0 t, iblk m c 1 t, X0_2 m c t, iblk m c 3 t, iblk m c 4 t, iblk m c 5 t, iblk m c 6 t, iblk m c 7 t,
    iblk m c 8 t, iblk m c 9 t⟩

/-- A unit rectangle shifts an index by its offset. -/
theorem unit_idx {s : Shape} (o : Fin s.rank → Nat) (z : Fin s.rank → Nat) (h : ∀ a, o a + z a ≤ s.size a)
    (x : (Rect.unit (s := s) o z h).shape.Idx) (a : Fin s.rank) :
    ((Rect.unit (s := s) o z h).idx x a).val = o a + (x a).val :=
  congrArg (o a + ·) (Nat.one_mul _)

/-- A group's scalars are those of its heads. -/
theorem heads_apply (b : Vec Ideal S32 .f32) (g : Fin 4) (h : Fin 8) : heads b g h = b (ix1 (Cert.SwaRefIdeal.Proof.hd g h)) := by
  unfold heads one Cert.SwaRefIdeal.Proof.hd
  fin_cases g <;> fin_cases h <;> exact congrArg b (by funext a; fin_cases a; exact Fin.ext (unit_idx _ _ _ _ _))

/-- A group's columns of a block. -/
theorem cols_apply (b : Vec Ideal S128x2048 .f32) (g : Fin 4) (h : Fin 8) (t : Fin 128) (d : Fin 64) :
    cols b g (ix2 t (col h d)) = b (ix2 t (Cert.SwaRefIdeal.Proof.qc g h d)) := by
  unfold cols Cert.SwaRefIdeal.Proof.qc col
  fin_cases g <;> exact congrArg b (by
    blk_ext []
    all_goals rw [unit_idx]
    all_goals pointwise [Nat.add_assoc])

/-- A group's columns of a window. -/
theorem keys_apply (b : FVec Ideal S256x256 .f32) (g : Fin 4) (s : Fin 256) (d : Fin 64) :
    keys b g (ix2 s d) = b (ix2 s (Cert.SwaRefIdeal.Proof.kc g d)) := by
  unfold keys Cert.SwaRefIdeal.Proof.kc
  fin_cases g <;> pointwise <;> exact congrArg b (by blk_ext [])

/-- The window of keys, the block before and then the block itself. -/
theorem keys_stack (kp kc : Vec Ideal S128x256 .f32) (s : Fin 256) (d : Fin 256) :
    k0_pay6 kp kc (ix2 s d) = if h : s.val < 128 then kp (ix2 ⟨s.val, h⟩ d) else kc (ix2 ⟨s.val - 128, by omega⟩ d) := by
  pointwise [k0_pay6]

@[inherit_doc keys_stack]
theorem values_stack (vp vc : Vec Ideal S128x256 .f32) (s : Fin 256) (d : Fin 256) :
    k0_pay7 vp vc (ix2 s d) = if h : s.val < 128 then vp (ix2 ⟨s.val, h⟩ d) else vc (ix2 ⟨s.val - 128, by omega⟩ d) := by
  pointwise [k0_pay7]

theorem pay8_apply (b : Vec Ideal S1x64 .f32) (y : S1x64.Idx) : k0_pay8 b y = b y :=
  congrFun (shapeCast_self b _) y

theorem pay9_apply (b : Vec Ideal S1x64 .f32) (y : S1x64.Idx) : k0_pay9 b y = b y :=
  congrFun (shapeCast_self b _) y

section Group

open Cert.SwaRefIdeal.Proof (Args hd qc kc)
open _root_.Swa

variable {m} {D : Data} {c : Dev nD}
  (A : Args D (m ((c : Thread nD τ).loc main_arg0)) (m ((c : Thread nD τ).loc main_arg1)) (m ((c : Thread nD τ).loc main_arg2))
    (m ((c : Thread nD τ).loc main_arg3)) (m ((c : Thread nD τ).loc main_arg4)))
include A

/-- A group of heads at a grid point stands for the block of the mathematics. -/
theorem rep (t : Fin cfg0.N) (g : Fin 4) : Rep ((blocks m c t).grp g) (D.blk ⟨t.val, (idx t).2.2.2.2.2.2.2.2.2.2⟩ g) where
  n := (idxO t).2.2.2.2.2.2.2.2
  k s d := by
    have hs := s.isLt
    refine (keys_apply _ g s d).trans ((keys_stack _ _ s _).trans ?_)
    refine Eq.trans ?_ (A.k g (wpos _ s) d)
    split_ifs with h
    · refine kp_read m c t _ _ _ ?_ _ (Nat.add_assoc _ _ _)
      simp only [wpos, wblk, pos, h, if_true, Nat.mod_eq_of_lt h, Nat.mul_comm]
    · refine kc_read m c t _ _ _ ?_ _ (Nat.add_assoc _ _ _)
      simp only [wpos, wblk, pos, h, if_false]
      omega
  v s d := by
    have hs := s.isLt
    refine (keys_apply _ g s d).trans ((values_stack _ _ s _).trans ?_)
    refine Eq.trans ?_ (A.v g (wpos _ s) d)
    split_ifs with h
    · refine vp_read m c t _ _ _ ?_ _ (Nat.add_assoc _ _ _)
      simp only [wpos, wblk, pos, h, if_true, Nat.mod_eq_of_lt h, Nat.mul_comm]
    · refine vc_read m c t _ _ _ ?_ _ (Nat.add_assoc _ _ _)
      simp only [wpos, wblk, pos, h, if_false]
      omega
  q h r d := (cols_apply _ g h r d).trans ((q_read m c t r _ (pos ⟨t.val, _⟩ r) (congrArg (· + r.val) (Nat.mul_comm 128 t.val)) ⟨qc g h d, by omega⟩ rfl).trans (A.q g h _ d))
  o h r d := (cols_apply _ g h r d).trans ((o_read m c t r _ (pos ⟨t.val, _⟩ r) (congrArg (· + r.val) (Nat.mul_comm 128 t.val))).trans (A.o g h _ d))
  sl h := (heads_apply _ g h).trans ((sl_read m c t _).trans (A.sl g h))
  sk h := (heads_apply _ g h).trans ((sk_read m c t _).trans (A.sk g h))
  qg d := (pay9_apply _ _).trans ((qg_read m c t d).trans (A.qg d))
  kg d := (pay8_apply _ _).trans ((kg_read m c t d).trans (A.kg d))

end Group

end Cert.SwaIdeal.Proof
-- ==== Proof.SwaFinal.lean ====
/- The backward kernel's outputs after the whole grid. -/
module

public import proofs.«01_k».proof.Proof.SwaReads

@[expose] public section

set_option maxRecDepth 16384
set_option maxHeartbeats 4000000

noncomputable section

open Idealize.ShloMosaic Idealize.ShloMosaic.TcCoe Idealize.SL.Sem

namespace Cert.SwaIdeal.Proof

open Cert.SwaIdeal Cert.SwaIdeal.Gen _root_.Swa
open Cert.SwaRefIdeal.Proof (Args hd qc kc)

/-- A column of the four groups' keys falls to its group. -/
theorem catK_apply (B : Blocks) (g : Fin 4) (s : Fin 256) (d : Fin 64) : B.catK (ix2 s (kc g d)) = (B.grp g).dk (ix2 s d) := by
  have hd := d.isLt
  unfold Blocks.catK kc
  fin_cases g <;> pointwise
  all_goals
    rw [dif_neg (by omega), dif_neg (by omega)]
    first | rw [dif_pos (by omega)] | rw [dif_neg (by omega)]
    exact congrArg _ (congrArg (ix2 s) (Fin.ext (by dsimp only; omega)))

@[inherit_doc catK_apply]
theorem catV_apply (B : Blocks) (g : Fin 4) (s : Fin 256) (d : Fin 64) : B.catV (ix2 s (kc g d)) = (B.grp g).dv (ix2 s d) := by
  have hd := d.isLt
  unfold Blocks.catV kc
  fin_cases g <;> pointwise
  all_goals
    rw [dif_neg (by omega), dif_neg (by omega)]
    first | rw [dif_pos (by omega)] | rw [dif_neg (by omega)]
    exact congrArg _ (congrArg (ix2 s) (Fin.ext (by dsimp only; omega)))

theorem pay1_apply (x : FVec Ideal S256x256 .bf16) (r : Fin 128) (Q : Fin 256) : k0_pay1 x (ix2 r Q) = x (ix2 (lo r) Q) := by
  pointwise [k0_pay1, lo]
  try blk_ext []

theorem pay2_apply (x : FVec Ideal S256x256 .bf16) (r : Fin 128) (Q : Fin 256) : k0_pay2 x (ix2 r Q) = x (ix2 (hi r) Q) := by
  pointwise [k0_pay2, hi]
  try blk_ext []

variable {m : (ℓ : Loc nD τ sig) → Buf (Elt Ideal) ℓ} {D : Data} {c : Dev nD}

/-- A grid point as a block number. -/
def num (t : Fin cfg0.N) : Fin 32 := ⟨t.val, (idx t).2.2.2.2.2.2.2.2.2.2⟩

/-- Block and row of a row, group and lane of a column. -/
def nOf (R : Fin 4096) : Fin 32 := ⟨R.val / 128, by omega⟩
@[inherit_doc nOf] def rOf (R : Fin 4096) : Fin 128 := ⟨R.val % 128, by omega⟩
@[inherit_doc nOf] def gOf (Q : Fin 256) : Fin 4 := ⟨Q.val / 64, by omega⟩
@[inherit_doc nOf] def dOf (Q : Fin 256) : Fin 64 := ⟨Q.val % 64, by omega⟩

theorem pos_of (R : Fin 4096) : pos (nOf R) (rOf R) = R := Fin.ext (Nat.div_add_mod _ _)
theorem kc_of (Q : Fin 256) : kc (gOf Q) (dOf Q) = Q := Fin.ext (Nat.div_add_mod _ _)
theorem nOf_pos (n : Fin 32) (r : Fin 128) : nOf (pos n r) = n := by
  have := r.isLt; apply Fin.ext; simp only [nOf, pos]; omega
theorem rOf_pos (n : Fin 32) (r : Fin 128) : rOf (pos n r) = r := by
  have := r.isLt; apply Fin.ext; simp only [rOf, pos]; omega
theorem gOf_kc (g : Fin 4) (d : Fin 64) : gOf (kc g d) = g := by
  have := d.isLt; apply Fin.ext; simp only [gOf, kc]; omega
theorem dOf_kc (g : Fin 4) (d : Fin 64) : dOf (kc g d) = d := by
  have := d.isLt; apply Fin.ext; simp only [dOf, kc]; omega

theorem qc_of (Q : Fin 2048) : ∃ g h d, Q = qc g h d :=
  ⟨⟨Q.val / 512, by omega⟩, ⟨Q.val % 512 / 64, by omega⟩, ⟨Q.val % 64, by omega⟩, Fin.ext (by simp only [qc]; omega)⟩

/-- An array of 4096 rows and 256 columns of reals, by block, group, row and lane. -/
def byBlock (f : Fin 32 → Fin 4 → Fin 128 → Fin 64 → ℝ) : FVec Ideal S4096x256 .bf16 := fun y =>
  ((f (nOf (y 0)) (gOf (y 1)) (rOf (y 0)) (dOf (y 1)) : ℝ) : EReal)

theorem byBlock_apply (f : Fin 32 → Fin 4 → Fin 128 → Fin 64 → ℝ) (n : Fin 32) (g : Fin 4) (r : Fin 128) (d : Fin 64) :
    byBlock f (ix2 (pos n r) (kc g d)) = ((f n g r d : ℝ) : EReal) := by
  show ((f (nOf (pos n r)) (gOf (kc g d)) (rOf (pos n r)) (dOf (kc g d)) : ℝ) : EReal) = _
  rw [nOf_pos, rOf_pos, gOf_kc, dOf_kc]

/-- Group and head within it, of one of the 32 heads. -/
def hgOf (x : Fin 32) : Fin 4 := ⟨x.val / 8, by omega⟩
@[inherit_doc hgOf] def heOf (x : Fin 32) : Fin 8 := ⟨x.val % 8, by omega⟩

theorem hg_he (x : Fin 32) : x.val = 8 * (hgOf x).val + (heOf x).val := (Nat.div_add_mod _ _).symm
theorem hgOf_hd (g : Fin 4) (h : Fin 8) : hgOf (hd g h) = g := by
  have := h.isLt; apply Fin.ext; simp only [hgOf, hd]; omega
theorem heOf_hd (g : Fin 4) (h : Fin 8) : heOf (hd g h) = h := by
  have := h.isLt; apply Fin.ext; simp only [heOf, hd]; omega

theorem one_row (y : S1x64.Idx) : y = ix2 0 (y 1) := by
  funext k
  fin_cases k
  · exact Subsingleton.elim (α := Fin 1) _ _
  · rfl

theorem pay197_apply (v prev : FVec Ideal S1x64 .f32) (y : S1x64.Idx) : k0_pay197 v prev y = prev y + v y := by
  pointwise [k0_pay197]

/-- A sum over the grid's points is one over the blocks. -/
theorem sum_num (f : Fin 32 → ℝ) : ∑ p : Fin cfg0.N, ((f (num p) : ℝ) : EReal) = ((∑ n, f n : ℝ) : EReal) := by
  rw [coe_sum]
  exact congrArg _ (Fintype.sum_equiv (finCongr N_0) _ _ fun p => rfl)

section Point
variable (A : Args D (m ((c : Thread nD τ).loc main_arg0)) (m ((c : Thread nD τ).loc main_arg1)) (m ((c : Thread nD τ).loc main_arg2))
    (m ((c : Thread nD τ).loc main_arg3)) (m ((c : Thread nD τ).loc main_arg4))) (t : Fin cfg0.N)
include A

theorem dq_at (g : Fin 4) (h : Fin 8) (r : Fin 128) (d : Fin 64) :
    (outsAt0 m c t.val t.isLt).1 (ix2 r (qc g h d)) = (((D.blk (num t) g).dq h r d : ℝ) : EReal) := by
  refine Eq.trans ?_ (dq_eq (rep A t g) h r d)
  have e : (qc g h d).val = 512 * g.val + (col h d).val := by simp only [qc, col]; omega
  by_cases h0 : t.val % 32 = 0
  · rw [outsAt0_A m c t h0]
    dsimp only
    exact dq_A c (blocks m c t) _ g (ix2 r (col h d)) rfl e
  · rw [outsAt0_B m c t h0]
    dsimp only
    exact dq_B c (blocks m c t) _ g (ix2 r (col h d)) rfl e

theorem dkc_at (g : Fin 4) (r : Fin 128) (d : Fin 64) :
    (outsAt0 m c t.val t.isLt).2.1 (ix2 r (kc g d)) = (((D.blk (num t) g).dk (hi r) d : ℝ) : EReal) := by
  refine Eq.trans ?_ ((catK_apply _ g _ d).trans (dk_eq (rep A t g) (hi r) d))
  refine Eq.trans ?_ (pay2_apply _ r _)
  by_cases h0 : t.val % 32 = 0
  · rw [outsAt0_A m c t h0]
    dsimp only
    exact dkc_A c (blocks m c t) _
  · rw [outsAt0_B m c t h0]
    dsimp only
    exact dkc_B c (blocks m c t) _

theorem dkp_at (g : Fin 4) (r : Fin 128) (d : Fin 64) :
    (outsAt0 m c t.val t.isLt).2.2.1 (ix2 r (kc g d)) = (((D.blk (num t) g).dk (lo r) d : ℝ) : EReal) := by
  refine Eq.trans ?_ ((catK_apply _ g _ d).trans (dk_eq (rep A t g) (lo r) d))
  refine Eq.trans ?_ (pay1_apply _ r _)
  by_cases h0 : t.val % 32 = 0
  · rw [outsAt0_A m c t h0]
    dsimp only
    exact dkp_A c (blocks m c t) _
  · rw [outsAt0_B m c t h0]
    dsimp only
    exact dkp_B c (blocks m c t) _

theorem dvc_at (g : Fin 4) (r : Fin 128) (d : Fin 64) :
    (outsAt0 m c t.val t.isLt).2.2.2.1 (ix2 r (kc g d)) = (((D.blk (num t) g).dv (hi r) d : ℝ) : EReal) := by
  refine Eq.trans ?_ ((catV_apply _ g _ d).trans (dv_eq (rep A t g) (hi r) d))
  refine Eq.trans ?_ (pay2_apply _ r _)
  by_cases h0 : t.val % 32 = 0
  · rw [outsAt0_A m c t h0]
    dsimp only
    exact dvc_A c (blocks m c t) _
  · rw [outsAt0_B m c t h0]
    dsimp only
    exact dvc_B c (blocks m c t) _

theorem dvp_at (g : Fin 4) (r : Fin 128) (d : Fin 64) :
    (outsAt0 m c t.val t.isLt).2.2.2.2.1 (ix2 r (kc g d)) = (((D.blk (num t) g).dv (lo r) d : ℝ) : EReal) := by
  refine Eq.trans ?_ ((catV_apply _ g _ d).trans (dv_eq (rep A t g) (lo r) d))
  refine Eq.trans ?_ (pay1_apply _ r _)
  by_cases h0 : t.val % 32 = 0
  · rw [outsAt0_A m c t h0]
    dsimp only
    exact dvp_A c (blocks m c t) _
  · rw [outsAt0_B m c t h0]
    dsimp only
    exact dvp_B c (blocks m c t) _

/-- What a point adds to a sink's gradient. -/
theorem dsink_term (g : Fin 4) (h : Fin 8) :
    0 - ∑ r : Fin 128, ((blocks m c t).grp g).sd (ix2 (row h r) 0) = (((D.blk (num t) g).dsink h : ℝ) : EReal) := by
  simp only [sd_eq (rep A t g) h, ← EReal.coe_sub, coe_sum, ← EReal.coe_zero]
  exact congrArg _ (zero_sub _)

/-- What a point adds to the gains' gradients. -/
theorem dqg_term (d : Fin 64) : (blocks m c t).dqg (ix2 0 d) = ((∑ g, (D.blk (num t) g).dqg d : ℝ) : EReal) := by
  unfold Blocks.dqg
  rw [dqg_eq (rep A t 3), dqg_eq (rep A t 2), dqg_eq (rep A t 1), dqg_eq (rep A t 0), Fin.sum_univ_four]
  pointwise [k0_pay13]
  simp only [EReal.coe_add]
  rfl

@[inherit_doc dqg_term]
theorem dkg_term (d : Fin 64) : (blocks m c t).dkg (ix2 0 d) = ((∑ g, (D.blk (num t) g).dkg d : ℝ) : EReal) := by
  unfold Blocks.dkg
  rw [dkg_eq (rep A t 3), dkg_eq (rep A t 2), dkg_eq (rep A t 1), dkg_eq (rep A t 0), Fin.sum_univ_four]
  pointwise [k0_pay14]
  simp only [EReal.coe_add]
  rfl

end Point

section Final
variable (A : Args D (m ((c : Thread nD τ).loc main_arg0)) (m ((c : Thread nD τ).loc main_arg1)) (m ((c : Thread nD τ).loc main_arg2))
    (m ((c : Thread nD τ).loc main_arg3)) (m ((c : Thread nD τ).loc main_arg4)))
include A

/-- The queries' gradient. -/
theorem dq_final (W : FVec Ideal S4096x2048 .bf16) (hW : ∀ n g h r d, W (ix2 (pos n r) (qc g h d)) = (((D.blk n g).dq h r d : ℝ) : EReal)) :
    (dats m 0 c).arrAt 10 cfg0.N = W := by
  refine (dats m 0 c).arrAt_eq_of_covers 10 _ (by decide +kernel) fun t _ y => ?_
  blk_simp
  rw [after0_10]
  idx_vars y
  obtain ⟨g, h, d, rfl⟩ := qc_of y1
  refine (dq_at A t g h y0 d).trans ((hW _ g h y0 d).symm.trans (congrArg W ?_))
  blk_ext [idxO t, num, pos, Nat.mul_comm]

/-- Window 11: the gradient of the keys, of a block itself. -/
theorem dkc_final : (dats m 0 c).arrAt 11 cfg0.N = byBlock fun n g r d => ((D.blk n g).dk (hi r) d) := by
  refine (dats m 0 c).arrAt_eq_of_covers 11 _ (by decide +kernel) fun t _ y => ?_
  blk_simp
  rw [after0_11]
  idx_vars y
  obtain ⟨g, d, rfl⟩ : ∃ g d, y1 = kc g d := ⟨_, _, (kc_of y1).symm⟩
  refine (dkc_at A t g y0 d).trans ?_
  rw [show ((View.whole main_v12_1).slice (win0_11.rect t)).emb (ix2 y0 (kc g d)) = ix2 (pos (num t) y0) (kc g d) by
    blk_ext [idxO t, num, pos, Nat.mul_comm], byBlock_apply]

/-- Window 12: the gradient of the keys, of the block before. -/
theorem dkp_final : (dats m 0 c).arrAt 12 cfg0.N = byBlock fun n g r d => ((D.blk n g).dk (lo r) d) := by
  refine (dats m 0 c).arrAt_eq_of_covers 12 _ (by decide +kernel) fun t _ y => ?_
  blk_simp
  rw [after0_12]
  idx_vars y
  obtain ⟨g, d, rfl⟩ : ∃ g d, y1 = kc g d := ⟨_, _, (kc_of y1).symm⟩
  refine (dkp_at A t g y0 d).trans ?_
  rw [show ((View.whole main_v12_2).slice (win0_12.rect t)).emb (ix2 y0 (kc g d)) = ix2 (pos (num t) y0) (kc g d) by
    blk_ext [idxO t, num, pos, Nat.mul_comm], byBlock_apply]

/-- Window 13: the gradient of the values, of a block itself. -/
theorem dvc_final : (dats m 0 c).arrAt 13 cfg0.N = byBlock fun n g r d => ((D.blk n g).dv (hi r) d) := by
  refine (dats m 0 c).arrAt_eq_of_covers 13 _ (by decide +kernel) fun t _ y => ?_
  blk_simp
  rw [after0_13]
  idx_vars y
  obtain ⟨g, d, rfl⟩ : ∃ g d, y1 = kc g d := ⟨_, _, (kc_of y1).symm⟩
  refine (dvc_at A t g y0 d).trans ?_
  rw [show ((View.whole main_v12_3).slice (win0_13.rect t)).emb (ix2 y0 (kc g d)) = ix2 (pos (num t) y0) (kc g d) by
    blk_ext [idxO t, num, pos, Nat.mul_comm], byBlock_apply]

/-- Window 14: the gradient of the values, of the block before. -/
theorem dvp_final : (dats m 0 c).arrAt 14 cfg0.N = byBlock fun n g r d => ((D.blk n g).dv (lo r) d) := by
  refine (dats m 0 c).arrAt_eq_of_covers 14 _ (by decide +kernel) fun t _ y => ?_
  blk_simp
  rw [after0_14]
  idx_vars y
  obtain ⟨g, d, rfl⟩ : ∃ g d, y1 = kc g d := ⟨_, _, (kc_of y1).symm⟩
  refine (dvp_at A t g y0 d).trans ?_
  rw [show ((View.whole main_v12_4).slice (win0_14.rect t)).emb (ix2 y0 (kc g d)) = ix2 (pos (num t) y0) (kc g d) by
    blk_ext [idxO t, num, pos, Nat.mul_comm], byBlock_apply]

/-- The sinks' gradients, in every lane. -/
theorem dsink_final (g : Fin 4) (h : Fin 8) (l : Fin 128) :
    (dats m 0 c).arrAt 15 cfg0.N (ix2 (hd g h) l) = ((D.dsink g h : ℝ) : EReal) := by
  have key : (dats m 0 c).arrAt 15 cfg0.N = fun y : S32x128.Idx => ((D.dsink (hgOf (y 0)) (heOf (y 0)) : ℝ) : EReal) := by
    refine (dats m 0 c).arrAt_eq_of_covers 15 _ (by decide +kernel) fun t hf y => ?_
    have ht : t.val + 1 = cfg0.N := by
      have := (flush0_15 t).mp hf
      have := (idx t).2.2.2.2.2.2.2.2.2.2
      rw [show cfg0.N = 32 from N_0]; omega
    blk_simp
    rw [after0_15]
    rw [Pipeline.eq_sum_fin_of_reset_step_apply_last (fun n hn => (outsAt0 m c n hn).2.2.2.2.2.1) 32 (fun _ => 0)
      (fun t y => (((D.blk (num t) (hgOf (y 0))).dsink (heOf (y 0)) : ℝ) : EReal))
      (fun t h y => by
        rw [outsAt0_A m c t h]
        dsimp only
        refine (dsink_A c (blocks m c t) y (hgOf (y 0)) (heOf (y 0)) (hg_he (y 0))).trans ?_
        rw [dsink_term A t]
        refine congrArg (· + _) ?_
        pointwise [k0_pay3])
      (fun t h y => by
        rw [outsAt0_B m c t h]
        dsimp only
        refine (dsink_B c (blocks m c t) y (hgOf (y 0)) (heOf (y 0)) (hg_he (y 0))).trans ?_
        rw [dsink_term A t])
      (le_of_eq N_0) t ht _, zero_add]
    idx_vars y
    rw [show ((View.whole main_v12_5).slice (win0_15.rect t)).emb (ix2 y0 y1) = ix2 y0 y1 by blk_ext [idxO t]]
    exact sum_num fun n => (D.blk n (hgOf y0)).dsink (heOf y0)
  rw [key]
  show ((D.dsink (hgOf (hd g h)) (heOf (hd g h)) : ℝ) : EReal) = _
  rw [hgOf_hd, heOf_hd]

/-- The gradient of the queries' gain. -/
theorem dqg_final (d : Fin 64) : (dats m 0 c).arrAt 16 cfg0.N (ix2 0 d) = ((D.dqg d : ℝ) : EReal) := by
  have key : (dats m 0 c).arrAt 16 cfg0.N = fun y : S1x64.Idx => ((D.dqg (y 1) : ℝ) : EReal) := by
    refine (dats m 0 c).arrAt_eq_of_covers 16 _ (by decide +kernel) fun t hf y => ?_
    have ht : t.val + 1 = cfg0.N := by
      have := (flush0_16 t).mp hf
      have := (idx t).2.2.2.2.2.2.2.2.2.2
      rw [show cfg0.N = 32 from N_0]; omega
    blk_simp
    rw [after0_16]
    rw [Pipeline.eq_sum_fin_of_reset_step_apply_last (fun n hn => (outsAt0 m c n hn).2.2.2.2.2.2.1) 32 (fun _ => 0)
      (fun t y => ((∑ g, (D.blk (num t) g).dqg (y 1) : ℝ) : EReal))
      (fun t h y => by
        obtain ⟨d, rfl⟩ : ∃ d, y = ix2 0 d := ⟨y 1, one_row y⟩
        rw [outsAt0_A m c t h]
        dsimp only
        refine (dqg_A c (blocks m c t) _).trans ((pay197_apply _ _ _).trans ?_)
        rw [dqg_term A t]
        refine congrArg (· + _) ?_
        pointwise [k0_pay4])
      (fun t h y => by
        obtain ⟨d, rfl⟩ : ∃ d, y = ix2 0 d := ⟨y 1, one_row y⟩
        rw [outsAt0_B m c t h]
        dsimp only
        refine (dqg_B c (blocks m c t) _).trans ((pay197_apply _ _ _).trans ?_)
        rw [dqg_term A t]
        rfl)
      (le_of_eq N_0) t ht _, zero_add]
    idx_vars y
    rw [show ((View.whole main_v12_6).slice (win0_16.rect t)).emb (ix2 y0 y1) = ix2 y0 y1 by blk_ext [idxO t]]
    exact sum_num fun n => ∑ g, (D.blk n g).dqg y1
  rw [key]
  rfl

/-- The gradient of the keys' gain. -/
theorem dkg_final (d : Fin 64) : (dats m 0 c).arrAt 17 cfg0.N (ix2 0 d) = ((D.dkg d : ℝ) : EReal) := by
  have key : (dats m 0 c).arrAt 17 cfg0.N = fun y : S1x64.Idx => ((D.dkg (y 1) : ℝ) : EReal) := by
    refine (dats m 0 c).arrAt_eq_of_covers 17 _ (by decide +kernel) fun t hf y => ?_
    have ht : t.val + 1 = cfg0.N := by
      have := (flush0_17 t).mp hf
      have := (idx t).2.2.2.2.2.2.2.2.2.2
      rw [show cfg0.N = 32 from N_0]; omega
    blk_simp
    rw [after0_17]
    rw [Pipeline.eq_sum_fin_of_reset_step_apply_last (fun n hn => (outsAt0 m c n hn).2.2.2.2.2.2.2) 32 (fun _ => 0)
      (fun t y => ((∑ g, (D.blk (num t) g).dkg (y 1) : ℝ) : EReal))
      (fun t h y => by
        obtain ⟨d, rfl⟩ : ∃ d, y = ix2 0 d := ⟨y 1, one_row y⟩
        rw [outsAt0_A m c t h]
        dsimp only
        refine (dkg_A c (blocks m c t) _).trans ((pay197_apply _ _ _).trans ?_)
        rw [dkg_term A t]
        refine congrArg (· + _) ?_
        pointwise [k0_pay5])
      (fun t h y => by
        obtain ⟨d, rfl⟩ : ∃ d, y = ix2 0 d := ⟨y 1, one_row y⟩
        rw [outsAt0_B m c t h]
        dsimp only
        refine (dkg_B c (blocks m c t) _).trans ((pay197_apply _ _ _).trans ?_)
        rw [dkg_term A t]
        rfl)
      (le_of_eq N_0) t ht _, zero_add]
    idx_vars y
    rw [show ((View.whole main_v12_7).slice (win0_17.rect t)).emb (ix2 y0 y1) = ix2 y0 y1 by blk_ext [idxO t]]
    exact sum_num fun n => ∑ g, (D.blk n g).dkg y1
  rw [key]
  rfl

end Final

end Cert.SwaIdeal.Proof
-- ==== Proof.SwaTail.lean ====
/- The host lines after the backward kernel: the shifted sums of the keys' and values' gradients. -/
module

public import proofs.«01_k».proof.Proof.SwaFinal

@[expose] public section

set_option maxRecDepth 16384
set_option maxHeartbeats 4000000

noncomputable section

open Idealize.ShloMosaic Idealize.ShloMosaic.TcCoe Idealize.SL.Sem

namespace Cert.SwaIdeal.Proof

open Cert.SwaIdeal Cert.SwaIdeal.Gen _root_.Swa
open Cert.SwaRefIdeal.Proof (Args hd qc kc)

variable {m : (ℓ : Loc nD τ sig) → Buf (Elt Ideal) ℓ} {D : Data} {c : Dev nD}

/-- A buffer after the host lines that follow the region. -/
abbrev tail (m : (ℓ : Loc nD τ sig) → Buf (Elt Ideal) ℓ) (c : Dev nD) (b : Ref sig .tc) : Buf (Elt Ideal) ((c.tc : Thread nD τ).loc b) :=
  Pipeline.afterTail₀ cfgs (dats m) 0 (V0 m) [hostOps1] c b

/-- An output of the kernel, as the host lines after it find it. -/
theorem entry (w : Fin cfg0.W) :
    Pipeline.withArrays spec0 c (V0 m c) (fun w => (dats m 0 c).arrAt w cfg0.N) (Proc.devRef .tc (Pipeline.arrRef spec0 w))
      = (dats m 0 c).arrAt w cfg0.N :=
  (dats m 0 c).withArrays_arrAt sharedIn0 (V0 m c) (A_eq m c) w

/-- The rows 128 further down are the next block's. -/
theorem shift_next (f : Fin 32 → Fin 4 → Fin 128 → Fin 64 → ℝ) (n : Fin 32) (g : Fin 4) (r : Fin 128) (d : Fin 64)
    (h : (pos n r).val < 3968) :
    byBlock f (ix2 ⟨128 + (pos n r).val, by omega⟩ (kc g d)) = ((Data.next (fun n' => f n' g r d) n : ℝ) : EReal) := by
  have hn : n.val + 1 < 32 := by have := h; simp only [pos] at this; omega
  rw [show (⟨128 + (pos n r).val, by omega⟩ : Fin 4096) = pos ⟨n.val + 1, hn⟩ r from Fin.ext (by simp only [pos]; omega), byBlock_apply]
  unfold Data.next
  rw [dif_pos hn]

theorem shift_last (f : Fin 32 → ℝ) (n : Fin 32) (r : Fin 128) (h : ¬(pos n r).val < 3968) :
    (0 : EReal) = ((Data.next f n : ℝ) : EReal) := by
  have hn : ¬n.val + 1 < 32 := by have := h; have := r.isLt; simp only [pos] at h; omega
  unfold Data.next
  rw [dif_neg hn]
  rfl

variable (A : Args D (m ((c : Thread nD τ).loc main_arg0)) (m ((c : Thread nD τ).loc main_arg1)) (m ((c : Thread nD τ).loc main_arg2))
    (m ((c : Thread nD τ).loc main_arg3)) (m ((c : Thread nD τ).loc main_arg4)))
include A

theorem dk_tail (n : Fin 32) (g : Fin 4) (r : Fin 128) (d : Fin 64) :
    tail m c main_v19 (ix2 (pos n r) (kc g d)) = ((D.dk g n r d : ℝ) : EReal) := by
  unfold tail Pipeline.afterTail₀
  simp only [List.flatten_cons, List.flatten_nil, List.append_nil]
  after_reads_at
  unfold Data.dk
  rw [EReal.coe_add]
  refine congr (congrArg _ ?_) ?_
  · exact (congrFun ((entry 11).trans (dkc_final A)) _).trans (byBlock_apply _ n g r d)
  · have hr := r.isLt
    by_cases h : (pos n r).val < 3968
    · rw [dif_pos h]
      after_reads_at
      exact (congrFun ((entry 12).trans (dkp_final A)) _).trans (shift_next _ n g r d h)
    · rw [dif_neg h]
      after_reads_at
      exact shift_last _ n r h

theorem dv_tail (n : Fin 32) (g : Fin 4) (r : Fin 128) (d : Fin 64) :
    tail m c main_v26 (ix2 (pos n r) (kc g d)) = ((D.dv g n r d : ℝ) : EReal) := by
  unfold tail Pipeline.afterTail₀
  simp only [List.flatten_cons, List.flatten_nil, List.append_nil]
  after_reads_at
  unfold Data.dv
  rw [EReal.coe_add]
  refine congr (congrArg _ ?_) ?_
  · exact (congrFun ((entry 13).trans (dvc_final A)) _).trans (byBlock_apply _ n g r d)
  · have hr := r.isLt
    by_cases h : (pos n r).val < 3968
    · rw [dif_pos h]
      after_reads_at
      exact (congrFun ((entry 14).trans (dvp_final A)) _).trans (shift_next _ n g r d h)
    · rw [dif_neg h]
      after_reads_at
      exact shift_last _ n r h

theorem dsink_tail (g : Fin 4) (h : Fin 8) : tail m c main_v28 (ix1 (hd g h)) = ((D.dsink g h : ℝ) : EReal) := by
  unfold tail Pipeline.afterTail₀
  simp only [List.flatten_cons, List.flatten_nil, List.append_nil]
  after_reads_at
  exact (congrFun (entry 15) _).trans (dsink_final A g h 0)

theorem dqg_tail (d : Fin 64) : tail m c main_v29 (ix1 d) = ((D.dqg d : ℝ) : EReal) := by
  unfold tail Pipeline.afterTail₀
  simp only [List.flatten_cons, List.flatten_nil, List.append_nil]
  after_reads_at
  exact (congrFun (entry 16) _).trans (dqg_final A d)

theorem dkg_tail (d : Fin 64) : tail m c main_v30 (ix1 d) = ((D.dkg d : ℝ) : EReal) := by
  unfold tail Pipeline.afterTail₀
  simp only [List.flatten_cons, List.flatten_nil, List.append_nil]
  after_reads_at
  exact (congrFun (entry 17) _).trans (dkg_final A d)

end Cert.SwaIdeal.Proof
-- ==== Proof.SwaRefSoft.lean ====
/- The reference's scores and probabilities, as real numbers. -/
module

public import proofs.«01_k».proof.Proof.SwaRefNorm
public import Idealize.ShloMosaic.Lib.WordCmp

@[expose] public section

set_option maxRecDepth 16384

noncomputable section

open Idealize.ShloMosaic Idealize.ShloMosaic.TcCoe

namespace Cert.SwaRefIdeal.Proof

open Cert.SwaRefIdeal Cert.SwaRefIdeal.Read _root_.Swa

theorem toInt_small {n : ℕ} (h : n < 2 ^ 31) : (BitVec.ofNat 32 n).toInt = n := by
  rw [BitVec.toInt_eq_toNat_cond, BitVec.toNat_ofNat, Nat.mod_eq_of_lt (by omega), if_pos (by omega)]

/-- The distance of a query from a row of its window, as a word. -/
theorem v65_toInt (t : Fin 128) (s : Fin 256) : (val_main_v65 (F := Ideal) (ix2 t s)).toInt = (t.val : ℤ) + 128 - s.val := by
  unfold val_main_v65
  pointwise [val_main_v63, val_main_v64, val_main_v62, val_main_v61, val_main_v60, val_main_v59, val_main_v58, val_main_v57, val_main_c]
  have ht : (BitVec.ofNat 32 t.val).toInt = t.val := toInt_small (by omega)
  have hs : (BitVec.ofNat 32 s.val).toInt = s.val := toInt_small (by omega)
  have ha : (BitVec.ofNat 32 t.val + 128#32).toInt = t.val + 128 := by
    rw [BitVec.toInt_add, ht, show (128#32).toInt = 128 from rfl, Int.bmod_eq_of_le] <;> omega
  change (BitVec.ofNat 32 t.val + 128#32 - BitVec.ofNat 32 s.val).toInt = _
  rw [BitVec.toInt_sub, ha, hs, Int.bmod_eq_of_le] <;> omega

/-- The position of a row of a window in the sequence, as a word. -/
theorem v81_toInt (n : Fin 32) (s : Fin 256) : (val_main_v81 (F := Ideal) (ix2 n s)).toInt = (n.val : ℤ) * 128 - 128 + s.val := by
  unfold val_main_v81
  pointwise [val_main_v79, val_main_v80, val_main_v78, val_main_v77, val_main_v76, val_main_v75, val_main_v74, val_main_v73,
    val_main_v72, val_main_v71, val_main_c_14, val_main_c_15]
  have hn : (BitVec.ofNat 32 n.val).toInt = n.val := toInt_small (by omega)
  have hs : (BitVec.ofNat 32 s.val).toInt = s.val := toInt_small (by omega)
  have ha : (BitVec.ofNat 32 n.val * 128#32).toInt = n.val * 128 := by
    rw [BitVec.toInt_mul, hn, show (128#32).toInt = 128 from rfl, Int.bmod_eq_of_le] <;> omega
  have hb : (BitVec.ofNat 32 n.val * 128#32 - 128#32).toInt = n.val * 128 - 128 := by
    rw [BitVec.toInt_sub, ha, show (128#32).toInt = 128 from rfl, Int.bmod_eq_of_le] <;> omega
  change (BitVec.ofNat 32 n.val * 128#32 - 128#32 + BitVec.ofNat 32 s.val).toInt = _
  rw [BitVec.toInt_add, hb, hs, Int.bmod_eq_of_le] <;> omega

variable {D : Data}

/-- The mask is set exactly where the query sees the row. -/
theorem v88_eq (n : Fin 32) (g : Fin 4) (t : Fin 128) (s : Fin 256) :
    val_main_v88 (F := Ideal) (ix3 n t s) = BitVec.ofBool (decide ((D.blk n g).zeroed.ok t s)) := by
  have hd := v65_toInt t s
  have hp := v81_toInt n s
  have hb : ∀ a b : Bool, IntOp.andi (BitVec.ofBool a) (BitVec.ofBool b) = BitVec.ofBool (a && b) := by decide
  unfold val_main_v88
  pointwise [val_main_v86, val_main_v87, val_main_v85, val_main_v84, val_main_v83, val_main_v82, val_main_v70, val_main_v69,
    val_main_v68, val_main_v67, val_main_v66, val_main_c_12, val_main_c_13, val_main_c_16]
  rw [WordCmp.cmpi_sge_eq, WordCmp.cmpi_slt_eq, WordCmp.cmpi_sge_eq, hd, hp, hb, hb, show (0#32).toInt = 0 from rfl,
    show (128#32).toInt = 128 from rfl, ← Bool.decide_and, ← Bool.decide_and]
  congr 1
  refine decide_eq_decide.mpr ?_
  unfold Blk.ok
  change _ ↔ _ ∧ _ ∧ (_ ∨ 0 < n.val)
  omega

variable {x0 : FVec Ideal S4096x2560 .f32} {x1 x2 : FVec Ideal S64 .f32} {x3 : FVec Ideal S32 .f32}
    {x4 : FVec Ideal S4096x2048 .f32} (A : Args D x0 x1 x2 x3 x4)

include A

/-- The products of queries and keys. -/
theorem v56_eq (n : Fin 32) (g : Fin 4) (h : Fin 8) (t : Fin 128) (s : Fin 256) :
    val_main_v56 (F := Ideal) x0 x1 x2 (ix5 n g h t s) =
      (((∑ d, (D.blk n g).zeroed.qn h t d * (D.blk n g).zeroed.kn s d) * (1 / 8) : ℝ) : EReal) := by
  rw [val_main_v56_apply, val_main_v54_apply, val_main_v53_apply, val_main_v55_apply, val_main_cst_11_apply]
  have el : ∀ k, lidx_main_v53 (idx_main_v54 (ix5 n g h t s)) k = ix4 n s g k := fun k => by blk_ext []
  have er : ∀ k, ridx_main_v53 (idx_main_v54 (ix5 n g h t s)) k = ix5 n t g h k := fun k => by blk_ext []
  simp only [el, er, v45_eq A, v38_eq A]
  pointwise
  simp only [← EReal.coe_mul, coe_sum, f32_eighth]
  simp only [mul_comm]

/-- The biases. -/
theorem v106_eq (g : Fin 4) (h : Fin 8) (t : Fin 128) (s : Fin 256) :
    val_main_v106 (F := Ideal) (ix4 g h t s) = ((-D.sl g h * ((t.val : ℝ) + 128 - (s.val : ℝ)) : ℝ) : EReal) := by
  rw [val_main_v106_apply, val_main_v104_apply, val_main_v101_apply, val_main_v100_apply, val_main_v99_apply,
    val_main_v105_apply, val_main_v103_apply, val_main_v102_apply]
  rw [show idx_main_v99 (idx_main_v100 (idx_main_v104 (ix4 g h t s))) = ix1 (hd g h) by unfold hd; blk_ext [], A.sl,
    show idx_main_v103 (idx_main_v105 (ix4 g h t s)) = ix2 t s by blk_ext []]
  have hd := v65_toInt t s
  change -((D.sl g h : ℝ) : EReal) * (((val_main_v65 (F := Ideal) (ix2 t s)).toInt : ℝ) : EReal) = _
  rw [hd, ← EReal.coe_neg, ← EReal.coe_mul]
  push_cast
  rfl

/-- The scores, `⊥` outside the window. -/
theorem v111_eq (n : Fin 32) (g : Fin 4) (h : Fin 8) (t : Fin 128) (s : Fin 256) :
    val_main_v111_0 (F := Ideal) x0 x1 x2 (ix5 n g h t s) =
      if (D.blk n g).zeroed.ok t s then (((D.blk n g).zeroed.sc h t s : ℝ) : EReal) else ⊥ := by
  rw [val_main_v111_0_apply, val_main_v111_1_apply, val_main_v107_apply, val_main_v110_apply, v56_eq A, val_main_v109_apply,
    val_main_v108_apply, show idx_main_v107 (idx_main_v111_1 (ix5 n g h t s)) = ix3 n t s by blk_ext [], v88_eq (D := D) n g,
    show idx_main_v108 (idx_main_v109 (ix5 n g h t s)) = ix4 g h t s by blk_ext [], v106_eq A]
  by_cases hok : (D.blk n g).zeroed.ok t s
  · simp only [hok, decide_true, if_true]
    refine (EReal.coe_add _ _).symm.trans ?_
    refine congrArg _ ?_
    unfold Blk.sc
    change _ + -D.sl g h * _ = _ - D.sl g h * _
    ring
  · rw [if_neg hok, decide_eq_false hok]
    change val_main_call0_v2 (F := Ideal) (ix5 n g h t s) = _
    pointwise [val_main_call0_v2, val_main_call0_v0, val_main_cst_21]
    exact f32_neg_inf

/-- The sinks' column. -/
theorem v114_eq (n : Fin 32) (g : Fin 4) (h : Fin 8) (t : Fin 128) :
    val_main_v114 (F := Ideal) x3 (ix5 n g h t 0) = ((D.sk g h : ℝ) : EReal) := by
  rw [val_main_v114_apply, val_main_v113_apply, val_main_v112_apply, ← A.sk g h]
  unfold hd
  blk_ext []

/-- The row of scores with the sink behind. -/
theorem v115_key (n : Fin 32) (g : Fin 4) (h : Fin 8) (t : Fin 128) (s : Fin 256) :
    val_main_v115 (F := Ideal) x0 x1 x2 x3 (ix5 n g h t s.castSucc) =
      if (D.blk n g).zeroed.ok t s then (((D.blk n g).zeroed.sc h t s : ℝ) : EReal) else ⊥ := by
  rw [← v111_eq A]
  unfold val_main_v115
  pointwise
  rw [dif_pos (by simp)]
  blk_ext [Fin.val_castSucc]

@[inherit_doc v115_key] theorem v115_sink (n : Fin 32) (g : Fin 4) (h : Fin 8) (t : Fin 128) :
    val_main_v115 (F := Ideal) x0 x1 x2 x3 (ix5 n g h t (Fin.last 256)) = ((D.sk g h : ℝ) : EReal) := by
  rw [← v114_eq A n g h t]
  have key : ∀ z : Fin 257, z = Fin.last 256 → val_main_v115 (F := Ideal) x0 x1 x2 x3 (ix5 n g h t z) =
      val_main_v114 (F := Ideal) x3 (ix5 n g h t 0) := fun z hz => by
    have hv : z.val = 256 := by rw [hz]; rfl
    unfold val_main_v115
    pointwise
    rw [dif_neg (by omega)]
    blk_ext [hv]
  exact key _ rfl

omit A in
theorem fold_real (f : Fin 257 → EReal) (hf : ∀ s, f s < ⊤) {b : ℝ} (hb : f (Fin.last 256) = (b : EReal)) :
    ∃ m : ℝ, Finset.fold max ⊥ f Finset.univ = (m : EReal) := by
  have h1 := fold_max_lt_top Finset.univ f hf
  have h2 : f (Fin.last 256) ≤ Finset.fold max ⊥ f Finset.univ :=
    (Finset.le_fold_max _).mpr (.inr ⟨_, Finset.mem_univ _, le_rfl⟩)
  refine ⟨_, (EReal.coe_toReal h1.ne fun e => ?_).symm⟩
  rw [e, hb] at h2
  exact absurd h2 (not_le.mpr (EReal.bot_lt_coe b))

/-- The row's maximum is a real number. -/
theorem v116_eq (n : Fin 32) (g : Fin 4) (h : Fin 8) (t : Fin 128) : ∃ m : ℝ,
    val_main_v116 (F := Ideal) x0 x1 x2 x3 (ix4 n g h t) = (m : EReal) := by
  unfold val_main_v116
  pointwise
  rw [val_main_cst_22_apply]
  pointwise
  rw [f32_neg_inf]
  refine fold_real _ (fun s => ?_) (v115_sink A n g h t)
  refine Fin.lastCases ?_ (fun s => ?_) s
  · rw [v115_sink A]; exact EReal.coe_lt_top _
  · rw [v115_key A]
    split_ifs
    · exact EReal.coe_lt_top _
    · exact bot_lt_top

/-- A row's exponentials, shifted by the row's maximum, and their sum. -/
theorem shift (n : Fin 32) (g : Fin 4) (h : Fin 8) (t : Fin 128) : ∃ m : ℝ,
    (∀ s : Fin 256, val_main_v125 (F := Ideal) x0 x1 x2 x3 (ix5 n g h t s.castSucc) =
      ((exm ((D.blk n g).zeroed.ok t) ((D.blk n g).zeroed.sc h t) m s : ℝ) : EReal)) ∧
    val_main_v125 (F := Ideal) x0 x1 x2 x3 (ix5 n g h t (Fin.last 256)) = ((Real.exp (D.sk g h - m) : ℝ) : EReal) ∧
    val_main_v127 (F := Ideal) x0 x1 x2 x3 (ix5 n g h t 0) =
      ((Zm ((D.blk n g).zeroed.ok t) ((D.blk n g).zeroed.sc h t) (D.sk g h) m : ℝ) : EReal) := by
  obtain ⟨m, hm⟩ := v116_eq A n g h t
  have e1 : ∀ s, val_main_v125 (F := Ideal) x0 x1 x2 x3 (ix5 n g h t s) =
      Ideal.exp (val_main_v115 (F := Ideal) x0 x1 x2 x3 (ix5 n g h t s) - (m : EReal)) := fun s => by
    rw [val_main_v125_apply, val_main_v124_apply, val_main_v123_apply, val_main_v122_apply,
      show idx_main_v122 (idx_main_v123 (ix5 n g h t s)) = ix4 n g h t by blk_ext [], hm]
    rfl
  have hk : ∀ s : Fin 256, val_main_v125 (F := Ideal) x0 x1 x2 x3 (ix5 n g h t s.castSucc) =
      ((exm ((D.blk n g).zeroed.ok t) ((D.blk n g).zeroed.sc h t) m s : ℝ) : EReal) := fun s => by
    rw [e1, v115_key A, exm]
    split_ifs
    · rw [← EReal.coe_sub, Ideal.exp_coe]
    · rw [EReal.bot_sub]
      exact Ideal.exp_bot
  have hs : val_main_v125 (F := Ideal) x0 x1 x2 x3 (ix5 n g h t (Fin.last 256)) = ((Real.exp (D.sk g h - m) : ℝ) : EReal) := by
    rw [e1, v115_sink A, ← EReal.coe_sub, Ideal.exp_coe]
  refine ⟨m, hk, hs, ?_⟩
  rw [val_main_v127_apply, val_main_v126_apply, val_main_cst_24_apply]
  have e2 : ∀ k, idx_main_v126 (idx_main_v127 (ix5 n g h t 0)) k = ix5 n g h t k := fun k => by blk_ext []
  simp only [e2]
  rw [Fin.sum_univ_castSucc, hs]
  simp only [hk, coe_sum]
  pointwise
  rw [← EReal.coe_add]
  rfl

theorem v133_eq (n : Fin 32) (g : Fin 4) (h : Fin 8) (t : Fin 128) (s : Fin 256) :
    val_main_v133 (F := Ideal) x0 x1 x2 x3 (ix5 n g h t s) = (((D.blk n g).zeroed.prob h t s : ℝ) : EReal) := by
  obtain ⟨m, hk, -, hz⟩ := shift A n g h t
  rw [val_main_v133_apply, show idx_main_v133 (ix5 n g h t s) = ix5 n g h t s.castSucc by blk_ext [Fin.val_castSucc],
    val_main_v129_apply, hk, val_main_v128_apply, show idx_main_v128 (ix5 n g h t s.castSucc) = ix5 n g h t 0 by blk_ext [], hz]
  refine (div_real _ (Zm_ne _ _ _ _)).trans ?_
  rw [exm_div]
  rfl

theorem v138_eq (n : Fin 32) (g : Fin 4) (h : Fin 8) (t : Fin 128) (d : Fin 64) :
    val_main_v138 (F := Ideal) x4 (ix5 n g d h t) = (((D.blk n g).zeroed.o h t d : ℝ) : EReal) := by
  rw [val_main_v138_apply, val_main_v137_apply]
  change _ = ((D.o g h (pos n t) d : ℝ) : EReal)
  rw [← A.o]
  unfold qc pos
  blk_ext []

theorem v139_eq (n : Fin 32) (g : Fin 4) (h : Fin 8) (t : Fin 128) (s : Fin 256) :
    val_main_v139 (F := Ideal) x0 x4 (ix5 n g h t s) = (((D.blk n g).zeroed.dp h t s : ℝ) : EReal) := by
  rw [val_main_v139_apply]
  have el : ∀ k, lidx_main_v139 (ix5 n g h t s) k = ix5 n g k h t := fun k => by blk_ext []
  have er : ∀ k, ridx_main_v139 (ix5 n g h t s) k = ix4 n s g k := fun k => by blk_ext []
  simp only [el, er, v138_eq A, v52_eq A, ← EReal.coe_mul, coe_sum]
  rfl

omit A in
theorem v142_at (n : Fin 32) (g : Fin 4) (h : Fin 8) (t : Fin 128) (z : Fin 257) :
    val_main_v142 (F := Ideal) x0 x4 (ix5 n g h t z)
      = if hz : z.val < 256 then val_main_v139 (F := Ideal) x0 x4 (ix5 n g h t ⟨z.val, hz⟩) else 0 := by
  unfold val_main_v142
  pointwise
  split
  · rfl
  · rw [val_main_cst_26_apply]
    pointwise

end Cert.SwaRefIdeal.Proof
-- ==== Proof.SwaRefSums.lean ====
/- Sums over several axes at once: the host's contractions and reductions of the reference. -/
module

public import proofs.«01_k».proof.Proof.SwaRefSoft
public import Idealize.ShloMosaic.Lib.TwoAxisContraction

@[expose] public section

set_option maxRecDepth 16384

noncomputable section

open Idealize.ShloMosaic Idealize.ShloMosaic.TcCoe

namespace Cert.SwaRefIdeal.Proof

open Cert.SwaRefIdeal Cert.SwaRefIdeal.Read _root_.Swa
open Idealize.ShloMosaic.ValueIdx (contrEquiv2 contrEquiv2_symm_val0 contrEquiv2_symm_val1)

/-- A sum over the first two of three axes. -/
theorem sum_axes01 {a b c : ℕ} (h : (⟨3, ![a, b, c]⟩ : Shape).ReducesTo [0, 1] ⟨1, ![c]⟩)
    (v : (⟨3, ![a, b, c]⟩ : Shape).Idx → EReal) (init : EReal) (d : Fin c) :
    Ideal.hostReduceAdd h v init (ix1 d) = init + ∑ r : Fin a, ∑ g : Fin b, v (ix3 r g d) := by
  refine congrArg (init + ·) ((Finset.sum_filter_eq_sum_of_fiber _ (fun k : Fin a × Fin b => ix3 k.1 k.2 d)
    (fun _ _ e => Prod.ext (congrFun e 0) (congrFun e 1)) (fun i => ?_) v).trans ?_)
  · constructor
    · intro e
      refine ⟨(i 0, i 1), ?_⟩
      funext x; apply Fin.ext
      match x with
      | ⟨0, _⟩ => rfl
      | ⟨1, _⟩ => rfl
      | ⟨2, _⟩ => exact (congrArg Fin.val (congrFun e 0)).symm
    · rintro ⟨k, rfl⟩
      funext x; apply Fin.ext
      match x with
      | ⟨0, _⟩ => rfl
  · simp only [Fintype.sum_prod_type]

/-- A sum over the first and the last two of five axes. -/
theorem sum_axes034 {a b c d e : ℕ} (h : (⟨5, ![a, b, c, d, e]⟩ : Shape).ReducesTo [0, 3, 4] ⟨2, ![b, c]⟩)
    (v : (⟨5, ![a, b, c, d, e]⟩ : Shape).Idx → EReal) (init : EReal) (g : Fin b) (y : Fin c) :
    Ideal.hostReduceAdd h v init (ix2 g y) = init + ∑ n : Fin a, ∑ t : Fin d, ∑ z : Fin e, v (ix5 n g y t z) := by
  refine congrArg (init + ·) ((Finset.sum_filter_eq_sum_of_fiber _ (fun k : Fin a × Fin d × Fin e => ix5 k.1 g y k.2.1 k.2.2)
    (fun _ _ e => Prod.ext (congrFun e 0) (Prod.ext (congrFun e 3) (congrFun e 4))) (fun i => ?_) v).trans ?_)
  · constructor
    · intro e
      refine ⟨(i 0, i 3, i 4), ?_⟩
      funext x; apply Fin.ext
      match x with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => rfl
    · rintro ⟨k, rfl⟩
      funext x; apply Fin.ext
      match x with
      | ⟨0, _⟩ => rfl
      | ⟨1, _⟩ => rfl
  · simp only [Fintype.sum_prod_type]

variable (x0 : FVec Ideal S4096x2560 .f32) (x1 x2 : FVec Ideal S64 .f32) (x3 : FVec Ideal S32 .f32) (x4 : FVec Ideal S4096x2048 .f32)

/-- The contraction over the heads and the queries that gives the values' gradient. -/
theorem v140_sum (n : Fin 32) (g : Fin 4) (d : Fin 64) (s : Fin 256) :
    val_main_v140 (F := Ideal) x0 x1 x2 x3 x4 (ix4 n g d s)
      = ∑ h : Fin 8, ∑ t : Fin 128, val_main_v138 (F := Ideal) x4 (ix5 n g d h t) * val_main_v133 (F := Ideal) x0 x1 x2 x3 (ix5 n g h t s) := by
  unfold val_main_v140
  generalize val_main_v138 (F := Ideal) x4 = L
  generalize val_main_v133 (F := Ideal) x0 x1 x2 x3 = R
  let D := dot_S32x4x64x8x128_S32x4x8x128x256_S32x4x64x256_34_23_2_4_01_01
  have hr : D.contr.rank = 2 := rfl
  have c0 : D.contr.size ⟨0, by rw [hr]; omega⟩ = 8 := rfl
  have c1 : D.contr.size ⟨1, by rw [hr]; omega⟩ = 128 := rfl
  refine (Ideal.dotGeneral_apply D none _ L R _).trans ?_
  rw [← Equiv.sum_comp (contrEquiv2 D 8 128 hr c0 c1).symm, Fintype.sum_prod_type]
  refine Finset.sum_congr rfl fun h _ => Finset.sum_congr rfl fun t _ => ?_
  have h0 := contrEquiv2_symm_val0 D 8 128 hr c0 c1 (h, t)
  have h1 := contrEquiv2_symm_val1 D 8 128 hr c0 c1 (h, t)
  have el : D.lhsIdx (ix4 n g d s) ((contrEquiv2 D 8 128 hr c0 c1).symm (h, t)) = ix5 n g d h t := by
    funext a; apply Fin.ext
    match a with
    | ⟨0, _⟩ => rfl
    | ⟨1, _⟩ => rfl
    | ⟨2, _⟩ => rfl
    | ⟨3, _⟩ => exact h0
    | ⟨4, _⟩ => exact h1
  have er : D.rhsIdx (ix4 n g d s) ((contrEquiv2 D 8 128 hr c0 c1).symm (h, t)) = ix5 n g h t s := by
    funext a; apply Fin.ext
    match a with
    | ⟨0, _⟩ => rfl
    | ⟨1, _⟩ => rfl
    | ⟨2, _⟩ => exact h0
    | ⟨3, _⟩ => exact h1
    | ⟨4, _⟩ => rfl
  rw [el, er]

/-- The contraction over the queries and the heads that gives the keys' gradient. -/
theorem v167_sum (n : Fin 32) (g : Fin 4) (s : Fin 256) (d : Fin 64) :
    val_main_v167 (F := Ideal) x0 x1 x2 x3 x4 (ix4 n g s d)
      = ∑ t : Fin 128, ∑ h : Fin 8, val_main_v164 (F := Ideal) x0 x1 x2 x3 x4 (ix5 n g s t h) * val_main_v38 (F := Ideal) x0 x1 (ix5 n t g h d) := by
  unfold val_main_v167
  generalize val_main_v164 (F := Ideal) x0 x1 x2 x3 x4 = L
  generalize val_main_v38 (F := Ideal) x0 x1 = R
  let D := dot_S32x4x256x128x8_S32x128x4x8x64_S32x4x256x64_34_13_2_4_01_02
  have hr : D.contr.rank = 2 := rfl
  have c0 : D.contr.size ⟨0, by rw [hr]; omega⟩ = 128 := rfl
  have c1 : D.contr.size ⟨1, by rw [hr]; omega⟩ = 8 := rfl
  refine (Ideal.dotGeneral_apply D none _ L R _).trans ?_
  rw [← Equiv.sum_comp (contrEquiv2 D 128 8 hr c0 c1).symm, Fintype.sum_prod_type]
  refine Finset.sum_congr rfl fun t _ => Finset.sum_congr rfl fun h _ => ?_
  have h0 := contrEquiv2_symm_val0 D 128 8 hr c0 c1 (t, h)
  have h1 := contrEquiv2_symm_val1 D 128 8 hr c0 c1 (t, h)
  have el : D.lhsIdx (ix4 n g s d) ((contrEquiv2 D 128 8 hr c0 c1).symm (t, h)) = ix5 n g s t h := by
    funext a; apply Fin.ext
    match a with
    | ⟨0, _⟩ => rfl
    | ⟨1, _⟩ => rfl
    | ⟨2, _⟩ => rfl
    | ⟨3, _⟩ => exact h0
    | ⟨4, _⟩ => exact h1
  have er : D.rhsIdx (ix4 n g s d) ((contrEquiv2 D 128 8 hr c0 c1).symm (t, h)) = ix5 n t g h d := by
    funext a; apply Fin.ext
    match a with
    | ⟨0, _⟩ => rfl
    | ⟨1, _⟩ => exact h0
    | ⟨2, _⟩ => rfl
    | ⟨3, _⟩ => exact h1
    | ⟨4, _⟩ => rfl
  rw [el, er]

end Cert.SwaRefIdeal.Proof
-- ==== Proof.SwaRefGrad.lean ====
/- The reference's gradients of the scores, the sinks, the keys and the values, as real numbers. -/
module

public import proofs.«01_k».proof.Proof.SwaRefSums

@[expose] public section

set_option maxRecDepth 16384

noncomputable section

open Idealize.ShloMosaic Idealize.ShloMosaic.TcCoe

namespace Cert.SwaRefIdeal.Proof

open Cert.SwaRefIdeal Cert.SwaRefIdeal.Read _root_.Swa

variable {D : Data} {x0 : FVec Ideal S4096x2560 .f32} {x1 x2 : FVec Ideal S64 .f32} {x3 : FVec Ideal S32 .f32}
    {x4 : FVec Ideal S4096x2048 .f32} (A : Args D x0 x1 x2 x3 x4)

theorem word_zero : Ideal.ofBits .f32 0x00000000#32 = ((0 : ℝ) : EReal) := by
  simp [Ideal.ofBits, Ideal.ieee]

include A

theorem v142_key (n : Fin 32) (g : Fin 4) (h : Fin 8) (t : Fin 128) (s : Fin 256) :
    val_main_v142 (F := Ideal) x0 x4 (ix5 n g h t s.castSucc) = (((D.blk n g).zeroed.dp h t s : ℝ) : EReal) := by
  rw [v142_at, dif_pos (show (s.castSucc).val < 256 from s.isLt)]
  exact v139_eq A n g h t s

omit A in
theorem v142_sink (n : Fin 32) (g : Fin 4) (h : Fin 8) (t : Fin 128) :
    val_main_v142 (F := Ideal) x0 x4 (ix5 n g h t (Fin.last 256)) = ((0 : ℝ) : EReal) := by
  rw [v142_at, dif_neg (by simp)]
  rfl

theorem v142_real (n : Fin 32) (g : Fin 4) (h : Fin 8) (t : Fin 128) (z : Fin 257) :
    ∃ r : ℝ, val_main_v142 (F := Ideal) x0 x4 (ix5 n g h t z) = ((r : ℝ) : EReal) := by
  induction z using Fin.lastCases with
  | last => exact ⟨_, v142_sink n g h t⟩
  | cast s => exact ⟨_, v142_key A n g h t s⟩

/-- The scores' cotangents, of the window and of the sink. -/
theorem v154_eq (n : Fin 32) (g : Fin 4) (h : Fin 8) (t : Fin 128) :
    (∀ s : Fin 256, val_main_v154 (F := Ideal) x0 x1 x2 x3 x4 (ix5 n g h t s.castSucc) = (((D.blk n g).zeroed.dsc h t s : ℝ) : EReal)) ∧
    val_main_v154 (F := Ideal) x0 x1 x2 x3 x4 (ix5 n g h t (Fin.last 256)) =
      ((-(Ps ((D.blk n g).zeroed.ok t) ((D.blk n g).zeroed.sc h t) (D.sk g h) * (D.blk n g).zeroed.del h t) : ℝ) : EReal) := by
  obtain ⟨m, hk, hs, hz⟩ := shift A n g h t
  set B := (D.blk n g).zeroed with hB
  have hne := Zm_ne (B.ok t) (B.sc h t) (D.sk g h) m
  set zm := Zm (B.ok t) (B.sc h t) (D.sk g h) m with hzm
  have e132 : val_main_v132 (F := Ideal) x0 x1 x2 x3 (ix5 n g h t 0) = ((1 / (zm * zm) : ℝ) : EReal) := by
    rw [val_main_v132_apply, val_main_v131_apply, val_main_cst_25_apply, val_main_v130_apply, hz]
    change Ideal.div (Ideal.ofBits .f32 0x3F800000#32) ((zm : EReal) * (zm : EReal)) = _
    rw [f32_one, ← EReal.coe_mul, div_real _ (mul_ne_zero hne hne)]
  have e144 : ∀ z (r e : ℝ), val_main_v142 (F := Ideal) x0 x4 (ix5 n g h t z) = ((r : ℝ) : EReal) →
      val_main_v125 (F := Ideal) x0 x1 x2 x3 (ix5 n g h t z) = ((e : ℝ) : EReal) →
      val_main_v145 (F := Ideal) x0 x1 x2 x3 x4 (ix5 n g h t z) = ((r * (1 / (zm * zm)) * e : ℝ) : EReal) := fun z r e hr he => by
    rw [val_main_v145_apply, val_main_v144_apply, hr, he, val_main_v143_apply,
      show idx_main_v143 (ix5 n g h t z) = ix5 n g h t 0 by blk_ext [], e132]
    rfl
  have e146 : val_main_v146 (F := Ideal) x0 x1 x2 x3 x4 (ix4 n g h t) = ((B.del h t / zm : ℝ) : EReal) := by
    rw [val_main_v146_apply, val_main_cst_27_apply]
    have ei : ∀ z, idx_main_v146 (ix4 n g h t) z = ix5 n g h t z := fun z => by blk_ext []
    simp only [ei]
    rw [Fin.sum_univ_castSucc (n := 256), e144 _ _ _ (v142_sink n g h t) hs]
    simp only [e144 _ _ _ (v142_key A n g h t _) (hk _), coe_sum]
    refine (congrArg (· + _) word_zero).trans ?_
    rw [← EReal.coe_add, ← EReal.coe_add]
    refine congrArg _ ?_
    rw [zero_mul, zero_mul, add_zero, zero_add, Blk.del, delta, Finset.sum_div]
    refine Finset.sum_congr rfl fun s _ => ?_
    rw [← exm_div _ _ _ m s]
    change _ = exm _ _ _ _ / zm * _ / _
    field_simp
    exact mul_comm _ _
  have e151 : val_main_v151 (F := Ideal) x0 x1 x2 x3 x4 (ix4 n g h t) = ((-(B.del h t / zm) : ℝ) : EReal) := by
    rw [val_main_v151_apply, val_main_cst_28_apply, Fin.sum_univ_one, val_main_v148_apply, val_main_v147_apply,
      show idx_main_v147 (idx_main_v151 (ix4 n g h t) 0) = ix4 n g h t by blk_ext [], e146]
    refine (congrArg (· + _) word_zero).trans ?_
    rw [EReal.coe_zero, zero_add, EReal.coe_neg]
    rfl
  have e154 : ∀ z (r e : ℝ), val_main_v142 (F := Ideal) x0 x4 (ix5 n g h t z) = ((r : ℝ) : EReal) →
      val_main_v125 (F := Ideal) x0 x1 x2 x3 (ix5 n g h t z) = ((e : ℝ) : EReal) →
      val_main_v154 (F := Ideal) x0 x1 x2 x3 x4 (ix5 n g h t z) = (((r / zm + -(B.del h t / zm)) * e : ℝ) : EReal) := fun z r e hr he => by
    rw [val_main_v154_apply, val_main_v153_apply, val_main_v150_apply, hr, he, val_main_v149_apply, val_main_v152_apply,
      show idx_main_v149 (ix5 n g h t z) = ix5 n g h t 0 by blk_ext [], show idx_main_v152 (ix5 n g h t z) = ix4 n g h t by blk_ext [], hz, e151]
    refine (congrArg (fun a => (a + _) * _) (div_real r hne)).trans ?_
    rw [← EReal.coe_add, ← EReal.coe_mul]
  refine ⟨fun s => ?_, ?_⟩
  · rw [e154 _ _ _ (v142_key A n g h t s) (hk s)]
    refine congrArg _ ?_
    rw [Blk.dsc, ds, ← exm_div _ _ _ m s]
    change _ = exm _ _ _ _ / zm * (_ - B.del h t)
    ring
  · rw [e154 _ _ _ (v142_sink n g h t) hs]
    refine congrArg _ ?_
    rw [← exps_div _ _ _ m]
    change _ = -(_ / zm * _)
    ring

theorem v163_eq (n : Fin 32) (g : Fin 4) (h : Fin 8) (t : Fin 128) (s : Fin 256) :
    val_main_v163 (F := Ideal) x0 x1 x2 x3 x4 (ix5 n g h t s) = (((D.blk n g).zeroed.dsc h t s * (1 / 8) : ℝ) : EReal) := by
  have e : val_main_v161 (F := Ideal) x0 x1 x2 x3 x4 (ix5 n g h t s) = (((D.blk n g).zeroed.dsc h t s : ℝ) : EReal) := by
    rw [val_main_v161_apply, val_main_v155_apply, show idx_main_v155 (ix5 n g h t s) = ix5 n g h t s.castSucc by blk_ext [Fin.val_castSucc],
      (v154_eq A n g h t).1 s, val_main_v111_1_apply, show idx_main_v111_1 (ix5 n g h t s) = idx_main_v111_1 (ix5 n g h t s) from rfl,
      val_main_v107_apply, show idx_main_v107 (idx_main_v111_1 (ix5 n g h t s)) = ix3 n t s by blk_ext [], v88_eq (D := D) n g]
    by_cases hok : (D.blk n g).zeroed.ok t s
    · rw [decide_eq_true hok]
      rfl
    · rw [decide_eq_false hok]
      refine Eq.trans ?_ (congrArg _ (ds_eq_zero _ _ _ _ hok)).symm
      change val_main_call1_v0 (F := Ideal) (ix5 n g h t s) = _
      pointwise [val_main_call1_v0, val_main_call1_cst]
      rfl
  rw [val_main_v163_apply, e, val_main_v162_apply, val_main_cst_31_apply]
  refine (congrArg (_ * ·) f32_eighth).trans ?_
  rw [← EReal.coe_mul]

theorem v164_eq (n : Fin 32) (g : Fin 4) (h : Fin 8) (t : Fin 128) (s : Fin 256) :
    val_main_v164 (F := Ideal) x0 x1 x2 x3 x4 (ix5 n g s t h) = (((D.blk n g).zeroed.dsc h t s * (1 / 8) : ℝ) : EReal) := by
  rw [val_main_v164_apply, show idx_main_v164 (ix5 n g s t h) = ix5 n g h t s by blk_ext [], v163_eq A]

/-- The sinks' gradient. -/
theorem v160_eq (g : Fin 4) (h : Fin 8) :
    val_main_v160 (F := Ideal) x0 x1 x2 x3 x4 (ix1 (hd g h)) = ((D.dsink g h : ℝ) : EReal) := by
  have e157 : val_main_v157 (F := Ideal) x0 x1 x2 x3 x4 (ix2 g h) = ((D.dsink g h : ℝ) : EReal) := by
    unfold val_main_v157
    simp only [Host.reduceAdd, Ideal.hostReduceAdd_def]
    refine (sum_axes034 _ _ _ g h).trans ?_
    rw [val_main_cst_29_apply]
    have e : ∀ n t, val_main_v156 (F := Ideal) x0 x1 x2 x3 x4 (ix5 n g h t 0) =
        ((-(Ps ((D.blk n g).ok t) ((D.blk n g).sc h t) (D.sk g h) * (D.blk n g).del h t) : ℝ) : EReal) := fun n t => by
      rw [val_main_v156_apply, show idx_main_v156 (ix5 n g h t 0) = ix5 n g h t (Fin.last 256) by blk_ext [Fin.val_last],
        (v154_eq A n g h t).2, Blk.zeroed_del]
      exact congrArg (fun p : ℝ => ((-(p * _) : ℝ) : EReal)) ((D.blk n g).zeroed_Ps h t)
    simp only [Fin.sum_univ_one, e, coe_sum]
    refine (congrArg (· + _) word_zero).trans ?_
    rw [EReal.coe_zero, zero_add]
    refine congrArg _ (Finset.sum_congr rfl fun n _ => ?_)
    rw [Blk.dsink, ← Finset.sum_neg_distrib]
    rfl
  rw [val_main_v160_apply, show idx_main_v160 (ix1 (hd g h)) = ix2 g h by unfold hd; blk_ext []]
  unfold val_main_v159
  simp only [Host.reduceAdd, Ideal.hostReduceAdd_def]
  refine (sum_axes034 _ _ _ g h).trans ?_
  rw [val_main_cst_30_apply, Fin.sum_univ_one, Fin.sum_univ_one, Fin.sum_univ_one, val_main_v158_apply,
    show idx_main_v158 (ix5 0 g h 0 0) = ix2 g h by blk_ext [], e157]
  refine (congrArg (· + _) word_zero).trans ?_
  rw [EReal.coe_zero, zero_add]

/-- The values' gradient out of one window. -/
theorem v141_eq (n : Fin 32) (g : Fin 4) (s : Fin 256) (d : Fin 64) :
    val_main_v141 (F := Ideal) x0 x1 x2 x3 x4 (ix4 n s g d) = (((D.blk n g).dv s d : ℝ) : EReal) := by
  rw [val_main_v141_apply, show idx_main_v141 (ix4 n s g d) = ix4 n g d s by blk_ext [], v140_sum]
  simp only [v138_eq A, v133_eq A, ← EReal.coe_mul, coe_sum]
  rw [← Blk.zeroed_dv, Blk.dv]
  simp only [mul_comm]

/-- The normalised keys' gradient out of one window. -/
theorem v168_eq (n : Fin 32) (g : Fin 4) (s : Fin 256) (d : Fin 64) :
    val_main_v168 (F := Ideal) x0 x1 x2 x3 x4 (ix4 n s g d) = (((D.blk n g).dkn s d : ℝ) : EReal) := by
  rw [val_main_v168_apply, show idx_main_v168 (ix4 n s g d) = ix4 n g s d by blk_ext [], v167_sum]
  simp only [v164_eq A, v38_eq A, ← EReal.coe_mul, coe_sum]
  rw [← Blk.zeroed_dkn, Blk.dkn, Finset.sum_comm, Finset.sum_mul]
  refine congrArg _ (Finset.sum_congr rfl fun h _ => ?_)
  rw [Finset.sum_mul]
  exact Finset.sum_congr rfl fun t _ => by ring

/-- The normalised queries' gradient. -/
theorem v183_eq (n : Fin 32) (g : Fin 4) (h : Fin 8) (t : Fin 128) (d : Fin 64) :
    val_main_v183 (F := Ideal) x0 x1 x2 x3 x4 (ix3 (pos n t) (hd g h) d) = (((D.blk n g).dqn h t d : ℝ) : EReal) := by
  rw [val_main_v183_apply, show idx_main_v183 (ix3 (pos n t) (hd g h) d) = ix5 n t g h d by unfold hd pos; blk_ext [],
    val_main_v166_apply, show idx_main_v166 (ix5 n t g h d) = ix5 n g t h d by blk_ext [], val_main_v165_apply]
  have el : ∀ k, lidx_main_v165 (ix5 n g t h d) k = ix5 n g k t h := fun k => by blk_ext []
  have er : ∀ k, ridx_main_v165 (ix5 n g t h d) k = ix4 n k g d := fun k => by blk_ext []
  simp only [el, er, v164_eq A, v45_eq A, ← EReal.coe_mul, coe_sum]
  rw [← Blk.zeroed_dqn, Blk.dqn, Finset.sum_mul]
  exact congrArg _ (Finset.sum_congr rfl fun s _ => by ring)

end Cert.SwaRefIdeal.Proof
-- ==== Proof.SwaRefBack.lean ====
/- The reference's results, as real numbers: windows merged, gradients taken back through the norms. -/
module

public import proofs.«01_k».proof.Proof.SwaRefGrad

@[expose] public section

set_option maxRecDepth 16384

noncomputable section

open Idealize.ShloMosaic Idealize.ShloMosaic.TcCoe

namespace Cert.SwaRefIdeal.Proof

open Cert.SwaRefIdeal Cert.SwaRefIdeal.Read _root_.Swa

variable {D : Data} {x0 : FVec Ideal S4096x2560 .f32} {x1 x2 : FVec Ideal S64 .f32} {x3 : FVec Ideal S32 .f32}
    {x4 : FVec Ideal S4096x2048 .f32} (A : Args D x0 x1 x2 x3 x4)

include A

theorem v173_eq (n : Fin 32) (r : Fin 128) (g : Fin 4) (d : Fin 64) :
    val_main_v173 (F := Ideal) x0 x1 x2 x3 x4 (ix4 n r g d) = ((Data.next (fun n' => (D.blk n' g).dv (lo r) d) n : ℝ) : EReal) := by
  have e : ∀ k : Fin 31, val_main_v172 (F := Ideal) x0 x1 x2 x3 x4 (ix4 k r g d) =
      (((D.blk ⟨k.val + 1, by omega⟩ g).dv (lo r) d : ℝ) : EReal) := fun k => by
    rw [val_main_v172_apply, val_main_v169_apply, ← v141_eq A]
    unfold lo
    blk_ext [Nat.add_comm]
  unfold val_main_v173 Data.next
  pointwise
  split
  · next h =>
    rw [dif_pos (by omega)]
    exact e ⟨n.val, h⟩
  · rw [dif_neg (by omega), val_main_cst_32_apply]
    exact word_zero

theorem v180_eq (n : Fin 32) (r : Fin 128) (g : Fin 4) (d : Fin 64) :
    val_main_v180 (F := Ideal) x0 x1 x2 x3 x4 (ix4 n r g d) = ((Data.next (fun n' => (D.blk n' g).dkn (lo r) d) n : ℝ) : EReal) := by
  have e : ∀ k : Fin 31, val_main_v179 (F := Ideal) x0 x1 x2 x3 x4 (ix4 k r g d) =
      (((D.blk ⟨k.val + 1, by omega⟩ g).dkn (lo r) d : ℝ) : EReal) := fun k => by
    rw [val_main_v179_apply, val_main_v176_apply, ← v168_eq A]
    unfold lo
    blk_ext [Nat.add_comm]
  unfold val_main_v180 Data.next
  pointwise
  split
  · next h =>
    rw [dif_pos (by omega)]
    exact e ⟨n.val, h⟩
  · rw [dif_neg (by omega), val_main_cst_33_apply]
    exact word_zero

/-- The values' gradient. -/
theorem v184_eq (n : Fin 32) (r : Fin 128) (g : Fin 4) (d : Fin 64) :
    val_main_v184 (F := Ideal) x0 x1 x2 x3 x4 (ix2 (pos n r) (kc g d)) = ((D.dv g n r d : ℝ) : EReal) := by
  rw [val_main_v184_apply, show idx_main_v184 (ix2 (pos n r) (kc g d)) = ix3 (pos n r) g d by unfold kc; blk_ext [],
    val_main_v175_apply, show idx_main_v175 (ix3 (pos n r) g d) = ix4 n r g d by unfold pos; blk_ext [],
    val_main_v174_apply, v173_eq A, val_main_v170_apply,
    show idx_main_v170 (ix4 n r g d) = ix4 n (hi r) g d by unfold hi; blk_ext [Nat.add_comm], v141_eq A]
  exact (EReal.coe_add _ _).symm

/-- The normalised keys' gradient. -/
theorem v182_eq (n : Fin 32) (r : Fin 128) (g : Fin 4) (d : Fin 64) :
    val_main_v182 (F := Ideal) x0 x1 x2 x3 x4 (ix3 (pos n r) g d) = ((D.dkn g n r d : ℝ) : EReal) := by
  rw [val_main_v182_apply, show idx_main_v182 (ix3 (pos n r) g d) = ix4 n r g d by unfold pos; blk_ext [],
    val_main_v181_apply, v180_eq A, val_main_v177_apply,
    show idx_main_v177 (ix4 n r g d) = ix4 n (hi r) g d by unfold hi; blk_ext [Nat.add_comm], v168_eq A]
  exact (EReal.coe_add _ _).symm

/-- The keys' gain's gradient. -/
theorem v190_eq (d : Fin 64) : val_main_v190 (F := Ideal) x0 x1 x2 x3 x4 (ix1 d) = ((D.dkg d : ℝ) : EReal) := by
  have e : val_main_v186 (F := Ideal) x0 x1 x2 x3 x4 (ix1 d) = ((D.dkg d : ℝ) : EReal) := by
    unfold val_main_v186
    simp only [Host.reduceAdd, Ideal.hostReduceAdd_def]
    refine (sum_axes01 _ _ _ d).trans ?_
    rw [val_main_cst_34_apply, sum_pos]
    have e1 : ∀ n r g, val_main_v185 (F := Ideal) x0 x1 x2 x3 x4 (ix3 (pos n r) g d) =
        ((D.dkn g n r d * hat (D.k g (pos n r)) d : ℝ) : EReal) := fun n r g => by
      rw [val_main_v185_apply, v182_eq A, v33_eq A, mul_comm (D.dkn g n r d), EReal.coe_mul]
      rfl
    simp only [e1, coe_sum]
    refine (congrArg (· + _) word_zero).trans ?_
    rw [EReal.coe_zero, zero_add, ← D.dkg_eq]
    exact congrArg _ (Finset.sum_congr rfl fun n _ => Finset.sum_comm)
  unfold val_main_v190
  simp only [Host.reduceAdd, Ideal.hostReduceAdd_def]
  refine (sum_axes01 _ _ _ d).trans ?_
  rw [val_main_cst_35_apply, Fin.sum_univ_one, Fin.sum_univ_one, val_main_v187_apply,
    show idx_main_v187 (ix3 0 0 d) = ix1 d by blk_ext [], e]
  refine (congrArg (· + _) word_zero).trans ?_
  rw [EReal.coe_zero, zero_add]

omit A in
/-- A row taken back through its norm the way the reference does it: two equal halves of the part through the root. -/
theorem back_halves (g x y : Fin 64 → ℝ) (d : Fin 64) :
    y d * g d * rn x + x d * ((∑ e, x e * (y e * g e)) * (-(1 / 2) * (rn x / ms x)) / 64)
      + (∑ e, x e * (y e * g e)) * (-(1 / 2) * (rn x / ms x)) / 64 * x d = back g x y d := by
  have e : ∑ e, y e * g e * hat x e = (∑ e, x e * (y e * g e)) * rn x := by
    rw [Finset.sum_mul]
    exact Finset.sum_congr rfl fun e _ => by unfold hat; ring
  unfold back
  rw [e, div_eq_mul_one_div (rn x) (ms x), ← rn_sq]
  unfold hat
  ring

/-- The keys' gradient. -/
theorem v205_eq (n : Fin 32) (r : Fin 128) (g : Fin 4) (d : Fin 64) :
    val_main_v205 (F := Ideal) x0 x1 x2 x3 x4 (ix2 (pos n r) (kc g d)) = ((D.dk g n r d : ℝ) : EReal) := by
  have e189 : ∀ d, val_main_v189 (F := Ideal) x0 x1 x2 x3 x4 (ix3 (pos n r) g d) = ((D.dkn g n r d * D.kg d : ℝ) : EReal) := fun d => by
    rw [val_main_v189_apply, v182_eq A, val_main_v188_apply, show idx_main_v188 (ix3 (pos n r) g d) = ix3 0 0 d by blk_ext [], v34_eq A]
    exact (EReal.coe_mul _ _).symm
  have e192 : val_main_v192 (F := Ideal) x0 x1 x2 x3 x4 (ix2 (pos n r) g) =
      ((∑ e, D.k g (pos n r) e * (D.dkn g n r e * D.kg e) : ℝ) : EReal) := by
    rw [val_main_v192_apply, val_main_cst_36_apply]
    have ei : ∀ k, idx_main_v192 (ix2 (pos n r) g) k = ix3 (pos n r) g k := fun k => by blk_ext []
    have e191 : ∀ k, val_main_v191 (F := Ideal) x0 x1 x2 x3 x4 (ix3 (pos n r) g k) =
        ((D.k g (pos n r) k * (D.dkn g n r k * D.kg k) : ℝ) : EReal) := fun k => by
      rw [val_main_v191_apply, v20_eq A, e189, EReal.coe_mul]
      rfl
    simp only [ei, e191, coe_sum]
    refine (congrArg (· + _) word_zero).trans ?_
    rw [EReal.coe_zero, zero_add]
  have e199 : val_main_v199 (F := Ideal) x0 x1 x2 x3 x4 (ix2 (pos n r) g) =
      (((∑ e, D.k g (pos n r) e * (D.dkn g n r e * D.kg e)) * (-(1 / 2) * (rn (D.k g (pos n r)) / ms (D.k g (pos n r)))) / 64 : ℝ) : EReal) := by
    rw [val_main_v199_apply, val_main_cst_38_apply, Fin.sum_univ_one,
      show idx_main_v199 (ix2 (pos n r) g) 0 = ix3 (pos n r) g 0 by blk_ext [], val_main_v198_apply, val_main_v196_apply, v31_eq A,
      val_main_v193_apply, show idx_main_v193 (ix3 (pos n r) g 0) = ix2 (pos n r) g by blk_ext [], e192, val_main_v197_apply,
      val_main_cst_37_apply]
    refine (congrArg₂ (fun a b => a + Ideal.div _ b) word_zero f32_64).trans ?_
    rw [EReal.coe_zero, zero_add]
    refine (congrArg (Ideal.div · _) (EReal.coe_mul _ _).symm).trans ?_
    exact div_real _ (by norm_num)
  rw [val_main_v205_apply, show idx_main_v205 (ix2 (pos n r) (kc g d)) = ix3 (pos n r) g d by unfold kc; blk_ext [],
    val_main_v204_apply, val_main_v202_apply, val_main_v203_apply, val_main_v201_apply, val_main_v195_apply, val_main_v200_apply,
    show idx_main_v200 (ix3 (pos n r) g d) = ix2 (pos n r) g by blk_ext [], e199, e189, v20_eq A, val_main_v194_apply,
    show idx_main_v194 (ix3 (pos n r) g d) = ix3 (pos n r) g 0 by blk_ext [], v28_eq A, ← D.dk_eq, ← back_halves]
  simp only [EReal.coe_add, EReal.coe_mul]
  rfl

/-- The queries' gain's gradient. -/
theorem v211_eq (d : Fin 64) : val_main_v211 (F := Ideal) x0 x1 x2 x3 x4 (ix1 d) = ((D.dqg d : ℝ) : EReal) := by
  have e : val_main_v207 (F := Ideal) x0 x1 x2 x3 x4 (ix1 d) = ((D.dqg d : ℝ) : EReal) := by
    unfold val_main_v207
    simp only [Host.reduceAdd, Ideal.hostReduceAdd_def]
    refine (sum_axes01 _ _ _ d).trans ?_
    rw [val_main_cst_39_apply, sum_pos]
    have e1 : ∀ n t g h, val_main_v206 (F := Ideal) x0 x1 x2 x3 x4 (ix3 (pos n t) (hd g h) d) =
        (((D.blk n g).dqn h t d * hat (D.q g h (pos n t)) d : ℝ) : EReal) := fun n t g h => by
      rw [val_main_v206_apply, v183_eq A, v16_eq A, mul_comm ((D.blk n g).dqn h t d), EReal.coe_mul]
      rfl
    have e2 : ∀ f : Fin 32 → EReal, ∑ y, f y = ∑ g, ∑ h, f (hd g h) := fun f => by
      rw [← Fintype.sum_prod_type' (f := fun g h => f (hd g h))]
      refine (Fintype.sum_equiv (finProdFinEquiv (m := 4) (n := 8)) _ _ fun p => ?_).symm
      refine congrArg f (Fin.ext ?_)
      unfold hd
      simp only [finProdFinEquiv_apply_val]
      omega
    have e3 := fun R => e2 fun y => val_main_v206 (F := Ideal) x0 x1 x2 x3 x4 (ix3 R y d)
    simp only [e3, e1, coe_sum]
    refine (congrArg (· + _) word_zero).trans ?_
    rw [EReal.coe_zero, zero_add]
    refine congrArg _ (Finset.sum_congr rfl fun n _ => ?_)
    rw [Finset.sum_comm]
    exact Finset.sum_congr rfl fun g _ => Finset.sum_comm
  unfold val_main_v211
  simp only [Host.reduceAdd, Ideal.hostReduceAdd_def]
  refine (sum_axes01 _ _ _ d).trans ?_
  rw [val_main_cst_40_apply, Fin.sum_univ_one, Fin.sum_univ_one, val_main_v208_apply,
    show idx_main_v208 (ix3 0 0 d) = ix1 d by blk_ext [], e]
  refine (congrArg (· + _) word_zero).trans ?_
  rw [EReal.coe_zero, zero_add]

/-- The queries' gradient. -/
theorem v226_eq (n : Fin 32) (t : Fin 128) (g : Fin 4) (h : Fin 8) (d : Fin 64) :
    val_main_v226 (F := Ideal) x0 x1 x2 x3 x4 (ix2 (pos n t) (qc g h d)) = (((D.blk n g).dq h t d : ℝ) : EReal) := by
  set X := D.q g h (pos n t) with hX
  set Y := (D.blk n g).dqn h t with hY
  have e210 : ∀ d, val_main_v210 (F := Ideal) x0 x1 x2 x3 x4 (ix3 (pos n t) (hd g h) d) = ((Y d * D.qg d : ℝ) : EReal) := fun d => by
    rw [val_main_v210_apply, v183_eq A, val_main_v209_apply, show idx_main_v209 (ix3 (pos n t) (hd g h) d) = ix3 0 0 d by blk_ext [], v17_eq A]
    exact (EReal.coe_mul _ _).symm
  have e213 : val_main_v213 (F := Ideal) x0 x1 x2 x3 x4 (ix2 (pos n t) (hd g h)) = ((∑ e, X e * (Y e * D.qg e) : ℝ) : EReal) := by
    rw [val_main_v213_apply, val_main_cst_41_apply]
    have ei : ∀ k, idx_main_v213 (ix2 (pos n t) (hd g h)) k = ix3 (pos n t) (hd g h) k := fun k => by blk_ext []
    have e212 : ∀ k, val_main_v212 (F := Ideal) x0 x1 x2 x3 x4 (ix3 (pos n t) (hd g h) k) = ((X k * (Y k * D.qg k) : ℝ) : EReal) := fun k => by
      rw [val_main_v212_apply, v3_eq A, e210, EReal.coe_mul]
      rfl
    simp only [ei, e212, coe_sum]
    refine (congrArg (· + _) word_zero).trans ?_
    rw [EReal.coe_zero, zero_add]
  have e220 : val_main_v220 (F := Ideal) x0 x1 x2 x3 x4 (ix2 (pos n t) (hd g h)) =
      (((∑ e, X e * (Y e * D.qg e)) * (-(1 / 2) * (rn X / ms X)) / 64 : ℝ) : EReal) := by
    rw [val_main_v220_apply, val_main_cst_43_apply, Fin.sum_univ_one,
      show idx_main_v220 (ix2 (pos n t) (hd g h)) 0 = ix3 (pos n t) (hd g h) 0 by blk_ext [], val_main_v219_apply, val_main_v217_apply, v14_eq A,
      val_main_v214_apply, show idx_main_v214 (ix3 (pos n t) (hd g h) 0) = ix2 (pos n t) (hd g h) by blk_ext [], e213, val_main_v218_apply,
      val_main_cst_42_apply]
    refine (congrArg₂ (fun a b => a + Ideal.div _ b) word_zero f32_64).trans ?_
    rw [EReal.coe_zero, zero_add]
    refine (congrArg (Ideal.div · _) (EReal.coe_mul _ _).symm).trans ?_
    exact div_real _ (by norm_num)
  rw [val_main_v226_apply, show idx_main_v226 (ix2 (pos n t) (qc g h d)) = ix3 (pos n t) (hd g h) d by unfold qc hd; blk_ext [],
    val_main_v225_apply, val_main_v223_apply, val_main_v224_apply, val_main_v222_apply, val_main_v216_apply, val_main_v221_apply,
    show idx_main_v221 (ix3 (pos n t) (hd g h) d) = ix2 (pos n t) (hd g h) by blk_ext [], e220, e210, v3_eq A, val_main_v215_apply,
    show idx_main_v215 (ix3 (pos n t) (hd g h) d) = ix3 (pos n t) (hd g h) 0 by blk_ext [], v11_eq A]
  change _ = ((back D.qg X Y d : ℝ) : EReal)
  rw [← back_halves]
  simp only [EReal.coe_add, EReal.coe_mul]
  rfl

/-! The three gradients as the reference returns them: slices of one array. -/

theorem v229_eq (n : Fin 32) (t : Fin 128) (g : Fin 4) (h : Fin 8) (d : Fin 64) :
    val_main_v229 (F := Ideal) x0 x1 x2 x3 x4 (ix2 (pos n t) (qc g h d)) = (((D.blk n g).dq h t d : ℝ) : EReal) := by
  rw [← v226_eq A, val_main_v229_apply, val_main_v228_apply]
  unfold val_main_v227
  have hlt : (qc g h d).val < 2048 := (qc g h d).isLt
  pointwise

theorem v230_eq (n : Fin 32) (r : Fin 128) (g : Fin 4) (d : Fin 64) :
    val_main_v230 (F := Ideal) x0 x1 x2 x3 x4 (ix2 (pos n r) (kc g d)) = ((D.dk g n r d : ℝ) : EReal) := by
  rw [← v205_eq A, val_main_v230_apply, val_main_v228_apply]
  unfold val_main_v227
  have hlt : (kc g d).val < 256 := (kc g d).isLt
  pointwise

theorem v231_eq (n : Fin 32) (r : Fin 128) (g : Fin 4) (d : Fin 64) :
    val_main_v231 (F := Ideal) x0 x1 x2 x3 x4 (ix2 (pos n r) (kc g d)) = ((D.dv g n r d : ℝ) : EReal) := by
  rw [← v184_eq A, val_main_v231_apply, val_main_v228_apply]
  unfold val_main_v227
  have hlt : (kc g d).val < 256 := (kc g d).isLt
  pointwise
  rw [dif_neg (by omega), dif_neg (by omega)]
  exact congrArg _ (congrArg (ix2 (pos n r)) (Fin.ext (by simp only []; omega)))

end Cert.SwaRefIdeal.Proof
-- ==== Proof.SwaClaim.lean ====
/- The attention's backward kernel against the derivative of its forward lines. -/
module

public import proofs.«01_k».proof.Proof.SwaArgs
public import proofs.«01_k».proof.Proof.SwaTail
public import proofs.«01_k».proof.Proof.SwaRefBack
public import proofs.«01_k».proof.Proof.Gen.SwaRefIdeal.Run
public import proofs.«01_k».proof.Proof.Gen.SwaIdeal.Frame
public import Idealize.ShloMosaic.Adequacy
public import Idealize.ShloMosaic.Init
public import Idealize.ShloMosaic.Lib.Quiescent

@[expose] public section

set_option maxRecDepth 16384
set_option maxHeartbeats 4000000

noncomputable section

open Idealize.ShloMosaic Idealize.ShloMosaic.TcCoe Idealize.SL.Sem

namespace Cert.SwaIdeal.Proof

open Cert.SwaIdeal Cert.SwaIdeal.Gen _root_.Swa
open Cert.SwaRefIdeal.Proof (Args hd qc kc data args)
open Cert.SwaRefIdeal.Read

section Results

variable {m : (ℓ : Loc nD τ sig) → Buf (Elt Ideal) ℓ} {D : Data} {c : Dev nD}
variable (A : Args D (m ((c : Thread nD τ).loc main_arg0)) (m ((c : Thread nD τ).loc main_arg1)) (m ((c : Thread nD τ).loc main_arg2))
    (m ((c : Thread nD τ).loc main_arg3)) (m ((c : Thread nD τ).loc main_arg4)))
include A

/-- The kernel's six results are the reference's. -/
theorem dq_result : (dats m 0 c).arrAt 10 cfg0.N = val_main_v229 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) :=
  dq_final A _ fun n g h r d => Cert.SwaRefIdeal.Proof.v229_eq A n r g h d

@[inherit_doc dq_result]
theorem dk_result : tail m c main_v19 = val_main_v230 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  funext y
  idx_vars y
  obtain ⟨n, r, rfl⟩ : ∃ n r, y0 = pos n r := ⟨_, _, (pos_of y0).symm⟩
  obtain ⟨g, d, rfl⟩ : ∃ g d, y1 = kc g d := ⟨_, _, (kc_of y1).symm⟩
  exact (dk_tail A n g r d).trans (Cert.SwaRefIdeal.Proof.v230_eq A n r g d).symm

@[inherit_doc dq_result]
theorem dv_result : tail m c main_v26 = val_main_v231 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  funext y
  idx_vars y
  obtain ⟨n, r, rfl⟩ : ∃ n r, y0 = pos n r := ⟨_, _, (pos_of y0).symm⟩
  obtain ⟨g, d, rfl⟩ : ∃ g d, y1 = kc g d := ⟨_, _, (kc_of y1).symm⟩
  exact (dv_tail A n g r d).trans (Cert.SwaRefIdeal.Proof.v231_eq A n r g d).symm

@[inherit_doc dq_result]
theorem dsink_result : tail m c main_v28 = val_main_v160 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  funext y
  idx_vars y
  obtain ⟨g, h, rfl⟩ : ∃ g h, y0 = hd g h := ⟨hgOf y0, heOf y0, Fin.ext (hg_he y0)⟩
  exact (dsink_tail A g h).trans (Cert.SwaRefIdeal.Proof.v160_eq A g h).symm

@[inherit_doc dq_result]
theorem dqg_result : tail m c main_v29 = val_main_v211 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  funext y
  idx_vars y
  exact (dqg_tail A _).trans (Cert.SwaRefIdeal.Proof.v211_eq A _).symm

@[inherit_doc dq_result]
theorem dkg_result : tail m c main_v30 = val_main_v190 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  funext y
  idx_vars y
  exact (dkg_tail A _).trans (Cert.SwaRefIdeal.Proof.v190_eq A _).symm

end Results

/-- The kernel computes the gradients of the reference's forward lines. -/
theorem value : Cert.algebraic_SwaIdeal_SwaRefIdeal_pre_swa_finite (hSwaIdeal := Cert.SwaIdeal.Gen.facts)
    (hSwaRefIdeal := Cert.SwaRefIdeal.Gen.facts) (hPre_swa_finite := Cert.Pre_swa_finite.Gen.facts) := by
  intro m g m' g' hpre hagree
  refine ⟨fun c => (dats m 0 c).arrAt 10 cfg0.N, fun c => tail m c main_v19, fun c => tail m c main_v26, fun c => tail m c main_v28,
    fun c => tail m c main_v29, fun c => tail m c main_v30, ?_, ?_⟩
  · refine (θ_run Cert.SwaIdeal.defs _ _).mono (fun r h c => ?_) (θ_run_and (run_main m g) (unchanged m g))
    have rest (b : Ref sig .tc) (h1) (h2) : r.2.mem ((c.tc : Thread nD τ).loc b) = tail m c b :=
      (h.1 c).2 b (Pipeline.mem_restRefs_of b h1 h2)
    exact ⟨(h.1 c).1 10, rest _ (by decide) (by decide), rest _ (by decide) (by decide), rest _ (by decide) (by decide),
      rest _ (by decide) (by decide), rest _ (by decide) (by decide), h.2 c⟩
  · refine (θ_run Cert.SwaRefIdeal.defs _ _).mono (fun r h c => ?_) (Cert.SwaRefIdeal.Value.run m' g')
    have A := args _ _ _ _ _ (hpre c)
    obtain ⟨e0, e1, e2, e3, e4⟩ := hagree c
    obtain ⟨h0, h1, h2, h3, h4, h5, hargs⟩ := h c
    have same {α : Type} (f : FVec Ideal _ .f32 → FVec Ideal _ .f32 → FVec Ideal _ .f32 → FVec Ideal _ .f32 → FVec Ideal _ .f32 → α) :
        f (m' ((c : Thread Cert.SwaRefIdeal.nD Cert.SwaRefIdeal.τ).loc Cert.SwaRefIdeal.main_arg0)) (m' ((c : Thread Cert.SwaRefIdeal.nD Cert.SwaRefIdeal.τ).loc Cert.SwaRefIdeal.main_arg1))
          (m' ((c : Thread Cert.SwaRefIdeal.nD Cert.SwaRefIdeal.τ).loc Cert.SwaRefIdeal.main_arg2)) (m' ((c : Thread Cert.SwaRefIdeal.nD Cert.SwaRefIdeal.τ).loc Cert.SwaRefIdeal.main_arg3))
          (m' ((c : Thread Cert.SwaRefIdeal.nD Cert.SwaRefIdeal.τ).loc Cert.SwaRefIdeal.main_arg4)) =
        f (m ((c : Thread nD τ).loc main_arg0)) (m ((c : Thread nD τ).loc main_arg1)) (m ((c : Thread nD τ).loc main_arg2))
          (m ((c : Thread nD τ).loc main_arg3)) (m ((c : Thread nD τ).loc main_arg4)) := by
      rw [e0, e1, e2, e3, e4]
    refine ⟨?_, ?_, ?_, ?_, ?_, ?_, hargs⟩
    · exact (h0.trans (val_main_v229_eq _)).trans ((same (val_main_v229 (F := Ideal))).trans (dq_result A).symm)
    · exact (h1.trans (val_main_v230_eq _)).trans ((same (val_main_v230 (F := Ideal))).trans (dk_result A).symm)
    · exact (h2.trans (val_main_v231_eq _)).trans ((same (val_main_v231 (F := Ideal))).trans (dv_result A).symm)
    · exact (h3.trans (val_main_v160_eq _)).trans ((same (val_main_v160 (F := Ideal))).trans (dsink_result A).symm)
    · exact (h4.trans (val_main_v211_eq _)).trans ((same (val_main_v211 (F := Ideal))).trans (dqg_result A).symm)
    · exact (h5.trans (val_main_v190_eq _)).trans ((same (val_main_v190 (F := Ideal))).trans (dkg_result A).symm)

theorem frame_ideal : Cert.quiescent_SwaIdeal (hSwaIdeal := Cert.SwaIdeal.Gen.facts) := fun m ρ _ => Cert.SwaIdeal.Gen.frame m ρ

theorem frame_ideal_pre : Cert.quiescent_SwaIdeal_pre_swa_finite (hSwaIdeal := Cert.SwaIdeal.Gen.facts)
    (hPre_swa_finite := Cert.Pre_swa_finite.Gen.facts) := fun m ρ _ => Cert.SwaIdeal.Gen.frame m ρ

/-- The reference changes none of its arguments and stops with every counter at zero. -/
theorem frame_ref : Cert.quiescent_SwaRefIdeal (hSwaRefIdeal := Cert.SwaRefIdeal.Gen.facts) := fun m g _ =>
  (θ_run Cert.SwaRefIdeal.defs _ _).mono (fun r h => ⟨fun c => (h c).2.2.2.2.2.2, sem_eq_zero_of_no_sems (by decide) r.2⟩)
    (Cert.SwaRefIdeal.Value.run m g)

theorem frame_ref_pre : Cert.quiescent_SwaRefIdeal_pre_swa_finite (hSwaRefIdeal := Cert.SwaRefIdeal.Gen.facts)
    (hPre_swa_finite := Cert.Pre_swa_finite.Gen.facts) := fun m g _ => frame_ref m g trivial

theorem preserves : Cert.preserves_Swa_SwaIdeal := IdealRules.named_const.statement _ _ _ _ _ rfl

end Cert.SwaIdeal.Proof
-- ==== Proof.Dact.lean ====
/- The squared-ReLU gradient `mm_dact`: the call's output array is the reference's gradient. -/
module

public import proofs.«01_k».proof.Proof.Gen.DactIdeal.Value
public import proofs.«01_k».proof.Proof.Gen.DactRefIdeal.Run
public import proofs.«01_k».proof.Proof.Gen.DactRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DactIdeal.Proof

open Cert.DactIdeal Cert.DactIdeal.Gen Cert.DactRefIdeal.Read

variable (m : (ℓ : Loc nD τ sig) → Buf (Elt Ideal) ℓ)

/-- The gradient the reference computes. -/
abbrev REF (d : FVec Ideal S4096x2048 .f32) (w : FVec Ideal S8192x2048 .f32) (u : FVec Ideal S4096x8192 .f32) :=
  Cert.DactRefIdeal.Read.val_main_v12 (F := Ideal) d w u

/-- The windows' block indices, decided over the grid. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] ∧ t.val < 32 :=
  (by decide +kernel : ∀ t : Fin grid0.N, _)

/-- A block of the cotangent is the rows of its row tile. -/
theorem blk0 (c : Dev nD) (t : Fin cfg0.N) (r : Fin 1024) (k : Fin 2048) (R : Fin 4096) (hR : R.val = t.val / 8 * 1024 + r.val) :
    iblk m c 0 t (ix2 r k) = m ((c : Thread nD τ).loc main_arg0) (ix2 R k) := by
  blk_simp [iblk]; entry_read; pointwise; blk_ext [idx t]

/-- A block of the weight is the rows of its column tile. -/
theorem blk1 (c : Dev nD) (t : Fin cfg0.N) (q : Fin 1024) (k : Fin 2048) (Q : Fin 8192) (hQ : Q.val = t.val % 8 * 1024 + q.val) :
    iblk m c 1 t (ix3 0 q k) = m ((c : Thread nD τ).loc main_arg1) (ix2 Q k) := by
  blk_simp [iblk]; entry_read; pointwise; blk_ext [idx t]

/-- A block of the pre-activation is its tile. -/
theorem blk2 (c : Dev nD) (t : Fin cfg0.N) (r q : Fin 1024) (R : Fin 4096) (hR : R.val = t.val / 8 * 1024 + r.val)
    (Q : Fin 8192) (hQ : Q.val = t.val % 8 * 1024 + q.val) :
    iblk m c 2 t (ix2 r q) = m ((c : Thread nD τ).loc main_arg2) (ix2 R Q) := by
  blk_simp [iblk]; entry_read; pointwise; blk_ext [idx t]

/-- Where the pre-activation is not positive the factor `max u 0` is zero, so the select changes nothing. -/
theorem select_relu (u a s : EReal) : (if 0 < u then a * (s * max u 0) else 0) = a * (s * max u 0) := by
  split_ifs with h
  · rfl
  · rw [max_eq_right (not_lt.mp h), mul_zero, mul_zero]

/-- What a grid point computes at an index of its tile is the reference's element there. -/
theorem point (c : Dev nD) (t : Fin cfg0.N) (r q : Fin 1024) (R : Fin 4096) (hR : R.val = t.val / 8 * 1024 + r.val)
    (Q : Fin 8192) (hQ : Q.val = t.val % 8 * 1024 + q.val) :
    k0_pay1 (iblk m c 0 t) (iblk m c 1 t) (iblk m c 2 t) (ix2 r q)
    = REF (m ((c : Thread nD τ).loc main_arg0)) (m ((c : Thread nD τ).loc main_arg1)) (m ((c : Thread nD τ).loc main_arg2))
        (ix2 R Q) := by
  pointwise [k0_pay1, REF, val_main_v12, val_main_v11, val_main_v10, val_main_cst_2, val_main_v9, val_main_v8, val_main_v6,
    val_main_v5, val_main_cst_1, val_main_v0, val_main_v2, val_main_v1, val_main_cst, val_main_call0_v0, val_main_call0_cst]
  refine Eq.trans ?_ (select_relu _ _ _).symm
  simp only [blk0 m c t r _ R hR, blk1 m c t q _ Q hQ, blk2 m c t r q R hR Q hQ]

/-- After the run the output array is the reference's gradient. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  idx_vars y
  refine (point m c t y0 y1 _ ?_ _ ?_).trans (congrArg _ (eq_ix2 _).symm)
  · blk_simp [idx t]
  · blk_simp [idx t]

end Cert.DactIdeal.Proof

end
-- ==== Proof.TileSum.lean ====
/- A sum over the rows of an array, tile by tile. -/
module

public import Mathlib.Data.EReal.Operations
public import Mathlib.Algebra.BigOperators.Fin

@[expose] public section

/-- A sum over the tiles of the sums over their rows is one over all rows. -/
theorem sum_tiles {a b n : ℕ} (hn : a * b = n) (f : Fin n → EReal) (g : Fin a → Fin b → EReal)
    (h : ∀ t r (R : Fin n), R.val = t.val * b + r.val → g t r = f R) : ∑ t, ∑ r, g t r = ∑ R, f R := by
  subst hn
  rw [← Fintype.sum_prod_type', ← finProdFinEquiv.sum_comp]
  exact Finset.sum_congr rfl fun p _ => h p.1 p.2 _ (by simp [finProdFinEquiv]; ring)
-- ==== Proof.Glu.lean ====
/- The gradients of the GLU gate: the call's three output arrays are the reference's. -/
module

public import proofs.«01_k».proof.Proof.Gen.GluIdeal.Value
public import proofs.«01_k».proof.Proof.Gen.GluRefIdeal.Run
public import proofs.«01_k».proof.Proof.Gen.GluRefIdeal.Read
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs
public import proofs.«01_k».proof.Proof.TileSum

@[expose] public section

set_option maxRecDepth 16384

noncomputable section

open Idealize.ShloMosaic Idealize.ShloMosaic.TcCoe Idealize.SL.Sem
open Idealize.ShloMosaic.Pipeline (Dat)

namespace Cert.GluIdeal.Proof

open Cert.GluIdeal Cert.GluIdeal.Gen Cert.GluRefIdeal.Read

variable (m : (ℓ : Loc nD τ sig) → Buf (Elt Ideal) ℓ) (c : Dev nD)

/-- The reference's gradient with respect to the gate, before its cast. -/
abbrev gateRef := val_main_v29 (F := Ideal) (m ((c : Thread nD τ).loc main_arg0)) (m ((c : Thread nD τ).loc main_arg1))
  (m ((c : Thread nD τ).loc main_arg2)) (m ((c : Thread nD τ).loc main_arg3))

/-- The reference's gradient with respect to the gated value. -/
abbrev valueRef := val_main_v28 (F := Ideal) (m ((c : Thread nD τ).loc main_arg0))
  (m ((c : Thread nD τ).loc main_arg2)) (m ((c : Thread nD τ).loc main_arg3))

/-- The reference's gradient with respect to the bias. -/
abbrev biasRef := val_main_v34 (F := Ideal) (m ((c : Thread nD τ).loc main_arg0)) (m ((c : Thread nD τ).loc main_arg1))
  (m ((c : Thread nD τ).loc main_arg2)) (m ((c : Thread nD τ).loc main_arg3))

/-- The windows' block indices, decided over the grid. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] ∧ t.val < 16 :=
  (by decide +kernel : ∀ t : Fin grid0.N, _)

variable (t : Fin cfg0.N)

section Rows
variable (r : Fin 256) (R : Fin 4096) (hR : R.val = t.val * 256 + r.val)

section Blocks
include hR

theorem blk0 (q : Fin 2048) : iblk m c 0 t (ix2 r q) = m ((c : Thread nD τ).loc main_arg0) (ix2 R q) := by
  blk_simp [iblk]; entry_read; pointwise; blk_ext [idx t]

theorem blk1 (q : Fin 1024) : iblk m c 1 t (ix2 r q) = m ((c : Thread nD τ).loc main_arg1) (ix2 R q) := by
  blk_simp [iblk]; entry_read; pointwise; blk_ext [idx t]

theorem blk2 (q : Fin 1024) : iblk m c 2 t (ix2 r q) = m ((c : Thread nD τ).loc main_arg2) (ix2 R q) := by
  blk_simp [iblk]; entry_read; pointwise; blk_ext [idx t]

end Blocks

theorem blk3 (q : Fin 1024) : iblk m c 3 t (ix2 0 q) = m ((c : Thread nD τ).loc main_arg3) (ix1 q) := by
  blk_simp [iblk]; entry_read; pointwise; blk_ext [idx t]

section Point
include hR

/-- At an index of its rows, a grid point's gradient with respect to the gate is the reference's. -/
theorem gate_point (q : Fin 1024) :
    k0_pay4 (iblk m c 0 t) (iblk m c 1 t) (iblk m c 2 t) (iblk m c 3 t) (ix2 r q) = gateRef m c (ix2 R q) := by
  pointwise [k0_pay4, k0_pay3, k0_pay2, gateRef, val_main_v29, val_main_v27, val_main_v26, val_main_v24, val_main_v23, val_main_v22,
    val_main_cst_5, val_main_v21, val_main_v20, val_main_cst_4, val_main_v19, val_main_v18, val_main_cst_3, val_main_v17,
    val_main_v16, val_main_v15, val_main_v14, val_main_v13, val_main_v12, val_main_v11, val_main_v10, val_main_cst_2, val_main_v9,
    val_main_v8, val_main_cst_1, val_main_v7, val_main_v6, val_main_v5, val_main_cst_0, val_main_v4, val_main_v3, val_main_v2,
    val_main_cst, val_main_v1, val_main_v0]
  simp only [blk0 m c t r R hR, blk1 m c t r R hR, blk2 m c t r R hR, blk3 m c t, zero_sub]
  ac_rfl

theorem value_point (q : Fin 1024) :
    k0_pay5 (iblk m c 0 t) (iblk m c 2 t) (iblk m c 3 t) (ix2 r q) = valueRef m c (ix2 R q) := by
  pointwise [k0_pay5, k0_pay3, k0_pay2, valueRef, val_main_v28, val_main_v26, val_main_v21, val_main_v20, val_main_cst_4,
    val_main_v19, val_main_v18, val_main_cst_3, val_main_v17, val_main_v16, val_main_v15, val_main_v14, val_main_v13]
  simp only [blk0 m c t r R hR, blk2 m c t r R hR, blk3 m c t, zero_sub]

end Point

end Rows

/-- A point's part of the bias's gradient. -/
theorem bias_point (q : Fin 1024) :
    k0_pay6 (iblk m c 0 t) (iblk m c 1 t) (iblk m c 2 t) (iblk m c 3 t) (ix2 0 q)
    = ∑ r : Fin 256, gateRef m c (ix2 ⟨t.val * 256 + r.val, by have := (idx t).2.2.2.2.2.2.2; omega⟩ q) := by
  pointwise [k0_pay6]
  exact Finset.sum_congr rfl fun r _ => gate_point m c t r _ rfl q

/-- The points' parts add up to the bias's gradient. -/
theorem bias_sum (q : Fin 1024) :
    ∑ p : Fin cfg0.N, k0_pay6 (iblk m c 0 p) (iblk m c 1 p) (iblk m c 2 p) (iblk m c 3 p) (ix2 0 q) = biasRef m c (ix2 0 q) := by
  refine (Finset.sum_congr rfl fun p _ => bias_point m c p q).trans ?_
  refine (sum_tiles (a := cfg0.N) (n := 4096) (by rw [show cfg0.N = 16 from N_0]) (fun R => gateRef m c (ix2 R q)) _ ?_).trans ?_
  · intro p r R hR
    exact congrArg (fun R => gateRef m c (ix2 R q)) (Fin.ext hR.symm)
  · rw [biasRef, val_main_v34_apply, val_main_v32_apply]
    simp only [val_main_v31_apply, val_main_v30_apply, Finset.univ_unique, Finset.sum_singleton]
    pointwise [val_main_cst_7, val_main_cst_6]
    exact Finset.sum_congr rfl fun k _ => congrArg (gateRef m c) (by blk_ext [])

/-- After the run the first output array is the reference's gradient with respect to the gate. -/
theorem gate_final : (dats m 0 c).arrAt 4 cfg0.N = val_main_v33 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  idx_vars y
  have key (R : Fin 4096) (Q : Fin 1024) (hR : R.val = t.val * 256 + y0.val) (hQ : Q.val = y1.val) :
      (outsAt0 m c t.val t.isLt).1 (ix2 y0 y1) = val_main_v33 (F := Ideal) (m ((c : Thread nD τ).loc main_arg0))
    (m ((c : Thread nD τ).loc main_arg1)) (m ((c : Thread nD τ).loc main_arg2)) (m ((c : Thread nD τ).loc main_arg3)) (ix2 R Q) := by
    obtain rfl : Q = y1 := Fin.ext hQ
    refine Eq.trans ?_ ((gate_point m c t y0 R hR Q).trans ?_)
    · by_cases h0 : t.val % 16 = 0
      · rw [outsAt0_A m c t h0 (by have := (idx t).2.2.2.2.2.2.2; omega)]
        dsimp only
        frame_out
        pointwise [k0_pay7]
      · rw [outsAt0_B m c t h0 (by omega)]
        dsimp only
        frame_out
        pointwise [k0_pay7]
    · pointwise [val_main_v33]
  refine (key _ _ ?_ ?_).trans (congrArg _ (eq_ix2 _).symm)
  · blk_simp [idx t]
  · blk_simp [idx t]

/-- After the run the second output array is the reference's gradient with respect to the gated value. -/
theorem value_final : (dats m 0 c).arrAt 5 cfg0.N = valueRef m c := by
  refine (dats m 0 c).arrAt_eq_of_covers 5 _ (by decide +kernel) fun t _ y => ?_
  blk_simp
  rw [after0_5]
  idx_vars y
  have key (R : Fin 4096) (Q : Fin 1024) (hR : R.val = t.val * 256 + y0.val) (hQ : Q.val = y1.val) :
      (outsAt0 m c t.val t.isLt).2.1 (ix2 y0 y1) = valueRef m c (ix2 R Q) := by
    obtain rfl : Q = y1 := Fin.ext hQ
    refine Eq.trans ?_ (value_point m c t y0 R hR Q)
    by_cases h0 : t.val % 16 = 0
    · rw [outsAt0_A m c t h0 (by have := (idx t).2.2.2.2.2.2.2; omega)]
      dsimp only
      frame_out
    · rw [outsAt0_B m c t h0 (by omega)]
      dsimp only
      frame_out
  refine (key _ _ ?_ ?_).trans (congrArg _ (eq_ix2 _).symm)
  · blk_simp [idx t]
  · blk_simp [idx t]

/-- After the run the third output array is the reference's gradient with respect to the bias. -/
theorem bias_final : (dats m 0 c).arrAt 6 cfg0.N = biasRef m c := by
  refine (dats m 0 c).arrAt_eq_of_covers 6 _ (by decide +kernel) fun t hf y => ?_
  have ht : t.val + 1 = cfg0.N := by
    have := (flush0_6 t).mp hf
    have := (idx t).2.2.2.2.2.2.2
    rw [show cfg0.N = 16 from N_0]; omega
  blk_simp
  rw [after0_6]
  rw [Pipeline.eq_sum_fin_of_reset_step_apply_last (fun n hn => (outsAt0 m c n hn).2.2) 16 (fun _ => 0)
    (fun t y => k0_pay6 (iblk m c 0 t) (iblk m c 1 t) (iblk m c 2 t) (iblk m c 3 t) y)
    (fun t h y => by
      rw [outsAt0_A m c t h (by have := (idx t).2.2.2.2.2.2.2; omega)]
      dsimp only
      frame_out
      rw [zero_add])
    (fun t h y => by
      rw [outsAt0_B m c t h (by omega)]
      dsimp only
      frame_out
      pointwise [k0_pay1])
    (le_of_eq N_0) t ht _, zero_add]
  idx_vars y
  rw [show ((View.whole main_v1_2).slice (win0_6.rect t)).emb (ix2 y0 y1) = ix2 y0 y1 by blk_ext [idx t]]
  obtain rfl : y0 = 0 := Subsingleton.elim _ _
  exact bias_sum m c y1

/-- The pair's value claim. -/
theorem value : Cert.algebraic_GluIdeal_GluRefIdeal (hGluIdeal := Cert.GluIdeal.Gen.facts) (hGluRefIdeal := Cert.GluRefIdeal.Gen.facts) := by
  intro m g m' g' _ hagree
  refine ⟨_, _, _, (θ_run Cert.GluIdeal.defs _ _).mono (fun r h c => h c) (Cert.GluIdeal.Value.run_blocks m g), ?_⟩
  refine (θ_run Cert.GluRefIdeal.defs _ _).mono (fun r h c => ⟨?_, ?_, ?_, (h c).2.2.2⟩) (Cert.GluRefIdeal.Value.run m' g')
  · rw [(h c).1, (hagree c).1, (hagree c).2.1, (hagree c).2.2.1, (hagree c).2.2.2, val_main_v33_eq]
    exact (gate_final m c).symm
  · rw [(h c).2.1, (hagree c).1, (hagree c).2.2.1, (hagree c).2.2.2, val_main_v28_eq]
    exact (value_final m c).symm
  · rw [(h c).2.2.1, (hagree c).1, (hagree c).2.1, (hagree c).2.2.1, (hagree c).2.2.2, val_main_v34_eq]
    exact (bias_final m c).symm

/-- The reference changes none of its arguments and stops with every counter at zero. -/
theorem frame_ref : Cert.quiescent_GluRefIdeal (hGluRefIdeal := Cert.GluRefIdeal.Gen.facts) := fun m g _ =>
  (θ_run Cert.GluRefIdeal.defs _ _).mono (fun r h => ⟨fun c => (h c).2.2.2, sem_eq_zero_of_no_sems (by decide) r.2⟩)
    (Cert.GluRefIdeal.Value.run m g)

end Cert.GluIdeal.Proof

end
-- ==== Proof.Dz.lean ====
/- The gradient of GELU fused with the product by the gate's weights: the call's output array is the reference's. -/
module

public import proofs.«01_k».proof.Proof.Gen.DzIdeal.Value
public import proofs.«01_k».proof.Proof.Gen.DzRefIdeal.Run
public import proofs.«01_k».proof.Proof.Gen.DzRefIdeal.Read
public import proofs.«01_k».proof.Proof.Gen.Pre_dz_finite
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs
public import proofs.«01_k».proof.Proof.SwaArgs

@[expose] public section

set_option maxRecDepth 16384

noncomputable section

open Idealize.ShloMosaic Idealize.ShloMosaic.TcCoe Idealize.SL.Sem
open Idealize.ShloMosaic.Pipeline (Dat)
open Cert.SwaRefIdeal.Proof (real_of_all)
open _root_.Swa (coe_sum div_real f32_one)

namespace Cert.DzIdeal.Proof

open Cert.DzIdeal Cert.DzIdeal.Gen Cert.DzRefIdeal.Read

theorem f32_half : Ideal.ofBits .f32 0x3F000000#32 = ((1 / 2 : ℝ) : EReal) := by
  simp [Ideal.ofBits, Ideal.ieee, -EReal.coe_mul]; norm_num

theorem f32_three : Ideal.ofBits .f32 0x40400000#32 = ((3 : ℝ) : EReal) := by
  simp [Ideal.ofBits, Ideal.ieee, -EReal.coe_mul]; norm_num

theorem f32_44715 : Ideal.ofBits .f32 0x472EAB00#32 = ((44715 : ℝ) : EReal) := by
  simp [Ideal.ofBits, Ideal.ieee, -EReal.coe_mul]; norm_num

theorem f32_million : Ideal.ofBits .f32 0x49742400#32 = ((1000000 : ℝ) : EReal) := by
  simp [Ideal.ofBits, Ideal.ieee, -EReal.coe_mul]; norm_num

/-- The word of `sqrt (2 / π)`, the rational it is. -/
theorem f32_root : ∃ s : ℝ, Ideal.ofBits .f32 0x3F4C422A#32 = ((s : ℝ) : EReal) :=
  ⟨13386282 / 16777216, by simp [Ideal.ofBits, Ideal.ieee, -EReal.coe_mul]; norm_num⟩

variable (m : (ℓ : Loc nD τ sig) → Buf (Elt Ideal) ℓ) (c : Dev nD)

/-- The reference's gradient. -/
abbrev gradRef := val_main_v39 (F := Ideal) (m ((c : Thread nD τ).loc main_arg0)) (m ((c : Thread nD τ).loc main_arg1))
  (m ((c : Thread nD τ).loc main_arg2)) (m ((c : Thread nD τ).loc main_arg3))

/-- The arguments hold real numbers. -/
def Real : Prop := (∀ i, ∃ r : ℝ, m ((c : Thread nD τ).loc main_arg0) i = (r : EReal)) ∧ (∀ i, ∃ r : ℝ, m ((c : Thread nD τ).loc main_arg1) i = (r : EReal))
  ∧ (∀ i, ∃ r : ℝ, m ((c : Thread nD τ).loc main_arg2) i = (r : EReal)) ∧ (∀ i, ∃ r : ℝ, m ((c : Thread nD τ).loc main_arg3) i = (r : EReal))

theorem real (h : Cert.Pre_DzIdeal_dz_finite (hPre_dz_finite := Cert.Pre_dz_finite.Gen.facts) m) : Real m c := by
  have h := congrFun (h c) ix0
  dsimp only [Cert.Pre_dz_finite.fn, Cert.Pre_dz_finite.fn_part1] at h
  simp only [andi, IntOp.andi_eq_one] at h
  obtain ⟨⟨⟨h0, h1⟩, h2⟩, h3⟩ := h
  exact ⟨fun i => ⟨_, real_of_all _ _ (fun _ => rfl) _ _ _ h0 i⟩, fun i => ⟨_, real_of_all _ _ (fun _ => rfl) _ _ _ h1 i⟩,
    fun i => ⟨_, real_of_all _ _ (fun _ => rfl) _ _ _ h2 i⟩, fun i => ⟨_, real_of_all _ _ (fun _ => rfl) _ _ _ h3 i⟩⟩

/-- The windows' block indices, decided over the grid. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ t.val < 8 :=
  (by decide +kernel : ∀ t : Fin grid0.N, _)

variable (t : Fin cfg0.N)

section Rows
variable (r : Fin 512) (R : Fin 4096) (hR : R.val = t.val * 512 + r.val)

section Blocks
include hR

theorem blk0 (q : Fin 1024) : iblk m c 0 t (ix2 r q) = m ((c : Thread nD τ).loc main_arg0) (ix2 R q) := by
  blk_simp [iblk]; entry_read; pointwise; blk_ext [idx t]

theorem blk2 (q : Fin 1024) : iblk m c 2 t (ix2 r q) = m ((c : Thread nD τ).loc main_arg2) (ix2 R q) := by
  blk_simp [iblk]; entry_read; pointwise; blk_ext [idx t]

theorem blk3 (q : Fin 1024) : iblk m c 3 t (ix2 r q) = m ((c : Thread nD τ).loc main_arg3) (ix2 R q) := by
  blk_simp [iblk]; entry_read; pointwise; blk_ext [idx t]

end Blocks

theorem blk1 (p q : Fin 1024) : iblk m c 1 t (ix2 p q) = m ((c : Thread nD τ).loc main_arg1) (ix2 p q) := by
  blk_simp [iblk]; entry_read; pointwise; blk_ext [idx t]

include hR

/-- At an index of its rows, a grid point's gradient is the reference's. -/
theorem grad_point (hr : Real m c) (q : Fin 1024) :
    k0_pay1 (iblk m c 0 t) (iblk m c 1 t) (iblk m c 2 t) (iblk m c 3 t) (ix2 r q) = gradRef m c (ix2 R q) := by
  obtain ⟨h0, h1, h2, h3⟩ := hr
  choose a ha using h0
  choose w hw using h1
  choose d hd using h2
  choose y hy using h3
  obtain ⟨s, hs⟩ := f32_root
  pointwise [k0_pay1, gradRef, val_main_v39, val_main_v38, val_main_v37, val_main_v36, val_main_cst_10, val_main_v35, val_main_v34, val_main_cst_9,
    val_main_v33, val_main_v32, val_main_v31, val_main_cst_8, val_main_v30, val_main_v29, val_main_v28, val_main_cst_7, val_main_v27,
    val_main_v26, val_main_v25, val_main_v24, val_main_v21, val_main_v20, val_main_cst_6, val_main_v19, val_main_v18, val_main_cst_5,
    val_main_v17, val_main_v16, val_main_v15, val_main_cst_4, val_main_v14, val_main_v13, val_main_cst_3, val_main_v12, val_main_v11,
    val_main_v10, val_main_cst_2, val_main_v9, val_main_v8, val_main_v7, val_main_cst_1, val_main_v6, val_main_v5, val_main_cst_0,
    val_main_v4, val_main_v3, val_main_cst, val_main_v2, val_main_v1, val_main_v0]
  simp only [blk0 m c t r R hR, blk1 m c t, blk2 m c t r R hR, blk3 m c t r R hR, ha, hw, hd, hy]
  generalize y (ix2 R q) = y
  generalize d (ix2 R q) = d
  simp only [← EReal.coe_mul, coe_sum]
  generalize (∑ x, a (ix2 R x) * w (ix2 q x)) = acc
  rw [show (Named.named κ "cubic" 0x3D372713#32 : Ideal .f32) = ((8943 / 200000 : ℝ) : EReal) from rfl,
    show (Named.named κ "cubic_thrice" 0x3E095D4F#32 : Ideal .f32) = ((26829 / 200000 : ℝ) : EReal) from rfl,
    f32_half, f32_three, f32_44715, f32_million, hs]
  have hM (x : ℝ) : Ideal.div (x : EReal) ((1000000 : ℝ) : EReal) = ((x / 1000000 : ℝ) : EReal) := div_real x (by norm_num)
  have hT : y * y * y * 44715 / 1000000 = 8943 / 200000 * y * y * y := by ring
  rw [← EReal.coe_one]
  simp only [← EReal.coe_mul, ← EReal.coe_add, ← EReal.coe_sub, hM, Ideal.tanh_coe, hT]
  generalize Real.tanh _ = T
  congr 1
  ring

end Rows

/-- After the run the output array is the reference's gradient. -/
theorem final (hr : Real m c) : (dats m 0 c).arrAt 4 cfg0.N = gradRef m c := by
  refine (dats m 0 c).arrAt_eq_of_covers 4 _ (by decide +kernel) fun t _ y => ?_
  blk_simp
  rw [after0_4]
  idx_vars y
  frame_out
  refine (grad_point m c t y0 ⟨t.val * 512 + y0.val, by have := (idx t).2.2.2.2.2; omega⟩ rfl hr y1).trans (congrArg _ ?_)
  blk_ext [idx t]

/-- The pair's value claim. -/
theorem value : Cert.algebraic_DzIdeal_DzRefIdeal_pre_dz_finite (hDzIdeal := Cert.DzIdeal.Gen.facts)
    (hDzRefIdeal := Cert.DzRefIdeal.Gen.facts) (hPre_dz_finite := Cert.Pre_dz_finite.Gen.facts) := by
  intro m g m' g' hpre hagree
  refine ⟨_, (θ_run Cert.DzIdeal.defs _ _).mono (fun r h c => h c) (Cert.DzIdeal.Value.run_blocks m g), ?_⟩
  refine (θ_run Cert.DzRefIdeal.defs _ _).mono (fun r h c => ⟨?_, (h c).2⟩) (Cert.DzRefIdeal.Value.run m' g')
  rw [(h c).1, val_main_v39_eq, (hagree c).1, (hagree c).2.1, (hagree c).2.2.1, (hagree c).2.2.2]
  exact (final m c (real m c hpre)).symm

theorem frame_ideal : Cert.quiescent_DzIdeal (hDzIdeal := Cert.DzIdeal.Gen.facts) := fun m ρ _ => Cert.DzIdeal.Gen.frame m ρ

theorem frame_ideal_pre : Cert.quiescent_DzIdeal_pre_dz_finite (hDzIdeal := Cert.DzIdeal.Gen.facts)
    (hPre_dz_finite := Cert.Pre_dz_finite.Gen.facts) := fun m ρ _ => Cert.DzIdeal.Gen.frame m ρ

/-- The reference changes none of its arguments and stops with every counter at zero. -/
theorem frame_ref : Cert.quiescent_DzRefIdeal (hDzRefIdeal := Cert.DzRefIdeal.Gen.facts) := fun m g _ =>
  (θ_run Cert.DzRefIdeal.defs _ _).mono (fun r h => ⟨fun c => (h c).2, sem_eq_zero_of_no_sems (by decide) r.2⟩)
    (Cert.DzRefIdeal.Value.run m g)

theorem frame_ref_pre : Cert.quiescent_DzRefIdeal_pre_dz_finite (hDzRefIdeal := Cert.DzRefIdeal.Gen.facts)
    (hPre_dz_finite := Cert.Pre_dz_finite.Gen.facts) := fun m g _ => frame_ref m g trivial

theorem preserves : Cert.preserves_Dz_DzIdeal :=
  ⟨IdealRules.named_const.statement _ _ _ _ _ rfl, IdealRules.named_const.statement _ _ _ _ _ rfl⟩

end Cert.DzIdeal.Proof
-- ==== Proof.Loss.lean ====
/- The loss and its gradient: the call's two output arrays and the host's scalar are the reference's. -/
module

public import proofs.«01_k».proof.Proof.Gen.LossIdeal.Frame
public import proofs.«01_k».proof.Proof.Gen.LossRefIdeal.Run
public import proofs.«01_k».proof.Proof.Gen.LossRefIdeal.Read
public import Idealize.ShloMosaic.Lib.Pipeline.ValueKit
public import Idealize.ShloMosaic.Lib.Pointwise
public import Idealize.ShloMosaic.Lib.StableHlo.ReadAt
public import Idealize.ShloMosaic.Adequacy
public import Idealize.ShloMosaic.Init
public import Idealize.ShloMosaic.Lib.Quiescent
public import proofs.«01_k».proof.Defs
public import proofs.«01_k».proof.Proof.TileSum
public import proofs.«01_k».proof.Proof.Dz

@[expose] public section

set_option maxRecDepth 16384

noncomputable section

open Idealize.ShloMosaic Idealize.ShloMosaic.TcCoe Idealize.SL.Sem
open Idealize.ShloMosaic.Pipeline (Dat)
open _root_.Swa (div_real f32_one)
open Cert.DzIdeal.Proof (f32_half)

namespace Cert.LossIdeal.Proof

open Cert.LossIdeal Cert.LossIdeal.Gen Cert.LossRefIdeal.Read

theorem f32_two : Ideal.ofBits .f32 0x40000000#32 = ((2 : ℝ) : EReal) := by
  simp [Ideal.ofBits, Ideal.ieee, -EReal.coe_mul]; norm_num

theorem f32_2048 : Ideal.ofBits .f32 0x45000000#32 = ((2048 : ℝ) : EReal) := by
  simp [Ideal.ofBits, Ideal.ieee, -EReal.coe_mul]; norm_num

theorem f32_inv_2048 : Ideal.ofBits .f32 0x3A000000#32 = ((1 / 2048 : ℝ) : EReal) := by
  simp [Ideal.ofBits, Ideal.ieee, -EReal.coe_mul]; norm_num

/-- Dividing each term of a sum by 2048 divides the sum. -/
theorem sum_div {ι : Type*} (s : Finset ι) (f : ι → EReal) :
    ∑ i ∈ s, Ideal.div (f i) ((2048 : ℝ) : EReal) = (∑ i ∈ s, f i) * ((1 / 2048 : ℝ) : EReal) := by
  classical
  induction s using Finset.induction_on with
  | empty => simp
  | insert a s ha ih =>
    rw [Finset.sum_insert ha, Finset.sum_insert ha, ih, Ideal.div_coe (by norm_num),
      EReal.right_distrib_of_nonneg_of_ne_top (EReal.coe_nonneg.mpr (by norm_num)) (EReal.coe_ne_top _)]

variable (m : (ℓ : Loc nD τ sig) → Buf (Elt Ideal) ℓ) (c : Dev nD)

/-- The reference's gradient, before its cast. -/
abbrev gradRef := val_main_v14 (F := Ideal) (m ((c : Thread nD τ).loc main_arg0)) (m ((c : Thread nD τ).loc main_arg1))

/-- The reference's squared differences. -/
abbrev sqRef := val_main_v1 (F := Ideal) (m ((c : Thread nD τ).loc main_arg0)) (m ((c : Thread nD τ).loc main_arg1))

/-- The windows' block indices, decided over the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ t.val < 16 :=
  (by decide +kernel : ∀ t : Fin grid0.N, _)

variable (t : Fin cfg0.N)

section Rows
variable (r : Fin 256) (R : Fin 4096) (hR : R.val = t.val * 256 + r.val)
include hR

theorem blk0 (q : Fin 2048) : iblk m c 0 t (ix2 r q) = m ((c : Thread nD τ).loc main_arg0) (ix2 R q) := by
  blk_simp [iblk]; entry_read; pointwise; blk_ext [idx t]

theorem blk1 (q : Fin 2048) : iblk m c 1 t (ix2 r q) = m ((c : Thread nD τ).loc main_arg1) (ix2 R q) := by
  blk_simp [iblk]; entry_read; pointwise; blk_ext [idx t]

/-- At an index of its rows, a grid point's gradient is the reference's. -/
theorem grad_point (q : Fin 2048) : k0_pay2 (iblk m c 0 t) (iblk m c 1 t) (ix2 r q) = gradRef m c (ix2 R q) := by
  pointwise [k0_pay2, k0_pay1, gradRef, val_main_v14, val_main_v13, val_main_v12, val_main_v11, val_main_cst_6, val_main_v10, val_main_v9,
    val_main_cst_5, val_main_cst_4, val_main_v3, val_main_v2, val_main_cst, val_main_v0]
  simp only [blk0 m c t r R hR, blk1 m c t r R hR, f32_half, f32_two, f32_2048, f32_inv_2048]
  rw [div_real _ (by norm_num), ← mul_assoc, ← EReal.coe_mul, mul_comm]
  congr 2
  norm_num

/-- At an index of its rows, a grid point's squared difference is the reference's. -/
theorem sq_point (q : Fin 2048) : k0_pay1 (iblk m c 0 t) (iblk m c 1 t) (ix2 r q) * k0_pay1 (iblk m c 0 t) (iblk m c 1 t) (ix2 r q)
    = sqRef m c (ix2 R q) := by
  pointwise [k0_pay1, sqRef, val_main_v1, val_main_v0]
  simp only [blk0 m c t r R hR, blk1 m c t r R hR]

end Rows

/-- A point's part of the sum of squares. -/
theorem sum_point (q : Fin 128) :
    k0_pay3 (iblk m c 0 t) (iblk m c 1 t) (ix2 0 q)
    = ∑ r : Fin 256, ∑ d : Fin 2048, sqRef m c (ix2 ⟨t.val * 256 + r.val, by have := (idx t).2.2.2.2.2; omega⟩ d) := by
  pointwise [k0_pay3]
  exact Finset.sum_congr rfl fun r _ => Finset.sum_congr rfl fun d _ => sq_point m c t r _ rfl d

/-- The points' parts add up to the sum of squares. -/
theorem sq_sum (q : Fin 128) :
    ∑ p : Fin cfg0.N, k0_pay3 (iblk m c 0 p) (iblk m c 1 p) (ix2 0 q) = ∑ R : Fin 4096, ∑ d : Fin 2048, sqRef m c (ix2 R d) := by
  refine (Finset.sum_congr rfl fun p _ => sum_point m c p q).trans ?_
  refine sum_tiles (a := cfg0.N) (n := 4096) (by rw [show cfg0.N = 16 from N_0]) (fun R => ∑ d : Fin 2048, sqRef m c (ix2 R d)) _ ?_
  intro p r R hR
  exact Finset.sum_congr rfl fun d _ => congrArg (fun R => sqRef m c (ix2 R d)) (Fin.ext hR.symm)

/-- The reference's loss, from its sum of squares. -/
theorem loss_ref (i : Shape.Idx _) : val_main_v8 (F := Ideal) (m ((c : Thread nD τ).loc main_arg0)) (m ((c : Thread nD τ).loc main_arg1)) i
    = Ideal.div (((1 / 2 : ℝ) : EReal) * ∑ R : Fin 4096, ∑ d : Fin 2048, sqRef m c (ix2 R d)) ((2048 : ℝ) : EReal) := by
  pointwise [val_main_v8, val_main_v7, val_main_cst_3, val_main_cst_2, val_main_v6, val_main_v5, val_main_cst_1, val_main_v4, val_main_cst_0]
  rw [f32_half, f32_2048, sum_div, Ideal.div_coe (by norm_num), mul_assoc]

/-- After the run the first output array is the reference's gradient. -/
theorem grad_final : (dats m 0 c).arrAt 2 cfg0.N = gradRef m c := by
  refine (dats m 0 c).arrAt_eq_of_covers 2 _ (by decide +kernel) fun t _ y => ?_
  blk_simp
  rw [after0_2]
  idx_vars y
  have key (R : Fin 4096) (Q : Fin 2048) (hR : R.val = t.val * 256 + y0.val) (hQ : Q.val = y1.val) :
      (outsAt0 m c t.val t.isLt).1 (ix2 y0 y1) = gradRef m c (ix2 R Q) := by
    obtain rfl : Q = y1 := Fin.ext hQ
    refine Eq.trans ?_ (grad_point m c t y0 R hR Q)
    by_cases h0 : t.val % 16 = 0
    · rw [outsAt0_A m c t h0 (by have := (idx t).2.2.2.2.2; omega)]
      dsimp only
      frame_out
    · rw [outsAt0_B m c t h0 (by omega)]
      dsimp only
      frame_out
  refine (key _ _ ?_ ?_).trans (congrArg _ (eq_ix2 _).symm)
  · blk_simp [idx t]
  · blk_simp [idx t]

/-- After the run the second output array is the reference's gradient, cast. -/
theorem cast_final : (dats m 0 c).arrAt 3 cfg0.N = val_main_v15 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  idx_vars y
  have key (R : Fin 4096) (Q : Fin 2048) (hR : R.val = t.val * 256 + y0.val) (hQ : Q.val = y1.val) :
      (outsAt0 m c t.val t.isLt).2.1 (ix2 y0 y1)
        = val_main_v15 (F := Ideal) (m ((c : Thread nD τ).loc main_arg0)) (m ((c : Thread nD τ).loc main_arg1)) (ix2 R Q) := by
    obtain rfl : Q = y1 := Fin.ext hQ
    refine Eq.trans ?_ ((grad_point m c t y0 R hR Q).trans ?_)
    · by_cases h0 : t.val % 16 = 0
      · rw [outsAt0_A m c t h0 (by have := (idx t).2.2.2.2.2; omega)]
        dsimp only
        frame_out
        pointwise [k0_pay4, k0_pay2]
      · rw [outsAt0_B m c t h0 (by omega)]
        dsimp only
        frame_out
        pointwise [k0_pay4, k0_pay2]
    · pointwise [val_main_v15]
  refine (key _ _ ?_ ?_).trans (congrArg _ (eq_ix2 _).symm)
  · blk_simp [idx t]
  · blk_simp [idx t]

/-- After the run each lane of the third output array is the sum of squares. -/
theorem sq_final (q : Fin 128) : (dats m 0 c).arrAt 4 cfg0.N (ix2 0 q) = ∑ R : Fin 4096, ∑ d : Fin 2048, sqRef m c (ix2 R d) := by
  suffices h : (dats m 0 c).arrAt 4 cfg0.N = fun _ => ∑ R : Fin 4096, ∑ d : Fin 2048, sqRef m c (ix2 R d) from congrFun h _
  refine (dats m 0 c).arrAt_eq_of_covers 4 _ (by decide +kernel) fun t hf y => ?_
  have ht : t.val + 1 = cfg0.N := by
    have := (flush0_4 t).mp hf
    have := (idx t).2.2.2.2.2
    rw [show cfg0.N = 16 from N_0]; omega
  blk_simp
  rw [after0_4]
  rw [Pipeline.eq_sum_fin_of_reset_step_apply_last (fun n hn => (outsAt0 m c n hn).2.2) 16 (fun _ => 0)
    (fun t y => k0_pay3 (iblk m c 0 t) (iblk m c 1 t) y)
    (fun t h y => by
      rw [outsAt0_A m c t h (by have := (idx t).2.2.2.2.2; omega)]
      dsimp only
      frame_out
      rw [zero_add])
    (fun t h y => by
      rw [outsAt0_B m c t h (by omega)]
      dsimp only
      frame_out
      pointwise [k0_pay5])
    (le_of_eq N_0) t ht _, zero_add]
  idx_vars y
  obtain rfl : y0 = 0 := Subsingleton.elim _ _
  exact sq_sum m c y1

/-- A buffer after the host lines that follow the region. -/
abbrev tail (b : Ref sig .tc) : Buf (Elt Ideal) ((c.tc : Thread nD τ).loc b) :=
  Pipeline.afterTail₀ cfgs (dats m) 0 (V0 m) [hostOps1] c b

/-- The host's scalar is the reference's loss. -/
theorem loss_final : tail m c main_v4 = val_main_v8 (F := Ideal) (m ((c : Thread nD τ).loc main_arg0)) (m ((c : Thread nD τ).loc main_arg1)) := by
  funext i
  rw [loss_ref]
  unfold tail Pipeline.afterTail₀
  simp only [List.flatten_cons, List.flatten_nil, List.append_nil]
  after_reads_at
  rw [f32_half, f32_2048]
  exact congrArg (fun x => Ideal.div (((1 / 2 : ℝ) : EReal) * x) ((2048 : ℝ) : EReal))
    ((congrFun (Pipeline.withArrays_arr spec0 (by decide) c (V0 m c) (fun w => (dats m 0 c).arrAt w cfg0.N) 4) _).trans (sq_final m c 0))

/-- The pair's value claim. -/
theorem value : Cert.algebraic_LossIdeal_LossRefIdeal (hLossIdeal := Cert.LossIdeal.Gen.facts) (hLossRefIdeal := Cert.LossRefIdeal.Gen.facts) := by
  intro m g m' g' _ hagree
  refine ⟨fun c => (dats m 0 c).arrAt 2 cfg0.N, fun c => (dats m 0 c).arrAt 3 cfg0.N, fun c => tail m c main_v4, ?_, ?_⟩
  · refine (θ_run Cert.LossIdeal.defs _ _).mono (fun r h c => ?_) (θ_run_and (run_main m g) (unchanged m g))
    exact ⟨(h.1 c).1 2, (h.1 c).1 3, (h.1 c).2 main_v4 (Pipeline.mem_restRefs_of main_v4 (by decide) (by decide)), h.2 c⟩
  · refine (θ_run Cert.LossRefIdeal.defs _ _).mono (fun r h c => ⟨?_, ?_, ?_, (h c).2.2.2⟩) (Cert.LossRefIdeal.Value.run m' g')
    · rw [(h c).1, (hagree c).1, (hagree c).2, val_main_v14_eq]
      exact (grad_final m c).symm
    · rw [(h c).2.1, (hagree c).1, (hagree c).2, val_main_v15_eq]
      exact (cast_final m c).symm
    · rw [(h c).2.2.1, (hagree c).1, (hagree c).2, val_main_v8_eq]
      exact (loss_final m c).symm

/-- The reference changes none of its arguments and stops with every counter at zero. -/
theorem frame_ref : Cert.quiescent_LossRefIdeal (hLossRefIdeal := Cert.LossRefIdeal.Gen.facts) := fun m g _ =>
  (θ_run Cert.LossRefIdeal.defs _ _).mono (fun r h => ⟨fun c => (h c).2.2.2, sem_eq_zero_of_no_sems (by decide) r.2⟩)
    (Cert.LossRefIdeal.Value.run m g)

end Cert.LossIdeal.Proof
-- ==== Proof.RmsGrad.lean ====
/- One row of the gradient of a root-mean-square norm, on real numbers: the form that takes the projection out of the
   normalised row, and the form the product rule gives. -/
module

public import proofs.«01_k».proof.Proof.SwaReal

@[expose] public section

noncomputable section

open Idealize.ShloMosaic _root_.Swa

namespace Rms

theorem f32_2048 : Ideal.ofBits .f32 0x45000000#32 = ((2048 : ℝ) : EReal) := by
  simp [Ideal.ofBits, Ideal.ieee, -EReal.coe_mul]; norm_num

variable (x a g : Fin 2048 → ℝ) (d : ℝ) (q : Fin 2048)

/-- The mean square of a row, with the norm's epsilon. -/
def ms : ℝ := (∑ k, x k * x k) / 2048 + eps

theorem ms_pos : 0 < ms x :=
  add_pos_of_nonneg_of_pos (div_nonneg (Finset.sum_nonneg fun k _ => mul_self_nonneg _) (by norm_num)) eps_pos

/-- Its reciprocal root. -/
def r : ℝ := (Real.sqrt (ms x))⁻¹

theorem r_sq : r x * r x = 1 / ms x := by
  unfold r
  rw [← mul_inv, Real.mul_self_sqrt (ms_pos x).le, one_div]

theorem rsqrt_ms : Ideal.rsqrt ((ms x : ℝ) : EReal) = ((r x : ℝ) : EReal) := rsqrt_real (ms_pos x)

/-- The mean square of a row of reals, as the programs compute it. -/
theorem ms_row : Ideal.div (∑ k, ((x k * x k : ℝ) : EReal)) ((2048 : ℝ) : EReal) + ((eps : ℝ) : EReal) = ((ms x : ℝ) : EReal) := by
  rw [coe_sum, div_real _ (by norm_num), ← EReal.coe_add]
  rfl

/-- The two forms of the gradient agree. -/
theorem grad_eq : r x * (a q * g q - x q * r x * ((∑ k, a k * g k * (x k * r x)) / 2048)) + d
    = d + a q * g q * r x + x q * ((∑ k, x k * (a k * g k)) * (-(1 / 2) * (r x / ms x)) / 2048)
      + (∑ k, x k * (a k * g k)) * (-(1 / 2) * (r x / ms x)) / 2048 * x q := by
  have h : r x / ms x = r x * (r x * r x) := by rw [r_sq]; ring
  have hs : ∑ k, a k * g k * (x k * r x) = (∑ k, x k * (a k * g k)) * r x := by
    rw [Finset.sum_mul]; exact Finset.sum_congr rfl fun k _ => by ring
  rw [h, hs]
  ring

end Rms
-- ==== Proof.Qkv.lean ====
/- The gradient of the attention's input norm, fused with the product by its weights: the call's three output arrays are
   the reference's. -/
module

public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Pre_qkv_finite
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs
public import proofs.«01_k».proof.Proof.SwaArgs
public import proofs.«01_k».proof.Proof.TileSum
public import proofs.«01_k».proof.Proof.RmsGrad

@[expose] public section

set_option maxRecDepth 16384

noncomputable section

open Idealize.ShloMosaic Idealize.ShloMosaic.TcCoe Idealize.SL.Sem
open Idealize.ShloMosaic.Pipeline (Dat)
open Cert.SwaRefIdeal.Proof (real_of_all)
open _root_.Swa (coe_sum div_real f32_eps f32_neg_half)

namespace Cert.QkvIdeal.Proof

open Cert.QkvIdeal Cert.QkvIdeal.Gen Cert.QkvRefIdeal.Read

variable (m : (ℓ : Loc nD τ sig) → Buf (Elt Ideal) ℓ) (c : Dev nD)

/-- The reference's gradient of the normalised rows: the product by the weights. -/
abbrev prodRef := val_main_v17 (F := Ideal) (m ((c : Thread nD τ).loc main_arg0)) (m ((c : Thread nD τ).loc main_arg1))

/-- The reference's gradient with respect to the rows. -/
abbrev gradRef := val_main_v38 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- The reference's gradient with respect to the gain, before it is summed over the rows. -/
abbrev gainRef := val_main_v18 (F := Ideal) (m ((c : Thread nD τ).loc main_arg0)) (m ((c : Thread nD τ).loc main_arg1))
  (m ((c : Thread nD τ).loc main_arg2))

/-- A term of the product. -/
abbrev prodTerm (A : FVec Ideal S4096x2560 .f32) (W : FVec Ideal S2048x2560 .f32) (R : Fin 4096) (q : Fin 2048) (K : Fin 2560) : EReal :=
  @HMul.hMul EReal EReal EReal _ (A (ix2 R K)) (W (ix2 q K))

/-- The arguments hold real numbers. -/
def Real : Prop := (∀ i, ∃ r : ℝ, m ((c : Thread nD τ).loc main_arg0) i = (r : EReal)) ∧ (∀ i, ∃ r : ℝ, m ((c : Thread nD τ).loc main_arg1) i = (r : EReal))
  ∧ (∀ i, ∃ r : ℝ, m ((c : Thread nD τ).loc main_arg2) i = (r : EReal)) ∧ (∀ i, ∃ r : ℝ, m ((c : Thread nD τ).loc main_arg3) i = (r : EReal))
  ∧ ∀ i, ∃ r : ℝ, m ((c : Thread nD τ).loc main_arg4) i = (r : EReal)

theorem real (h : Cert.Pre_QkvIdeal_qkv_finite (hPre_qkv_finite := Cert.Pre_qkv_finite.Gen.facts) m) : Real m c := by
  have h := congrFun (h c) ix0
  dsimp only [Cert.Pre_qkv_finite.fn, Cert.Pre_qkv_finite.fn_part1] at h
  simp only [andi, IntOp.andi_eq_one] at h
  obtain ⟨⟨⟨⟨h0, h1⟩, h2⟩, h3⟩, h4⟩ := h
  exact ⟨fun i => ⟨_, real_of_all _ _ (fun _ => rfl) _ _ _ h0 i⟩, fun i => ⟨_, real_of_all _ _ (fun _ => rfl) _ _ _ h1 i⟩,
    fun i => ⟨_, real_of_all _ _ (fun _ => rfl) _ _ _ h2 i⟩, fun i => ⟨_, real_of_all _ _ (fun _ => rfl) _ _ _ h3 i⟩,
    fun i => ⟨_, real_of_all _ _ (fun _ => rfl) _ _ _ h4 i⟩⟩

/-- The windows' block indices, decided over the grid: two points for each tile of rows, one for each half of the product. -/
theorem idx : ∀ t : Fin cfg0.N, win0_0.index t = ![t.val / 2, t.val % 2] ∧ win0_1.index t = ![0, t.val % 2] ∧ win0_2.index t = ![t.val / 2, 0]
    ∧ win0_3.index t = ![t.val / 2, 0] ∧ win0_4.index t = ![0, 0] ∧ win0_5.index t = ![t.val / 2, 0] ∧ win0_6.index t = ![t.val / 2, 0]
    ∧ win0_7.index t = ![0, 0] ∧ t.val < 32 :=
  (by decide +kernel : ∀ t : Fin grid0.N, _)

variable (t : Fin cfg0.N)

section Rows
variable (r : Fin 256) (R : Fin 4096) (hR : R.val = t.val / 2 * 256 + r.val)

section Blocks
include hR

theorem blk0 (k : Fin 1280) (K : Fin 2560) (hK : K.val = t.val % 2 * 1280 + k.val) :
    iblk m c 0 t (ix2 r k) = m ((c : Thread nD τ).loc main_arg0) (ix2 R K) := by
  blk_simp [iblk]; entry_read; pointwise; blk_ext [idx t]

theorem blk2 (q : Fin 2048) : iblk m c 2 t (ix2 r q) = m ((c : Thread nD τ).loc main_arg2) (ix2 R q) := by
  blk_simp [iblk]; entry_read; pointwise; blk_ext [idx t]

theorem blk3 (q : Fin 2048) : iblk m c 3 t (ix2 r q) = m ((c : Thread nD τ).loc main_arg3) (ix2 R q) := by
  blk_simp [iblk]; entry_read; pointwise; blk_ext [idx t]

end Blocks

theorem blk1 (q : Fin 2048) (k : Fin 1280) (K : Fin 2560) (hK : K.val = t.val % 2 * 1280 + k.val) :
    iblk m c 1 t (ix2 q k) = m ((c : Thread nD τ).loc main_arg1) (ix2 q K) := by
  blk_simp [iblk]; entry_read; pointwise; blk_ext [idx t]

theorem blk4 (q : Fin 2048) : iblk m c 4 t (ix2 0 q) = m ((c : Thread nD τ).loc main_arg4) (ix1 q) := by
  blk_simp [iblk]; entry_read; pointwise; blk_ext [idx t]

include hR

/-- A point's part of the product. -/
theorem part_point (q : Fin 2048) : k0_pay1 (iblk m c 0 t) (iblk m c 1 t) (ix2 r q)
    = ∑ k : Fin 1280, prodTerm (m ((c : Thread nD τ).loc main_arg0)) (m ((c : Thread nD τ).loc main_arg1)) R q ⟨t.val % 2 * 1280 + k.val, by omega⟩ := by
  pointwise [k0_pay1]
  exact Finset.sum_congr rfl fun k _ => congr (congrArg _ (blk0 m c t r R hR k _ rfl)) (blk1 m c t q k _ rfl)

/-- At the second point of a tile the accumulator holds the reference's product. -/
theorem acc_point (h : t.val % 2 = 1) (q : Fin 2048) : (outsAt0 m c t.val t.isLt).2.2.2 (ix2 r q) = prodRef m c (ix2 R q) := by
  have ht := (idx t).2.2.2.2.2.2.2.2
  have prev : (outsAt0 m c (t.val - 1) (by omega)).2.2.2 (ix2 r q) = k0_pay1 (iblk m c 0 ⟨t.val - 1, by omega⟩) (iblk m c 1 ⟨t.val - 1, by omega⟩) (ix2 r q) := by
    rw [outsAt0_A m c ⟨t.val - 1, by omega⟩ (by dsimp only; omega) (by dsimp only; omega) (by dsimp only; omega)]
    dsimp only
    frame_out
    pointwise [k0_pay2]
  have sum : k0_pay1 (iblk m c 0 ⟨t.val - 1, by omega⟩) (iblk m c 1 ⟨t.val - 1, by omega⟩) (ix2 r q)
      + k0_pay1 (iblk m c 0 t) (iblk m c 1 t) (ix2 r q) = prodRef m c (ix2 R q) := by
    rw [part_point m c t r R hR q, part_point m c ⟨t.val - 1, by omega⟩ r R (by dsimp only; omega) q]
    have key := sum_tiles (a := 2) (b := 1280) (n := 2560) rfl (prodTerm (m ((c : Thread nD τ).loc main_arg0)) (m ((c : Thread nD τ).loc main_arg1)) R q) (fun p k => prodTerm (m ((c : Thread nD τ).loc main_arg0)) (m ((c : Thread nD τ).loc main_arg1)) R q ⟨p.val * 1280 + k.val, by omega⟩)
      (fun p k K hK => congrArg (prodTerm (m ((c : Thread nD τ).loc main_arg0)) (m ((c : Thread nD τ).loc main_arg1)) R q) (Fin.ext hK.symm))
    rw [Fin.sum_univ_two] at key
    have ref : prodRef m c (ix2 R q) = ∑ K, prodTerm (m ((c : Thread nD τ).loc main_arg0)) (m ((c : Thread nD τ).loc main_arg1)) R q K := by
      pointwise [prodRef, val_main_v17]
    refine Eq.trans ?_ (key.trans ref.symm)
    have e1 : t.val % 2 = 1 := h
    have e0 : (t.val - 1) % 2 = 0 := by omega
    simp only [e0, e1, Fin.val_zero, Fin.val_one]
  rw [← sum, ← prev]
  by_cases h3 : t.val < 2
  · rw [outsAt0_B m c t (by omega) h h h3 (by omega)]
    dsimp only
    frame_out
    pointwise [k0_pay3]
    exact congrArg (· + _) (congrFun ((Memref.isWhole_whole _).read_unread _) _)
  · rw [outsAt0_C m c t (by omega) h h h3 (by omega)]
    dsimp only
    frame_out
    pointwise [k0_pay3]
    exact congrArg (· + _) (congrFun ((Memref.isWhole_whole _).read_unread _) _)

variable (acc : FVec Ideal S256x2048 .f32) (ha : ∀ q, acc (ix2 r q) = prodRef m c (ix2 R q))
include ha

/-- At an index of its rows, the epilogue's gradient with respect to the gain, before the sum, is the reference's. -/
theorem gain_point (q : Fin 2048) : acc (ix2 r q) * k0_pay6 (iblk m c 2 t) (ix2 r q) = gainRef m c (ix2 R q) := by
  pointwise [k0_pay6, k0_pay5, gainRef, val_main_v18, val_main_v12, val_main_v11, val_main_v7, val_main_v6, val_main_v5, val_main_cst_1, val_main_v4, val_main_v3,
    val_main_cst_0, val_main_v2, val_main_v1, val_main_cst, val_main_v0]
  simp only [ha, blk2 m c t r R hR]
  exact mul_comm _ _

/-- At an index of its rows, the epilogue's gradient is the reference's. -/
theorem grad_point (hr : Real m c) (q : Fin 2048) :
    k0_pay7 acc (iblk m c 2 t) (iblk m c 3 t) (iblk m c 4 t) (ix2 r q) = gradRef m c (ix2 R q) := by
  obtain ⟨h0, h1, h2, h3, h4⟩ := hr
  choose a ha0 using h0
  choose w hw using h1
  choose x hx using h2
  choose d hd using h3
  choose g hg using h4
  pointwise [k0_pay7, k0_pay6, k0_pay5, gradRef, val_main_v38, val_main_v37, val_main_v36, val_main_v35, val_main_v34, val_main_v33, val_main_cst_7, val_main_v32,
    val_main_v31, val_main_cst_6, val_main_v30, val_main_v29, val_main_v28, val_main_v27, val_main_v26, val_main_v25, val_main_cst_5, val_main_v24,
    val_main_v22, val_main_v21, val_main_v13, val_main_v10, val_main_v9, val_main_cst_2, val_main_v8, val_main_v7, val_main_v6, val_main_v5,
    val_main_cst_1, val_main_v4, val_main_v3, val_main_cst_0, val_main_v2, val_main_v1, val_main_cst, val_main_v0]
  simp only [ha, blk2 m c t r R hR, blk3 m c t r R hR, blk4 m c t]
  obtain ⟨p, hp⟩ : ∃ p : Fin 2048 → ℝ, ∀ q, prodRef m c (ix2 R q) = ((p q : ℝ) : EReal) := by
    refine ⟨fun q => ∑ K, a (ix2 R K) * w (ix2 q K), fun q => ?_⟩
    pointwise [prodRef, val_main_v17]
    simp only [ha0, hw, ← EReal.coe_mul, coe_sum]
  simp only [Finset.univ_unique, Finset.sum_singleton, hp, hx, hd, hg, Rms.f32_2048, f32_eps, f32_neg_half, ← EReal.coe_mul,
    Rms.ms_row (fun q => x (ix2 R q)), Rms.rsqrt_ms]
  simp only [← EReal.coe_mul, coe_sum, div_real _ (Rms.ms_pos (fun q => x (ix2 R q))).ne',
    div_real _ (show (2048 : ℝ) ≠ 0 by norm_num), ← EReal.coe_sub, ← EReal.coe_add]
  exact congrArg _ (Rms.grad_eq (fun q => x (ix2 R q)) p (fun q => g (ix1 q)) (d (ix2 R q)) q)

end Rows

/-- At a tile's second point the first output's block is the epilogue's gradient at the accumulator. -/
theorem out_point (t : Fin cfg0.N) (h : t.val % 2 = 1) : (outsAt0 m c t.val t.isLt).1
    = k0_pay7 (outsAt0 m c t.val t.isLt).2.2.2 (iblk m c 2 t) (iblk m c 3 t) (iblk m c 4 t) := by
  by_cases h3 : t.val < 2
  · rw [outsAt0_B m c t (by omega) h h h3 (by omega)]
    dsimp only
    frame_out
  · rw [outsAt0_C m c t (by omega) h h h3 (by omega)]
    dsimp only
    frame_out

/-- The second output's block holds the same numbers. -/
theorem out_point_narrow (t : Fin cfg0.N) (h : t.val % 2 = 1) (i : S256x2048.Idx) : (outsAt0 m c t.val t.isLt).2.1 i
    = k0_pay7 (outsAt0 m c t.val t.isLt).2.2.2 (iblk m c 2 t) (iblk m c 3 t) (iblk m c 4 t) i := by
  by_cases h3 : t.val < 2
  · rw [outsAt0_B m c t (by omega) h h h3 (by omega)]
    dsimp only
    frame_out
    rfl
  · rw [outsAt0_C m c t (by omega) h h h3 (by omega)]
    dsimp only
    frame_out
    rfl

/-- The gradient with respect to the gain of one tile's rows. -/
def tileSum (p : ℕ) (q : Fin 2048) : EReal := if h : p < 16 then ∑ r : Fin 256, gainRef m c (ix2 ⟨p * 256 + r.val, by omega⟩ q) else 0

/-- At the second point of tile `i` the third output's block is the sum over the tiles up to `i`. -/
theorem gain_acc (i : ℕ) (hi : 2 * i + 1 < cfg0.N) (q : Fin 2048) :
    (outsAt0 m c (2 * i + 1) hi).2.2.1 (ix2 0 q) = ∑ p ∈ Finset.range (i + 1), tileSum m c p q := by
  have hN : cfg0.N = 32 := N_0
  have part (t : Fin cfg0.N) (h : t.val % 2 = 1) (i : ℕ) (ht : t.val / 2 = i) :
      k0_pay8 (outsAt0 m c t.val t.isLt).2.2.2 (iblk m c 2 t) (ix2 0 q) = tileSum m c i q := by
    pointwise [k0_pay8]
    rw [tileSum, dif_pos (by omega)]
    refine Finset.sum_congr rfl fun r _ => ?_
    exact gain_point m c t r ⟨i * 256 + r.val, by omega⟩ (by subst ht; rfl) _ (acc_point m c t r _ (by subst ht; rfl) h) q
  induction i with
  | zero =>
    rw [Finset.sum_range_one, ← part ⟨1, hi⟩ (by dsimp only) 0 (by norm_num)]
    rw [outsAt0_B m c ⟨1, hi⟩ (by dsimp only; omega) (by dsimp only) (by dsimp only) (by dsimp only; omega) (by dsimp only; omega)]
    dsimp only
    frame_out
  | succ i ih =>
    rw [Finset.sum_range_succ, ← ih (by omega), ← part ⟨2 * (i + 1) + 1, hi⟩ (by dsimp only; omega) (i + 1) (by dsimp only; omega)]
    have keep : (outsAt0 m c (2 * (i + 1)) (by omega)).2.2.1 = (outsAt0 m c (2 * i + 1) (by omega)).2.2.1 := by
      rw [outsAt0_A m c ⟨2 * (i + 1), by omega⟩ (by dsimp only; omega) (by dsimp only; omega) (by dsimp only; omega)]
      rfl
    rw [← keep]
    rw [outsAt0_C m c ⟨2 * (i + 1) + 1, hi⟩ (by dsimp only; omega) (by dsimp only; omega) (by dsimp only; omega) (by dsimp only; omega) (by dsimp only; omega)]
    dsimp only
    frame_out
    pointwise [k0_pay4]
    rfl

/-- After the run the first output array is the reference's gradient. -/
theorem grad_final (hr : Real m c) : (dats m 0 c).arrAt 5 cfg0.N = gradRef m c := by
  refine (dats m 0 c).arrAt_eq_of_covers 5 _ (by decide +kernel) fun t hf y => ?_
  have h := (flush0_5 t).mp hf
  blk_simp
  rw [after0_5]
  idx_vars y
  rw [out_point m c t h]
  refine (grad_point m c t y0 ⟨t.val / 2 * 256 + y0.val, by have := (idx t).2.2.2.2.2.2.2.2; omega⟩ rfl _
    (acc_point m c t y0 _ rfl h) hr y1).trans (congrArg _ ?_)
  blk_ext [idx t]

/-- After the run the second output array holds the same numbers. -/
theorem narrow_final (hr : Real m c) : (dats m 0 c).arrAt 6 cfg0.N = gradRef m c := by
  refine (dats m 0 c).arrAt_eq_of_covers 6 _ (by decide +kernel) fun t hf y => ?_
  have h := (flush0_6 t).mp hf
  blk_simp
  rw [after0_6]
  idx_vars y
  refine (out_point_narrow m c t h _).trans ?_
  refine (grad_point m c t y0 ⟨t.val / 2 * 256 + y0.val, by have := (idx t).2.2.2.2.2.2.2.2; omega⟩ rfl _
    (acc_point m c t y0 _ rfl h) hr y1).trans (congrArg _ ?_)
  blk_ext [idx t]

/-- After the run the third output array is the reference's gradient with respect to the gain. -/
theorem gain_final : (dats m 0 c).arrAt 7 cfg0.N = val_main_v40 (F := Ideal) (m ((c : Thread nD τ).loc main_arg0))
    (m ((c : Thread nD τ).loc main_arg1)) (m ((c : Thread nD τ).loc main_arg2)) := by
  refine (dats m 0 c).arrAt_eq_of_covers 7 _ (by decide +kernel) fun t hf y => ?_
  have h := (flush0_7 t).mp hf
  have hN : cfg0.N = 32 := N_0
  have h31 : 2 * 15 + 1 < cfg0.N := by rw [hN]; norm_num
  obtain rfl : t = ⟨2 * 15 + 1, h31⟩ := Fin.ext (by have := lt_of_lt_of_eq t.isLt hN; dsimp only; omega)
  blk_simp
  rw [after0_7]
  idx_vars y
  obtain rfl : y0 = 0 := Subsingleton.elim _ _
  rw [show ((View.whole main_v3_2).slice (win0_7.rect ⟨2 * 15 + 1, h31⟩)).emb (ix2 0 y1) = ix2 0 y1 by blk_ext [idx ⟨2 * 15 + 1, h31⟩]]
  refine (gain_acc m c 15 _ y1).trans ?_
  rw [Finset.sum_range]
  refine ((Finset.sum_congr rfl fun p _ => dif_pos p.isLt).trans (sum_tiles (a := 16) (b := 256) (n := 4096) rfl (fun R => gainRef m c (ix2 R y1))
    (fun p r => gainRef m c (ix2 ⟨p.val * 256 + r.val, by omega⟩ y1)) (fun p r R hR => congrArg (fun R => gainRef m c (ix2 R y1)) (Fin.ext hR.symm)))).trans ?_
  rw [val_main_v40_apply, val_main_v23_apply]
  simp only [val_main_v20_apply, val_main_v19_apply, Finset.univ_unique, Finset.sum_singleton]
  pointwise [val_main_cst_4, val_main_cst_3]
  exact Finset.sum_congr rfl fun k _ => congrArg (gainRef m c) (by blk_ext [])

/-- The pair's value claim. -/
theorem value : Cert.algebraic_QkvIdeal_QkvRefIdeal_pre_qkv_finite (hQkvIdeal := Cert.QkvIdeal.Gen.facts)
    (hQkvRefIdeal := Cert.QkvRefIdeal.Gen.facts) (hPre_qkv_finite := Cert.Pre_qkv_finite.Gen.facts) := by
  intro m g m' g' hpre hagree
  refine ⟨_, _, _, (θ_run Cert.QkvIdeal.defs _ _).mono (fun r h c => h c) (Cert.QkvIdeal.Value.run_blocks m g), ?_⟩
  refine (θ_run Cert.QkvRefIdeal.defs _ _).mono (fun r h c => ⟨?_, ?_, ?_, (h c).2.2.2⟩) (Cert.QkvRefIdeal.Value.run m' g')
  · rw [(h c).1, val_main_v38_eq, (hagree c).1, (hagree c).2.1, (hagree c).2.2.1, (hagree c).2.2.2.1, (hagree c).2.2.2.2]
    exact (grad_final m c (real m c hpre)).symm
  · rw [(h c).2.1, val_main_v39_eq, (hagree c).1, (hagree c).2.1, (hagree c).2.2.1, (hagree c).2.2.2.1, (hagree c).2.2.2.2]
    exact (narrow_final m c (real m c hpre)).symm
  · rw [(h c).2.2.1, (hagree c).1, (hagree c).2.1, (hagree c).2.2.1, val_main_v40_eq]
    exact (gain_final m c).symm

theorem frame_ideal : Cert.quiescent_QkvIdeal (hQkvIdeal := Cert.QkvIdeal.Gen.facts) := fun m ρ _ => Cert.QkvIdeal.Gen.frame m ρ

theorem frame_ideal_pre : Cert.quiescent_QkvIdeal_pre_qkv_finite (hQkvIdeal := Cert.QkvIdeal.Gen.facts)
    (hPre_qkv_finite := Cert.Pre_qkv_finite.Gen.facts) := fun m ρ _ => Cert.QkvIdeal.Gen.frame m ρ

/-- The reference changes none of its arguments and stops with every counter at zero. -/
theorem frame_ref : Cert.quiescent_QkvRefIdeal (hQkvRefIdeal := Cert.QkvRefIdeal.Gen.facts) := fun m g _ =>
  (θ_run Cert.QkvRefIdeal.defs _ _).mono (fun r h => ⟨fun c => (h c).2.2.2, sem_eq_zero_of_no_sems (by decide) r.2⟩)
    (Cert.QkvRefIdeal.Value.run m g)

theorem frame_ref_pre : Cert.quiescent_QkvRefIdeal_pre_qkv_finite (hQkvRefIdeal := Cert.QkvRefIdeal.Gen.facts)
    (hPre_qkv_finite := Cert.Pre_qkv_finite.Gen.facts) := fun m g _ => frame_ref m g trivial

end Cert.QkvIdeal.Proof
-- ==== Proof.Inp.lean ====
/- The gradient of the residual norm in front of the S5 and HGRN2 layers, fused with the product by its weights: the call's three output arrays are
   the reference's. -/
module

public import proofs.«01_k».proof.Proof.Gen.InpIdeal.Value
public import proofs.«01_k».proof.Proof.Gen.InpRefIdeal.Run
public import proofs.«01_k».proof.Proof.Gen.InpRefIdeal.Read
public import proofs.«01_k».proof.Proof.Gen.Pre_in_finite
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs
public import proofs.«01_k».proof.Proof.SwaArgs
public import proofs.«01_k».proof.Proof.TileSum
public import proofs.«01_k».proof.Proof.RmsGrad

@[expose] public section

set_option maxRecDepth 16384

noncomputable section

open Idealize.ShloMosaic Idealize.ShloMosaic.TcCoe Idealize.SL.Sem
open Idealize.ShloMosaic.Pipeline (Dat)
open Cert.SwaRefIdeal.Proof (real_of_all)
open _root_.Swa (coe_sum div_real f32_eps f32_neg_half)

namespace Cert.InpIdeal.Proof

open Cert.InpIdeal Cert.InpIdeal.Gen Cert.InpRefIdeal.Read

variable (m : (ℓ : Loc nD τ sig) → Buf (Elt Ideal) ℓ) (c : Dev nD)

/-- The reference's gradient of the normalised rows: the product by the weights. -/
abbrev prodRef := val_main_v17 (F := Ideal) (m ((c : Thread nD τ).loc main_arg0)) (m ((c : Thread nD τ).loc main_arg1))

/-- The reference's gradient with respect to the rows. -/
abbrev gradRef := val_main_v38 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- The reference's gradient with respect to the gain, before it is summed over the rows. -/
abbrev gainRef := val_main_v18 (F := Ideal) (m ((c : Thread nD τ).loc main_arg0)) (m ((c : Thread nD τ).loc main_arg1))
  (m ((c : Thread nD τ).loc main_arg2))

/-- A term of the product. -/
abbrev prodTerm (A : FVec Ideal S4096x5120 .f32) (W : FVec Ideal S2048x5120 .f32) (R : Fin 4096) (q : Fin 2048) (K : Fin 5120) : EReal :=
  @HMul.hMul EReal EReal EReal _ (A (ix2 R K)) (W (ix2 q K))

/-- The arguments hold real numbers. -/
def Real : Prop := (∀ i, ∃ r : ℝ, m ((c : Thread nD τ).loc main_arg0) i = (r : EReal)) ∧ (∀ i, ∃ r : ℝ, m ((c : Thread nD τ).loc main_arg1) i = (r : EReal))
  ∧ (∀ i, ∃ r : ℝ, m ((c : Thread nD τ).loc main_arg2) i = (r : EReal)) ∧ (∀ i, ∃ r : ℝ, m ((c : Thread nD τ).loc main_arg3) i = (r : EReal))
  ∧ ∀ i, ∃ r : ℝ, m ((c : Thread nD τ).loc main_arg4) i = (r : EReal)

theorem real (h : Cert.Pre_InpIdeal_in_finite (hPre_in_finite := Cert.Pre_in_finite.Gen.facts) m) : Real m c := by
  have h := congrFun (h c) ix0
  dsimp only [Cert.Pre_in_finite.fn, Cert.Pre_in_finite.fn_part1] at h
  simp only [andi, IntOp.andi_eq_one] at h
  obtain ⟨⟨⟨⟨h0, h1⟩, h2⟩, h3⟩, h4⟩ := h
  exact ⟨fun i => ⟨_, real_of_all _ _ (fun _ => rfl) _ _ _ h0 i⟩, fun i => ⟨_, real_of_all _ _ (fun _ => rfl) _ _ _ h1 i⟩,
    fun i => ⟨_, real_of_all _ _ (fun _ => rfl) _ _ _ h2 i⟩, fun i => ⟨_, real_of_all _ _ (fun _ => rfl) _ _ _ h3 i⟩,
    fun i => ⟨_, real_of_all _ _ (fun _ => rfl) _ _ _ h4 i⟩⟩

/-- The windows' block indices, decided over the grid: two points for each tile of rows, one for each half of the product. -/
theorem idx : ∀ t : Fin cfg0.N, win0_0.index t = ![t.val / 2, t.val % 2] ∧ win0_1.index t = ![0, t.val % 2] ∧ win0_2.index t = ![t.val / 2, 0]
    ∧ win0_3.index t = ![t.val / 2, 0] ∧ win0_4.index t = ![0, 0] ∧ win0_5.index t = ![t.val / 2, 0] ∧ win0_6.index t = ![t.val / 2, 0]
    ∧ win0_7.index t = ![0, 0] ∧ t.val < 32 :=
  (by decide +kernel : ∀ t : Fin grid0.N, _)

variable (t : Fin cfg0.N)

section Rows
variable (r : Fin 256) (R : Fin 4096) (hR : R.val = t.val / 2 * 256 + r.val)

section Blocks
include hR

theorem blk0 (k : Fin 2560) (K : Fin 5120) (hK : K.val = t.val % 2 * 2560 + k.val) :
    iblk m c 0 t (ix2 r k) = m ((c : Thread nD τ).loc main_arg0) (ix2 R K) := by
  blk_simp [iblk]; entry_read; pointwise; blk_ext [idx t]

theorem blk2 (q : Fin 2048) : iblk m c 2 t (ix2 r q) = m ((c : Thread nD τ).loc main_arg2) (ix2 R q) := by
  blk_simp [iblk]; entry_read; pointwise; blk_ext [idx t]

theorem blk3 (q : Fin 2048) : iblk m c 3 t (ix2 r q) = m ((c : Thread nD τ).loc main_arg3) (ix2 R q) := by
  blk_simp [iblk]; entry_read; pointwise; blk_ext [idx t]

end Blocks

theorem blk1 (q : Fin 2048) (k : Fin 2560) (K : Fin 5120) (hK : K.val = t.val % 2 * 2560 + k.val) :
    iblk m c 1 t (ix2 q k) = m ((c : Thread nD τ).loc main_arg1) (ix2 q K) := by
  blk_simp [iblk]; entry_read; pointwise; blk_ext [idx t]

theorem blk4 (q : Fin 2048) : iblk m c 4 t (ix2 0 q) = m ((c : Thread nD τ).loc main_arg4) (ix1 q) := by
  blk_simp [iblk]; entry_read; pointwise; blk_ext [idx t]

include hR

/-- A point's part of the product. -/
theorem part_point (q : Fin 2048) : k0_pay1 (iblk m c 0 t) (iblk m c 1 t) (ix2 r q)
    = ∑ k : Fin 2560, prodTerm (m ((c : Thread nD τ).loc main_arg0)) (m ((c : Thread nD τ).loc main_arg1)) R q ⟨t.val % 2 * 2560 + k.val, by omega⟩ := by
  pointwise [k0_pay1]
  exact Finset.sum_congr rfl fun k _ => congr (congrArg _ (blk0 m c t r R hR k _ rfl)) (blk1 m c t q k _ rfl)

/-- At the second point of a tile the accumulator holds the reference's product. -/
theorem acc_point (h : t.val % 2 = 1) (q : Fin 2048) : (outsAt0 m c t.val t.isLt).2.2.2 (ix2 r q) = prodRef m c (ix2 R q) := by
  have ht := (idx t).2.2.2.2.2.2.2.2
  have prev : (outsAt0 m c (t.val - 1) (by omega)).2.2.2 (ix2 r q) = k0_pay1 (iblk m c 0 ⟨t.val - 1, by omega⟩) (iblk m c 1 ⟨t.val - 1, by omega⟩) (ix2 r q) := by
    rw [outsAt0_A m c ⟨t.val - 1, by omega⟩ (by dsimp only; omega) (by dsimp only; omega) (by dsimp only; omega)]
    dsimp only
    frame_out
    pointwise [k0_pay2]
  have sum : k0_pay1 (iblk m c 0 ⟨t.val - 1, by omega⟩) (iblk m c 1 ⟨t.val - 1, by omega⟩) (ix2 r q)
      + k0_pay1 (iblk m c 0 t) (iblk m c 1 t) (ix2 r q) = prodRef m c (ix2 R q) := by
    rw [part_point m c t r R hR q, part_point m c ⟨t.val - 1, by omega⟩ r R (by dsimp only; omega) q]
    have key := sum_tiles (a := 2) (b := 2560) (n := 5120) rfl (prodTerm (m ((c : Thread nD τ).loc main_arg0)) (m ((c : Thread nD τ).loc main_arg1)) R q) (fun p k => prodTerm (m ((c : Thread nD τ).loc main_arg0)) (m ((c : Thread nD τ).loc main_arg1)) R q ⟨p.val * 2560 + k.val, by omega⟩)
      (fun p k K hK => congrArg (prodTerm (m ((c : Thread nD τ).loc main_arg0)) (m ((c : Thread nD τ).loc main_arg1)) R q) (Fin.ext hK.symm))
    rw [Fin.sum_univ_two] at key
    have ref : prodRef m c (ix2 R q) = ∑ K, prodTerm (m ((c : Thread nD τ).loc main_arg0)) (m ((c : Thread nD τ).loc main_arg1)) R q K := by
      pointwise [prodRef, val_main_v17]
    refine Eq.trans ?_ (key.trans ref.symm)
    have e1 : t.val % 2 = 1 := h
    have e0 : (t.val - 1) % 2 = 0 := by omega
    simp only [e0, e1, Fin.val_zero, Fin.val_one]
  rw [← sum, ← prev]
  by_cases h3 : t.val < 2
  · rw [outsAt0_B m c t (by omega) h h h3 (by omega)]
    dsimp only
    frame_out
    pointwise [k0_pay3]
    exact congrArg (· + _) (congrFun ((Memref.isWhole_whole _).read_unread _) _)
  · rw [outsAt0_C m c t (by omega) h h h3 (by omega)]
    dsimp only
    frame_out
    pointwise [k0_pay3]
    exact congrArg (· + _) (congrFun ((Memref.isWhole_whole _).read_unread _) _)

variable (acc : FVec Ideal S256x2048 .f32) (ha : ∀ q, acc (ix2 r q) = prodRef m c (ix2 R q))
include ha

/-- At an index of its rows, the epilogue's gradient with respect to the gain, before the sum, is the reference's. -/
theorem gain_point (q : Fin 2048) : acc (ix2 r q) * k0_pay6 (iblk m c 2 t) (ix2 r q) = gainRef m c (ix2 R q) := by
  pointwise [k0_pay6, k0_pay5, gainRef, val_main_v18, val_main_v12, val_main_v11, val_main_v7, val_main_v6, val_main_v5, val_main_cst_1, val_main_v4, val_main_v3,
    val_main_cst_0, val_main_v2, val_main_v1, val_main_cst, val_main_v0]
  simp only [ha, blk2 m c t r R hR]
  exact mul_comm _ _

/-- At an index of its rows, the epilogue's gradient is the reference's. -/
theorem grad_point (hr : Real m c) (q : Fin 2048) :
    k0_pay7 acc (iblk m c 2 t) (iblk m c 3 t) (iblk m c 4 t) (ix2 r q) = gradRef m c (ix2 R q) := by
  obtain ⟨h0, h1, h2, h3, h4⟩ := hr
  choose a ha0 using h0
  choose w hw using h1
  choose x hx using h2
  choose d hd using h3
  choose g hg using h4
  pointwise [k0_pay7, k0_pay6, k0_pay5, gradRef, val_main_v38, val_main_v37, val_main_v36, val_main_v35, val_main_v34, val_main_v33, val_main_cst_7, val_main_v32,
    val_main_v31, val_main_cst_6, val_main_v30, val_main_v29, val_main_v28, val_main_v27, val_main_v26, val_main_v25, val_main_cst_5, val_main_v24,
    val_main_v22, val_main_v21, val_main_v13, val_main_v10, val_main_v9, val_main_cst_2, val_main_v8, val_main_v7, val_main_v6, val_main_v5,
    val_main_cst_1, val_main_v4, val_main_v3, val_main_cst_0, val_main_v2, val_main_v1, val_main_cst, val_main_v0]
  simp only [ha, blk2 m c t r R hR, blk3 m c t r R hR, blk4 m c t]
  obtain ⟨p, hp⟩ : ∃ p : Fin 2048 → ℝ, ∀ q, prodRef m c (ix2 R q) = ((p q : ℝ) : EReal) := by
    refine ⟨fun q => ∑ K, a (ix2 R K) * w (ix2 q K), fun q => ?_⟩
    pointwise [prodRef, val_main_v17]
    simp only [ha0, hw, ← EReal.coe_mul, coe_sum]
  simp only [Finset.univ_unique, Finset.sum_singleton, hp, hx, hd, hg, Rms.f32_2048, f32_eps, f32_neg_half, ← EReal.coe_mul,
    Rms.ms_row (fun q => x (ix2 R q)), Rms.rsqrt_ms]
  simp only [← EReal.coe_mul, coe_sum, div_real _ (Rms.ms_pos (fun q => x (ix2 R q))).ne',
    div_real _ (show (2048 : ℝ) ≠ 0 by norm_num), ← EReal.coe_sub, ← EReal.coe_add]
  exact congrArg _ (Rms.grad_eq (fun q => x (ix2 R q)) p (fun q => g (ix1 q)) (d (ix2 R q)) q)

end Rows

/-- At a tile's second point the first output's block is the epilogue's gradient at the accumulator. -/
theorem out_point (t : Fin cfg0.N) (h : t.val % 2 = 1) : (outsAt0 m c t.val t.isLt).1
    = k0_pay7 (outsAt0 m c t.val t.isLt).2.2.2 (iblk m c 2 t) (iblk m c 3 t) (iblk m c 4 t) := by
  by_cases h3 : t.val < 2
  · rw [outsAt0_B m c t (by omega) h h h3 (by omega)]
    dsimp only
    frame_out
  · rw [outsAt0_C m c t (by omega) h h h3 (by omega)]
    dsimp only
    frame_out

/-- The second output's block holds the same numbers. -/
theorem out_point_narrow (t : Fin cfg0.N) (h : t.val % 2 = 1) (i : S256x2048.Idx) : (outsAt0 m c t.val t.isLt).2.1 i
    = k0_pay7 (outsAt0 m c t.val t.isLt).2.2.2 (iblk m c 2 t) (iblk m c 3 t) (iblk m c 4 t) i := by
  by_cases h3 : t.val < 2
  · rw [outsAt0_B m c t (by omega) h h h3 (by omega)]
    dsimp only
    frame_out
    rfl
  · rw [outsAt0_C m c t (by omega) h h h3 (by omega)]
    dsimp only
    frame_out
    rfl

/-- The gradient with respect to the gain of one tile's rows. -/
def tileSum (p : ℕ) (q : Fin 2048) : EReal := if h : p < 16 then ∑ r : Fin 256, gainRef m c (ix2 ⟨p * 256 + r.val, by omega⟩ q) else 0

/-- At the second point of tile `i` the third output's block is the sum over the tiles up to `i`. -/
theorem gain_acc (i : ℕ) (hi : 2 * i + 1 < cfg0.N) (q : Fin 2048) :
    (outsAt0 m c (2 * i + 1) hi).2.2.1 (ix2 0 q) = ∑ p ∈ Finset.range (i + 1), tileSum m c p q := by
  have hN : cfg0.N = 32 := N_0
  have part (t : Fin cfg0.N) (h : t.val % 2 = 1) (i : ℕ) (ht : t.val / 2 = i) :
      k0_pay8 (outsAt0 m c t.val t.isLt).2.2.2 (iblk m c 2 t) (ix2 0 q) = tileSum m c i q := by
    pointwise [k0_pay8]
    rw [tileSum, dif_pos (by omega)]
    refine Finset.sum_congr rfl fun r _ => ?_
    exact gain_point m c t r ⟨i * 256 + r.val, by omega⟩ (by subst ht; rfl) _ (acc_point m c t r _ (by subst ht; rfl) h) q
  induction i with
  | zero =>
    rw [Finset.sum_range_one, ← part ⟨1, hi⟩ (by dsimp only) 0 (by norm_num)]
    rw [outsAt0_B m c ⟨1, hi⟩ (by dsimp only; omega) (by dsimp only) (by dsimp only) (by dsimp only; omega) (by dsimp only; omega)]
    dsimp only
    frame_out
  | succ i ih =>
    rw [Finset.sum_range_succ, ← ih (by omega), ← part ⟨2 * (i + 1) + 1, hi⟩ (by dsimp only; omega) (i + 1) (by dsimp only; omega)]
    have keep : (outsAt0 m c (2 * (i + 1)) (by omega)).2.2.1 = (outsAt0 m c (2 * i + 1) (by omega)).2.2.1 := by
      rw [outsAt0_A m c ⟨2 * (i + 1), by omega⟩ (by dsimp only; omega) (by dsimp only; omega) (by dsimp only; omega)]
      rfl
    rw [← keep]
    rw [outsAt0_C m c ⟨2 * (i + 1) + 1, hi⟩ (by dsimp only; omega) (by dsimp only; omega) (by dsimp only; omega) (by dsimp only; omega) (by dsimp only; omega)]
    dsimp only
    frame_out
    pointwise [k0_pay4]
    rfl

/-- After the run the first output array is the reference's gradient. -/
theorem grad_final (hr : Real m c) : (dats m 0 c).arrAt 5 cfg0.N = gradRef m c := by
  refine (dats m 0 c).arrAt_eq_of_covers 5 _ (by decide +kernel) fun t hf y => ?_
  have h := (flush0_5 t).mp hf
  blk_simp
  rw [after0_5]
  idx_vars y
  rw [out_point m c t h]
  refine (grad_point m c t y0 ⟨t.val / 2 * 256 + y0.val, by have := (idx t).2.2.2.2.2.2.2.2; omega⟩ rfl _
    (acc_point m c t y0 _ rfl h) hr y1).trans (congrArg _ ?_)
  blk_ext [idx t]

/-- After the run the second output array holds the same numbers. -/
theorem narrow_final (hr : Real m c) : (dats m 0 c).arrAt 6 cfg0.N = gradRef m c := by
  refine (dats m 0 c).arrAt_eq_of_covers 6 _ (by decide +kernel) fun t hf y => ?_
  have h := (flush0_6 t).mp hf
  blk_simp
  rw [after0_6]
  idx_vars y
  refine (out_point_narrow m c t h _).trans ?_
  refine (grad_point m c t y0 ⟨t.val / 2 * 256 + y0.val, by have := (idx t).2.2.2.2.2.2.2.2; omega⟩ rfl _
    (acc_point m c t y0 _ rfl h) hr y1).trans (congrArg _ ?_)
  blk_ext [idx t]

/-- After the run the third output array is the reference's gradient with respect to the gain. -/
theorem gain_final : (dats m 0 c).arrAt 7 cfg0.N = val_main_v40 (F := Ideal) (m ((c : Thread nD τ).loc main_arg0))
    (m ((c : Thread nD τ).loc main_arg1)) (m ((c : Thread nD τ).loc main_arg2)) := by
  refine (dats m 0 c).arrAt_eq_of_covers 7 _ (by decide +kernel) fun t hf y => ?_
  have h := (flush0_7 t).mp hf
  have hN : cfg0.N = 32 := N_0
  have h31 : 2 * 15 + 1 < cfg0.N := by rw [hN]; norm_num
  obtain rfl : t = ⟨2 * 15 + 1, h31⟩ := Fin.ext (by have := lt_of_lt_of_eq t.isLt hN; dsimp only; omega)
  blk_simp
  rw [after0_7]
  idx_vars y
  obtain rfl : y0 = 0 := Subsingleton.elim _ _
  rw [show ((View.whole main_v3_2).slice (win0_7.rect ⟨2 * 15 + 1, h31⟩)).emb (ix2 0 y1) = ix2 0 y1 by blk_ext [idx ⟨2 * 15 + 1, h31⟩]]
  refine (gain_acc m c 15 _ y1).trans ?_
  rw [Finset.sum_range]
  refine ((Finset.sum_congr rfl fun p _ => dif_pos p.isLt).trans (sum_tiles (a := 16) (b := 256) (n := 4096) rfl (fun R => gainRef m c (ix2 R y1))
    (fun p r => gainRef m c (ix2 ⟨p.val * 256 + r.val, by omega⟩ y1)) (fun p r R hR => congrArg (fun R => gainRef m c (ix2 R y1)) (Fin.ext hR.symm)))).trans ?_
  rw [val_main_v40_apply, val_main_v23_apply]
  simp only [val_main_v20_apply, val_main_v19_apply, Finset.univ_unique, Finset.sum_singleton]
  pointwise [val_main_cst_4, val_main_cst_3]
  exact Finset.sum_congr rfl fun k _ => congrArg (gainRef m c) (by blk_ext [])

/-- The pair's value claim. -/
theorem value : Cert.algebraic_InpIdeal_InpRefIdeal_pre_in_finite (hInpIdeal := Cert.InpIdeal.Gen.facts)
    (hInpRefIdeal := Cert.InpRefIdeal.Gen.facts) (hPre_in_finite := Cert.Pre_in_finite.Gen.facts) := by
  intro m g m' g' hpre hagree
  refine ⟨_, _, _, (θ_run Cert.InpIdeal.defs _ _).mono (fun r h c => h c) (Cert.InpIdeal.Value.run_blocks m g), ?_⟩
  refine (θ_run Cert.InpRefIdeal.defs _ _).mono (fun r h c => ⟨?_, ?_, ?_, (h c).2.2.2⟩) (Cert.InpRefIdeal.Value.run m' g')
  · rw [(h c).1, val_main_v38_eq, (hagree c).1, (hagree c).2.1, (hagree c).2.2.1, (hagree c).2.2.2.1, (hagree c).2.2.2.2]
    exact (grad_final m c (real m c hpre)).symm
  · rw [(h c).2.1, val_main_v39_eq, (hagree c).1, (hagree c).2.1, (hagree c).2.2.1, (hagree c).2.2.2.1, (hagree c).2.2.2.2]
    exact (narrow_final m c (real m c hpre)).symm
  · rw [(h c).2.2.1, (hagree c).1, (hagree c).2.1, (hagree c).2.2.1, val_main_v40_eq]
    exact (gain_final m c).symm

theorem frame_ideal : Cert.quiescent_InpIdeal (hInpIdeal := Cert.InpIdeal.Gen.facts) := fun m ρ _ => Cert.InpIdeal.Gen.frame m ρ

theorem frame_ideal_pre : Cert.quiescent_InpIdeal_pre_in_finite (hInpIdeal := Cert.InpIdeal.Gen.facts)
    (hPre_in_finite := Cert.Pre_in_finite.Gen.facts) := fun m ρ _ => Cert.InpIdeal.Gen.frame m ρ

/-- The reference changes none of its arguments and stops with every counter at zero. -/
theorem frame_ref : Cert.quiescent_InpRefIdeal (hInpRefIdeal := Cert.InpRefIdeal.Gen.facts) := fun m g _ =>
  (θ_run Cert.InpRefIdeal.defs _ _).mono (fun r h => ⟨fun c => (h c).2.2.2, sem_eq_zero_of_no_sems (by decide) r.2⟩)
    (Cert.InpRefIdeal.Value.run m g)

theorem frame_ref_pre : Cert.quiescent_InpRefIdeal_pre_in_finite (hInpRefIdeal := Cert.InpRefIdeal.Gen.facts)
    (hPre_in_finite := Cert.Pre_in_finite.Gen.facts) := fun m g _ => frame_ref m g trivial

end Cert.InpIdeal.Proof
-- ==== Proof.Up.lean ====
/- The gradient of the residual norm in front of the squared-ReLU block, fused with the product by its weights: the call's three output arrays are
   the reference's. -/
module

public import proofs.«01_k».proof.Proof.Gen.UpIdeal.Value
public import proofs.«01_k».proof.Proof.Gen.UpRefIdeal.Run
public import proofs.«01_k».proof.Proof.Gen.UpRefIdeal.Read
public import proofs.«01_k».proof.Proof.Gen.Pre_up_finite
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs
public import proofs.«01_k».proof.Proof.SwaArgs
public import proofs.«01_k».proof.Proof.TileSum
public import proofs.«01_k».proof.Proof.RmsGrad

@[expose] public section

set_option maxRecDepth 16384

noncomputable section

open Idealize.ShloMosaic Idealize.ShloMosaic.TcCoe Idealize.SL.Sem
open Idealize.ShloMosaic.Pipeline (Dat)
open Cert.SwaRefIdeal.Proof (real_of_all)
open _root_.Swa (coe_sum div_real f32_eps f32_neg_half)

namespace Cert.UpIdeal.Proof

open Cert.UpIdeal Cert.UpIdeal.Gen Cert.UpRefIdeal.Read

variable (m : (ℓ : Loc nD τ sig) → Buf (Elt Ideal) ℓ) (c : Dev nD)

/-- The reference's gradient of the normalised rows: the product by the weights. -/
abbrev prodRef := val_main_v17 (F := Ideal) (m ((c : Thread nD τ).loc main_arg0)) (m ((c : Thread nD τ).loc main_arg1))

/-- The reference's gradient with respect to the rows. -/
abbrev gradRef := val_main_v38 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- The reference's gradient with respect to the gain, before it is summed over the rows. -/
abbrev gainRef := val_main_v18 (F := Ideal) (m ((c : Thread nD τ).loc main_arg0)) (m ((c : Thread nD τ).loc main_arg1))
  (m ((c : Thread nD τ).loc main_arg2))

/-- A term of the product. -/
abbrev prodTerm (A : FVec Ideal S4096x8192 .f32) (W : FVec Ideal S2048x8192 .f32) (R : Fin 4096) (q : Fin 2048) (K : Fin 8192) : EReal :=
  @HMul.hMul EReal EReal EReal _ (A (ix2 R K)) (W (ix2 q K))

/-- The part of the product that one block of the weights gives. -/
def chunk (R : Fin 4096) (q : Fin 2048) (p : Fin 8) : EReal :=
  ∑ k : Fin 1024, prodTerm (m ((c : Thread nD τ).loc main_arg0)) (m ((c : Thread nD τ).loc main_arg1)) R q ⟨p.val * 1024 + k.val, by omega⟩

/-- The arguments hold real numbers. -/
def Real : Prop := (∀ i, ∃ r : ℝ, m ((c : Thread nD τ).loc main_arg0) i = (r : EReal)) ∧ (∀ i, ∃ r : ℝ, m ((c : Thread nD τ).loc main_arg1) i = (r : EReal))
  ∧ (∀ i, ∃ r : ℝ, m ((c : Thread nD τ).loc main_arg2) i = (r : EReal)) ∧ (∀ i, ∃ r : ℝ, m ((c : Thread nD τ).loc main_arg3) i = (r : EReal))
  ∧ ∀ i, ∃ r : ℝ, m ((c : Thread nD τ).loc main_arg4) i = (r : EReal)

theorem real (h : Cert.Pre_UpIdeal_up_finite (hPre_up_finite := Cert.Pre_up_finite.Gen.facts) m) : Real m c := by
  have h := congrFun (h c) ix0
  dsimp only [Cert.Pre_up_finite.fn, Cert.Pre_up_finite.fn_part1] at h
  simp only [andi, IntOp.andi_eq_one] at h
  obtain ⟨⟨⟨⟨h0, h1⟩, h2⟩, h3⟩, h4⟩ := h
  exact ⟨fun i => ⟨_, real_of_all _ _ (fun _ => rfl) _ _ _ h0 i⟩, fun i => ⟨_, real_of_all _ _ (fun _ => rfl) _ _ _ h1 i⟩,
    fun i => ⟨_, real_of_all _ _ (fun _ => rfl) _ _ _ h2 i⟩, fun i => ⟨_, real_of_all _ _ (fun _ => rfl) _ _ _ h3 i⟩,
    fun i => ⟨_, real_of_all _ _ (fun _ => rfl) _ _ _ h4 i⟩⟩

/-- The windows' block indices, decided over the grid: four points for each tile of rows, one for each quarter of the product; a
    quarter of the weights comes in two blocks. -/
theorem idx : ∀ t : Fin cfg0.N, win0_0.index t = ![t.val / 4, t.val % 4] ∧ win0_1.index t = ![2 * (t.val % 4), 0, 0]
    ∧ win0_2.index t = ![2 * (t.val % 4) + 1, 0, 0] ∧ win0_3.index t = ![t.val / 4, 0] ∧ win0_4.index t = ![t.val / 4, 0]
    ∧ win0_5.index t = ![0, 0] ∧ win0_6.index t = ![t.val / 4, 0] ∧ win0_7.index t = ![t.val / 4, 0] ∧ win0_8.index t = ![0, 0] ∧ t.val < 64 :=
  (by decide +kernel : ∀ t : Fin grid0.N, _)

variable (t : Fin cfg0.N)

section Rows
variable (r : Fin 256) (R : Fin 4096) (hR : R.val = t.val / 4 * 256 + r.val)

section Blocks
include hR

theorem blk0 (k : Fin 2048) (K : Fin 8192) (hK : K.val = t.val % 4 * 2048 + k.val) :
    iblk m c 0 t (ix2 r k) = m ((c : Thread nD τ).loc main_arg0) (ix2 R K) := by
  blk_simp [iblk]; entry_read; pointwise; blk_ext [idx t]

theorem blk3 (q : Fin 2048) : iblk m c 3 t (ix2 r q) = m ((c : Thread nD τ).loc main_arg2) (ix2 R q) := by
  blk_simp [iblk]; entry_read; pointwise; blk_ext [idx t]

theorem blk4 (q : Fin 2048) : iblk m c 4 t (ix2 r q) = m ((c : Thread nD τ).loc main_arg3) (ix2 R q) := by
  blk_simp [iblk]; entry_read; pointwise; blk_ext [idx t]

end Blocks

theorem blk1 (q : Fin 2048) (k : Fin 1024) (K : Fin 8192) (hK : K.val = 2 * (t.val % 4) * 1024 + k.val) :
    iblk m c 1 t (ix3 0 q k) = m ((c : Thread nD τ).loc main_arg1) (ix2 q K) := by
  blk_simp [iblk]; entry_read; pointwise; blk_ext [idx t]

theorem blk2 (q : Fin 2048) (k : Fin 1024) (K : Fin 8192) (hK : K.val = (2 * (t.val % 4) + 1) * 1024 + k.val) :
    iblk m c 2 t (ix3 0 q k) = m ((c : Thread nD τ).loc main_arg1) (ix2 q K) := by
  blk_simp [iblk]; entry_read; pointwise; blk_ext [idx t]

theorem blk5 (q : Fin 2048) : iblk m c 5 t (ix2 0 q) = m ((c : Thread nD τ).loc main_arg4) (ix1 q) := by
  blk_simp [iblk]; entry_read; pointwise; blk_ext [idx t]

include hR

/-- A point's part of the product. -/
theorem part_point (q : Fin 2048) (a b : Fin 8) (ha : a.val = 2 * (t.val % 4)) (hb : b.val = 2 * (t.val % 4) + 1) :
    k0_pay1 (iblk m c 0 t) (iblk m c 1 t) (iblk m c 2 t) (ix2 r q) = chunk m c R q a + chunk m c R q b := by
  pointwise [k0_pay1]
  refine congr (congrArg _ ?_) ?_
  · exact Finset.sum_congr rfl fun k _ => congr (congrArg _ (blk0 m c t r R hR _ _ (by dsimp only; omega))) (blk1 m c t q k _ (by dsimp only; omega))
  · exact Finset.sum_congr rfl fun k _ => congr (congrArg _ (blk0 m c t r R hR _ _ (by dsimp only; omega))) (blk2 m c t q k _ (by dsimp only; omega))

omit hR

/-- At a tile's first point the accumulator holds the point's part. -/
theorem acc_first (h : t.val % 4 = 0) (i : S256x2048.Idx) :
    (outsAt0 m c t.val t.isLt).2.2.2 i = k0_pay1 (iblk m c 0 t) (iblk m c 1 t) (iblk m c 2 t) i := by
  rw [outsAt0_A m c t h (by omega) (by omega)]
  dsimp only
  frame_out
  idx_vars i
  pointwise [k0_pay2]

/-- At its later points the part is added. -/
theorem acc_step (s : Fin cfg0.N) (hs : s.val + 1 = t.val) (h : t.val % 4 ≠ 0) (i : S256x2048.Idx) :
    (outsAt0 m c t.val t.isLt).2.2.2 i = (outsAt0 m c s.val s.isLt).2.2.2 i + k0_pay1 (iblk m c 0 t) (iblk m c 1 t) (iblk m c 2 t) i := by
  obtain ⟨n, hn⟩ := s
  obtain ⟨_, ht⟩ := t
  obtain rfl : n + 1 = _ := hs
  by_cases h2 : (n + 1) % 4 = 3
  · by_cases h3 : n + 1 < 4
    · rw [outsAt0_C m c ⟨n + 1, ht⟩ h (by dsimp only at h ⊢; omega) h2 h3 (by dsimp only; omega)]
      dsimp only
      frame_out
      idx_vars i
      pointwise [k0_pay3]
      exact congrArg (· + _) (congrFun ((Memref.isWhole_whole _).read_unread _) _)
    · rw [outsAt0_D m c ⟨n + 1, ht⟩ h (by dsimp only at h ⊢; omega) h2 h3 (by dsimp only; omega)]
      dsimp only
      frame_out
      idx_vars i
      pointwise [k0_pay3]
      exact congrArg (· + _) (congrFun ((Memref.isWhole_whole _).read_unread _) _)
  · rw [outsAt0_B m c ⟨n + 1, ht⟩ h (by dsimp only at h ⊢; omega) h2]
    dsimp only
    frame_out
    idx_vars i
    pointwise [k0_pay3]
    exact congrArg (· + _) (congrFun ((Memref.isWhole_whole _).read_unread _) _)

include hR

/-- At the last point of a tile the accumulator holds the reference's product. -/
theorem acc_point (h : t.val % 4 = 3) (q : Fin 2048) : (outsAt0 m c t.val t.isLt).2.2.2 (ix2 r q) = prodRef m c (ix2 R q) := by
  have ht := (idx t).2.2.2.2.2.2.2.2.2
  have hN : cfg0.N = 64 := N_0
  have ref : ∑ p, chunk m c R q p = prodRef m c (ix2 R q) := by
    refine (sum_tiles (a := 8) (b := 1024) (n := 8192) rfl (prodTerm (m ((c : Thread nD τ).loc main_arg0)) (m ((c : Thread nD τ).loc main_arg1)) R q)
      _ (fun p k K hK => congrArg (prodTerm _ _ R q) (Fin.ext hK.symm))).trans ?_
    pointwise [prodRef, val_main_v17]
  rw [Fin.sum_univ_eight] at ref
  rw [← ref]
  let s (k : ℕ) : Fin cfg0.N := ⟨t.val - k, by omega⟩
  have e (k : ℕ) : (s k).val = t.val - k := rfl
  rw [acc_step m c t (s 1) (by rw [e]; omega) (by omega), acc_step m c (s 1) (s 2) (by simp only [e]; omega) (by rw [e]; omega),
    acc_step m c (s 2) (s 3) (by simp only [e]; omega) (by rw [e]; omega), acc_first m c (s 3) (by rw [e]; omega),
    part_point m c t r R hR q 6 7 (by rw [h]; rfl) (by rw [h]; rfl),
    part_point m c (s 1) r R (by rw [e, hR]; omega) q 4 5 (by rw [e, show (t.val - 1) % 4 = 2 by omega]; rfl) (by rw [e, show (t.val - 1) % 4 = 2 by omega]; rfl),
    part_point m c (s 2) r R (by rw [e, hR]; omega) q 2 3 (by rw [e, show (t.val - 2) % 4 = 1 by omega]; rfl) (by rw [e, show (t.val - 2) % 4 = 1 by omega]; rfl),
    part_point m c (s 3) r R (by rw [e, hR]; omega) q 0 1 (by rw [e, show (t.val - 3) % 4 = 0 by omega]; rfl) (by rw [e, show (t.val - 3) % 4 = 0 by omega]; rfl)]
  simp only [add_assoc]

variable (acc : FVec Ideal S256x2048 .f32) (ha : ∀ q, acc (ix2 r q) = prodRef m c (ix2 R q))
include ha

/-- At an index of its rows, the epilogue's gradient with respect to the gain, before the sum, is the reference's. -/
theorem gain_point (q : Fin 2048) : acc (ix2 r q) * k0_pay6 (iblk m c 3 t) (ix2 r q) = gainRef m c (ix2 R q) := by
  pointwise [k0_pay6, k0_pay5, gainRef, val_main_v18, val_main_v12, val_main_v11, val_main_v7, val_main_v6, val_main_v5, val_main_cst_1, val_main_v4, val_main_v3,
    val_main_cst_0, val_main_v2, val_main_v1, val_main_cst, val_main_v0]
  simp only [ha, blk3 m c t r R hR]
  exact mul_comm _ _

/-- At an index of its rows, the epilogue's gradient is the reference's. -/
theorem grad_point (hr : Real m c) (q : Fin 2048) :
    k0_pay7 acc (iblk m c 3 t) (iblk m c 4 t) (iblk m c 5 t) (ix2 r q) = gradRef m c (ix2 R q) := by
  obtain ⟨h0, h1, h2, h3, h4⟩ := hr
  choose a ha0 using h0
  choose w hw using h1
  choose x hx using h2
  choose d hd using h3
  choose g hg using h4
  pointwise [k0_pay7, k0_pay6, k0_pay5, gradRef, val_main_v38, val_main_v37, val_main_v36, val_main_v35, val_main_v34, val_main_v33, val_main_cst_7, val_main_v32,
    val_main_v31, val_main_cst_6, val_main_v30, val_main_v29, val_main_v28, val_main_v27, val_main_v26, val_main_v25, val_main_cst_5, val_main_v24,
    val_main_v22, val_main_v21, val_main_v13, val_main_v10, val_main_v9, val_main_cst_2, val_main_v8, val_main_v7, val_main_v6, val_main_v5,
    val_main_cst_1, val_main_v4, val_main_v3, val_main_cst_0, val_main_v2, val_main_v1, val_main_cst, val_main_v0]
  simp only [ha, blk3 m c t r R hR, blk4 m c t r R hR, blk5 m c t]
  obtain ⟨p, hp⟩ : ∃ p : Fin 2048 → ℝ, ∀ q, prodRef m c (ix2 R q) = ((p q : ℝ) : EReal) := by
    refine ⟨fun q => ∑ K, a (ix2 R K) * w (ix2 q K), fun q => ?_⟩
    pointwise [prodRef, val_main_v17]
    simp only [ha0, hw, ← EReal.coe_mul, coe_sum]
  simp only [Finset.univ_unique, Finset.sum_singleton, hp, hx, hd, hg, Rms.f32_2048, f32_eps, f32_neg_half, ← EReal.coe_mul,
    Rms.ms_row (fun q => x (ix2 R q)), Rms.rsqrt_ms]
  simp only [← EReal.coe_mul, coe_sum, div_real _ (Rms.ms_pos (fun q => x (ix2 R q))).ne',
    div_real _ (show (2048 : ℝ) ≠ 0 by norm_num), ← EReal.coe_sub, ← EReal.coe_add]
  exact congrArg _ (Rms.grad_eq (fun q => x (ix2 R q)) p (fun q => g (ix1 q)) (d (ix2 R q)) q)

end Rows

/-- At a tile's last point the first output's block is the epilogue's gradient at the accumulator. -/
theorem out_point (t : Fin cfg0.N) (h : t.val % 4 = 3) : (outsAt0 m c t.val t.isLt).1
    = k0_pay7 (outsAt0 m c t.val t.isLt).2.2.2 (iblk m c 3 t) (iblk m c 4 t) (iblk m c 5 t) := by
  by_cases h3 : t.val < 4
  · rw [outsAt0_C m c t (by omega) (by omega) h h3 (by omega)]
    dsimp only
    frame_out
  · rw [outsAt0_D m c t (by omega) (by omega) h h3 (by omega)]
    dsimp only
    frame_out

/-- The second output's block holds the same numbers. -/
theorem out_point_narrow (t : Fin cfg0.N) (h : t.val % 4 = 3) (i : S256x2048.Idx) : (outsAt0 m c t.val t.isLt).2.1 i
    = k0_pay7 (outsAt0 m c t.val t.isLt).2.2.2 (iblk m c 3 t) (iblk m c 4 t) (iblk m c 5 t) i := by
  by_cases h3 : t.val < 4
  · rw [outsAt0_C m c t (by omega) (by omega) h h3 (by omega)]
    dsimp only
    frame_out
    rfl
  · rw [outsAt0_D m c t (by omega) (by omega) h h3 (by omega)]
    dsimp only
    frame_out
    rfl

/-- The gradient with respect to the gain of one tile's rows. -/
def tileSum (p : ℕ) (q : Fin 2048) : EReal := if h : p < 16 then ∑ r : Fin 256, gainRef m c (ix2 ⟨p * 256 + r.val, by omega⟩ q) else 0

/-- At the last point of tile `i` the third output's block is the sum over the tiles up to `i`. -/
theorem gain_acc (i : ℕ) (hi : 4 * i + 3 < cfg0.N) (q : Fin 2048) :
    (outsAt0 m c (4 * i + 3) hi).2.2.1 (ix2 0 q) = ∑ p ∈ Finset.range (i + 1), tileSum m c p q := by
  have hN : cfg0.N = 64 := N_0
  have part (t : Fin cfg0.N) (h : t.val % 4 = 3) (i : ℕ) (ht : t.val / 4 = i) :
      k0_pay8 (outsAt0 m c t.val t.isLt).2.2.2 (iblk m c 3 t) (ix2 0 q) = tileSum m c i q := by
    pointwise [k0_pay8]
    rw [tileSum, dif_pos (by omega)]
    refine Finset.sum_congr rfl fun r _ => ?_
    exact gain_point m c t r ⟨i * 256 + r.val, by omega⟩ (by subst ht; rfl) _ (acc_point m c t r _ (by subst ht; rfl) h) q
  induction i with
  | zero =>
    rw [Finset.sum_range_one, ← part ⟨3, hi⟩ (by dsimp only) 0 (by norm_num)]
    rw [outsAt0_C m c ⟨3, hi⟩ (by dsimp only; omega) (by dsimp only; omega) (by dsimp only) (by dsimp only; omega) (by dsimp only; omega)]
    dsimp only
    frame_out
  | succ i ih =>
    rw [Finset.sum_range_succ, ← ih (by omega), ← part ⟨4 * (i + 1) + 3, hi⟩ (by dsimp only; omega) (i + 1) (by dsimp only; omega)]
    have step (n : ℕ) (hn : n + 1 < cfg0.N) (h : (n + 1) % 4 ≠ 3) : (outsAt0 m c (n + 1) hn).2.2.1 = (outsAt0 m c n (by omega)).2.2.1 := by
      by_cases h0 : (n + 1) % 4 = 0
      · rw [outsAt0_A m c ⟨n + 1, hn⟩ h0 (by dsimp only; omega) h]
        rfl
      · rw [outsAt0_B m c ⟨n + 1, hn⟩ h0 (by dsimp only; omega) h]
        rfl
    have keep : (outsAt0 m c (4 * i + 6) (by omega)).2.2.1 = (outsAt0 m c (4 * i + 3) (by omega)).2.2.1 :=
      (step (4 * i + 5) (by omega) (by omega)).trans ((step (4 * i + 4) (by omega) (by omega)).trans (step (4 * i + 3) (by omega) (by omega)))
    rw [← keep]
    rw [outsAt0_D m c ⟨4 * (i + 1) + 3, hi⟩ (by dsimp only; omega) (by dsimp only; omega) (by dsimp only; omega) (by dsimp only; omega) (by dsimp only; omega)]
    dsimp only
    frame_out
    pointwise [k0_pay4]
    rfl

/-- After the run the first output array is the reference's gradient. -/
theorem grad_final (hr : Real m c) : (dats m 0 c).arrAt 6 cfg0.N = gradRef m c := by
  refine (dats m 0 c).arrAt_eq_of_covers 6 _ (by decide +kernel) fun t hf y => ?_
  have h := (flush0_6 t).mp hf
  blk_simp
  rw [after0_6]
  idx_vars y
  rw [out_point m c t h]
  refine (grad_point m c t y0 ⟨t.val / 4 * 256 + y0.val, by have := (idx t).2.2.2.2.2.2.2.2.2; omega⟩ rfl _
    (acc_point m c t y0 _ rfl h) hr y1).trans (congrArg _ ?_)
  blk_ext [idx t]

/-- After the run the second output array holds the same numbers. -/
theorem narrow_final (hr : Real m c) : (dats m 0 c).arrAt 7 cfg0.N = gradRef m c := by
  refine (dats m 0 c).arrAt_eq_of_covers 7 _ (by decide +kernel) fun t hf y => ?_
  have h := (flush0_7 t).mp hf
  blk_simp
  rw [after0_7]
  idx_vars y
  refine (out_point_narrow m c t h _).trans ?_
  refine (grad_point m c t y0 ⟨t.val / 4 * 256 + y0.val, by have := (idx t).2.2.2.2.2.2.2.2.2; omega⟩ rfl _
    (acc_point m c t y0 _ rfl h) hr y1).trans (congrArg _ ?_)
  blk_ext [idx t]

/-- After the run the third output array is the reference's gradient with respect to the gain. -/
theorem gain_final : (dats m 0 c).arrAt 8 cfg0.N = val_main_v40 (F := Ideal) (m ((c : Thread nD τ).loc main_arg0))
    (m ((c : Thread nD τ).loc main_arg1)) (m ((c : Thread nD τ).loc main_arg2)) := by
  refine (dats m 0 c).arrAt_eq_of_covers 8 _ (by decide +kernel) fun t hf y => ?_
  have h := (flush0_8 t).mp hf
  have hN : cfg0.N = 64 := N_0
  have h31 : 4 * 15 + 3 < cfg0.N := by rw [hN]; norm_num
  obtain rfl : t = ⟨4 * 15 + 3, h31⟩ := Fin.ext (by have := lt_of_lt_of_eq t.isLt hN; dsimp only; omega)
  blk_simp
  rw [after0_8]
  idx_vars y
  obtain rfl : y0 = 0 := Subsingleton.elim _ _
  rw [show ((View.whole main_v5_2).slice (win0_8.rect ⟨4 * 15 + 3, h31⟩)).emb (ix2 0 y1) = ix2 0 y1 by blk_ext [idx ⟨4 * 15 + 3, h31⟩]]
  refine (gain_acc m c 15 _ y1).trans ?_
  rw [Finset.sum_range]
  refine ((Finset.sum_congr rfl fun p _ => dif_pos p.isLt).trans (sum_tiles (a := 16) (b := 256) (n := 4096) rfl (fun R => gainRef m c (ix2 R y1))
    (fun p r => gainRef m c (ix2 ⟨p.val * 256 + r.val, by omega⟩ y1)) (fun p r R hR => congrArg (fun R => gainRef m c (ix2 R y1)) (Fin.ext hR.symm)))).trans ?_
  rw [val_main_v40_apply, val_main_v23_apply]
  simp only [val_main_v20_apply, val_main_v19_apply, Finset.univ_unique, Finset.sum_singleton]
  pointwise [val_main_cst_4, val_main_cst_3]
  exact Finset.sum_congr rfl fun k _ => congrArg (gainRef m c) (by blk_ext [])

/-- The pair's value claim. -/
theorem value : Cert.algebraic_UpIdeal_UpRefIdeal_pre_up_finite (hUpIdeal := Cert.UpIdeal.Gen.facts)
    (hUpRefIdeal := Cert.UpRefIdeal.Gen.facts) (hPre_up_finite := Cert.Pre_up_finite.Gen.facts) := by
  intro m g m' g' hpre hagree
  refine ⟨_, _, _, (θ_run Cert.UpIdeal.defs _ _).mono (fun r h c => h c) (Cert.UpIdeal.Value.run_blocks m g), ?_⟩
  refine (θ_run Cert.UpRefIdeal.defs _ _).mono (fun r h c => ⟨?_, ?_, ?_, (h c).2.2.2⟩) (Cert.UpRefIdeal.Value.run m' g')
  · rw [(h c).1, val_main_v38_eq, (hagree c).1, (hagree c).2.1, (hagree c).2.2.1, (hagree c).2.2.2.1, (hagree c).2.2.2.2]
    exact (grad_final m c (real m c hpre)).symm
  · rw [(h c).2.1, val_main_v39_eq, (hagree c).1, (hagree c).2.1, (hagree c).2.2.1, (hagree c).2.2.2.1, (hagree c).2.2.2.2]
    exact (narrow_final m c (real m c hpre)).symm
  · rw [(h c).2.2.1, (hagree c).1, (hagree c).2.1, (hagree c).2.2.1, val_main_v40_eq]
    exact (gain_final m c).symm

theorem frame_ideal : Cert.quiescent_UpIdeal (hUpIdeal := Cert.UpIdeal.Gen.facts) := fun m ρ _ => Cert.UpIdeal.Gen.frame m ρ

theorem frame_ideal_pre : Cert.quiescent_UpIdeal_pre_up_finite (hUpIdeal := Cert.UpIdeal.Gen.facts)
    (hPre_up_finite := Cert.Pre_up_finite.Gen.facts) := fun m ρ _ => Cert.UpIdeal.Gen.frame m ρ

/-- The reference changes none of its arguments and stops with every counter at zero. -/
theorem frame_ref : Cert.quiescent_UpRefIdeal (hUpRefIdeal := Cert.UpRefIdeal.Gen.facts) := fun m g _ =>
  (θ_run Cert.UpRefIdeal.defs _ _).mono (fun r h => ⟨fun c => (h c).2.2.2, sem_eq_zero_of_no_sems (by decide) r.2⟩)
    (Cert.UpRefIdeal.Value.run m g)

theorem frame_ref_pre : Cert.quiescent_UpRefIdeal_pre_up_finite (hUpRefIdeal := Cert.UpRefIdeal.Gen.facts)
    (hPre_up_finite := Cert.Pre_up_finite.Gen.facts) := fun m g _ => frame_ref m g trivial

end Cert.UpIdeal.Proof
-- ==== Proof.FwdPoint.lean ====
/- What the forward attention kernel leaves at a grid point, by its four key/value groups. -/
module

public import proofs.«01_k».proof.Proof.Gen.FwdIdeal.Frame
public import proofs.«01_k».proof.Proof.SwaPoint
public import proofs.«01_k».proof.Proof.SwaStage
public import Idealize.ShloMosaic.Lib.Pipeline.ValueKit
public import Idealize.ShloMosaic.Lib.Pointwise
public import Idealize.ShloMosaic.Lib.Pipeline.RowLoads

@[expose] public section

set_option maxRecDepth 16384
set_option maxHeartbeats 4000000

noncomputable section

open Idealize.ShloMosaic Idealize.ShloMosaic.TcCoe Idealize.SL.Sem

namespace Cert.FwdIdeal.Proof

open Cert.FwdIdeal Cert.FwdIdeal.Gen
open Cert.SwaIdeal.Proof (Grp Blocks Rep row col idx_ext p_eq vv_eq)

/-- A group's probabilities times its values, the eight heads stacked. -/
def pv (G : Grp) : FVec Ideal S1024x64 .f32 :=
  matmul dot_S1024x256_S256x64_S1024x64_1_0_0_1_n_n none (truncf .bf16 G.p bitsLt_bf16_f32) G.vv (constant S1024x64 .f32 0x00000000#32)

/-- A group's outputs, the eight heads side by side. -/
def out (G : Grp) : FVec Ideal S128x512 .bf16 :=
  k0_pay19 (pv G) (extractStridedSlice S128x64 ![0, 0] (pv G) slices_S1024x64_o0_0_S128x64)
    (extractStridedSlice S128x64 ![128, 0] (pv G) slices_S1024x64_o128_0_S128x64)
    (extractStridedSlice S128x64 ![256, 0] (pv G) slices_S1024x64_o256_0_S128x64)

section Stage
variable {G : Grp} {B : Swa.Blk} (R : Rep G B)
include R

theorem pv_eq (h : Fin 8) (t : Fin 128) (d : Fin 64) : pv G (ix2 (row h t) d) = ((B.out h t d : ℝ) : EReal) := by
  unfold pv
  pointwise
  simp only [p_eq R, vv_eq R, ← EReal.coe_mul, Swa.coe_sum]
  rfl

set_option maxHeartbeats 8000000 in
theorem out_eq (h : Fin 8) (t : Fin 128) (d : Fin 64) : out G (ix2 t (col h d)) = ((B.out h t d : ℝ) : EReal) := by
  rw [← pv_eq R]
  obtain ⟨h, hh⟩ := h
  have ht := t.isLt
  have hd := d.isLt
  unfold out col row
  pointwise [k0_pay19]
  interval_cases h <;> (repeat (first | rw [dif_pos (by omega)] | rw [dif_neg (by omega)])) <;>
    exact congrArg₂ (fun a b => pv G (ix2 a b)) (Fin.ext (by first | rfl | (dsimp only; omega))) (Fin.ext (by first | rfl | (dsimp only; omega)))

end Stage

theorem out_A (B : Blocks) (c : Dev nD) {a1 h1 a2 h2 a3 h3 a4 h4 a5 h5 a6 h6 a7 h7 a8 h8 a9 h9 a10 h10} (y : S128x2048.Idx) (g : Fin 4) (z : S128x512.Idx)
    (hz0 : (y 0).val = (z 0).val) (hz1 : (y 1).val = 512 * g.val + (z 1).val) :
    out0_A_9 c B.i a1 h1 a2 h2 a3 h3 a4 h4 a5 h5 a6 h6 a7 h7 a8 h8 a9 h9 a10 h10 B.sk B.sl B.q B.kc B.kp B.vc B.vp B.qg B.kg y =
      out (B.grp g) z := by
  frame_out
  have z1 : (z 1).val < 512 := (z 1).isLt
  canon_tiles x h
  · obtain rfl : g = 3 := Fin.ext (show g.val = 3 by omega)
    obtain rfl : z = x := idx_ext (by omega) (by omega)
    rfl
  · obtain rfl : g = 2 := Fin.ext (show g.val = 2 by omega)
    obtain rfl : z = x := idx_ext (by omega) (by omega)
    rfl
  · obtain rfl : g = 1 := Fin.ext (show g.val = 1 by omega)
    obtain rfl : z = x := idx_ext (by omega) (by omega)
    rfl
  · obtain rfl : g = 0 := Fin.ext (show g.val = 0 by omega)
    obtain rfl : z = x := idx_ext (by omega) (by omega)
    rfl

end Cert.FwdIdeal.Proof
-- ==== Proof.FwdRef.lean ====
/- The reference's forward attention: the lines it shares with the forward lines of the gradient's reference, and its output. -/
module

public import proofs.«01_k».proof.Proof.Gen.FwdRefIdeal.Read
public import proofs.«01_k».proof.Proof.SwaRefSoft
public import Idealize.ShloMosaic.Lib.Pointwise

@[expose] public section

set_option maxRecDepth 16384
set_option maxHeartbeats 4000000

noncomputable section

open Idealize.ShloMosaic Idealize.ShloMosaic.TcCoe Idealize.SL.Sem

namespace Cert.FwdRefIdeal.Proof

open Cert.FwdRefIdeal Cert.FwdRefIdeal.Read Cert.SwaRefIdeal.Proof _root_.Swa

/-! The two references' forward lines are the same. -/

section Same
variable (x0 : FVec Ideal S4096x2560 .f32) (x1 x2 : FVec Ideal S64 .f32) (x3 : FVec Ideal S32 .f32)

theorem values_same : val_main_v44 (F := Ideal) x0 = Cert.SwaRefIdeal.Read.val_main_v52 x0 := rfl

theorem query_same : val_main_v16 (F := Ideal) x0 x1 = Cert.SwaRefIdeal.Read.val_main_v19 x0 x1 := rfl

theorem key_same : val_main_v38 (F := Ideal) x0 x2 = Cert.SwaRefIdeal.Read.val_main_v45 x0 x2 := rfl

theorem mask_same : val_main_v80 (F := Ideal) = Cert.SwaRefIdeal.Read.val_main_v88 (F := Ideal) := rfl

theorem prob_same : val_main_v117 (F := Ideal) x0 x1 x2 x3 = Cert.SwaRefIdeal.Read.val_main_v133 x0 x1 x2 x3 := rfl

end Same

variable {D : Data} {x0 : FVec Ideal S4096x2560 .f32} {x1 x2 : FVec Ideal S64 .f32} {x3 : FVec Ideal S32 .f32} {x4 : FVec Ideal S4096x2048 .f32}
  (A : Args D x0 x1 x2 x3 x4)
include A

/-- The reference's output: the probabilities times the values of the window. -/
theorem v121_eq (n : Fin 32) (t : Fin 128) (g : Fin 4) (h : Fin 8) (d : Fin 64) :
    val_main_v121 (F := Ideal) x0 x1 x2 x3 (ix2 (pos n t) (qc g h d)) = (((D.blk n g).out h t d : ℝ) : EReal) := by
  have e : idx_main_v120 (ix2 (pos n t) (qc g h d)) = ix5 n t g h d := by
    unfold pos qc
    have hn := n.isLt
    have ht := t.isLt
    have hg := g.isLt
    have hh := h.isLt
    have hd := d.isLt
    blk_ext [] <;> omega
  refine (val_main_v120_apply (F := Ideal) x0 x1 x2 x3 _).trans ?_
  rw [e, val_main_v119_apply, val_main_v118_apply]
  have el : ∀ k, lidx_main_v118 (idx_main_v119 (ix5 n t g h d)) k = ix4 n k g d := fun k => by blk_ext []
  have er : ∀ k, ridx_main_v118 (idx_main_v119 (ix5 n t g h d)) k = ix5 n g h t k := fun k => by blk_ext []
  simp only [el, er, prob_same, values_same, v133_eq A, v52_eq A, ← EReal.coe_mul, coe_sum]
  refine congrArg _ (Finset.sum_congr rfl fun s _ => ?_)
  rw [mul_comm, Blk.zeroed_prob]
  by_cases hs : (D.blk n g).has s
  · simp [Blk.zeroed, hs]
  · rw [Blk.prob_zero _ _ _ hs, zero_mul, zero_mul]

end Cert.FwdRefIdeal.Proof
-- ==== Proof.Fwd.lean ====
/- The forward pass of the sliding-window attention: the call's output array is the reference's. -/
module

public import proofs.«01_k».proof.Proof.FwdPoint
public import proofs.«01_k».proof.Proof.FwdRef
public import proofs.«01_k».proof.Proof.SwaArgs
public import proofs.«01_k».proof.Proof.SwaFinal
public import proofs.«01_k».proof.Proof.Gen.FwdIdeal.Value
public import proofs.«01_k».proof.Proof.Gen.FwdRefIdeal.Run
public import proofs.«01_k».proof.Proof.Gen.Pre_fwd_finite
public import Idealize.ShloMosaic.Lib.StableHlo.ReadAt
public import Idealize.ShloMosaic.Adequacy
public import Idealize.ShloMosaic.Init
public import Idealize.ShloMosaic.Lib.Quiescent
public import proofs.«01_k».proof.Defs

@[expose] public section

set_option maxRecDepth 16384
set_option maxHeartbeats 4000000

noncomputable section

open Idealize.ShloMosaic Idealize.ShloMosaic.TcCoe Idealize.SL.Sem
open Idealize.ShloMosaic.Pipeline (Dat)

namespace Cert.FwdIdeal.Proof

open Cert.FwdIdeal Cert.FwdIdeal.Gen _root_.Swa
open Cert.FwdRefIdeal.Read (val_main_v121 val_main_v121_eq)
open Cert.SwaIdeal.Proof (Blocks Rep row col heads_apply cols_apply keys_apply keys_stack values_stack pay8_apply pay9_apply qc_of)
open Cert.SwaRefIdeal.Proof (Args hd qc kc data args)

variable (m : (ℓ : Loc nD τ sig) → Buf (Elt Ideal) ℓ) (c : Dev nD)

/-- The windows' block indices, decided over the grid, and the grid's only coordinate. -/
theorem idx : ∀ t : Fin cfg0.N, win0_0.index t = ![0] ∧ win0_1.index t = ![0] ∧ win0_2.index t = ![t.val, 0]
    ∧ win0_3.index t = ![t.val, 8] ∧ win0_4.index t = ![t.val - 1, 8] ∧ win0_5.index t = ![t.val, 9] ∧ win0_6.index t = ![t.val - 1, 9]
    ∧ win0_7.index t = ![0, 0] ∧ win0_8.index t = ![0, 0] ∧ win0_9.index t = ![t.val, 0] ∧ (grid0.coords t 0).val = t.val ∧ t.val < 32 :=
  (by decide +kernel : ∀ t : Fin grid0.N, _)

section Reads
variable (t : Fin cfg0.N)

theorem sk_read (y : Fin 32) : iblk m c 0 t (ix1 y) = m ((c : Thread nD τ).loc main_arg3) (ix1 y) := by
  blk_simp [iblk]; entry_read; pointwise; blk_ext [idx t]

theorem kc_read (r : Fin 128) (d : Fin 256) (R : Fin 4096) (hR : R.val = t.val * 128 + r.val) (Q : Fin 2560) (hQ : Q.val = 2048 + d.val) :
    iblk m c 3 t (ix2 r d) = m ((c : Thread nD τ).loc main_arg0) (ix2 R Q) := by
  blk_simp [iblk]; entry_read; pointwise; blk_ext [idx t]

theorem kp_read (r : Fin 128) (d : Fin 256) (R : Fin 4096) (hR : R.val = (t.val - 1) * 128 + r.val) (Q : Fin 2560) (hQ : Q.val = 2048 + d.val) :
    iblk m c 4 t (ix2 r d) = m ((c : Thread nD τ).loc main_arg0) (ix2 R Q) := by
  blk_simp [iblk]; entry_read; pointwise; blk_ext [idx t]

theorem vc_read (r : Fin 128) (d : Fin 256) (R : Fin 4096) (hR : R.val = t.val * 128 + r.val) (Q : Fin 2560) (hQ : Q.val = 2304 + d.val) :
    iblk m c 5 t (ix2 r d) = m ((c : Thread nD τ).loc main_arg0) (ix2 R Q) := by
  blk_simp [iblk]; entry_read; pointwise; blk_ext [idx t]

theorem vp_read (r : Fin 128) (d : Fin 256) (R : Fin 4096) (hR : R.val = (t.val - 1) * 128 + r.val) (Q : Fin 2560) (hQ : Q.val = 2304 + d.val) :
    iblk m c 6 t (ix2 r d) = m ((c : Thread nD τ).loc main_arg0) (ix2 R Q) := by
  blk_simp [iblk]; entry_read; pointwise; blk_ext [idx t]

theorem qg_read (d : Fin 64) : iblk m c 7 t (ix2 0 d) = m ((c : Thread nD τ).loc main_arg1) (ix1 d) := by
  blk_simp [iblk]; unfold V; simp only [List.flatten_cons, List.flatten_nil, List.append_nil]; after_reads_at; blk_ext [idx t]

theorem kg_read (d : Fin 64) : iblk m c 8 t (ix2 0 d) = m ((c : Thread nD τ).loc main_arg2) (ix1 d) := by
  blk_simp [iblk]; unfold V; simp only [List.flatten_cons, List.flatten_nil, List.append_nil]; after_reads_at; blk_ext [idx t]

theorem sl_read (y : Fin 32) : iblk m c 1 t (ix1 y) = Cert.SwaRefIdeal.Read.val_main_v98 (F := Ideal) (ix1 y) := by
  blk_simp [iblk]; unfold V; simp only [List.flatten_cons, List.flatten_nil, List.append_nil]; after_reads_at
  rw [show ((View.whole main_v9).slice (win0_1.rect t)).emb (ix1 y) 0 = y from
    congrFun (show ((View.whole main_v9).slice (win0_1.rect t)).emb (ix1 y) = ix1 y by blk_ext [idx t]) 0]
  open Cert.SwaRefIdeal.Read in
  pointwise [val_main_v98, val_main_v97, val_main_v96, val_main_v95, val_main_v94, val_main_v93, val_main_v92, val_main_v91, val_main_v90, val_main_v89,
    val_main_cst_17, val_main_cst_18, val_main_cst_19, val_main_cst_20]

theorem q_read (r : Fin 128) (d : Fin 2048) (R : Fin 4096) (hR : R.val = t.val * 128 + r.val) (Q : Fin 2560) (hQ : Q.val = d.val) :
    X0_2 m c t (ix2 r d) = m ((c : Thread nD τ).loc main_arg0) (ix2 R Q) := by
  unfold X0_2 Pipeline.Window.fill
  rw [dif_pos (moved0_2 t _)]
  blk_simp [iblk]; entry_read; pointwise; blk_ext [idx t]

end Reads

/-- The blocks a grid point reads; the forward pass has no cotangent. -/
def blocks (t : Fin cfg0.N) : Blocks :=
  ⟨grid0.coords t, iblk m c 0 t, iblk m c 1 t, X0_2 m c t, iblk m c 3 t, iblk m c 4 t, iblk m c 5 t, iblk m c 6 t, iblk m c 7 t,
    iblk m c 8 t, fun _ => (0 : EReal)⟩

/-- A grid point as a block number. -/
def num (t : Fin cfg0.N) : Fin 32 := ⟨t.val, (idx t).2.2.2.2.2.2.2.2.2.2.2⟩

variable {m c} {D : Data}
  (A : Args D (m ((c : Thread nD τ).loc main_arg0)) (m ((c : Thread nD τ).loc main_arg1)) (m ((c : Thread nD τ).loc main_arg2))
    (m ((c : Thread nD τ).loc main_arg3)) (fun _ => (0 : EReal)))
include A

/-- A group of heads at a grid point stands for the block of the mathematics. -/
theorem rep (t : Fin cfg0.N) (g : Fin 4) : Rep ((blocks m c t).grp g) (D.blk (num t) g) where
  n := (idx t).2.2.2.2.2.2.2.2.2.2.1
  k s d := by
    have hs := s.isLt
    refine (keys_apply _ g s d).trans ((keys_stack _ _ s _).trans ?_)
    refine Eq.trans ?_ (A.k g (wpos _ s) d)
    split_ifs with h
    · refine kp_read m c t _ _ _ ?_ _ (Nat.add_assoc _ _ _)
      simp only [num, wpos, wblk, pos, h, if_true, Nat.mod_eq_of_lt h, Nat.mul_comm]
    · refine kc_read m c t _ _ _ ?_ _ (Nat.add_assoc _ _ _)
      simp only [num, wpos, wblk, pos, h, if_false]
      omega
  v s d := by
    have hs := s.isLt
    refine (keys_apply _ g s d).trans ((values_stack _ _ s _).trans ?_)
    refine Eq.trans ?_ (A.v g (wpos _ s) d)
    split_ifs with h
    · refine vp_read m c t _ _ _ ?_ _ (Nat.add_assoc _ _ _)
      simp only [num, wpos, wblk, pos, h, if_true, Nat.mod_eq_of_lt h, Nat.mul_comm]
    · refine vc_read m c t _ _ _ ?_ _ (Nat.add_assoc _ _ _)
      simp only [num, wpos, wblk, pos, h, if_false]
      omega
  q h r d := (cols_apply _ g h r d).trans
    ((q_read m c t r _ (pos (num t) r) (congrArg (· + r.val) (Nat.mul_comm 128 t.val)) ⟨qc g h d, by omega⟩ rfl).trans (A.q g h _ d))
  o h r d := (cols_apply _ g h r d).trans (A.o g h (pos (num t) r) d)
  sl h := (heads_apply _ g h).trans ((sl_read m c t _).trans (A.sl g h))
  sk h := (heads_apply _ g h).trans ((sk_read m c t _).trans (A.sk g h))
  qg d := (pay9_apply _ _).trans ((qg_read m c t d).trans (A.qg d))
  kg d := (pay8_apply _ _).trans ((kg_read m c t d).trans (A.kg d))

theorem final : (dats m 0 c).arrAt 9 cfg0.N = val_main_v121 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  idx_vars y
  obtain ⟨g, h, d, rfl⟩ := qc_of y1
  have e : (qc g h d).val = 512 * g.val + (col h d).val := Nat.add_assoc _ _ _
  refine (out_A (blocks m c t) c _ g (ix2 y0 (col h d)) rfl e).trans ((out_eq (rep A t g) h y0 d).trans
    ((Cert.FwdRefIdeal.Proof.v121_eq A (num t) y0 g h d).symm.trans (congrArg _ ?_)))
  blk_ext [idx t, num, pos, Nat.mul_comm]

omit A

/-- Where the arguments are finite the four arrays are those of real numbers. -/
theorem real (hpre : Pre_FwdIdeal_fwd_finite (hPre_fwd_finite := Cert.Pre_fwd_finite.Gen.facts) m) (c : Dev nD) :
    ∃ D, Args D (m ((c : Thread nD τ).loc main_arg0)) (m ((c : Thread nD τ).loc main_arg1)) (m ((c : Thread nD τ).loc main_arg2))
      (m ((c : Thread nD τ).loc main_arg3)) (fun _ => (0 : EReal)) := by
  have h := congrFun (hpre c) ix0
  dsimp only [Cert.Pre_fwd_finite.fn, Cert.Pre_fwd_finite.fn_part1] at h
  simp only [andi, IntOp.andi_eq_one] at h
  obtain ⟨⟨⟨h0, h1⟩, h2⟩, h3⟩ := h
  have r0 := Cert.SwaRefIdeal.Proof.real_of_all _ _ (fun _ => rfl) _ _ _ h0
  have r1 := Cert.SwaRefIdeal.Proof.real_of_all _ _ (fun _ => rfl) _ _ _ h1
  have r2 := Cert.SwaRefIdeal.Proof.real_of_all _ _ (fun _ => rfl) _ _ _ h2
  have r3 := Cert.SwaRefIdeal.Proof.real_of_all _ _ (fun _ => rfl) _ _ _ h3
  exact ⟨data _ _ _ _ fun _ => (0 : EReal), {
    q := fun _ _ _ _ => r0 _
    k := fun _ _ _ => r0 _
    v := fun _ _ _ => r0 _
    o := fun _ _ _ _ => congrArg (fun r : ℝ => (r : EReal)) EReal.toReal_zero.symm
    sk := fun _ _ => r3 _
    sl := fun g h => by
      obtain ⟨r, hr⟩ := Cert.SwaRefIdeal.Proof.slope_real (hd g h)
      show _ = ((EReal.toReal _ : ℝ) : EReal)
      rw [hr, EReal.toReal_coe]
    qg := fun _ => r1 _
    kg := fun _ => r2 _ }⟩

/-- The kernel computes the reference's attention. -/
theorem value : Cert.algebraic_FwdIdeal_FwdRefIdeal_pre_fwd_finite (hFwdIdeal := Cert.FwdIdeal.Gen.facts)
    (hFwdRefIdeal := Cert.FwdRefIdeal.Gen.facts) (hPre_fwd_finite := Cert.Pre_fwd_finite.Gen.facts) := by
  intro m g m' g' hpre hagree
  refine ⟨_, (θ_run Cert.FwdIdeal.defs _ _).mono (fun r h c => h c) (Cert.FwdIdeal.Value.run_blocks m g), ?_⟩
  refine (θ_run Cert.FwdRefIdeal.defs _ _).mono (fun r h c => ⟨?_, (h c).2⟩) (Cert.FwdRefIdeal.Value.run m' g')
  obtain ⟨D, A⟩ := real hpre c
  rw [(h c).1, val_main_v121_eq, (hagree c).1, (hagree c).2.1, (hagree c).2.2.1, (hagree c).2.2.2]
  exact (final A).symm

theorem frame_ideal : Cert.quiescent_FwdIdeal (hFwdIdeal := Cert.FwdIdeal.Gen.facts) := fun m ρ _ => Cert.FwdIdeal.Gen.frame m ρ

theorem frame_ideal_pre : Cert.quiescent_FwdIdeal_pre_fwd_finite (hFwdIdeal := Cert.FwdIdeal.Gen.facts)
    (hPre_fwd_finite := Cert.Pre_fwd_finite.Gen.facts) := fun m ρ _ => Cert.FwdIdeal.Gen.frame m ρ

/-- The reference changes none of its arguments and stops with every counter at zero. -/
theorem frame_ref : Cert.quiescent_FwdRefIdeal (hFwdRefIdeal := Cert.FwdRefIdeal.Gen.facts) := fun m g _ =>
  (θ_run Cert.FwdRefIdeal.defs _ _).mono (fun r h => ⟨fun c => (h c).2, sem_eq_zero_of_no_sems (by decide) r.2⟩)
    (Cert.FwdRefIdeal.Value.run m g)

theorem frame_ref_pre : Cert.quiescent_FwdRefIdeal_pre_fwd_finite (hFwdRefIdeal := Cert.FwdRefIdeal.Gen.facts)
    (hPre_fwd_finite := Cert.Pre_fwd_finite.Gen.facts) := fun m g _ => frame_ref m g trivial

theorem preserves : Cert.preserves_Fwd_FwdIdeal := IdealRules.named_const.statement _ _ _ _ _ rfl

end Cert.FwdIdeal.Proof
-- ==== Proof.Rms.lean ====
/- The root-mean-square norm in front of the first layer: the call's output array is the reference's. -/
module

public import proofs.«01_k».proof.Proof.Gen.RmsIdeal.Value
public import proofs.«01_k».proof.Proof.Gen.RmsRefIdeal.Run
public import proofs.«01_k».proof.Proof.Gen.RmsRefIdeal.Read
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.RmsIdeal.Proof

open Cert.RmsIdeal Cert.RmsIdeal.Gen Cert.RmsRefIdeal.Read

variable (m : (ℓ : Loc nD τ sig) → Buf (Elt Ideal) ℓ) (c : Dev nD)

/-- The windows' block indices, decided over the grid. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

variable (t : Fin cfg0.N)

theorem blk0 (r : Fin 256) (R : Fin 4096) (hR : R.val = t.val * 256 + r.val) (q : Fin 2048) : iblk m c 0 t (ix2 r q) = m ((c : Thread nD τ).loc main_arg0) (ix2 R q) := by
  blk_simp [iblk]; entry_read; pointwise; blk_ext [idx t]

theorem blk1 (q : Fin 2048) : iblk m c 1 t (ix2 0 q) = m ((c : Thread nD τ).loc main_arg1) (ix1 q) := by
  blk_simp [iblk]; entry_read; pointwise; blk_ext [idx t]

/-- What a grid point computes at an index of its rows is the reference's element there. -/
theorem point (r : Fin 256) (q : Fin 2048) (R : Fin 4096) (hR : R.val = t.val * 256 + r.val) (Q : Fin 2048) (hQ : Q.val = q.val) :
    k0_pay1 (iblk m c 0 t) (iblk m c 1 t) (ix2 r q) = val_main_v13 (F := Ideal) (m ((c : Thread nD τ).loc main_arg0)) (m ((c : Thread nD τ).loc main_arg1)) (ix2 R Q) := by
  obtain rfl : Q = q := Fin.ext hQ
  pointwise [k0_pay1, val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  simp only [blk0 m c t r R hR, blk1 m c t]

/-- After the run the output array is the reference's. -/
theorem final : (dats m 0 c).arrAt 2 cfg0.N = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  refine (point m c t y0 y1 _ ?_ _ ?_).trans (congrArg _ (eq_ix2 _).symm)
  · blk_simp [idx t]
  · blk_simp [idx t]

/-- The pair's value claim. -/
theorem value : Cert.algebraic_RmsIdeal_RmsRefIdeal (hRmsIdeal := Cert.RmsIdeal.Gen.facts)
    (hRmsRefIdeal := Cert.RmsRefIdeal.Gen.facts) := by
  intro m g m' g' _ hagree
  refine ⟨_, (θ_run Cert.RmsIdeal.defs _ _).mono (fun r h c => h c) (Cert.RmsIdeal.Value.run_blocks m g), ?_⟩
  refine (θ_run Cert.RmsRefIdeal.defs _ _).mono (fun r h c => ⟨?_, (h c).2⟩) (Cert.RmsRefIdeal.Value.run m' g')
  · rw [(h c).1, (hagree c).1, (hagree c).2, val_main_v13_eq]
    exact (final m c).symm

/-- The reference changes none of its arguments and stops with every counter at zero. -/
theorem frame_ref : Cert.quiescent_RmsRefIdeal (hRmsRefIdeal := Cert.RmsRefIdeal.Gen.facts) := fun m g _ =>
  (θ_run Cert.RmsRefIdeal.defs _ _).mono (fun r h => ⟨fun c => (h c).2, sem_eq_zero_of_no_sems (by decide) r.2⟩)
    (Cert.RmsRefIdeal.Value.run m g)

end Cert.RmsIdeal.Proof

end
-- ==== Proof.Wout.lean ====
/- The mixer's output product with the residual sum and the norm behind it: the call's two output arrays are the reference's. -/
module

public import proofs.«01_k».proof.Proof.Gen.WoutIdeal.Value
public import proofs.«01_k».proof.Proof.Gen.WoutRefIdeal.Run
public import proofs.«01_k».proof.Proof.Gen.WoutRefIdeal.Read
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.WoutIdeal.Proof

open Cert.WoutIdeal Cert.WoutIdeal.Gen Cert.WoutRefIdeal.Read

variable (m : (ℓ : Loc nD τ sig) → Buf (Elt Ideal) ℓ) (c : Dev nD)

/-- The windows' block indices, decided over the grid. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ t.val < 8 :=
  (by decide +kernel : ∀ t : Fin grid0.N, _)

variable (t : Fin cfg0.N)

theorem blk0 (r : Fin 512) (R : Fin 4096) (hR : R.val = t.val * 512 + r.val) (k : Fin 2048) : iblk m c 0 t (ix2 r k) = m ((c : Thread nD τ).loc main_arg0) (ix2 R k) := by
  blk_simp [iblk]; entry_read; pointwise; blk_ext [idx t]

theorem blk1 (k q : Fin 2048) : iblk m c 1 t (ix2 k q) = m ((c : Thread nD τ).loc main_arg1) (ix2 k q) := by
  blk_simp [iblk]; entry_read; pointwise; blk_ext [idx t]

theorem blk2 (r : Fin 512) (R : Fin 4096) (hR : R.val = t.val * 512 + r.val) (q : Fin 2048) : iblk m c 2 t (ix2 r q) = m ((c : Thread nD τ).loc main_arg2) (ix2 R q) := by
  blk_simp [iblk]; entry_read; pointwise; blk_ext [idx t]

theorem blk3 (q : Fin 2048) : iblk m c 3 t (ix2 0 q) = m ((c : Thread nD τ).loc main_arg3) (ix1 q) := by
  blk_simp [iblk]; entry_read; pointwise; blk_ext [idx t]

/-- At an index of its rows a grid point's sum is the reference's. -/
theorem sum_point (r : Fin 512) (q : Fin 2048) (R : Fin 4096) (hR : R.val = t.val * 512 + r.val) (Q : Fin 2048) (hQ : Q.val = q.val) :
    k0_pay1 (iblk m c 0 t) (iblk m c 1 t) (iblk m c 2 t) (ix2 r q) = val_main_v1 (F := Ideal) (m ((c : Thread nD τ).loc main_arg0)) (m ((c : Thread nD τ).loc main_arg1)) (m ((c : Thread nD τ).loc main_arg2)) (ix2 R Q) := by
  obtain rfl : Q = q := Fin.ext hQ
  pointwise [k0_pay1, val_main_v1, val_main_v0]
  simp only [blk0 m c t r R hR, blk1 m c t, blk2 m c t r R hR]
  exact add_comm _ _

/-- And its norm. -/
theorem norm_point (r : Fin 512) (q : Fin 2048) (R : Fin 4096) (hR : R.val = t.val * 512 + r.val) (Q : Fin 2048) (hQ : Q.val = q.val) :
    k0_pay2 (iblk m c 0 t) (iblk m c 1 t) (iblk m c 2 t) (iblk m c 3 t) (ix2 r q) = val_main_v15 (F := Ideal) (m ((c : Thread nD τ).loc main_arg0)) (m ((c : Thread nD τ).loc main_arg1)) (m ((c : Thread nD τ).loc main_arg2)) (m ((c : Thread nD τ).loc main_arg3)) (ix2 R Q) := by
  obtain rfl : Q = q := Fin.ext hQ
  pointwise [k0_pay2, val_main_v15, val_main_v14, val_main_v13, val_main_v12, val_main_v11, val_main_v10, val_main_v9, val_main_v8,
    val_main_v7, val_main_cst_1, val_main_v6, val_main_v5, val_main_cst_0, val_main_v4, val_main_v3, val_main_cst, val_main_v2]
  simp only [fun q => sum_point m c t r q R hR q rfl, blk3 m c t]

/-- After the run the first output array is the reference's sum. -/
theorem sum_final : (dats m 0 c).arrAt 4 cfg0.N = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  idx_vars y
  refine (sum_point m c t y0 y1 _ ?_ _ ?_).trans (congrArg _ (eq_ix2 _).symm)
  · blk_simp [idx t]
  · blk_simp [idx t]

/-- After the run the second output array is its norm. -/
theorem norm_final : (dats m 0 c).arrAt 5 cfg0.N = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  idx_vars y
  refine (norm_point m c t y0 y1 _ ?_ _ ?_).trans (congrArg _ (eq_ix2 _).symm)
  · blk_simp [idx t]
  · blk_simp [idx t]

/-- The pair's value claim. -/
theorem value : Cert.algebraic_WoutIdeal_WoutRefIdeal (hWoutIdeal := Cert.WoutIdeal.Gen.facts)
    (hWoutRefIdeal := Cert.WoutRefIdeal.Gen.facts) := by
  intro m g m' g' _ hagree
  refine ⟨_, _, (θ_run Cert.WoutIdeal.defs _ _).mono (fun r h c => h c) (Cert.WoutIdeal.Value.run_blocks m g), ?_⟩
  refine (θ_run Cert.WoutRefIdeal.defs _ _).mono (fun r h c => ⟨?_, ?_, (h c).2.2⟩) (Cert.WoutRefIdeal.Value.run m' g')
  · rw [(h c).1, (hagree c).1, (hagree c).2.1, (hagree c).2.2.1, val_main_v1_eq]
    exact (sum_final m c).symm
  · rw [(h c).2.1, (hagree c).1, (hagree c).2.1, (hagree c).2.2.1, (hagree c).2.2.2, val_main_v15_eq]
    exact (norm_final m c).symm

/-- The reference changes none of its arguments and stops with every counter at zero. -/
theorem frame_ref : Cert.quiescent_WoutRefIdeal (hWoutRefIdeal := Cert.WoutRefIdeal.Gen.facts) := fun m g _ =>
  (θ_run Cert.WoutRefIdeal.defs _ _).mono (fun r h => ⟨fun c => (h c).2.2, sem_eq_zero_of_no_sems (by decide) r.2⟩)
    (Cert.WoutRefIdeal.Value.run m g)

end Cert.WoutIdeal.Proof

end
-- ==== Proof.Act.lean ====
/- The first product of the feed-forward layer with the squared ReLU behind it: the call's two output arrays are the reference's. -/
module

public import proofs.«01_k».proof.Proof.Gen.ActIdeal.Value
public import proofs.«01_k».proof.Proof.Gen.ActRefIdeal.Run
public import proofs.«01_k».proof.Proof.Gen.ActRefIdeal.Read
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.ActIdeal.Proof

open Cert.ActIdeal Cert.ActIdeal.Gen Cert.ActRefIdeal.Read

variable (m : (ℓ : Loc nD τ sig) → Buf (Elt Ideal) ℓ) (c : Dev nD)

/-- The windows' block indices, decided over the grid. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] ∧ t.val < 32 :=
  (by decide +kernel : ∀ t : Fin grid0.N, _)

variable (t : Fin cfg0.N)

/-- A block of the rows. -/
theorem blk0 (r : Fin 1024) (k : Fin 2048) (R : Fin 4096) (hR : R.val = t.val / 8 * 1024 + r.val) : iblk m c 0 t (ix2 r k) = m ((c : Thread nD τ).loc main_arg0) (ix2 R k) := by
  blk_simp [iblk]; entry_read; pointwise; blk_ext [idx t]

/-- A block of the weight is the columns of its column tile. -/
theorem blk1 (q : Fin 1024) (k : Fin 2048) (Q : Fin 8192) (hQ : Q.val = t.val % 8 * 1024 + q.val) : iblk m c 1 t (ix3 0 k q) = m ((c : Thread nD τ).loc main_arg1) (ix2 k Q) := by
  blk_simp [iblk]; entry_read; pointwise; blk_ext [idx t]

/-- The block the call writes before the squared ReLU is the reference's. -/
theorem up_point (r q : Fin 1024) (R : Fin 4096) (hR : R.val = t.val / 8 * 1024 + r.val) (Q : Fin 8192) (hQ : Q.val = t.val % 8 * 1024 + q.val) :
    k0_pay2 (iblk m c 0 t) (iblk m c 1 t) (ix2 r q) = val_main_v1 (F := Ideal) (m ((c : Thread nD τ).loc main_arg0)) (m ((c : Thread nD τ).loc main_arg1)) (ix2 R Q) := by
  pointwise [k0_pay2, k0_pay1, val_main_v1, val_main_v0]
  simp only [blk0 m c t r _ R hR, blk1 m c t q _ Q hQ]

/-- And the block behind it. -/
theorem act_point (r q : Fin 1024) (R : Fin 4096) (hR : R.val = t.val / 8 * 1024 + r.val) (Q : Fin 8192) (hQ : Q.val = t.val % 8 * 1024 + q.val) :
    k0_pay3 (iblk m c 0 t) (iblk m c 1 t) (ix2 r q) = val_main_v4 (F := Ideal) (m ((c : Thread nD τ).loc main_arg0)) (m ((c : Thread nD τ).loc main_arg1)) (ix2 R Q) := by
  pointwise [k0_pay3, k0_pay1, val_main_v4, val_main_v3, val_main_v2, val_main_call0_v0, val_main_call0_cst, val_main_v0]
  simp only [blk0 m c t r _ R hR, blk1 m c t q _ Q hQ]

/-- After the run the first output array is the reference's pre-activation. -/
theorem up_final : (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  refine (up_point m c t y0 y1 _ ?_ _ ?_).trans (congrArg _ (eq_ix2 _).symm)
  · blk_simp [idx t]
  · blk_simp [idx t]

/-- After the run the second output array is the reference's activation. -/
theorem act_final : (dats m 0 c).arrAt 3 cfg0.N = val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  idx_vars y
  refine (act_point m c t y0 y1 _ ?_ _ ?_).trans (congrArg _ (eq_ix2 _).symm)
  · blk_simp [idx t]
  · blk_simp [idx t]

/-- The pair's value claim. -/
theorem value : Cert.algebraic_ActIdeal_ActRefIdeal (hActIdeal := Cert.ActIdeal.Gen.facts)
    (hActRefIdeal := Cert.ActRefIdeal.Gen.facts) := by
  intro m g m' g' _ hagree
  refine ⟨_, _, (θ_run Cert.ActIdeal.defs _ _).mono (fun r h c => h c) (Cert.ActIdeal.Value.run_blocks m g), ?_⟩
  refine (θ_run Cert.ActRefIdeal.defs _ _).mono (fun r h c => ⟨?_, ?_, (h c).2.2⟩) (Cert.ActRefIdeal.Value.run m' g')
  · rw [(h c).1, (hagree c).1, (hagree c).2, val_main_v1_eq]
    exact (up_final m c).symm
  · rw [(h c).2.1, (hagree c).1, (hagree c).2, val_main_v4_eq]
    exact (act_final m c).symm

/-- The reference changes none of its arguments and stops with every counter at zero. -/
theorem frame_ref : Cert.quiescent_ActRefIdeal (hActRefIdeal := Cert.ActRefIdeal.Gen.facts) := fun m g _ =>
  (θ_run Cert.ActRefIdeal.defs _ _).mono (fun r h => ⟨fun c => (h c).2.2, sem_eq_zero_of_no_sems (by decide) r.2⟩)
    (Cert.ActRefIdeal.Value.run m g)

end Cert.ActIdeal.Proof

end
-- ==== Proof.Gate.lean ====
/- The gate of the S5 layer, a product with the gated GELU behind it: the call's two output arrays are the reference's. -/
module

public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.GateIdeal.Proof

open Cert.GateIdeal Cert.GateIdeal.Gen Cert.GateRefIdeal.Read

variable (m : (ℓ : Loc nD τ sig) → Buf (Elt Ideal) ℓ) (c : Dev nD)

/-- The windows' block indices, decided over the grid. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ t.val < 8 :=
  (by decide +kernel : ∀ t : Fin grid0.N, _)

variable (t : Fin cfg0.N)

/-- The reference's GELU. -/
abbrev geluRef := val_main_v12 (F := Ideal) (m ((c : Thread nD τ).loc main_arg0))

/-- A block of the product's first factor holds the reference's GELU. -/
theorem blk0 (r : Fin 512) (R : Fin 4096) (hR : R.val = t.val * 512 + r.val) (k : Fin 1024) : iblk m c 0 t (ix2 r k) = geluRef m c (ix2 R k) := by
  blk_simp [iblk]
  entry_read
  pointwise [geluRef, val_main_v12, val_main_v11, val_main_v10, val_main_cst_2, val_main_v9, val_main_v8, val_main_cst_1,
    val_main_v7, val_main_v6, val_main_v5, val_main_cst_0, val_main_v4, val_main_v3, val_main_v2, val_main_cst, val_main_v1, val_main_v0]
  rw [show ((View.whole main_v13).slice (win0_0.rect t)).emb (ix2 r k) = ix2 R k by blk_ext [idx t]]
  change _ * m ((c : Thread nD τ).loc main_arg0) (ix2 R k) * _ = _
  ac_rfl

theorem blk1 (k q : Fin 1024) : iblk m c 1 t (ix2 k q) = m ((c : Thread nD τ).loc main_arg1) (ix2 k q) := by
  blk_simp [iblk]; entry_read; pointwise; blk_ext [idx t]

theorem blk2 (r : Fin 512) (R : Fin 4096) (hR : R.val = t.val * 512 + r.val) (q : Fin 1024) : iblk m c 2 t (ix2 r q) = m ((c : Thread nD τ).loc main_arg0) (ix2 R q) := by
  blk_simp [iblk]; entry_read; pointwise; blk_ext [idx t]

theorem blk3 (q : Fin 1024) : iblk m c 3 t (ix2 0 q) = m ((c : Thread nD τ).loc main_arg2) (ix1 q) := by
  blk_simp [iblk]; entry_read; pointwise; blk_ext [idx t]

/-- At an index of its rows a grid point's gate is the reference's. -/
theorem gate_point (r : Fin 512) (q : Fin 1024) (R : Fin 4096) (hR : R.val = t.val * 512 + r.val) (Q : Fin 1024) (hQ : Q.val = q.val) :
    k0_pay1 (iblk m c 0 t) (iblk m c 1 t) (ix2 r q) = val_main_v13 (F := Ideal) (m ((c : Thread nD τ).loc main_arg0)) (m ((c : Thread nD τ).loc main_arg1)) (ix2 R Q) := by
  obtain rfl : Q = q := Fin.ext hQ
  pointwise [k0_pay1, val_main_v13]
  simp only [blk0 m c t r R hR, blk1 m c t]

/-- And the gated value. -/
theorem out_point (r : Fin 512) (q : Fin 1024) (R : Fin 4096) (hR : R.val = t.val * 512 + r.val) (Q : Fin 1024) (hQ : Q.val = q.val) :
    k0_pay2 (iblk m c 0 t) (iblk m c 1 t) (iblk m c 2 t) (iblk m c 3 t) (ix2 r q) = val_main_v24 (F := Ideal) (m ((c : Thread nD τ).loc main_arg0)) (m ((c : Thread nD τ).loc main_arg1)) (m ((c : Thread nD τ).loc main_arg2)) (ix2 R Q) := by
  obtain rfl : Q = q := Fin.ext hQ
  pointwise [k0_pay2, val_main_v24, val_main_v23, val_main_v22, val_main_v21, val_main_cst_4, val_main_v20, val_main_v19, val_main_cst_3, val_main_v18,
    val_main_v17, val_main_v16, val_main_v15, val_main_v14, val_main_v12, val_main_v11, val_main_v10, val_main_cst_2, val_main_v9, val_main_v8, val_main_cst_1,
    val_main_v7, val_main_v6, val_main_v5, val_main_cst_0, val_main_v4, val_main_v3, val_main_v2, val_main_cst, val_main_v1, val_main_v0]
  simp only [fun q => gate_point m c t r q R hR q rfl, blk2 m c t r R hR, blk3 m c t, zero_sub]
  ac_rfl

/-- After the run the first output array is the reference's gate. -/
theorem gate_final : (dats m 0 c).arrAt 4 cfg0.N = val_main_v13 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  idx_vars y
  refine (gate_point m c t y0 y1 _ ?_ _ ?_).trans (congrArg _ (eq_ix2 _).symm)
  · blk_simp [idx t]
  · blk_simp [idx t]

/-- After the run the second output array is the gated value. -/
theorem out_final : (dats m 0 c).arrAt 5 cfg0.N = val_main_v24 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  idx_vars y
  refine (out_point m c t y0 y1 _ ?_ _ ?_).trans (congrArg _ (eq_ix2 _).symm)
  · blk_simp [idx t]
  · blk_simp [idx t]

/-- The pair's value claim. -/
theorem value : Cert.algebraic_GateIdeal_GateRefIdeal (hGateIdeal := Cert.GateIdeal.Gen.facts)
    (hGateRefIdeal := Cert.GateRefIdeal.Gen.facts) := by
  intro m g m' g' _ hagree
  refine ⟨_, _, (θ_run Cert.GateIdeal.defs _ _).mono (fun r h c => h c) (Cert.GateIdeal.Value.run_blocks m g), ?_⟩
  refine (θ_run Cert.GateRefIdeal.defs _ _).mono (fun r h c => ⟨?_, ?_, (h c).2.2⟩) (Cert.GateRefIdeal.Value.run m' g')
  · rw [(h c).1, (hagree c).1, (hagree c).2.1, val_main_v13_eq]
    exact (gate_final m c).symm
  · rw [(h c).2.1, (hagree c).1, (hagree c).2.1, (hagree c).2.2, val_main_v24_eq]
    exact (out_final m c).symm

/-- The reference changes none of its arguments and stops with every counter at zero. -/
theorem frame_ref : Cert.quiescent_GateRefIdeal (hGateRefIdeal := Cert.GateRefIdeal.Gen.facts) := fun m g _ =>
  (θ_run Cert.GateRefIdeal.defs _ _).mono (fun r h => ⟨fun c => (h c).2.2, sem_eq_zero_of_no_sems (by decide) r.2⟩)
    (Cert.GateRefIdeal.Value.run m g)

end Cert.GateIdeal.Proof

end
-- ==== Proof.Down.lean ====
/- The second product of the feed-forward layer with the residual sum and the norm behind it: the call's two output arrays are the
   reference's. -/
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs
public import proofs.«01_k».proof.Proof.TileSum

@[expose] public section

set_option maxRecDepth 16384

noncomputable section

open Idealize.ShloMosaic Idealize.ShloMosaic.TcCoe Idealize.SL.Sem
open Idealize.ShloMosaic.Pipeline (Dat)

namespace Cert.DownIdeal.Proof

open Cert.DownIdeal Cert.DownIdeal.Gen Cert.DownRefIdeal.Read

variable (m : (ℓ : Loc nD τ sig) → Buf (Elt Ideal) ℓ) (c : Dev nD)

/-- The reference's product. -/
abbrev prodRef := val_main_v0 (F := Ideal) (m ((c : Thread nD τ).loc main_arg0)) (m ((c : Thread nD τ).loc main_arg1))

/-- A term of the product. -/
abbrev prodTerm (A : FVec Ideal S4096x8192 .f32) (W : FVec Ideal S8192x2048 .f32) (R : Fin 4096) (q : Fin 2048) (K : Fin 8192) : EReal :=
  @HMul.hMul EReal EReal EReal _ (A (ix2 R K)) (W (ix2 K q))

/-- The part of the product that one block of the weights gives. -/
def chunk (R : Fin 4096) (q : Fin 2048) (p : Fin 4) : EReal :=
  ∑ k : Fin 2048, prodTerm (m ((c : Thread nD τ).loc main_arg0)) (m ((c : Thread nD τ).loc main_arg1)) R q ⟨p.val * 2048 + k.val, by omega⟩

/-- The windows' block indices, decided over the grid: four points for each tile of rows, one for each quarter of the product. -/
theorem idx : ∀ t : Fin cfg0.N, win0_0.index t = ![t.val / 4, t.val % 4] ∧ win0_1.index t = ![t.val % 4, 0, 0] ∧ win0_2.index t = ![t.val / 4, 0]
    ∧ win0_3.index t = ![0, 0] ∧ win0_4.index t = ![t.val / 4, 0] ∧ win0_5.index t = ![t.val / 4, 0] ∧ t.val < 32 :=
  (by decide +kernel : ∀ t : Fin grid0.N, _)

variable (t : Fin cfg0.N)

section Rows
variable (r : Fin 512) (R : Fin 4096) (hR : R.val = t.val / 4 * 512 + r.val)

section Blocks
include hR

theorem blk0 (k : Fin 2048) (K : Fin 8192) (hK : K.val = t.val % 4 * 2048 + k.val) : iblk m c 0 t (ix2 r k) = m ((c : Thread nD τ).loc main_arg0) (ix2 R K) := by
  blk_simp [iblk]; entry_read; pointwise; blk_ext [idx t]

theorem blk2 (q : Fin 2048) : iblk m c 2 t (ix2 r q) = m ((c : Thread nD τ).loc main_arg2) (ix2 R q) := by
  blk_simp [iblk]; entry_read; pointwise; blk_ext [idx t]

end Blocks

theorem blk1 (q k : Fin 2048) (K : Fin 8192) (hK : K.val = t.val % 4 * 2048 + k.val) : iblk m c 1 t (ix3 0 k q) = m ((c : Thread nD τ).loc main_arg1) (ix2 K q) := by
  blk_simp [iblk]; entry_read; pointwise; blk_ext [idx t]

theorem blk3 (q : Fin 2048) : iblk m c 3 t (ix2 0 q) = m ((c : Thread nD τ).loc main_arg3) (ix1 q) := by
  blk_simp [iblk]; entry_read; pointwise; blk_ext [idx t]

include hR

/-- A point's part of the product. -/
theorem part_point (q : Fin 2048) (p : Fin 4) (hp : p.val = t.val % 4) :
    k0_pay1 (iblk m c 0 t) (iblk m c 1 t) (ix2 r q) = chunk m c R q p := by
  pointwise [k0_pay1]
  exact Finset.sum_congr rfl fun k _ => congr (congrArg _ (blk0 m c t r R hR _ _ (by dsimp only; omega))) (blk1 m c t q k _ (by dsimp only; omega))

omit hR

/-- At a tile's first point the accumulator holds the point's part. -/
theorem acc_first (h : t.val % 4 = 0) (i : S512x2048.Idx) :
    (outsAt0 m c t.val t.isLt).2.2 i = k0_pay1 (iblk m c 0 t) (iblk m c 1 t) i := by
  rw [outsAt0_A m c t h (by omega) (by omega)]
  dsimp only
  frame_out
  idx_vars i
  pointwise [k0_pay2]

/-- At its later points the part is added. -/
theorem acc_step (s : Fin cfg0.N) (hs : s.val + 1 = t.val) (h : t.val % 4 ≠ 0) (i : S512x2048.Idx) :
    (outsAt0 m c t.val t.isLt).2.2 i = (outsAt0 m c s.val s.isLt).2.2 i + k0_pay1 (iblk m c 0 t) (iblk m c 1 t) i := by
  obtain ⟨n, hn⟩ := s
  obtain ⟨_, ht⟩ := t
  obtain rfl : n + 1 = _ := hs
  by_cases h2 : (n + 1) % 4 = 3
  · rw [outsAt0_C m c ⟨n + 1, ht⟩ h (by dsimp only at h ⊢; omega) h2]
    dsimp only
    frame_out
    idx_vars i
    pointwise [k0_pay3]
    exact congrArg (· + _) (congrFun ((Memref.isWhole_whole _).read_unread _) _)
  · rw [outsAt0_B m c ⟨n + 1, ht⟩ h (by dsimp only at h ⊢; omega) h2]
    dsimp only
    frame_out
    idx_vars i
    pointwise [k0_pay3]
    exact congrArg (· + _) (congrFun ((Memref.isWhole_whole _).read_unread _) _)

include hR

/-- At the last point of a tile the accumulator holds the reference's product. -/
theorem acc_point (h : t.val % 4 = 3) (q : Fin 2048) : (outsAt0 m c t.val t.isLt).2.2 (ix2 r q) = prodRef m c (ix2 R q) := by
  have ht := (idx t).2.2.2.2.2.2
  have hN : cfg0.N = 32 := N_0
  have ref : ∑ p, chunk m c R q p = prodRef m c (ix2 R q) := by
    refine (sum_tiles (a := 4) (b := 2048) (n := 8192) rfl (prodTerm (m ((c : Thread nD τ).loc main_arg0)) (m ((c : Thread nD τ).loc main_arg1)) R q)
      _ (fun p k K hK => congrArg (prodTerm _ _ R q) (Fin.ext hK.symm))).trans ?_
    pointwise [prodRef, val_main_v0]
  rw [Fin.sum_univ_four] at ref
  rw [← ref]
  let s (k : ℕ) : Fin cfg0.N := ⟨t.val - k, by omega⟩
  have e (k : ℕ) : (s k).val = t.val - k := rfl
  rw [acc_step m c t (s 1) (by rw [e]; omega) (by omega), acc_step m c (s 1) (s 2) (by simp only [e]; omega) (by rw [e]; omega),
    acc_step m c (s 2) (s 3) (by simp only [e]; omega) (by rw [e]; omega), acc_first m c (s 3) (by rw [e]; omega),
    part_point m c t r R hR q 3 (by rw [h]; rfl),
    part_point m c (s 1) r R (by rw [e, hR]; omega) q 2 (by rw [e, show (t.val - 1) % 4 = 2 by omega]; rfl),
    part_point m c (s 2) r R (by rw [e, hR]; omega) q 1 (by rw [e, show (t.val - 2) % 4 = 1 by omega]; rfl),
    part_point m c (s 3) r R (by rw [e, hR]; omega) q 0 (by rw [e, show (t.val - 3) % 4 = 0 by omega]; rfl)]

variable (acc : FVec Ideal S512x2048 .f32) (ha : ∀ q, acc (ix2 r q) = prodRef m c (ix2 R q))
include ha

/-- At an index of its rows the epilogue's sum is the reference's. -/
theorem sum_point (q : Fin 2048) : k0_pay4 acc (iblk m c 2 t) (ix2 r q) = val_main_v1 (F := Ideal) (m ((c : Thread nD τ).loc main_arg0)) (m ((c : Thread nD τ).loc main_arg1)) (m ((c : Thread nD τ).loc main_arg2)) (ix2 R q) := by
  pointwise [k0_pay4, val_main_v1]
  rw [ha, blk2 m c t r R hR]
  exact add_comm _ _

/-- And its norm. -/
theorem norm_point (q : Fin 2048) : k0_pay5 acc (iblk m c 2 t) (iblk m c 3 t) (ix2 r q) = val_main_v15 (F := Ideal) (m ((c : Thread nD τ).loc main_arg0)) (m ((c : Thread nD τ).loc main_arg1)) (m ((c : Thread nD τ).loc main_arg2)) (m ((c : Thread nD τ).loc main_arg3)) (ix2 R q) := by
  pointwise [k0_pay5, val_main_v15, val_main_v14, val_main_v13, val_main_v12, val_main_v11, val_main_v10, val_main_v9, val_main_v8,
    val_main_v7, val_main_cst_1, val_main_v6, val_main_v5, val_main_cst_0, val_main_v4, val_main_v3, val_main_cst, val_main_v2]
  simp only [sum_point m c t r R hR acc ha, blk3 m c t]

end Rows

/-- At a tile's last point the output blocks are the epilogue's at the accumulator. -/
theorem out_point (h : t.val % 4 = 3) : (outsAt0 m c t.val t.isLt).1 = k0_pay4 (outsAt0 m c t.val t.isLt).2.2 (iblk m c 2 t) := by
  rw [outsAt0_C m c t (by omega) (by omega) h]
  dsimp only
  frame_out

theorem out_point_norm (h : t.val % 4 = 3) :
    (outsAt0 m c t.val t.isLt).2.1 = k0_pay5 (outsAt0 m c t.val t.isLt).2.2 (iblk m c 2 t) (iblk m c 3 t) := by
  rw [outsAt0_C m c t (by omega) (by omega) h]
  dsimp only
  frame_out

/-- After the run the first output array is the reference's sum. -/
theorem sum_final : (dats m 0 c).arrAt 4 cfg0.N = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have h := (flush0_4 t).mp hf
  blk_simp
  rw [after0_4]
  idx_vars y
  rw [out_point m c t h]
  refine (sum_point m c t y0 ⟨t.val / 4 * 512 + y0.val, by have := (idx t).2.2.2.2.2.2; omega⟩ rfl _
    (acc_point m c t y0 _ rfl h) y1).trans (congrArg _ ?_)
  blk_ext [idx t]

/-- After the run the second output array is its norm. -/
theorem norm_final : (dats m 0 c).arrAt 5 cfg0.N = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h := (flush0_5 t).mp hf
  blk_simp
  rw [after0_5]
  idx_vars y
  rw [out_point_norm m c t h]
  refine (norm_point m c t y0 ⟨t.val / 4 * 512 + y0.val, by have := (idx t).2.2.2.2.2.2; omega⟩ rfl _
    (acc_point m c t y0 _ rfl h) y1).trans (congrArg _ ?_)
  blk_ext [idx t]

/-- The pair's value claim. -/
theorem value : Cert.algebraic_DownIdeal_DownRefIdeal (hDownIdeal := Cert.DownIdeal.Gen.facts)
    (hDownRefIdeal := Cert.DownRefIdeal.Gen.facts) := by
  intro m g m' g' _ hagree
  refine ⟨_, _, (θ_run Cert.DownIdeal.defs _ _).mono (fun r h c => h c) (Cert.DownIdeal.Value.run_blocks m g), ?_⟩
  refine (θ_run Cert.DownRefIdeal.defs _ _).mono (fun r h c => ⟨?_, ?_, (h c).2.2⟩) (Cert.DownRefIdeal.Value.run m' g')
  · rw [(h c).1, (hagree c).1, (hagree c).2.1, (hagree c).2.2.1, val_main_v1_eq]
    exact (sum_final m c).symm
  · rw [(h c).2.1, (hagree c).1, (hagree c).2.1, (hagree c).2.2.1, (hagree c).2.2.2, val_main_v15_eq]
    exact (norm_final m c).symm

/-- The reference changes none of its arguments and stops with every counter at zero. -/
theorem frame_ref : Cert.quiescent_DownRefIdeal (hDownRefIdeal := Cert.DownRefIdeal.Gen.facts) := fun m g _ =>
  (θ_run Cert.DownRefIdeal.defs _ _).mono (fun r h => ⟨fun c => (h c).2.2, sem_eq_zero_of_no_sems (by decide) r.2⟩)
    (Cert.DownRefIdeal.Value.run m g)

end Cert.DownIdeal.Proof

end
-- ==== Proof.Sfwd.lean ====
/- The forward scan over the state-space layer's time steps: the reference's arguments keep their contents, through the operations before its loop, every trip of
  the loop, and the operations after it. -/
module

public import proofs.«01_k».proof.Proof.Gen.SfwdRefIdeal.Run
public import Idealize.ShloMosaic.Adequacy
public import Idealize.ShloMosaic.Init
public import Idealize.ShloMosaic.Lib.Quiescent
public import Idealize.ShloMosaic.Rules
public import proofs.«01_k».proof.Defs

@[expose] public section

namespace Cert.SfwdRefIdeal.Keep

open Idealize.ShloMosaic Idealize.ShloMosaic.TcCoe Idealize.ShloMosaic.StableHlo Idealize.SL.Sem Cert.SfwdRefIdeal Cert.SfwdRefIdeal.Gen

/-- The reference's arguments. -/
abbrev args : List (Ref sig .tc) := [main_arg0, main_arg1, main_arg2, main_arg3, main_arg4, main_arg5, main_arg6, main_arg7]

variable {F : FTy → Type} [FloatOps F] {r : Ref sig .tc} (hr : r ∈ args)
include hr

theorem hostOps0 (V : Valuation τ sig (Elt F)) : after Gen.hostOps0 V (Proc.devRef .tc r) = V (Proc.devRef .tc r) :=
  after_of_writes_sub _ V Value.hostOps0_writes ((by decide +kernel : ∀ r ∈ args, r ∉ Value.hostOps0_W) r hr)
theorem condOps (V : Valuation τ sig (Elt F)) : after Value.condOps V (Proc.devRef .tc r) = V (Proc.devRef .tc r) :=
  after_of_writes_sub _ V Value.condOps_writes ((by decide +kernel : ∀ r ∈ args, r ∉ Value.condOps_W) r hr)
theorem while0Ops0 (V : Valuation τ sig (Elt F)) : after Gen.while0Ops0 V (Proc.devRef .tc r) = V (Proc.devRef .tc r) :=
  after_of_writes_sub _ V Value.while0Ops0_writes ((by decide +kernel : ∀ r ∈ args, r ∉ Value.while0Ops0_W) r hr)
theorem while0Ops0_1 (V : Valuation τ sig (Elt F)) : after Gen.while0Ops0_1 V (Proc.devRef .tc r) = V (Proc.devRef .tc r) :=
  after_of_writes_sub _ V Value.while0Ops0_1_writes ((by decide +kernel : ∀ r ∈ args, r ∉ Value.while0Ops0_1_W) r hr)
theorem while0Ops0_2 (V : Valuation τ sig (Elt F)) : after Gen.while0Ops0_2 V (Proc.devRef .tc r) = V (Proc.devRef .tc r) :=
  after_of_writes_sub _ V Value.while0Ops0_2_writes ((by decide +kernel : ∀ r ∈ args, r ∉ Value.while0Ops0_2_W) r hr)
theorem while0Ops0_3 (V : Valuation τ sig (Elt F)) : after Gen.while0Ops0_3 V (Proc.devRef .tc r) = V (Proc.devRef .tc r) :=
  after_of_writes_sub _ V Value.while0Ops0_3_writes ((by decide +kernel : ∀ r ∈ args, r ∉ Value.while0Ops0_3_W) r hr)
theorem while0Ops0_4 (V : Valuation τ sig (Elt F)) : after Gen.while0Ops0_4 V (Proc.devRef .tc r) = V (Proc.devRef .tc r) :=
  after_of_writes_sub _ V Value.while0Ops0_4_writes ((by decide +kernel : ∀ r ∈ args, r ∉ Value.while0Ops0_4_W) r hr)
theorem while0Ops0_5 (V : Valuation τ sig (Elt F)) : after Gen.while0Ops0_5 V (Proc.devRef .tc r) = V (Proc.devRef .tc r) :=
  after_of_writes_sub _ V Value.while0Ops0_5_writes ((by decide +kernel : ∀ r ∈ args, r ∉ Value.while0Ops0_5_W) r hr)
theorem hostOps0_1 (V : Valuation τ sig (Elt F)) : after Gen.hostOps0_1 V (Proc.devRef .tc r) = V (Proc.devRef .tc r) :=
  after_of_writes_sub (W := [main_v10, main_v11, main_v12, main_v13, main_v14, main_v15, main_v16, main_v17, main_v18, main_v19, main_v20, main_v21, main_cst_2, main_v22, main_v23, main_v24, main_cst_3, main_v25, main_v26, main_v27, main_cst_4, main_v28, main_v29, main_cst_5, main_v30, main_v31, main_v32, main_v33]) _ V (forall_writes_sub_of_map rfl) ((by decide +kernel : ∀ r ∈ args, r ∉ [main_v10, main_v11, main_v12, main_v13, main_v14, main_v15, main_v16, main_v17, main_v18, main_v19, main_v20, main_v21, main_cst_2, main_v22, main_v23, main_v24, main_cst_3, main_v25, main_v26, main_v27, main_cst_4, main_v28, main_v29, main_cst_5, main_v30, main_v31, main_v32, main_v33]) r hr)

/-- An argument at the loop's entry. -/
theorem entry (m : (ℓ : Loc nD τ sig) → Buf (Elt F) ℓ) (c : Dev nD) :
    entryContents Value.preI m c (Proc.devRef .tc r) = m ((c : Thread nD τ).loc r) :=
  hostOps0 hr _

/-- An argument before each trip. -/
theorem trip (m : (ℓ : Loc nD τ sig) → Buf (Elt F) ℓ) (c : Dev nD) :
    ∀ k, atTrip Value.condOps Value.bodyI (entryContents Value.preI m) k c (Proc.devRef .tc r) = m ((c : Thread nD τ).loc r)
  | 0 => entry hr m c
  | k + 1 =>
    (while0Ops0_5 hr _).trans ((while0Ops0_4 hr _).trans ((while0Ops0_3 hr _).trans ((while0Ops0_2 hr _).trans ((while0Ops0_1 hr _).trans ((while0Ops0 hr _).trans ((condOps hr _).trans (trip m c k)))))))

/-- An argument at the end. -/
theorem final (m : (ℓ : Loc nD τ sig) → Buf (Elt F) ℓ) (c : Dev nD) (n : ℕ) :
    finalContents Value.condOps Value.preI Value.bodyI Value.postI n m c (Proc.devRef .tc r) = m ((c : Thread nD τ).loc r) :=
  (hostOps0_1 hr _).trans ((condOps hr _).trans (trip hr m c n))

end Cert.SfwdRefIdeal.Keep

namespace Cert.SfwdIdeal.Proof

open Idealize.ShloMosaic Idealize.ShloMosaic.TcCoe Idealize.SL.Sem

/-- The reference changes none of its arguments and stops with every counter at zero. -/
theorem frame_ref : Cert.quiescent_SfwdRefIdeal (hSfwdRefIdeal := Cert.SfwdRefIdeal.Gen.facts) := fun m g _ =>
  (θ_run Cert.SfwdRefIdeal.defs _ _).mono (fun r h => ⟨fun c => ⟨(h c _ rfl).trans (Cert.SfwdRefIdeal.Keep.final (by simp) m c 4096), (h c _ rfl).trans (Cert.SfwdRefIdeal.Keep.final (by simp) m c 4096), (h c _ rfl).trans (Cert.SfwdRefIdeal.Keep.final (by simp) m c 4096), (h c _ rfl).trans (Cert.SfwdRefIdeal.Keep.final (by simp) m c 4096), (h c _ rfl).trans (Cert.SfwdRefIdeal.Keep.final (by simp) m c 4096), (h c _ rfl).trans (Cert.SfwdRefIdeal.Keep.final (by simp) m c 4096), (h c _ rfl).trans (Cert.SfwdRefIdeal.Keep.final (by simp) m c 4096), (h c _ rfl).trans (Cert.SfwdRefIdeal.Keep.final (by simp) m c 4096)⟩,
    sem_eq_zero_of_no_sems (by decide) r.2⟩)
    (Cert.SfwdRefIdeal.Value.run_fold m g)

end Cert.SfwdIdeal.Proof

end
-- ==== Proof.Hfwd.lean ====
/- The forward scan over the gated recurrence's chunks: the reference's arguments keep their contents, through the operations before its loop, every trip of
  the loop, and the operations after it. -/
module

public import proofs.«01_k».proof.Proof.Gen.HfwdRefIdeal.Run
public import Idealize.ShloMosaic.Adequacy
public import Idealize.ShloMosaic.Init
public import Idealize.ShloMosaic.Lib.Quiescent
public import Idealize.ShloMosaic.Rules
public import proofs.«01_k».proof.Defs

@[expose] public section

namespace Cert.HfwdRefIdeal.Keep

open Idealize.ShloMosaic Idealize.ShloMosaic.TcCoe Idealize.ShloMosaic.StableHlo Idealize.SL.Sem Cert.HfwdRefIdeal Cert.HfwdRefIdeal.Gen

/-- The reference's arguments. -/
abbrev args : List (Ref sig .tc) := [main_arg0, main_arg1, main_arg2]

variable {F : FTy → Type} [FloatOps F] {r : Ref sig .tc} (hr : r ∈ args)
include hr

theorem hostOps0 (V : Valuation τ sig (Elt F)) : after Gen.hostOps0 V (Proc.devRef .tc r) = V (Proc.devRef .tc r) :=
  after_of_writes_sub _ V Value.hostOps0_writes ((by decide +kernel : ∀ r ∈ args, r ∉ Value.hostOps0_W) r hr)
theorem hostOps0_1 (V : Valuation τ sig (Elt F)) : after Gen.hostOps0_1 V (Proc.devRef .tc r) = V (Proc.devRef .tc r) :=
  after_of_writes_sub _ V Value.hostOps0_1_writes ((by decide +kernel : ∀ r ∈ args, r ∉ Value.hostOps0_1_W) r hr)
theorem hostOps0_2 (V : Valuation τ sig (Elt F)) : after Gen.hostOps0_2 V (Proc.devRef .tc r) = V (Proc.devRef .tc r) :=
  after_of_writes_sub _ V Value.hostOps0_2_writes ((by decide +kernel : ∀ r ∈ args, r ∉ Value.hostOps0_2_W) r hr)
theorem hostOps0_3 (V : Valuation τ sig (Elt F)) : after Gen.hostOps0_3 V (Proc.devRef .tc r) = V (Proc.devRef .tc r) :=
  after_of_writes_sub _ V Value.hostOps0_3_writes ((by decide +kernel : ∀ r ∈ args, r ∉ Value.hostOps0_3_W) r hr)
theorem hostOps0_4 (V : Valuation τ sig (Elt F)) : after Gen.hostOps0_4 V (Proc.devRef .tc r) = V (Proc.devRef .tc r) :=
  after_of_writes_sub _ V Value.hostOps0_4_writes ((by decide +kernel : ∀ r ∈ args, r ∉ Value.hostOps0_4_W) r hr)
theorem condOps (V : Valuation τ sig (Elt F)) : after Value.condOps V (Proc.devRef .tc r) = V (Proc.devRef .tc r) :=
  after_of_writes_sub _ V Value.condOps_writes ((by decide +kernel : ∀ r ∈ args, r ∉ Value.condOps_W) r hr)
theorem while0Ops0 (V : Valuation τ sig (Elt F)) : after Gen.while0Ops0 V (Proc.devRef .tc r) = V (Proc.devRef .tc r) :=
  after_of_writes_sub _ V Value.while0Ops0_writes ((by decide +kernel : ∀ r ∈ args, r ∉ Value.while0Ops0_W) r hr)
theorem while0Ops0_1 (V : Valuation τ sig (Elt F)) : after Gen.while0Ops0_1 V (Proc.devRef .tc r) = V (Proc.devRef .tc r) :=
  after_of_writes_sub _ V Value.while0Ops0_1_writes ((by decide +kernel : ∀ r ∈ args, r ∉ Value.while0Ops0_1_W) r hr)
theorem while0Ops0_2 (V : Valuation τ sig (Elt F)) : after Gen.while0Ops0_2 V (Proc.devRef .tc r) = V (Proc.devRef .tc r) :=
  after_of_writes_sub _ V Value.while0Ops0_2_writes ((by decide +kernel : ∀ r ∈ args, r ∉ Value.while0Ops0_2_W) r hr)
theorem while0Ops0_3 (V : Valuation τ sig (Elt F)) : after Gen.while0Ops0_3 V (Proc.devRef .tc r) = V (Proc.devRef .tc r) :=
  after_of_writes_sub _ V Value.while0Ops0_3_writes ((by decide +kernel : ∀ r ∈ args, r ∉ Value.while0Ops0_3_W) r hr)
theorem while0Ops0_4 (V : Valuation τ sig (Elt F)) : after Gen.while0Ops0_4 V (Proc.devRef .tc r) = V (Proc.devRef .tc r) :=
  after_of_writes_sub _ V Value.while0Ops0_4_writes ((by decide +kernel : ∀ r ∈ args, r ∉ Value.while0Ops0_4_W) r hr)
theorem while0Ops0_5 (V : Valuation τ sig (Elt F)) : after Gen.while0Ops0_5 V (Proc.devRef .tc r) = V (Proc.devRef .tc r) :=
  after_of_writes_sub _ V Value.while0Ops0_5_writes ((by decide +kernel : ∀ r ∈ args, r ∉ Value.while0Ops0_5_W) r hr)
theorem while0Ops0_6 (V : Valuation τ sig (Elt F)) : after Gen.while0Ops0_6 V (Proc.devRef .tc r) = V (Proc.devRef .tc r) :=
  after_of_writes_sub _ V Value.while0Ops0_6_writes ((by decide +kernel : ∀ r ∈ args, r ∉ Value.while0Ops0_6_W) r hr)
theorem while0Ops0_7 (V : Valuation τ sig (Elt F)) : after Gen.while0Ops0_7 V (Proc.devRef .tc r) = V (Proc.devRef .tc r) :=
  after_of_writes_sub _ V Value.while0Ops0_7_writes ((by decide +kernel : ∀ r ∈ args, r ∉ Value.while0Ops0_7_W) r hr)
theorem while0Ops0_8 (V : Valuation τ sig (Elt F)) : after Gen.while0Ops0_8 V (Proc.devRef .tc r) = V (Proc.devRef .tc r) :=
  after_of_writes_sub _ V Value.while0Ops0_8_writes ((by decide +kernel : ∀ r ∈ args, r ∉ Value.while0Ops0_8_W) r hr)
theorem while0Ops0_9 (V : Valuation τ sig (Elt F)) : after Gen.while0Ops0_9 V (Proc.devRef .tc r) = V (Proc.devRef .tc r) :=
  after_of_writes_sub _ V Value.while0Ops0_9_writes ((by decide +kernel : ∀ r ∈ args, r ∉ Value.while0Ops0_9_W) r hr)
theorem hostOps0_5 (V : Valuation τ sig (Elt F)) : after Gen.hostOps0_5 V (Proc.devRef .tc r) = V (Proc.devRef .tc r) :=
  after_of_writes_sub (W := [main_v41, main_v42, main_v43, main_cst_6, main_v44, main_v45, main_cst_7, main_v46, main_v47, main_cst_8, main_v48, main_v49, main_v50, main_v51, main_v52, main_v53, main_v54, main_v55, main_v56]) _ V (forall_writes_sub_of_map rfl) ((by decide +kernel : ∀ r ∈ args, r ∉ [main_v41, main_v42, main_v43, main_cst_6, main_v44, main_v45, main_cst_7, main_v46, main_v47, main_cst_8, main_v48, main_v49, main_v50, main_v51, main_v52, main_v53, main_v54, main_v55, main_v56]) r hr)
theorem hostOps0_6 (V : Valuation τ sig (Elt F)) : after Gen.hostOps0_6 V (Proc.devRef .tc r) = V (Proc.devRef .tc r) :=
  after_of_writes_sub (W := [main_call9_v0, main_call9_v1, main_call9_cst, main_call9_v2, main_call9_v3, main_call9_cst_0, main_call9_v4, main_call9_v5, main_v57]) _ V (forall_writes_sub_of_map rfl) ((by decide +kernel : ∀ r ∈ args, r ∉ [main_call9_v0, main_call9_v1, main_call9_cst, main_call9_v2, main_call9_v3, main_call9_cst_0, main_call9_v4, main_call9_v5, main_v57]) r hr)
theorem hostOps0_7 (V : Valuation τ sig (Elt F)) : after Gen.hostOps0_7 V (Proc.devRef .tc r) = V (Proc.devRef .tc r) :=
  after_of_writes_sub (W := [main_v58, main_v59, main_v60]) _ V (forall_writes_sub_of_map rfl) ((by decide +kernel : ∀ r ∈ args, r ∉ [main_v58, main_v59, main_v60]) r hr)

/-- An argument at the loop's entry. -/
theorem entry (m : (ℓ : Loc nD τ sig) → Buf (Elt F) ℓ) (c : Dev nD) :
    entryContents Value.preI m c (Proc.devRef .tc r) = m ((c : Thread nD τ).loc r) :=
  (hostOps0_4 hr _).trans ((hostOps0_3 hr _).trans ((hostOps0_2 hr _).trans ((hostOps0_1 hr _).trans (hostOps0 hr _))))

/-- An argument before each trip. -/
theorem trip (m : (ℓ : Loc nD τ sig) → Buf (Elt F) ℓ) (c : Dev nD) :
    ∀ k, atTrip Value.condOps Value.bodyI (entryContents Value.preI m) k c (Proc.devRef .tc r) = m ((c : Thread nD τ).loc r)
  | 0 => entry hr m c
  | k + 1 =>
    (while0Ops0_9 hr _).trans ((while0Ops0_8 hr _).trans ((while0Ops0_7 hr _).trans ((while0Ops0_6 hr _).trans ((while0Ops0_5 hr _).trans ((while0Ops0_4 hr _).trans ((while0Ops0_3 hr _).trans ((while0Ops0_2 hr _).trans ((while0Ops0_1 hr _).trans ((while0Ops0 hr _).trans ((condOps hr _).trans (trip m c k)))))))))))

/-- An argument at the end. -/
theorem final (m : (ℓ : Loc nD τ sig) → Buf (Elt F) ℓ) (c : Dev nD) (n : ℕ) :
    finalContents Value.condOps Value.preI Value.bodyI Value.postI n m c (Proc.devRef .tc r) = m ((c : Thread nD τ).loc r) :=
  (hostOps0_7 hr _).trans ((hostOps0_6 hr _).trans ((hostOps0_5 hr _).trans ((condOps hr _).trans (trip hr m c n))))

end Cert.HfwdRefIdeal.Keep

namespace Cert.HfwdIdeal.Proof

open Idealize.ShloMosaic Idealize.ShloMosaic.TcCoe Idealize.SL.Sem

/-- The reference changes none of its arguments and stops with every counter at zero. -/
theorem frame_ref : Cert.quiescent_HfwdRefIdeal (hHfwdRefIdeal := Cert.HfwdRefIdeal.Gen.facts) := fun m g _ =>
  (θ_run Cert.HfwdRefIdeal.defs _ _).mono (fun r h => ⟨fun c => ⟨(h c _ rfl).trans (Cert.HfwdRefIdeal.Keep.final (by simp) m c 64), (h c _ rfl).trans (Cert.HfwdRefIdeal.Keep.final (by simp) m c 64), (h c _ rfl).trans (Cert.HfwdRefIdeal.Keep.final (by simp) m c 64)⟩,
    sem_eq_zero_of_no_sems (by decide) r.2⟩)
    (Cert.HfwdRefIdeal.Value.run_fold m g)

/-- The one rewrite names the rounded constant. -/
theorem preserves : Cert.preserves_Hfwd_HfwdIdeal := IdealRules.named_const.statement _ _ _ _ _ rfl

end Cert.HfwdIdeal.Proof

end
-- ==== Proof.Dwdown.lean ====
/- The gradient of the feed-forward layer's second weight, a plain product: the call's output array is the reference's. -/
module

public import proofs.«01_k».proof.Proof.Gen.DwdownIdeal.Value
public import proofs.«01_k».proof.Proof.Gen.DwdownRefIdeal.Run
public import proofs.«01_k».proof.Proof.Gen.DwdownRefIdeal.Read
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.DwdownIdeal.Proof

open Cert.DwdownIdeal Cert.DwdownIdeal.Gen Cert.DwdownRefIdeal.Read

variable (m : (ℓ : Loc nD τ sig) → Buf (Elt Ideal) ℓ) (c : Dev nD)

/-- The windows' block indices, decided over the grid. -/
theorem idx : ∀ t : Fin cfg0.N, win0_0.index t = ![0, t.val / 2] ∧ win0_1.index t = ![0, t.val % 2]
    ∧ win0_2.index t = ![t.val / 4, t.val / 2 % 2, t.val % 2] ∧ t.val < 32 :=
  (by decide +kernel : ∀ t : Fin grid0.N, _)

variable (t : Fin cfg0.N)

theorem blk0 (k : Fin 4096) (r : Fin 512) (R : Fin 8192) (hR : R.val = t.val / 2 * 512 + r.val) : iblk m c 0 t (ix2 k r) = m ((c : Thread nD τ).loc main_arg0) (ix2 k R) := by
  blk_simp [iblk]; entry_read; pointwise; blk_ext [idx t]

theorem blk1 (k : Fin 4096) (q : Fin 1024) (Q : Fin 2048) (hQ : Q.val = t.val % 2 * 1024 + q.val) : iblk m c 1 t (ix2 k q) = m ((c : Thread nD τ).loc main_arg1) (ix2 k Q) := by
  blk_simp [iblk]; entry_read; pointwise; blk_ext [idx t]

/-- What a grid point computes at an index of its tile is the reference's element there. -/
theorem point (r : Fin 512) (q : Fin 1024) (B : Fin 8) (hB : B.val = t.val / 4) (R : Fin 1024) (hR : R.val = t.val / 2 % 2 * 512 + r.val)
    (Q : Fin 2048) (hQ : Q.val = t.val % 2 * 1024 + q.val) :
    k0_pay1 (iblk m c 0 t) (iblk m c 1 t) (ix3 0 r q) = val_main_v3 (F := Ideal) (m ((c : Thread nD τ).loc main_arg0)) (m ((c : Thread nD τ).loc main_arg1)) (ix3 B R Q) := by
  pointwise [k0_pay1, val_main_v3, val_main_v2, val_main_v1, val_main_v0]
  refine Finset.sum_congr rfl fun k _ => congr (congrArg _ ((blk0 m c t k r ⟨B.val * 1024 + R.val, by omega⟩ (by dsimp only; omega)).trans (congrArg _ ?_)))
    ((blk1 m c t k q Q hQ).trans (congrArg _ ?_))
  · blk_ext []
  · blk_ext []

/-- After the run the output array is the reference's. -/
theorem final : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  obtain rfl : y0 = 0 := Subsingleton.elim _ _
  refine (point m c t y1 y2 _ ?_ _ ?_ _ ?_).trans (congrArg _ (eq_ix3 _).symm)
  · blk_simp [idx t]
    rfl
  · blk_simp [idx t]
  · blk_simp [idx t]

/-- The pair's value claim. -/
theorem value : Cert.algebraic_DwdownIdeal_DwdownRefIdeal (hDwdownIdeal := Cert.DwdownIdeal.Gen.facts)
    (hDwdownRefIdeal := Cert.DwdownRefIdeal.Gen.facts) := by
  intro m g m' g' _ hagree
  refine ⟨_, (θ_run Cert.DwdownIdeal.defs _ _).mono (fun r h c => h c) (Cert.DwdownIdeal.Value.run_blocks m g), ?_⟩
  refine (θ_run Cert.DwdownRefIdeal.defs _ _).mono (fun r h c => ⟨?_, (h c).2⟩) (Cert.DwdownRefIdeal.Value.run m' g')
  · rw [(h c).1, (hagree c).1, (hagree c).2, val_main_v3_eq]
    exact (final m c).symm

/-- The reference changes none of its arguments and stops with every counter at zero. -/
theorem frame_ref : Cert.quiescent_DwdownRefIdeal (hDwdownRefIdeal := Cert.DwdownRefIdeal.Gen.facts) := fun m g _ =>
  (θ_run Cert.DwdownRefIdeal.defs _ _).mono (fun r h => ⟨fun c => (h c).2, sem_eq_zero_of_no_sems (by decide) r.2⟩)
    (Cert.DwdownRefIdeal.Value.run m g)

end Cert.DwdownIdeal.Proof

end
-- ==== Proof.Adam.lean ====
/- The AdamW step of one device's part of the feed-forward layer's first weight: the call's three output arrays are the reference's. -/
module

public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.AdamIdeal.Proof

open Cert.AdamIdeal Cert.AdamIdeal.Gen Cert.AdamRefIdeal.Read

variable (m : (ℓ : Loc nD τ sig) → Buf (Elt Ideal) ℓ) (c : Dev nD)

/-- The windows' block indices, decided over the grid. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ t.val < 32 :=
  (by decide +kernel : ∀ t : Fin grid0.N, _)

variable (t : Fin cfg0.N)

section Rows
variable (r : Fin 256) (q : Fin 1024) (R : Fin 8192) (hR : R.val = t.val * 256 + r.val) (Q : Fin 1024) (hQ : Q.val = q.val)
include hR hQ

theorem blk0  : iblk m c 0 t (ix2 r q) = m ((c : Thread nD τ).loc main_arg0) (ix3 ⟨R.val / 2048, by omega⟩ ⟨R.val % 2048, by omega⟩ Q) := by
  blk_simp [iblk]; entry_read; pointwise; blk_ext [idx t]

theorem blk1  : iblk m c 1 t (ix2 r q) = m ((c : Thread nD τ).loc main_arg1) (ix3 ⟨R.val / 2048, by omega⟩ ⟨R.val % 2048, by omega⟩ Q) := by
  blk_simp [iblk]; entry_read; pointwise; blk_ext [idx t]

theorem blk2  : iblk m c 2 t (ix2 r q) = m ((c : Thread nD τ).loc main_arg2) (ix3 ⟨R.val / 2048, by omega⟩ ⟨R.val % 2048, by omega⟩ Q) := by
  blk_simp [iblk]; entry_read; pointwise; blk_ext [idx t]

theorem blk3  : iblk m c 3 t (ix2 r q) = m ((c : Thread nD τ).loc main_arg3) (ix3 ⟨R.val / 2048, by omega⟩ ⟨R.val % 2048, by omega⟩ Q) := by
  blk_simp [iblk]; entry_read; pointwise; blk_ext [idx t]

/-- A grid point's update is the reference's. -/
theorem delta_point : k0_pay4 (iblk m c 0 t) (iblk m c 1 t) (iblk m c 2 t) (iblk m c 3 t) (ix2 r q) = val_main_v24 (F := Ideal) (m ((c : Thread nD τ).loc main_arg0)) (m ((c : Thread nD τ).loc main_arg1)) (m ((c : Thread nD τ).loc main_arg2)) (m ((c : Thread nD τ).loc main_arg3)) (ix2 R Q) := by
  pointwise [k0_pay4, k0_pay3, k0_pay2, k0_pay1, val_main_v24, val_main_v23, val_main_v22, val_main_cst_7, val_main_v21, val_main_v20, val_main_v19, val_main_cst_6, val_main_v18, val_main_v17, val_main_v16,
    val_main_cst_5, val_main_v15, val_main_v14, val_main_v13, val_main_cst_4, val_main_v12, val_main_v11, val_main_cst_3,
    val_main_v10, val_main_v9, val_main_v8, val_main_cst_2, val_main_v7, val_main_v6, val_main_v5, val_main_cst_1, val_main_v4, val_main_v3, val_main_v2, val_main_cst_0, val_main_v1, val_main_v0, val_main_cst]
  simp only [blk0 m c t r q R hR Q hQ, blk1 m c t r q R hR Q hQ, blk2 m c t r q R hR Q hQ, blk3 m c t r q R hR Q hQ]

/-- A grid point's first moment is the reference's. -/
theorem mean_point : k0_pay2 (iblk m c 1 t) (iblk m c 2 t) (ix2 r q) = val_main_v25 (F := Ideal) (m ((c : Thread nD τ).loc main_arg1)) (m ((c : Thread nD τ).loc main_arg2)) (ix2 R Q) := by
  pointwise [k0_pay2, k0_pay1, val_main_v25, val_main_v4, val_main_v3, val_main_v2, val_main_cst_0, val_main_v1, val_main_v0, val_main_cst]
  simp only [blk1 m c t r q R hR Q hQ, blk2 m c t r q R hR Q hQ]

/-- A grid point's second moment is the reference's. -/
theorem square_point : k0_pay3 (iblk m c 1 t) (iblk m c 3 t) (ix2 r q) = val_main_v26 (F := Ideal) (m ((c : Thread nD τ).loc main_arg1)) (m ((c : Thread nD τ).loc main_arg3)) (ix2 R Q) := by
  pointwise [k0_pay3, k0_pay1, val_main_v26, val_main_v10, val_main_v9, val_main_v8, val_main_cst_2, val_main_v7, val_main_v6, val_main_v5, val_main_cst_1]
  simp only [blk1 m c t r q R hR Q hQ, blk3 m c t r q R hR Q hQ]

end Rows

/-- After the run the output array of the update is the reference's. -/
theorem delta_final : (dats m 0 c).arrAt 4 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  idx_vars y
  refine (delta_point m c t y0 y1 _ ?_ _ ?_).trans (congrArg _ (eq_ix2 _).symm)
  · blk_simp [idx t]
  · blk_simp [idx t]

/-- After the run the output array of the first moment is the reference's. -/
theorem mean_final : (dats m 0 c).arrAt 5 cfg0.N = val_main_v25 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  idx_vars y
  refine (mean_point m c t y0 y1 _ ?_ _ ?_).trans (congrArg _ (eq_ix2 _).symm)
  · blk_simp [idx t]
  · blk_simp [idx t]

/-- After the run the output array of the second moment is the reference's. -/
theorem square_final : (dats m 0 c).arrAt 6 cfg0.N = val_main_v26 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  idx_vars y
  refine (square_point m c t y0 y1 _ ?_ _ ?_).trans (congrArg _ (eq_ix2 _).symm)
  · blk_simp [idx t]
  · blk_simp [idx t]

/-- The pair's value claim. -/
theorem value : Cert.algebraic_AdamIdeal_AdamRefIdeal (hAdamIdeal := Cert.AdamIdeal.Gen.facts)
    (hAdamRefIdeal := Cert.AdamRefIdeal.Gen.facts) := by
  intro m g m' g' _ hagree
  refine ⟨_, _, _, (θ_run Cert.AdamIdeal.defs _ _).mono (fun r h c => h c) (Cert.AdamIdeal.Value.run_blocks m g), ?_⟩
  refine (θ_run Cert.AdamRefIdeal.defs _ _).mono (fun r h c => ⟨?_, ?_, ?_, (h c).2.2.2⟩) (Cert.AdamRefIdeal.Value.run m' g')
  · rw [(h c).1, (hagree c).1, (hagree c).2.1, (hagree c).2.2.1, (hagree c).2.2.2, val_main_v24_eq]
    exact (delta_final m c).symm
  · rw [(h c).2.1, (hagree c).2.1, (hagree c).2.2.1, val_main_v25_eq]
    exact (mean_final m c).symm
  · rw [(h c).2.2.1, (hagree c).2.1, (hagree c).2.2.2, val_main_v26_eq]
    exact (square_final m c).symm

/-- The reference changes none of its arguments and stops with every counter at zero. -/
theorem frame_ref : Cert.quiescent_AdamRefIdeal (hAdamRefIdeal := Cert.AdamRefIdeal.Gen.facts) := fun m g _ =>
  (θ_run Cert.AdamRefIdeal.defs _ _).mono (fun r h => ⟨fun c => (h c).2.2.2, sem_eq_zero_of_no_sems (by decide) r.2⟩)
    (Cert.AdamRefIdeal.Value.run m g)

end Cert.AdamIdeal.Proof

end
-- ==== Proof.Sums.lean ====
/- The sum of the four chips' blocks of one weight's gradient: the call's output array is the reference's. -/
module

public import proofs.«01_k».proof.Proof.Gen.SumsIdeal.Value
public import proofs.«01_k».proof.Proof.Gen.SumsRefIdeal.Run
public import proofs.«01_k».proof.Proof.Gen.SumsRefIdeal.Read
public import Idealize.ShloMosaic.Lib.Pipeline.ValueKit
public import Idealize.ShloMosaic.Lib.Pointwise
public import Idealize.ShloMosaic.Adequacy
public import Idealize.ShloMosaic.Init
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.SumsIdeal.Proof

open Cert.SumsIdeal Cert.SumsIdeal.Gen Cert.SumsRefIdeal.Read

variable (m : (ℓ : Loc nD τ sig) → Buf (Elt Ideal) ℓ) (c : Dev nD)

/-- The windows' block indices, decided over the grid. -/
theorem idx : ∀ t : Fin cfg0.N, win0_0.index t = ![0, t.val, 0] ∧ win0_1.index t = ![t.val, 0] ∧ t.val < 4 :=
  (by decide +kernel : ∀ t : Fin grid0.N, _)

variable (t : Fin cfg0.N)

theorem blk0 (p : Fin 4) (r : Fin 512) (R : Fin 2048) (hR : R.val = t.val * 512 + r.val) (q : Fin 1024) : iblk m c 0 t (ix3 p r q) = m ((c : Thread nD τ).loc main_arg0) (ix3 p R q) := by
  blk_simp [iblk]; entry_read; pointwise; blk_ext [idx t]

/-- What a grid point computes at an index of its tile is the reference's element there. -/
theorem point (r : Fin 512) (q : Fin 1024) (R : Fin 2048) (hR : R.val = t.val * 512 + r.val) (Q : Fin 1024) (hQ : Q.val = q.val) :
    k0_pay1 (View.ld (iblk m c 0 t) r0_0) (View.ld (iblk m c 0 t) r0_1) (View.ld (iblk m c 0 t) r0_2) (View.ld (iblk m c 0 t) r0_3) (ix2 r q)
      = val_main_v0 (F := Ideal) (m ((c : Thread nD τ).loc main_arg0)) (ix2 R Q) := by
  obtain rfl : Q = q := Fin.ext hQ
  pointwise [k0_pay1, val_main_v0, val_main_cst]
  simp only [Fin.sum_univ_four]
  rw [blk0 m c t 0 r R hR, blk0 m c t 1 r R hR, blk0 m c t 2 r R hR, blk0 m c t 3 r R hR]

/-- After the run the output array is the reference's. -/
theorem final : (dats m 0 c).arrAt 1 cfg0.N = val_main_v0 (F := Ideal) (m ((c : Thread nD τ).loc main_arg0)) := by
  refine (dats m 0 c).arrAt_eq_of_covers 1 _ (by decide +kernel) fun t _ y => ?_
  blk_simp
  rw [after0_1]; frame_out
  idx_vars y
  refine (point m c t y0 y1 _ ?_ _ ?_).trans (congrArg _ (eq_ix2 _).symm)
  · blk_simp [idx t]
  · blk_simp [idx t]

/-- The pair's value claim. -/
theorem value : Cert.algebraic_SumsIdeal_SumsRefIdeal (hSumsIdeal := Cert.SumsIdeal.Gen.facts)
    (hSumsRefIdeal := Cert.SumsRefIdeal.Gen.facts) := by
  intro m g m' g' _ hagree
  refine ⟨_, (θ_run Cert.SumsIdeal.defs _ _).mono (fun r h c => h c) (Cert.SumsIdeal.Value.run_blocks m g), ?_⟩
  refine (θ_run Cert.SumsRefIdeal.defs _ _).mono (fun r h c => ⟨?_, (h c).2⟩) (Cert.SumsRefIdeal.Value.run m' g')
  · rw [(h c).1, hagree c, val_main_v0_eq]
    exact (final m c).symm

/-- The reference changes none of its arguments and stops with every counter at zero. -/
theorem frame_ref : Cert.quiescent_SumsRefIdeal (hSumsRefIdeal := Cert.SumsRefIdeal.Gen.facts) := fun m g _ =>
  (θ_run Cert.SumsRefIdeal.defs _ _).mono (fun r h => ⟨fun c => (h c).2, sem_eq_zero_of_no_sems (by decide) r.2⟩)
    (Cert.SumsRefIdeal.Value.run m g)

end Cert.SumsIdeal.Proof

end
-- ==== Proof.lean ====
module

public import proofs.«01_k».proof.Defs
public import proofs.«01_k».proof.Proof.Gen.Swa.Frame
public import proofs.«01_k».proof.Proof.SwaClaim
public import proofs.«01_k».proof.Proof.Gen.Dact.Frame
public import proofs.«01_k».proof.Proof.Dact
public import proofs.«01_k».proof.Proof.Gen.Glu.Frame
public import proofs.«01_k».proof.Proof.Glu
public import proofs.«01_k».proof.Proof.Gen.Dz.Frame
public import proofs.«01_k».proof.Proof.Dz
public import proofs.«01_k».proof.Proof.Gen.Loss.Frame
public import proofs.«01_k».proof.Proof.Loss
public import proofs.«01_k».proof.Proof.Gen.Qkv.Frame
public import proofs.«01_k».proof.Proof.Qkv
public import proofs.«01_k».proof.Proof.Gen.Inp.Frame
public import proofs.«01_k».proof.Proof.Inp
public import proofs.«01_k».proof.Proof.Gen.Up.Frame
public import proofs.«01_k».proof.Proof.Up
public import proofs.«01_k».proof.Proof.Gen.Fwd.Frame
public import proofs.«01_k».proof.Proof.Fwd
public import proofs.«01_k».proof.Proof.Gen.Rms.Frame
public import proofs.«01_k».proof.Proof.Rms
public import proofs.«01_k».proof.Proof.Gen.Wout.Frame
public import proofs.«01_k».proof.Proof.Wout
public import proofs.«01_k».proof.Proof.Gen.Act.Frame
public import proofs.«01_k».proof.Proof.Act
public import proofs.«01_k».proof.Proof.Gen.Gate.Frame
public import proofs.«01_k».proof.Proof.Gate
public import proofs.«01_k».proof.Proof.Gen.Down.Frame
public import proofs.«01_k».proof.Proof.Down
public import proofs.«01_k».proof.Proof.Gen.Sfwd.Frame
public import proofs.«01_k».proof.Proof.Gen.SfwdIdeal.Frame
public import proofs.«01_k».proof.Proof.Sfwd
public import proofs.«01_k».proof.Proof.Gen.Hfwd.Frame
public import proofs.«01_k».proof.Proof.Gen.HfwdIdeal.Frame
public import proofs.«01_k».proof.Proof.Hfwd
public import proofs.«01_k».proof.Proof.Gen.Dwdown.Frame
public import proofs.«01_k».proof.Proof.Dwdown
public import proofs.«01_k».proof.Proof.Gen.Adam.Frame
public import proofs.«01_k».proof.Proof.Adam
public import proofs.«01_k».proof.Proof.Gen.Sums.Frame
public import proofs.«01_k».proof.Proof.Sums
public import Idealize.ShloMosaic.Adequacy
public import Idealize.ShloMosaic.Init
public import Idealize.ShloMosaic.Lib.Quiescent

@[expose] public section

noncomputable section

namespace Cert.Proof

open Idealize.ShloMosaic Idealize.SL.Sem Cert.SwaIdeal.Proof

/-- `mm_dact` computes the reference's gradient. -/
theorem dact : Cert.algebraic_DactIdeal_DactRefIdeal (hDactIdeal := Cert.DactIdeal.Gen.facts) (hDactRefIdeal := Cert.DactRefIdeal.Gen.facts) := by
  intro m g m' g' _ hagree
  refine ⟨_, (θ_run Cert.DactIdeal.defs _ _).mono (fun r h c => h c) (Cert.DactIdeal.Value.run_blocks m g), ?_⟩
  refine (θ_run Cert.DactRefIdeal.defs _ _).mono (fun r h c => ⟨?_, (h c).2⟩) (Cert.DactRefIdeal.Value.run m' g')
  rw [(h c).1, (hagree c).1, (hagree c).2.1, (hagree c).2.2, Cert.DactRefIdeal.Read.val_main_v12_eq]
  exact (Cert.DactIdeal.Proof.final m c).symm

/-- The reference changes none of its arguments and stops with every counter at zero. -/
theorem frame_dactRef : Cert.quiescent_DactRefIdeal (hDactRefIdeal := Cert.DactRefIdeal.Gen.facts) := fun m g _ =>
  (θ_run Cert.DactRefIdeal.defs _ _).mono (fun r h => ⟨fun c => (h c).2, sem_eq_zero_of_no_sems (by decide) r.2⟩)
    (Cert.DactRefIdeal.Value.run m g)

theorem claim : Cert.Claim := ⟨Cert.Swa.Gen.facts, Cert.SwaIdeal.Gen.facts, Cert.SwaRefIdeal.Gen.facts,
  Cert.Dact.Gen.facts, Cert.DactIdeal.Gen.facts, Cert.DactRefIdeal.Gen.facts,
  Cert.Glu.Gen.facts, Cert.GluIdeal.Gen.facts, Cert.GluRefIdeal.Gen.facts,
  Cert.Dz.Gen.facts, Cert.DzIdeal.Gen.facts, Cert.DzRefIdeal.Gen.facts,
  Cert.Loss.Gen.facts, Cert.LossIdeal.Gen.facts, Cert.LossRefIdeal.Gen.facts,
  Cert.Qkv.Gen.facts, Cert.QkvIdeal.Gen.facts, Cert.QkvRefIdeal.Gen.facts,
  Cert.Inp.Gen.facts, Cert.InpIdeal.Gen.facts, Cert.InpRefIdeal.Gen.facts,
  Cert.Up.Gen.facts, Cert.UpIdeal.Gen.facts, Cert.UpRefIdeal.Gen.facts,
  Cert.Fwd.Gen.facts, Cert.FwdIdeal.Gen.facts, Cert.FwdRefIdeal.Gen.facts,
  Cert.Rms.Gen.facts, Cert.RmsIdeal.Gen.facts, Cert.RmsRefIdeal.Gen.facts,
  Cert.Wout.Gen.facts, Cert.WoutIdeal.Gen.facts, Cert.WoutRefIdeal.Gen.facts,
  Cert.Act.Gen.facts, Cert.ActIdeal.Gen.facts, Cert.ActRefIdeal.Gen.facts,
  Cert.Gate.Gen.facts, Cert.GateIdeal.Gen.facts, Cert.GateRefIdeal.Gen.facts,
  Cert.Down.Gen.facts, Cert.DownIdeal.Gen.facts, Cert.DownRefIdeal.Gen.facts,
  Cert.Sfwd.Gen.facts, Cert.SfwdIdeal.Gen.facts, Cert.SfwdRefIdeal.Gen.facts,
  Cert.Hfwd.Gen.facts, Cert.HfwdIdeal.Gen.facts, Cert.HfwdRefIdeal.Gen.facts,
  Cert.Dwdown.Gen.facts, Cert.DwdownIdeal.Gen.facts, Cert.DwdownRefIdeal.Gen.facts,
  Cert.Adam.Gen.facts, Cert.AdamIdeal.Gen.facts, Cert.AdamRefIdeal.Gen.facts,
  Cert.Sums.Gen.facts, Cert.SumsIdeal.Gen.facts, Cert.SumsRefIdeal.Gen.facts,
  Cert.Pre_swa_finite.Gen.facts, Cert.Pre_dz_finite.Gen.facts, Cert.Pre_qkv_finite.Gen.facts, Cert.Pre_in_finite.Gen.facts, Cert.Pre_up_finite.Gen.facts, Cert.Pre_fwd_finite.Gen.facts,
  fun m ρ _ => Cert.Swa.Gen.frame m ρ, frame_ideal, frame_ideal_pre, frame_ref, frame_ref_pre,
  fun m ρ _ => Cert.Dact.Gen.frame m ρ, fun m ρ _ => Cert.DactIdeal.Gen.frame m ρ, frame_dactRef,
  fun m ρ _ => Cert.Glu.Gen.frame m ρ, fun m ρ _ => Cert.GluIdeal.Gen.frame m ρ, Cert.GluIdeal.Proof.frame_ref,
  fun m ρ _ => Cert.Dz.Gen.frame m ρ, Cert.DzIdeal.Proof.frame_ideal, Cert.DzIdeal.Proof.frame_ideal_pre, Cert.DzIdeal.Proof.frame_ref, Cert.DzIdeal.Proof.frame_ref_pre,
  fun m ρ _ => Cert.Loss.Gen.frame m ρ, fun m ρ _ => Cert.LossIdeal.Gen.frame m ρ, Cert.LossIdeal.Proof.frame_ref,
  fun m ρ _ => Cert.Qkv.Gen.frame m ρ, Cert.QkvIdeal.Proof.frame_ideal, Cert.QkvIdeal.Proof.frame_ideal_pre, Cert.QkvIdeal.Proof.frame_ref, Cert.QkvIdeal.Proof.frame_ref_pre,
  fun m ρ _ => Cert.Inp.Gen.frame m ρ, Cert.InpIdeal.Proof.frame_ideal, Cert.InpIdeal.Proof.frame_ideal_pre, Cert.InpIdeal.Proof.frame_ref, Cert.InpIdeal.Proof.frame_ref_pre,
  fun m ρ _ => Cert.Up.Gen.frame m ρ, Cert.UpIdeal.Proof.frame_ideal, Cert.UpIdeal.Proof.frame_ideal_pre, Cert.UpIdeal.Proof.frame_ref, Cert.UpIdeal.Proof.frame_ref_pre,
  fun m ρ _ => Cert.Fwd.Gen.frame m ρ, Cert.FwdIdeal.Proof.frame_ideal, Cert.FwdIdeal.Proof.frame_ideal_pre, Cert.FwdIdeal.Proof.frame_ref, Cert.FwdIdeal.Proof.frame_ref_pre,
  fun m ρ _ => Cert.Rms.Gen.frame m ρ, fun m ρ _ => Cert.RmsIdeal.Gen.frame m ρ, Cert.RmsIdeal.Proof.frame_ref,
  fun m ρ _ => Cert.Wout.Gen.frame m ρ, fun m ρ _ => Cert.WoutIdeal.Gen.frame m ρ, Cert.WoutIdeal.Proof.frame_ref,
  fun m ρ _ => Cert.Act.Gen.frame m ρ, fun m ρ _ => Cert.ActIdeal.Gen.frame m ρ, Cert.ActIdeal.Proof.frame_ref,
  fun m ρ _ => Cert.Gate.Gen.frame m ρ, fun m ρ _ => Cert.GateIdeal.Gen.frame m ρ, Cert.GateIdeal.Proof.frame_ref,
  fun m ρ _ => Cert.Down.Gen.frame m ρ, fun m ρ _ => Cert.DownIdeal.Gen.frame m ρ, Cert.DownIdeal.Proof.frame_ref,
  fun m ρ _ => Cert.Sfwd.Gen.frame m ρ, fun m ρ _ => Cert.SfwdIdeal.Gen.frame m ρ, Cert.SfwdIdeal.Proof.frame_ref,
  fun m ρ _ => Cert.Hfwd.Gen.frame m ρ, fun m ρ _ => Cert.HfwdIdeal.Gen.frame m ρ, Cert.HfwdIdeal.Proof.frame_ref,
  fun m ρ _ => Cert.Dwdown.Gen.frame m ρ, fun m ρ _ => Cert.DwdownIdeal.Gen.frame m ρ, Cert.DwdownIdeal.Proof.frame_ref,
  fun m ρ _ => Cert.Adam.Gen.frame m ρ, fun m ρ _ => Cert.AdamIdeal.Gen.frame m ρ, Cert.AdamIdeal.Proof.frame_ref,
  fun m ρ _ => Cert.Sums.Gen.frame m ρ, fun m ρ _ => Cert.SumsIdeal.Gen.frame m ρ, Cert.SumsIdeal.Proof.frame_ref,
  preserves, value,
  trivial, dact,
  trivial, Cert.GluIdeal.Proof.value,
  Cert.DzIdeal.Proof.preserves, Cert.DzIdeal.Proof.value,
  trivial, Cert.LossIdeal.Proof.value,
  trivial, Cert.QkvIdeal.Proof.value,
  trivial, Cert.InpIdeal.Proof.value,
  trivial, Cert.UpIdeal.Proof.value,
  Cert.FwdIdeal.Proof.preserves, Cert.FwdIdeal.Proof.value,
  trivial, Cert.RmsIdeal.Proof.value,
  trivial, Cert.WoutIdeal.Proof.value,
  trivial, Cert.ActIdeal.Proof.value,
  trivial, Cert.GateIdeal.Proof.value,
  trivial, Cert.DownIdeal.Proof.value,
  trivial,
  Cert.HfwdIdeal.Proof.preserves,
  trivial, Cert.DwdownIdeal.Proof.value,
  trivial, Cert.AdamIdeal.Proof.value,
  trivial, Cert.SumsIdeal.Proof.value⟩

end Cert.Proof

end
